-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays_finite [hPre_decays_finite : Cert.Pre_decays_finite.Facts] (m : (ℓ : Loc Cert.KernelIdeal.nD Cert.KernelIdeal.τ Cert.KernelIdeal.sig) → Buf (Elt Ideal) ℓ) : Prop :=
  ∀ c : Dev Cert.KernelIdeal.nD,
    (Cert.Pre_decays_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays_finite [hPre_decays_finite : Cert.Pre_decays_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_OutPrompt (m : (ℓ : Loc Cert.OutPrompt.nD Cert.OutPrompt.τ Cert.OutPrompt.sig) → Buf (Elt Bits) ℓ) : Prop :=
  True

def Pre_OutPromptIdeal (m : (ℓ : Loc Cert.OutPromptIdeal.nD Cert.OutPromptIdeal.τ Cert.OutPromptIdeal.sig) → Buf (Elt Ideal) ℓ) : Prop :=
  True

def Pre_OutPromptReferenceIdeal (m : (ℓ : Loc Cert.OutPromptReferenceIdeal.nD Cert.OutPromptReferenceIdeal.τ Cert.OutPromptReferenceIdeal.sig) → Buf (Elt Ideal) ℓ) : Prop :=
  True

def Pre_OutSample (m : (ℓ : Loc Cert.OutSample.nD Cert.OutSample.τ Cert.OutSample.sig) → Buf (Elt Bits) ℓ) : Prop :=
  True

def Pre_OutSampleIdeal (m : (ℓ : Loc Cert.OutSampleIdeal.nD Cert.OutSampleIdeal.τ Cert.OutSampleIdeal.sig) → Buf (Elt Ideal) ℓ) : Prop :=
  True

def Pre_OutSampleReferenceIdeal (m : (ℓ : Loc Cert.OutSampleReferenceIdeal.nD Cert.OutSampleReferenceIdeal.τ Cert.OutSampleReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_decays_finite [hKernelIdeal : Cert.KernelIdeal.Facts] [hPre_decays_finite : Cert.Pre_decays_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_decays_finite [hReferenceIdeal : Cert.ReferenceIdeal.Facts] [hPre_decays_finite : Cert.Pre_decays_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_OutPrompt [hOutPrompt : Cert.OutPrompt.Facts] : Prop :=
  ∀ (m : (ℓ : Loc Cert.OutPrompt.nD Cert.OutPrompt.τ Cert.OutPrompt.sig) → Buf (Elt Bits) ℓ) (g : Dev Cert.OutPrompt.nD → PrngReg), Pre_OutPrompt m →
    θ_run (Cert.OutPrompt.defs (F := Bits)) (onTc (τ := Cert.OutPrompt.τ) (Cert.OutPrompt.main (F := Bits))) ⟨m, fun _ => 0, g⟩ (fun r => (∀ c : Dev Cert.OutPrompt.nD,
      r.2.mem ((c.tc : Thread Cert.OutPrompt.nD Cert.OutPrompt.τ).loc Cert.OutPrompt.main_arg0) = m ((c.tc : Thread Cert.OutPrompt.nD Cert.OutPrompt.τ).loc Cert.OutPrompt.main_arg0)
      ∧ r.2.mem ((c.tc : Thread Cert.OutPrompt.nD Cert.OutPrompt.τ).loc Cert.OutPrompt.main_arg1) = m ((c.tc : Thread Cert.OutPrompt.nD Cert.OutPrompt.τ).loc Cert.OutPrompt.main_arg1)
      ∧ r.2.mem ((c.tc : Thread Cert.OutPrompt.nD Cert.OutPrompt.τ).loc Cert.OutPrompt.main_arg2) = m ((c.tc : Thread Cert.OutPrompt.nD Cert.OutPrompt.τ).loc Cert.OutPrompt.main_arg2)
      ∧ r.2.mem ((c.tc : Thread Cert.OutPrompt.nD Cert.OutPrompt.τ).loc Cert.OutPrompt.main_arg3) = m ((c.tc : Thread Cert.OutPrompt.nD Cert.OutPrompt.τ).loc Cert.OutPrompt.main_arg3)
      ∧ r.2.mem ((c.tc : Thread Cert.OutPrompt.nD Cert.OutPrompt.τ).loc Cert.OutPrompt.main_arg4) = m ((c.tc : Thread Cert.OutPrompt.nD Cert.OutPrompt.τ).loc Cert.OutPrompt.main_arg4))
      ∧ r.2.sem = fun _ => 0)

def quiescent_OutPromptIdeal [hOutPromptIdeal : Cert.OutPromptIdeal.Facts] : Prop :=
  ∀ (m : (ℓ : Loc Cert.OutPromptIdeal.nD Cert.OutPromptIdeal.τ Cert.OutPromptIdeal.sig) → Buf (Elt Ideal) ℓ) (g : Dev Cert.OutPromptIdeal.nD → PrngReg), Pre_OutPromptIdeal m →
    θ_run (Cert.OutPromptIdeal.defs (F := Ideal)) (onTc (τ := Cert.OutPromptIdeal.τ) (Cert.OutPromptIdeal.main (F := Ideal))) ⟨m, fun _ => 0, g⟩ (fun r => (∀ c : Dev Cert.OutPromptIdeal.nD,
      r.2.mem ((c.tc : Thread Cert.OutPromptIdeal.nD Cert.OutPromptIdeal.τ).loc Cert.OutPromptIdeal.main_arg0) = m ((c.tc : Thread Cert.OutPromptIdeal.nD Cert.OutPromptIdeal.τ).loc Cert.OutPromptIdeal.main_arg0)
      ∧ r.2.mem ((c.tc : Thread Cert.OutPromptIdeal.nD Cert.OutPromptIdeal.τ).loc Cert.OutPromptIdeal.main_arg1) = m ((c.tc : Thread Cert.OutPromptIdeal.nD Cert.OutPromptIdeal.τ).loc Cert.OutPromptIdeal.main_arg1)
      ∧ r.2.mem ((c.tc : Thread Cert.OutPromptIdeal.nD Cert.OutPromptIdeal.τ).loc Cert.OutPromptIdeal.main_arg2) = m ((c.tc : Thread Cert.OutPromptIdeal.nD Cert.OutPromptIdeal.τ).loc Cert.OutPromptIdeal.main_arg2)
      ∧ r.2.mem ((c.tc : Thread Cert.OutPromptIdeal.nD Cert.OutPromptIdeal.τ).loc Cert.OutPromptIdeal.main_arg3) = m ((c.tc : Thread Cert.OutPromptIdeal.nD Cert.OutPromptIdeal.τ).loc Cert.OutPromptIdeal.main_arg3)
      ∧ r.2.mem ((c.tc : Thread Cert.OutPromptIdeal.nD Cert.OutPromptIdeal.τ).loc Cert.OutPromptIdeal.main_arg4) = m ((c.tc : Thread Cert.OutPromptIdeal.nD Cert.OutPromptIdeal.τ).loc Cert.OutPromptIdeal.main_arg4))
      ∧ r.2.sem = fun _ => 0)

def quiescent_OutPromptReferenceIdeal [hOutPromptReferenceIdeal : Cert.OutPromptReferenceIdeal.Facts] : Prop :=
  ∀ (m : (ℓ : Loc Cert.OutPromptReferenceIdeal.nD Cert.OutPromptReferenceIdeal.τ Cert.OutPromptReferenceIdeal.sig) → Buf (Elt Ideal) ℓ) (g : Dev Cert.OutPromptReferenceIdeal.nD → PrngReg), Pre_OutPromptReferenceIdeal m →
    θ_run (Cert.OutPromptReferenceIdeal.defs (F := Ideal)) (onTc (τ := Cert.OutPromptReferenceIdeal.τ) (Cert.OutPromptReferenceIdeal.main (F := Ideal))) ⟨m, fun _ => 0, g⟩ (fun r => (∀ c : Dev Cert.OutPromptReferenceIdeal.nD,
      r.2.mem ((c.tc : Thread Cert.OutPromptReferenceIdeal.nD Cert.OutPromptReferenceIdeal.τ).loc Cert.OutPromptReferenceIdeal.main_arg0) = m ((c.tc : Thread Cert.OutPromptReferenceIdeal.nD Cert.OutPromptReferenceIdeal.τ).loc Cert.OutPromptReferenceIdeal.main_arg0)
      ∧ r.2.mem ((c.tc : Thread Cert.OutPromptReferenceIdeal.nD Cert.OutPromptReferenceIdeal.τ).loc Cert.OutPromptReferenceIdeal.main_arg1) = m ((c.tc : Thread Cert.OutPromptReferenceIdeal.nD Cert.OutPromptReferenceIdeal.τ).loc Cert.OutPromptReferenceIdeal.main_arg1)
      ∧ r.2.mem ((c.tc : Thread Cert.OutPromptReferenceIdeal.nD Cert.OutPromptReferenceIdeal.τ).loc Cert.OutPromptReferenceIdeal.main_arg2) = m ((c.tc : Thread Cert.OutPromptReferenceIdeal.nD Cert.OutPromptReferenceIdeal.τ).loc Cert.OutPromptReferenceIdeal.main_arg2)
      ∧ r.2.mem ((c.tc : Thread Cert.OutPromptReferenceIdeal.nD Cert.OutPromptReferenceIdeal.τ).loc Cert.OutPromptReferenceIdeal.main_arg3) = m ((c.tc : Thread Cert.OutPromptReferenceIdeal.nD Cert.OutPromptReferenceIdeal.τ).loc Cert.OutPromptReferenceIdeal.main_arg3)
      ∧ r.2.mem ((c.tc : Thread Cert.OutPromptReferenceIdeal.nD Cert.OutPromptReferenceIdeal.τ).loc Cert.OutPromptReferenceIdeal.main_arg4) = m ((c.tc : Thread Cert.OutPromptReferenceIdeal.nD Cert.OutPromptReferenceIdeal.τ).loc Cert.OutPromptReferenceIdeal.main_arg4))
      ∧ r.2.sem = fun _ => 0)

def quiescent_OutSample [hOutSample : Cert.OutSample.Facts] : Prop :=
  ∀ (m : (ℓ : Loc Cert.OutSample.nD Cert.OutSample.τ Cert.OutSample.sig) → Buf (Elt Bits) ℓ) (g : Dev Cert.OutSample.nD → PrngReg), Pre_OutSample m →
    θ_run (Cert.OutSample.defs (F := Bits)) (onTc (τ := Cert.OutSample.τ) (Cert.OutSample.main (F := Bits))) ⟨m, fun _ => 0, g⟩ (fun r => (∀ c : Dev Cert.OutSample.nD,
      r.2.mem ((c.tc : Thread Cert.OutSample.nD Cert.OutSample.τ).loc Cert.OutSample.main_arg0) = m ((c.tc : Thread Cert.OutSample.nD Cert.OutSample.τ).loc Cert.OutSample.main_arg0)
      ∧ r.2.mem ((c.tc : Thread Cert.OutSample.nD Cert.OutSample.τ).loc Cert.OutSample.main_arg1) = m ((c.tc : Thread Cert.OutSample.nD Cert.OutSample.τ).loc Cert.OutSample.main_arg1)
      ∧ r.2.mem ((c.tc : Thread Cert.OutSample.nD Cert.OutSample.τ).loc Cert.OutSample.main_arg2) = m ((c.tc : Thread Cert.OutSample.nD Cert.OutSample.τ).loc Cert.OutSample.main_arg2)
      ∧ r.2.mem ((c.tc : Thread Cert.OutSample.nD Cert.OutSample.τ).loc Cert.OutSample.main_arg3) = m ((c.tc : Thread Cert.OutSample.nD Cert.OutSample.τ).loc Cert.OutSample.main_arg3)
      ∧ r.2.mem ((c.tc : Thread Cert.OutSample.nD Cert.OutSample.τ).loc Cert.OutSample.main_arg4) = m ((c.tc : Thread Cert.OutSample.nD Cert.OutSample.τ).loc Cert.OutSample.main_arg4))
      ∧ r.2.sem = fun _ => 0)

def quiescent_OutSampleIdeal [hOutSampleIdeal : Cert.OutSampleIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg), Pre_OutSampleIdeal m →
    θ_run (Cert.OutSampleIdeal.defs (F := Ideal)) (onTc (τ := Cert.OutSampleIdeal.τ) (Cert.OutSampleIdeal.main (F := Ideal))) ⟨m, fun _ => 0, g⟩ (fun r => (∀ c : Dev Cert.OutSampleIdeal.nD,
      r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
      ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
      ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
      ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
      ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4))
      ∧ r.2.sem = fun _ => 0)

def quiescent_OutSampleReferenceIdeal [hOutSampleReferenceIdeal : Cert.OutSampleReferenceIdeal.Facts] : Prop :=
  ∀ (m : (ℓ : Loc Cert.OutSampleReferenceIdeal.nD Cert.OutSampleReferenceIdeal.τ Cert.OutSampleReferenceIdeal.sig) → Buf (Elt Ideal) ℓ) (g : Dev Cert.OutSampleReferenceIdeal.nD → PrngReg), Pre_OutSampleReferenceIdeal m →
    θ_run (Cert.OutSampleReferenceIdeal.defs (F := Ideal)) (onTc (τ := Cert.OutSampleReferenceIdeal.τ) (Cert.OutSampleReferenceIdeal.main (F := Ideal))) ⟨m, fun _ => 0, g⟩ (fun r => (∀ c : Dev Cert.OutSampleReferenceIdeal.nD,
      r.2.mem ((c.tc : Thread Cert.OutSampleReferenceIdeal.nD Cert.OutSampleReferenceIdeal.τ).loc Cert.OutSampleReferenceIdeal.main_arg0) = m ((c.tc : Thread Cert.OutSampleReferenceIdeal.nD Cert.OutSampleReferenceIdeal.τ).loc Cert.OutSampleReferenceIdeal.main_arg0)
      ∧ r.2.mem ((c.tc : Thread Cert.OutSampleReferenceIdeal.nD Cert.OutSampleReferenceIdeal.τ).loc Cert.OutSampleReferenceIdeal.main_arg1) = m ((c.tc : Thread Cert.OutSampleReferenceIdeal.nD Cert.OutSampleReferenceIdeal.τ).loc Cert.OutSampleReferenceIdeal.main_arg1)
      ∧ r.2.mem ((c.tc : Thread Cert.OutSampleReferenceIdeal.nD Cert.OutSampleReferenceIdeal.τ).loc Cert.OutSampleReferenceIdeal.main_arg2) = m ((c.tc : Thread Cert.OutSampleReferenceIdeal.nD Cert.OutSampleReferenceIdeal.τ).loc Cert.OutSampleReferenceIdeal.main_arg2)
      ∧ r.2.mem ((c.tc : Thread Cert.OutSampleReferenceIdeal.nD Cert.OutSampleReferenceIdeal.τ).loc Cert.OutSampleReferenceIdeal.main_arg3) = m ((c.tc : Thread Cert.OutSampleReferenceIdeal.nD Cert.OutSampleReferenceIdeal.τ).loc Cert.OutSampleReferenceIdeal.main_arg3)
      ∧ r.2.mem ((c.tc : Thread Cert.OutSampleReferenceIdeal.nD Cert.OutSampleReferenceIdeal.τ).loc Cert.OutSampleReferenceIdeal.main_arg4) = m ((c.tc : Thread Cert.OutSampleReferenceIdeal.nD Cert.OutSampleReferenceIdeal.τ).loc Cert.OutSampleReferenceIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def preserves_Kernel_KernelIdeal : Prop :=
  True

def algebraic_KernelIdeal_ReferenceIdeal_pre_decays_finite [hKernelIdeal : Cert.KernelIdeal.Facts] [hReferenceIdeal : Cert.ReferenceIdeal.Facts] [hPre_decays_finite : Cert.Pre_decays_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_OutPrompt_OutPromptIdeal : Prop :=
  True

def algebraic_OutPromptIdeal_OutPromptReferenceIdeal [hOutPromptIdeal : Cert.OutPromptIdeal.Facts] [hOutPromptReferenceIdeal : Cert.OutPromptReferenceIdeal.Facts] : Prop :=
  ∀ (m : (ℓ : Loc Cert.OutPromptIdeal.nD Cert.OutPromptIdeal.τ Cert.OutPromptIdeal.sig) → Buf (Elt Ideal) ℓ) (g : Dev Cert.OutPromptIdeal.nD → PrngReg)
    (m' : (ℓ : Loc Cert.OutPromptReferenceIdeal.nD Cert.OutPromptReferenceIdeal.τ Cert.OutPromptReferenceIdeal.sig) → Buf (Elt Ideal) ℓ) (g' : Dev Cert.OutPromptReferenceIdeal.nD → PrngReg), Pre_OutPromptIdeal m →
    (∀ c : Dev Cert.OutPromptIdeal.nD,
      m' ((c.tc : Thread Cert.OutPromptReferenceIdeal.nD Cert.OutPromptReferenceIdeal.τ).loc Cert.OutPromptReferenceIdeal.main_arg0) = m ((c.tc : Thread Cert.OutPromptIdeal.nD Cert.OutPromptIdeal.τ).loc Cert.OutPromptIdeal.main_arg0)
      ∧ m' ((c.tc : Thread Cert.OutPromptReferenceIdeal.nD Cert.OutPromptReferenceIdeal.τ).loc Cert.OutPromptReferenceIdeal.main_arg1) = m ((c.tc : Thread Cert.OutPromptIdeal.nD Cert.OutPromptIdeal.τ).loc Cert.OutPromptIdeal.main_arg1)
      ∧ m' ((c.tc : Thread Cert.OutPromptReferenceIdeal.nD Cert.OutPromptReferenceIdeal.τ).loc Cert.OutPromptReferenceIdeal.main_arg2) = m ((c.tc : Thread Cert.OutPromptIdeal.nD Cert.OutPromptIdeal.τ).loc Cert.OutPromptIdeal.main_arg2)
      ∧ m' ((c.tc : Thread Cert.OutPromptReferenceIdeal.nD Cert.OutPromptReferenceIdeal.τ).loc Cert.OutPromptReferenceIdeal.main_arg3) = m ((c.tc : Thread Cert.OutPromptIdeal.nD Cert.OutPromptIdeal.τ).loc Cert.OutPromptIdeal.main_arg3)
      ∧ m' ((c.tc : Thread Cert.OutPromptReferenceIdeal.nD Cert.OutPromptReferenceIdeal.τ).loc Cert.OutPromptReferenceIdeal.main_arg4) = m ((c.tc : Thread Cert.OutPromptIdeal.nD Cert.OutPromptIdeal.τ).loc Cert.OutPromptIdeal.main_arg4)) →
    ∃ (v0 : (c : Dev Cert.OutPromptIdeal.nD) → Buf (Elt Ideal) ((c.tc : Thread Cert.OutPromptIdeal.nD Cert.OutPromptIdeal.τ).loc Cert.OutPromptIdeal.main_v4)),
      θ_run (Cert.OutPromptIdeal.defs (F := Ideal)) (onTc (τ := Cert.OutPromptIdeal.τ) (Cert.OutPromptIdeal.main (F := Ideal))) ⟨m, fun _ => 0, g⟩ (fun r => ∀ c : Dev Cert.OutPromptIdeal.nD,
          r.2.mem ((c.tc : Thread Cert.OutPromptIdeal.nD Cert.OutPromptIdeal.τ).loc Cert.OutPromptIdeal.main_v4) = v0 c
          ∧ r.2.mem ((c.tc : Thread Cert.OutPromptIdeal.nD Cert.OutPromptIdeal.τ).loc Cert.OutPromptIdeal.main_arg0) = m ((c.tc : Thread Cert.OutPromptIdeal.nD Cert.OutPromptIdeal.τ).loc Cert.OutPromptIdeal.main_arg0)
          ∧ r.2.mem ((c.tc : Thread Cert.OutPromptIdeal.nD Cert.OutPromptIdeal.τ).loc Cert.OutPromptIdeal.main_arg1) = m ((c.tc : Thread Cert.OutPromptIdeal.nD Cert.OutPromptIdeal.τ).loc Cert.OutPromptIdeal.main_arg1)
          ∧ r.2.mem ((c.tc : Thread Cert.OutPromptIdeal.nD Cert.OutPromptIdeal.τ).loc Cert.OutPromptIdeal.main_arg2) = m ((c.tc : Thread Cert.OutPromptIdeal.nD Cert.OutPromptIdeal.τ).loc Cert.OutPromptIdeal.main_arg2)
          ∧ r.2.mem ((c.tc : Thread Cert.OutPromptIdeal.nD Cert.OutPromptIdeal.τ).loc Cert.OutPromptIdeal.main_arg3) = m ((c.tc : Thread Cert.OutPromptIdeal.nD Cert.OutPromptIdeal.τ).loc Cert.OutPromptIdeal.main_arg3)
          ∧ r.2.mem ((c.tc : Thread Cert.OutPromptIdeal.nD Cert.OutPromptIdeal.τ).loc Cert.OutPromptIdeal.main_arg4) = m ((c.tc : Thread Cert.OutPromptIdeal.nD Cert.OutPromptIdeal.τ).loc Cert.OutPromptIdeal.main_arg4))
      ∧ θ_run (Cert.OutPromptReferenceIdeal.defs (F := Ideal)) (onTc (τ := Cert.OutPromptReferenceIdeal.τ) (Cert.OutPromptReferenceIdeal.main (F := Ideal))) ⟨m', fun _ => 0, g'⟩ (fun r => ∀ c : Dev Cert.OutPromptReferenceIdeal.nD,
          r.2.mem ((c.tc : Thread Cert.OutPromptReferenceIdeal.nD Cert.OutPromptReferenceIdeal.τ).loc Cert.OutPromptReferenceIdeal.main_v19) = v0 c
          ∧ r.2.mem ((c.tc : Thread Cert.OutPromptReferenceIdeal.nD Cert.OutPromptReferenceIdeal.τ).loc Cert.OutPromptReferenceIdeal.main_arg0) = m' ((c.tc : Thread Cert.OutPromptReferenceIdeal.nD Cert.OutPromptReferenceIdeal.τ).loc Cert.OutPromptReferenceIdeal.main_arg0)
          ∧ r.2.mem ((c.tc : Thread Cert.OutPromptReferenceIdeal.nD Cert.OutPromptReferenceIdeal.τ).loc Cert.OutPromptReferenceIdeal.main_arg1) = m' ((c.tc : Thread Cert.OutPromptReferenceIdeal.nD Cert.OutPromptReferenceIdeal.τ).loc Cert.OutPromptReferenceIdeal.main_arg1)
          ∧ r.2.mem ((c.tc : Thread Cert.OutPromptReferenceIdeal.nD Cert.OutPromptReferenceIdeal.τ).loc Cert.OutPromptReferenceIdeal.main_arg2) = m' ((c.tc : Thread Cert.OutPromptReferenceIdeal.nD Cert.OutPromptReferenceIdeal.τ).loc Cert.OutPromptReferenceIdeal.main_arg2)
          ∧ r.2.mem ((c.tc : Thread Cert.OutPromptReferenceIdeal.nD Cert.OutPromptReferenceIdeal.τ).loc Cert.OutPromptReferenceIdeal.main_arg3) = m' ((c.tc : Thread Cert.OutPromptReferenceIdeal.nD Cert.OutPromptReferenceIdeal.τ).loc Cert.OutPromptReferenceIdeal.main_arg3)
          ∧ r.2.mem ((c.tc : Thread Cert.OutPromptReferenceIdeal.nD Cert.OutPromptReferenceIdeal.τ).loc Cert.OutPromptReferenceIdeal.main_arg4) = m' ((c.tc : Thread Cert.OutPromptReferenceIdeal.nD Cert.OutPromptReferenceIdeal.τ).loc Cert.OutPromptReferenceIdeal.main_arg4))

def preserves_OutSample_OutSampleIdeal : Prop :=
  True

def algebraic_OutSampleIdeal_OutSampleReferenceIdeal [hOutSampleIdeal : Cert.OutSampleIdeal.Facts] [hOutSampleReferenceIdeal : Cert.OutSampleReferenceIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg)
    (m' : (ℓ : Loc Cert.OutSampleReferenceIdeal.nD Cert.OutSampleReferenceIdeal.τ Cert.OutSampleReferenceIdeal.sig) → Buf (Elt Ideal) ℓ) (g' : Dev Cert.OutSampleReferenceIdeal.nD → PrngReg), Pre_OutSampleIdeal m →
    (∀ c : Dev Cert.OutSampleIdeal.nD,
      m' ((c.tc : Thread Cert.OutSampleReferenceIdeal.nD Cert.OutSampleReferenceIdeal.τ).loc Cert.OutSampleReferenceIdeal.main_arg0) = m ((c.tc : Thread Cert.OutSampleIdeal.nD Cert.OutSampleIdeal.τ).loc Cert.OutSampleIdeal.main_arg0)
      ∧ m' ((c.tc : Thread Cert.OutSampleReferenceIdeal.nD Cert.OutSampleReferenceIdeal.τ).loc Cert.OutSampleReferenceIdeal.main_arg1) = m ((c.tc : Thread Cert.OutSampleIdeal.nD Cert.OutSampleIdeal.τ).loc Cert.OutSampleIdeal.main_arg1)
      ∧ m' ((c.tc : Thread Cert.OutSampleReferenceIdeal.nD Cert.OutSampleReferenceIdeal.τ).loc Cert.OutSampleReferenceIdeal.main_arg2) = m ((c.tc : Thread Cert.OutSampleIdeal.nD Cert.OutSampleIdeal.τ).loc Cert.OutSampleIdeal.main_arg2)
      ∧ m' ((c.tc : Thread Cert.OutSampleReferenceIdeal.nD Cert.OutSampleReferenceIdeal.τ).loc Cert.OutSampleReferenceIdeal.main_arg3) = m ((c.tc : Thread Cert.OutSampleIdeal.nD Cert.OutSampleIdeal.τ).loc Cert.OutSampleIdeal.main_arg3)
      ∧ m' ((c.tc : Thread Cert.OutSampleReferenceIdeal.nD Cert.OutSampleReferenceIdeal.τ).loc Cert.OutSampleReferenceIdeal.main_arg4) = m ((c.tc : Thread Cert.OutSampleIdeal.nD Cert.OutSampleIdeal.τ).loc Cert.OutSampleIdeal.main_arg4)) →
    ∃ (v0 : (c : Dev Cert.OutSampleIdeal.nD) → Buf (Elt Ideal) ((c.tc : Thread Cert.OutSampleIdeal.nD Cert.OutSampleIdeal.τ).loc Cert.OutSampleIdeal.main_v3)),
      θ_run (Cert.OutSampleIdeal.defs (F := Ideal)) (onTc (τ := Cert.OutSampleIdeal.τ) (Cert.OutSampleIdeal.main (F := Ideal))) ⟨m, fun _ => 0, g⟩ (fun r => ∀ c : Dev Cert.OutSampleIdeal.nD,
          r.2.mem ((c.tc : Thread Cert.OutSampleIdeal.nD Cert.OutSampleIdeal.τ).loc Cert.OutSampleIdeal.main_v3) = v0 c
          ∧ r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
          ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
          ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
          ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
          ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4))
      ∧ θ_run (Cert.OutSampleReferenceIdeal.defs (F := Ideal)) (onTc (τ := Cert.OutSampleReferenceIdeal.τ) (Cert.OutSampleReferenceIdeal.main (F := Ideal))) ⟨m', fun _ => 0, g'⟩ (fun r => ∀ c : Dev Cert.OutSampleReferenceIdeal.nD,
          r.2.mem ((c.tc : Thread Cert.OutSampleReferenceIdeal.nD Cert.OutSampleReferenceIdeal.τ).loc Cert.OutSampleReferenceIdeal.main_v18) = v0 c
          ∧ r.2.mem ((c.tc : Thread Cert.OutSampleReferenceIdeal.nD Cert.OutSampleReferenceIdeal.τ).loc Cert.OutSampleReferenceIdeal.main_arg0) = m' ((c.tc : Thread Cert.OutSampleReferenceIdeal.nD Cert.OutSampleReferenceIdeal.τ).loc Cert.OutSampleReferenceIdeal.main_arg0)
          ∧ r.2.mem ((c.tc : Thread Cert.OutSampleReferenceIdeal.nD Cert.OutSampleReferenceIdeal.τ).loc Cert.OutSampleReferenceIdeal.main_arg1) = m' ((c.tc : Thread Cert.OutSampleReferenceIdeal.nD Cert.OutSampleReferenceIdeal.τ).loc Cert.OutSampleReferenceIdeal.main_arg1)
          ∧ r.2.mem ((c.tc : Thread Cert.OutSampleReferenceIdeal.nD Cert.OutSampleReferenceIdeal.τ).loc Cert.OutSampleReferenceIdeal.main_arg2) = m' ((c.tc : Thread Cert.OutSampleReferenceIdeal.nD Cert.OutSampleReferenceIdeal.τ).loc Cert.OutSampleReferenceIdeal.main_arg2)
          ∧ r.2.mem ((c.tc : Thread Cert.OutSampleReferenceIdeal.nD Cert.OutSampleReferenceIdeal.τ).loc Cert.OutSampleReferenceIdeal.main_arg3) = m' ((c.tc : Thread Cert.OutSampleReferenceIdeal.nD Cert.OutSampleReferenceIdeal.τ).loc Cert.OutSampleReferenceIdeal.main_arg3)
          ∧ r.2.mem ((c.tc : Thread Cert.OutSampleReferenceIdeal.nD Cert.OutSampleReferenceIdeal.τ).loc Cert.OutSampleReferenceIdeal.main_arg4) = m' ((c.tc : Thread Cert.OutSampleReferenceIdeal.nD Cert.OutSampleReferenceIdeal.τ).loc Cert.OutSampleReferenceIdeal.main_arg4))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)
      ∧ m' ((c.tc : Thread Cert.InReferenceIdeal.nD Cert.InReferenceIdeal.τ).loc Cert.InReferenceIdeal.main_arg3) = m ((c.tc : Thread Cert.InIdeal.nD Cert.InIdeal.τ).loc Cert.InIdeal.main_arg3)
      ∧ m' ((c.tc : Thread Cert.InReferenceIdeal.nD Cert.InReferenceIdeal.τ).loc Cert.InReferenceIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v48_0)) (v1 : (c : Dev Cert.InIdeal.nD) → Buf (Elt Ideal) ((c.tc : Thread Cert.InIdeal.nD Cert.InIdeal.τ).loc Cert.InIdeal.main_v48_1)) (v2 : (c : Dev Cert.InIdeal.nD) → Buf (Elt Ideal) ((c.tc : Thread Cert.InIdeal.nD Cert.InIdeal.τ).loc Cert.InIdeal.main_v48_2)) (v3 : (c : Dev Cert.InIdeal.nD) → Buf (Elt Ideal) ((c.tc : Thread Cert.InIdeal.nD Cert.InIdeal.τ).loc Cert.InIdeal.main_v48_3)) (v4 : (c : Dev Cert.InIdeal.nD) → Buf (Elt Ideal) ((c.tc : Thread Cert.InIdeal.nD Cert.InIdeal.τ).loc Cert.InIdeal.main_v48_4)) (v5 : (c : Dev Cert.InIdeal.nD) → Buf (Elt Ideal) ((c.tc : Thread Cert.InIdeal.nD Cert.InIdeal.τ).loc Cert.InIdeal.main_v48_5)) (v6 : (c : Dev Cert.InIdeal.nD) → Buf (Elt Ideal) ((c.tc : Thread Cert.InIdeal.nD Cert.InIdeal.τ).loc Cert.InIdeal.main_v48_6)) (v7 : (c : Dev Cert.InIdeal.nD) → Buf (Elt Ideal) ((c.tc : Thread Cert.InIdeal.nD Cert.InIdeal.τ).loc Cert.InIdeal.main_v48_7)) (v8 : (c : Dev Cert.InIdeal.nD) → Buf (Elt Ideal) ((c.tc : Thread Cert.InIdeal.nD Cert.InIdeal.τ).loc Cert.InIdeal.main_v48_8)) (v9 : (c : Dev Cert.InIdeal.nD) → Buf (Elt Ideal) ((c.tc : Thread Cert.InIdeal.nD Cert.InIdeal.τ).loc Cert.InIdeal.main_v48_9)) (v10 : (c : Dev Cert.InIdeal.nD) → Buf (Elt Ideal) ((c.tc : Thread Cert.InIdeal.nD Cert.InIdeal.τ).loc Cert.InIdeal.main_v48_10)) (v11 : (c : Dev Cert.InIdeal.nD) → Buf (Elt Ideal) ((c.tc : Thread Cert.InIdeal.nD Cert.InIdeal.τ).loc Cert.InIdeal.main_v48_11)) (v12 : (c : Dev Cert.InIdeal.nD) → Buf (Elt Ideal) ((c.tc : Thread Cert.InIdeal.nD Cert.InIdeal.τ).loc Cert.InIdeal.main_v48_12)) (v13 : (c : Dev Cert.InIdeal.nD) → Buf (Elt Ideal) ((c.tc : Thread Cert.InIdeal.nD Cert.InIdeal.τ).loc Cert.InIdeal.main_v48_13)) (v14 : (c : Dev Cert.InIdeal.nD) → Buf (Elt Ideal) ((c.tc : Thread Cert.InIdeal.nD Cert.InIdeal.τ).loc Cert.InIdeal.main_v48_14)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v48_0) = v0 c
          ∧ r.2.mem ((c.tc : Thread Cert.InIdeal.nD Cert.InIdeal.τ).loc Cert.InIdeal.main_v48_1) = v1 c
          ∧ r.2.mem ((c.tc : Thread Cert.InIdeal.nD Cert.InIdeal.τ).loc Cert.InIdeal.main_v48_2) = v2 c
          ∧ r.2.mem ((c.tc : Thread Cert.InIdeal.nD Cert.InIdeal.τ).loc Cert.InIdeal.main_v48_3) = v3 c
          ∧ r.2.mem ((c.tc : Thread Cert.InIdeal.nD Cert.InIdeal.τ).loc Cert.InIdeal.main_v48_4) = v4 c
          ∧ r.2.mem ((c.tc : Thread Cert.InIdeal.nD Cert.InIdeal.τ).loc Cert.InIdeal.main_v48_5) = v5 c
          ∧ r.2.mem ((c.tc : Thread Cert.InIdeal.nD Cert.InIdeal.τ).loc Cert.InIdeal.main_v48_6) = v6 c
          ∧ r.2.mem ((c.tc : Thread Cert.InIdeal.nD Cert.InIdeal.τ).loc Cert.InIdeal.main_v48_7) = v7 c
          ∧ r.2.mem ((c.tc : Thread Cert.InIdeal.nD Cert.InIdeal.τ).loc Cert.InIdeal.main_v48_8) = v8 c
          ∧ r.2.mem ((c.tc : Thread Cert.InIdeal.nD Cert.InIdeal.τ).loc Cert.InIdeal.main_v48_9) = v9 c
          ∧ r.2.mem ((c.tc : Thread Cert.InIdeal.nD Cert.InIdeal.τ).loc Cert.InIdeal.main_v48_10) = v10 c
          ∧ r.2.mem ((c.tc : Thread Cert.InIdeal.nD Cert.InIdeal.τ).loc Cert.InIdeal.main_v48_11) = v11 c
          ∧ r.2.mem ((c.tc : Thread Cert.InIdeal.nD Cert.InIdeal.τ).loc Cert.InIdeal.main_v48_12) = v12 c
          ∧ r.2.mem ((c.tc : Thread Cert.InIdeal.nD Cert.InIdeal.τ).loc Cert.InIdeal.main_v48_13) = v13 c
          ∧ r.2.mem ((c.tc : Thread Cert.InIdeal.nD Cert.InIdeal.τ).loc Cert.InIdeal.main_v48_14) = v14 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v148) = v0 c
          ∧ r.2.mem ((c.tc : Thread Cert.InReferenceIdeal.nD Cert.InReferenceIdeal.τ).loc Cert.InReferenceIdeal.main_v149) = v1 c
          ∧ r.2.mem ((c.tc : Thread Cert.InReferenceIdeal.nD Cert.InReferenceIdeal.τ).loc Cert.InReferenceIdeal.main_v150) = v2 c
          ∧ r.2.mem ((c.tc : Thread Cert.InReferenceIdeal.nD Cert.InReferenceIdeal.τ).loc Cert.InReferenceIdeal.main_v151) = v3 c
          ∧ r.2.mem ((c.tc : Thread Cert.InReferenceIdeal.nD Cert.InReferenceIdeal.τ).loc Cert.InReferenceIdeal.main_v153) = v4 c
          ∧ r.2.mem ((c.tc : Thread Cert.InReferenceIdeal.nD Cert.InReferenceIdeal.τ).loc Cert.InReferenceIdeal.main_v155) = v5 c
          ∧ r.2.mem ((c.tc : Thread Cert.InReferenceIdeal.nD Cert.InReferenceIdeal.τ).loc Cert.InReferenceIdeal.main_v157) = v6 c
          ∧ r.2.mem ((c.tc : Thread Cert.InReferenceIdeal.nD Cert.InReferenceIdeal.τ).loc Cert.InReferenceIdeal.main_v159) = v7 c
          ∧ r.2.mem ((c.tc : Thread Cert.InReferenceIdeal.nD Cert.InReferenceIdeal.τ).loc Cert.InReferenceIdeal.main_v160) = v8 c
          ∧ r.2.mem ((c.tc : Thread Cert.InReferenceIdeal.nD Cert.InReferenceIdeal.τ).loc Cert.InReferenceIdeal.main_v162) = v9 c
          ∧ r.2.mem ((c.tc : Thread Cert.InReferenceIdeal.nD Cert.InReferenceIdeal.τ).loc Cert.InReferenceIdeal.main_v165) = v10 c
          ∧ r.2.mem ((c.tc : Thread Cert.InReferenceIdeal.nD Cert.InReferenceIdeal.τ).loc Cert.InReferenceIdeal.main_v166) = v11 c
          ∧ r.2.mem ((c.tc : Thread Cert.InReferenceIdeal.nD Cert.InReferenceIdeal.τ).loc Cert.InReferenceIdeal.main_v167) = v12 c
          ∧ r.2.mem ((c.tc : Thread Cert.InReferenceIdeal.nD Cert.InReferenceIdeal.τ).loc Cert.InReferenceIdeal.main_v168) = v13 c
          ∧ r.2.mem ((c.tc : Thread Cert.InReferenceIdeal.nD Cert.InReferenceIdeal.τ).loc Cert.InReferenceIdeal.main_v170) = v14 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def Claim : Prop :=
  ∃ (hKernel : Cert.Kernel.Facts) (hKernelIdeal : Cert.KernelIdeal.Facts) (hReferenceIdeal : Cert.ReferenceIdeal.Facts) (hOutPrompt : Cert.OutPrompt.Facts) (hOutPromptIdeal : Cert.OutPromptIdeal.Facts) (hOutPromptReferenceIdeal : Cert.OutPromptReferenceIdeal.Facts) (hOutSample : Cert.OutSample.Facts) (hOutSampleIdeal : Cert.OutSampleIdeal.Facts) (hOutSampleReferenceIdeal : Cert.OutSampleReferenceIdeal.Facts) (hIn : Cert.In.Facts) (hInIdeal : Cert.InIdeal.Facts) (hInReferenceIdeal : Cert.InReferenceIdeal.Facts) (hPre_decays_finite : Cert.Pre_decays_finite.Facts),
    quiescent_Kernel (hKernel := hKernel)
    ∧ quiescent_KernelIdeal (hKernelIdeal := hKernelIdeal)
    ∧ quiescent_KernelIdeal_pre_decays_finite (hKernelIdeal := hKernelIdeal) (hPre_decays_finite := hPre_decays_finite)
    ∧ quiescent_ReferenceIdeal (hReferenceIdeal := hReferenceIdeal)
    ∧ quiescent_ReferenceIdeal_pre_decays_finite (hReferenceIdeal := hReferenceIdeal) (hPre_decays_finite := hPre_decays_finite)
    ∧ quiescent_OutPrompt (hOutPrompt := hOutPrompt)
    ∧ quiescent_OutPromptIdeal (hOutPromptIdeal := hOutPromptIdeal)
    ∧ quiescent_OutPromptReferenceIdeal (hOutPromptReferenceIdeal := hOutPromptReferenceIdeal)
    ∧ quiescent_OutSample (hOutSample := hOutSample)
    ∧ quiescent_OutSampleIdeal (hOutSampleIdeal := hOutSampleIdeal)
    ∧ quiescent_OutSampleReferenceIdeal (hOutSampleReferenceIdeal := hOutSampleReferenceIdeal)
    ∧ quiescent_In (hIn := hIn)
    ∧ quiescent_InIdeal (hInIdeal := hInIdeal)
    ∧ quiescent_InReferenceIdeal (hInReferenceIdeal := hInReferenceIdeal)
    ∧ preserves_Kernel_KernelIdeal
    ∧ algebraic_KernelIdeal_ReferenceIdeal_pre_decays_finite (hKernelIdeal := hKernelIdeal) (hReferenceIdeal := hReferenceIdeal) (hPre_decays_finite := hPre_decays_finite)
    ∧ preserves_OutPrompt_OutPromptIdeal
    ∧ algebraic_OutPromptIdeal_OutPromptReferenceIdeal (hOutPromptIdeal := hOutPromptIdeal) (hOutPromptReferenceIdeal := hOutPromptReferenceIdeal)
    ∧ preserves_OutSample_OutSampleIdeal
    ∧ algebraic_OutSampleIdeal_OutSampleReferenceIdeal (hOutSampleIdeal := hOutSampleIdeal) (hOutSampleReferenceIdeal := hOutSampleReferenceIdeal)
    ∧ preserves_In_InIdeal
    ∧ algebraic_InIdeal_InReferenceIdeal (hInIdeal := hInIdeal) (hInReferenceIdeal := hInReferenceIdeal)
-- ==== Pre_decays_finite.lean ====
abbrev S4x4096x4x64 : Shape := ⟨4, ![4, 4096, 4, 64]⟩
abbrev S4x4096x4x128 : Shape := ⟨4, ![4, 4096, 4, 128]⟩
abbrev S4x4096x512 : Shape := ⟨3, ![4, 4096, 512]⟩
abbrev S128 : Shape := ⟨1, ![128]⟩
abbrev S_ : Shape := ⟨0, ![]⟩

class Facts : Prop where
  bcast_S_S4x4096x4x64 : S_.BroadcastsInDim S4x4096x4x64 (![] : Fin 0 → Fin S4x4096x4x64.rank)
  reducesTo_S4x4096x4x64_S_d0_1_2_3 : S4x4096x4x64.ReducesTo [0, 1, 2, 3] S_
  h_S_ : 0 < S_.numel

variable [Facts]

def fn {F : FTy → Type} [FloatOps F] (main_arg0 : FVec F S4x4096x4x64 .f32) (main_arg1 : FVec F S4x4096x4x64 .f32) (main_arg2 : FVec F S4x4096x4x128 .f32) (main_arg3 : FVec F S4x4096x4x64 .f32) (main_arg4 : FVec F S4x4096x512 .f32) (main_arg5 : FVec F S128 .f32) : IVec S_ 1 :=
  let main_v0 : FVec F S4x4096x4x64 .f32 := Host.absf main_arg3
  let main_cst : FVec F S_ .f32 := constant S_ .f32 0x7F800000#32
  let main_v1 : FVec F S4x4096x4x64 .f32 := broadcastInDim S4x4096x4x64 ![] bcast_S_S4x4096x4x64 main_cst
  let main_v2 : IVec S4x4096x4x64 1 := cmpf .olt main_v0 main_v1
  let main_c : IVec S_ 1 := constantI S_ 1 1#1
  let main_v3 : IVec S_ 1 := (fun x v => Host.reduce IntOp.andi x v reducesTo_S4x4096x4x64_S_d0_1_2_3 h_S_) main_v2 main_c
  main_v3
-- ==== Kernel.lean ====
abbrev S4x4096x4x64 : Shape := ⟨4, ![4, 4096, 4, 64]⟩
abbrev S4x4096x4x128 : Shape := ⟨4, ![4, 4096, 4, 128]⟩
abbrev S4x4096x512 : Shape := ⟨3, ![4, 4096, 512]⟩
abbrev S128 : Shape := ⟨1, ![128]⟩
abbrev S16384x256 : Shape := ⟨2, ![16384, 256]⟩
abbrev S16384x512 : Shape := ⟨2, ![16384, 512]⟩
abbrev S_ : Shape := ⟨0, ![]⟩
abbrev S4x4x64x128 : Shape := ⟨4, ![4, 4, 64, 128]⟩
abbrev S1x128 : Shape := ⟨2, ![1, 128]⟩
abbrev S4x2x2x64x128 : Shape := ⟨5, ![4, 2, 2, 64, 128]⟩
abbrev S4x2x128x2x64 : Shape := ⟨5, ![4, 2, 128, 2, 64]⟩
abbrev S4x2x128x128 : Shape := ⟨4, ![4, 2, 128, 128]⟩
abbrev S1024x256 : Shape := ⟨2, ![1024, 256]⟩
abbrev S1024x512 : Shape := ⟨2, ![1024, 512]⟩
abbrev S1x2x128x128 : Shape := ⟨4, ![1, 2, 128, 128]⟩
abbrev S2x128x128 : Shape := ⟨3, ![2, 128, 128]⟩
abbrev S64x64 : Shape := ⟨2, ![64, 64]⟩
abbrev S64x128 : Shape := ⟨2, ![64, 128]⟩
abbrev S128x128 : Shape := ⟨2, ![128, 128]⟩
abbrev S1x128x128 : Shape := ⟨3, ![1, 128, 128]⟩
abbrev S64 : Shape := ⟨1, ![64]⟩
abbrev S64x1 : Shape := ⟨2, ![64, 1]⟩
abbrev S1x1x128x128 : Shape := ⟨4, ![1, 1, 128, 128]⟩

abbrev nBuf : Space → Nat
  | .hbm => 19
  | .vmem => 18
  | .smem => 0
  | _ => 0

abbrev bufTy : (tb : Table) → Fin (tcTables nBuf tb) → BufTy
  | .hbm, ⟨0, _⟩ => ⟨S4x4096x4x64, .f32⟩
  | .hbm, ⟨1, _⟩ => ⟨S4x4096x4x64, .f32⟩
  | .hbm, ⟨2, _⟩ => ⟨S4x4096x4x128, .f32⟩
  | .hbm, ⟨3, _⟩ => ⟨S4x4096x4x64, .f32⟩
  | .hbm, ⟨4, _⟩ => ⟨S4x4096x512, .f32⟩
  | .hbm, ⟨5, _⟩ => ⟨S128, .f32⟩
  | .hbm, ⟨6, _⟩ => ⟨S16384x256, .f32⟩
  | .hbm, ⟨7, _⟩ => ⟨S16384x256, .f32⟩
  | .hbm, ⟨8, _⟩ => ⟨S16384x512, .f32⟩
  | .hbm, ⟨9, _⟩ => ⟨S16384x256, .f32⟩
  | .hbm, ⟨10, _⟩ => ⟨S16384x512, .f32⟩
  | .hbm, ⟨11, _⟩ => ⟨S_, .f32⟩
  | .hbm, ⟨12, _⟩ => ⟨S4x4x64x128, .f32⟩
  | .hbm, ⟨13, _⟩ => ⟨S1x128, .f32⟩
  | .hbm, ⟨14, _⟩ => ⟨S4x2x2x64x128, .f32⟩
  | .hbm, ⟨15, _⟩ => ⟨S4x2x128x2x64, .f32⟩
  | .hbm, ⟨16, _⟩ => ⟨S4x2x128x128, .f32⟩
  | .hbm, ⟨17, _⟩ => ⟨S16384x512, .bf16⟩
  | .hbm, ⟨18, _⟩ => ⟨S4x2x128x128, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x512, .f32⟩
  | .local _ .vmem, ⟨5, _⟩ => ⟨S1024x512, .f32⟩
  | .local _ .vmem, ⟨6, _⟩ => ⟨S1024x256, .f32⟩
  | .local _ .vmem, ⟨7, _⟩ => ⟨S1024x256, .f32⟩
  | .local _ .vmem, ⟨8, _⟩ => ⟨S1024x512, .f32⟩
  | .local _ .vmem, ⟨9, _⟩ => ⟨S1024x512, .f32⟩
  | .local _ .vmem, ⟨10, _⟩ => ⟨S1x128, .f32⟩
  | .local _ .vmem, ⟨11, _⟩ => ⟨S1x2x128x128, .f32⟩
  | .local _ .vmem, ⟨12, _⟩ => ⟨S1x2x128x128, .f32⟩
  | .local _ .vmem, ⟨13, _⟩ => ⟨S1024x512, .bf16⟩
  | .local _ .vmem, ⟨14, _⟩ => ⟨S1024x512, .bf16⟩
  | .local _ .vmem, ⟨15, _⟩ => ⟨S1x2x128x128, .f32⟩
  | .local _ .vmem, ⟨16, _⟩ => ⟨S1x2x128x128, .f32⟩
  | .local _ .vmem, ⟨17, _⟩ => ⟨S2x128x128, .f32⟩
  | _, _ => ⟨S4x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4x4096x4x64 : Shape := ⟨4, ![4, 4096, 4, 64]⟩
abbrev S4x4096x4x128 : Shape := ⟨4, ![4, 4096, 4, 128]⟩
abbrev S4x4096x512 : Shape := ⟨3, ![4, 4096, 512]⟩
abbrev S128 : Shape := ⟨1, ![128]⟩
abbrev S_ : Shape := ⟨0, ![]⟩
abbrev S4x4x64x128 : Shape := ⟨4, ![4, 4, 64, 128]⟩
abbrev S64x64 : Shape := ⟨2, ![64, 64]⟩
abbrev S1x64x64x1x1 : Shape := ⟨5, ![1, 64, 64, 1, 1]⟩
abbrev S4x64x64x4x64 : Shape := ⟨5, ![4, 64, 64, 4, 64]⟩
abbrev S64x4x64x4x64 : Shape := ⟨5, ![64, 4, 64, 4, 64]⟩
abbrev S4x64x64x4x128 : Shape := ⟨5, ![4, 64, 64, 4, 128]⟩
abbrev S64x4x64x4x128 : Shape := ⟨5, ![64, 4, 64, 4, 128]⟩
abbrev S1x4x64x4x64 : Shape := ⟨5, ![1, 4, 64, 4, 64]⟩
abbrev S4x64x4x64 : Shape := ⟨4, ![4, 64, 4, 64]⟩
abbrev S1x4x64x4x128 : Shape := ⟨5, ![1, 4, 64, 4, 128]⟩
abbrev S4x64x4x128 : Shape := ⟨4, ![4, 64, 4, 128]⟩
abbrev S4x4x128x64 : Shape := ⟨4, ![4, 4, 128, 64]⟩
abbrev S4x64x1x4x64 : Shape := ⟨5, ![4, 64, 1, 4, 64]⟩
abbrev S4x1x64x4x64 : Shape := ⟨5, ![4, 1, 64, 4, 64]⟩
abbrev S4x64x64x4 : Shape := ⟨4, ![4, 64, 64, 4]⟩
abbrev S4x1x4x64 : Shape := ⟨4, ![4, 1, 4, 64]⟩
abbrev S4x4x64 : Shape := ⟨3, ![4, 4, 64]⟩
abbrev S4x4x64x1 : Shape := ⟨4, ![4, 4, 64, 1]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S16384x512 : Shape := ⟨2, ![16384, 512]⟩
abbrev S4x2x2x64x128 : Shape := ⟨5, ![4, 2, 2, 64, 128]⟩
abbrev S4x2x128x2x64 : Shape := ⟨5, ![4, 2, 128, 2, 64]⟩
abbrev S4x2x128x128 : Shape := ⟨4, ![4, 2, 128, 128]⟩

abbrev nBuf : Space → Nat
  | .hbm => 145
  | .vmem => 0
  | .smem => 0
  | _ => 0

abbrev hbmTy0_0 (i : Nat) : BufTy := match i % 128 with
  | 0 => ⟨S4x4096x4x64, .f32⟩
  | 1 => ⟨S4x4096x4x64, .f32⟩
  | 2 => ⟨S4x4096x4x128, .f32⟩
  | 3 => ⟨S4x4096x4x64, .f32⟩
  | 4 => ⟨S4x4096x512, .f32⟩
  | 5 => ⟨S128, .f32⟩
  | 6 => ⟨S_, .f32⟩
  | 7 => ⟨S4x4x64x128, .f32⟩
  | 8 => ⟨S_, .i1⟩
  | 9 => ⟨S64x64, .i1⟩
  | 10 => ⟨S64x64, .i32⟩
  | 11 => ⟨S_, .i32⟩
  | 12 => ⟨S64x64, .i32⟩
  | 13 => ⟨S64x64, .i32⟩
  | 14 => ⟨S64x64, .i32⟩
  | 15 => ⟨S64x64, .i1⟩
  | 16 => ⟨S_, .i1⟩
  | 17 => ⟨S64x64, .i1⟩
  | 18 => ⟨S64x64, .i1⟩
  | 19 => ⟨S1x64x64x1x1, .i1⟩
  | 20 => ⟨S4x64x64x4x64, .f32⟩
  | 21 => ⟨S64x4x64x4x64, .f32⟩
  | 22 => ⟨S4x64x64x4x64, .f32⟩
  | 23 => ⟨S64x4x64x4x64, .f32⟩
  | 24 => ⟨S4x64x64x4x128, .f32⟩
  | 25 => ⟨S64x4x64x4x128, .f32⟩
  | 26 => ⟨S4x64x64x4x64, .f32⟩
  | 27 => ⟨S64x4x64x4x64, .f32⟩
  | 28 => ⟨S_, .f32⟩
  | 29 => ⟨S64x4x64x4x128, .f32⟩
  | 30 => ⟨S_, .i32⟩
  | 31 => ⟨S64x4x64x4x64, .f32⟩
  | 32 => ⟨S64x4x64x4x64, .f32⟩
  | 33 => ⟨S64x4x64x4x128, .f32⟩
  | 34 => ⟨S64x4x64x4x64, .f32⟩
  | 35 => ⟨S1x64x64x1x1, .i1⟩
  | 36 => ⟨S_, .i32⟩
  | 37 => ⟨S4x4x64x128, .f32⟩
  | 38 => ⟨S64x4x64x4x128, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S1x4x64x4x64, .f32⟩
  | 46 => ⟨S4x64x4x64, .f32⟩
  | 47 => ⟨S_, .i32⟩
  | 48 => ⟨S_, .i32⟩
  | 49 => ⟨S_, .i32⟩
  | 50 => ⟨S_, .i32⟩
  | 51 => ⟨S1x4x64x4x64, .f32⟩
  | 52 => ⟨S4x64x4x64, .f32⟩
  | 53 => ⟨S_, .i32⟩
  | 54 => ⟨S_, .i32⟩
  | 55 => ⟨S_, .i32⟩
  | 56 => ⟨S_, .i32⟩
  | 57 => ⟨S1x4x64x4x128, .f32⟩
  | 58 => ⟨S4x64x4x128, .f32⟩
  | 59 => ⟨S_, .i32⟩
  | 60 => ⟨S_, .i32⟩
  | 61 => ⟨S_, .i32⟩
  | 62 => ⟨S_, .i32⟩
  | 63 => ⟨S1x4x64x4x64, .f32⟩
  | 64 => ⟨S4x64x4x64, .f32⟩
  | 65 => ⟨S_, .f32⟩
  | 66 => ⟨S_, .f32⟩
  | 67 => ⟨S4x64x4x64, .f32⟩
  | 68 => ⟨S4x64x4x64, .f32⟩
  | 69 => ⟨S4x64x4x64, .f32⟩
  | 70 => ⟨S4x4x128x64, .f32⟩
  | 71 => ⟨S4x64x4x128, .f32⟩
  | 72 => ⟨S4x64x1x4x64, .f32⟩
  | 73 => ⟨S4x1x64x4x64, .f32⟩
  | 74 => ⟨S4x64x64x4x64, .f32⟩
  | 75 => ⟨S4x64x64x4x64, .f32⟩
  | 76 => ⟨S4x64x64x4x64, .f32⟩
  | 77 => ⟨S_, .f32⟩
  | 78 => ⟨S_, .f32⟩
  | 79 => ⟨S4x64x64x4x64, .i1⟩
  | 80 => ⟨S4x64x64x4x64, .f32⟩
  | 81 => ⟨S4x64x64x4x64, .f32⟩
  | 82 => ⟨S4x64x64x4x64, .f32⟩
  | 83 => ⟨S_, .f32⟩
  | 84 => ⟨S_, .f32⟩
  | 85 => ⟨S4x64x64x4x64, .i1⟩
  | 86 => ⟨S4x64x64x4x64, .f32⟩
  | 87 => ⟨S4x64x64x4x64, .f32⟩
  | 88 => ⟨S4x64x1x4x64, .f32⟩
  | 89 => ⟨S4x1x64x4x64, .f32⟩
  | 90 => ⟨S4x64x64x4x64, .f32⟩
  | 91 => ⟨S4x64x64x4x64, .f32⟩
  | 92 => ⟨S4x64x64x4x64, .f32⟩
  | 93 => ⟨S4x64x64x4x64, .f32⟩
  | 94 => ⟨S_, .f32⟩
  | 95 => ⟨S4x64x64x4, .f32⟩
  | 96 => ⟨S4x4x128x64, .f32⟩
  | 97 => ⟨S4x64x4x128, .f32⟩
  | 98 => ⟨S4x1x4x64, .f32⟩
  | 99 => ⟨S4x4x64, .f32⟩
  | 100 => ⟨S4x4x64, .f32⟩
  | 101 => ⟨S4x4x64x1, .f32⟩
  | 102 => ⟨S4x4x64x128, .f32⟩
  | 103 => ⟨S4x4x64x128, .f32⟩
  | 104 => ⟨S4x1x4x64, .f32⟩
  | 105 => ⟨S4x64x4x64, .f32⟩
  | 106 => ⟨S4x64x4x64, .f32⟩
  | 107 => ⟨S4x64x4x64, .f32⟩
  | 108 => ⟨S4x64x4x64, .f32⟩
  | 109 => ⟨S4x4x64x128, .f32⟩
  | 110 => ⟨S4x4x64x128, .f32⟩
  | 111 => ⟨S4x64x4x128, .f32⟩
  | 112 => ⟨S1x4x64x4x128, .f32⟩
  | 113 => ⟨S_, .i32⟩
  | 114 => ⟨S_, .i32⟩
  | 115 => ⟨S_, .i32⟩
  | 116 => ⟨S_, .i32⟩
  | 117 => ⟨S64x4x64x4x128, .f32⟩
  | 118 => ⟨S_, .i32⟩
  | 119 => ⟨S_, .i32⟩
  | 120 => ⟨S4x64x64x4x128, .f32⟩
  | 121 => ⟨S4x4096x4x128, .f32⟩
  | 122 => ⟨S4x4096x4x128, .f32⟩
  | 123 => ⟨S_, .f32⟩
  | 124 => ⟨S4x4096x4, .f32⟩
  | 125 => ⟨S4x4096x4x1, .f32⟩
  | 126 => ⟨S_, .f32⟩
  | 127 => ⟨S4x4096x4x1, .f32⟩
  | _ => ⟨S4x4096x4x64, .f32⟩

abbrev hbmTy0_1 (i : Nat) : BufTy := match i % 128 with
  | 0 => ⟨S4x4096x4x1, .f32⟩
  | 1 => ⟨S_, .f32⟩
  | 2 => ⟨S4x4096x4x1, .f32⟩
  | 3 => ⟨S4x4096x4x1, .f32⟩
  | 4 => ⟨S4x4096x4x1, .f32⟩
  | 5 => ⟨S4x4096x4x128, .f32⟩
  | 6 => ⟨S4x4096x4x128, .f32⟩
  | 7 => ⟨S1x1x1x128, .f32⟩
  | 8 => ⟨S4x4096x4x128, .f32⟩
  | 9 => ⟨S4x4096x4x128, .f32⟩
  | 10 => ⟨S16384x512, .f32⟩
  | 11 => ⟨S16384x512, .f32⟩
  | 12 => ⟨S16384x512, .f32⟩
  | 13 => ⟨S4x2x2x64x128, .f32⟩
  | 14 => ⟨S4x2x128x2x64, .f32⟩
  | 15 => ⟨S4x2x128x128, .f32⟩
  | 16 => ⟨S16384x512, .bf16⟩
  | _ => ⟨S4x4096x4x64, .f32⟩

abbrev hbmTy (i : Nat) : BufTy := match i / 128 with
  | 0 => hbmTy0_0 i
  | 1 => hbmTy0_1 i
  | _ => ⟨S4x4096x4x64, .f32⟩

abbrev bufTy : (tb : Table) → Fin (tcTables nBuf tb) → BufTy
  | .hbm, ⟨i, _⟩ => hbmTy i
  | _, _ => ⟨S4x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_c_1 : Ref sig .tc := ⟨.hbm, 30, rfl⟩
abbrev main_v13_0 : Ref sig .tc := ⟨.hbm, 31, rfl⟩
abbrev main_v13_1 : Ref sig .tc := ⟨.hbm, 32, rfl⟩
abbrev main_v13_2 : Ref sig .tc := ⟨.hbm, 33, rfl⟩
abbrev main_v13_3 : Ref sig .tc := ⟨.hbm, 34, rfl⟩
abbrev main_v13_4 : Ref sig .tc := ⟨.hbm, 35, rfl⟩
abbrev main_v13_5 : Ref sig .tc := ⟨.hbm, 36, rfl⟩
abbrev main_v13_6 : Ref sig .tc := ⟨.hbm, 37, rfl⟩
abbrev main_v13_7 : Ref sig .tc := ⟨.hbm, 38, rfl⟩
abbrev main_while0c_c_12 : Ref sig .tc := ⟨.hbm, 39, rfl⟩
abbrev main_while0c_v36 : Ref sig .tc := ⟨.hbm, 40, rfl⟩
abbrev main_while0b_call1_c : Ref sig .tc := ⟨.hbm, 41, rfl⟩
abbrev main_while0b_call1_c_0 : Ref sig .tc := ⟨.hbm, 42, rfl⟩
abbrev main_while0b_call1_c_1 : Ref sig .tc := ⟨.hbm, 43, rfl⟩
abbrev main_while0b_call1_c_2 : Ref sig .tc := ⟨.hbm, 44, rfl⟩
abbrev main_while0b_call1_v0 : Ref sig .tc := ⟨.hbm, 45, rfl⟩
abbrev main_while0b_v36 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_call2_c_1 : Ref sig .tc := ⟨.hbm, 49, rfl⟩
abbrev main_while0b_call2_c_2 : Ref sig .tc := ⟨.hbm, 50, rfl⟩
abbrev main_while0b_call2_v0 : Ref sig .tc := ⟨.hbm, 51, rfl⟩
abbrev main_while0b_v37 : Ref sig .tc := ⟨.hbm, 52, rfl⟩
abbrev main_while0b_call3_c : Ref sig .tc := ⟨.hbm, 53, rfl⟩
abbrev main_while0b_call3_c_0 : Ref sig .tc := ⟨.hbm, 54, rfl⟩
abbrev main_while0b_call3_c_1 : Ref sig .tc := ⟨.hbm, 55, rfl⟩
abbrev main_while0b_call3_c_2 : Ref sig .tc := ⟨.hbm, 56, rfl⟩
abbrev main_while0b_call3_v0 : Ref sig .tc := ⟨.hbm, 57, rfl⟩
abbrev main_while0b_v38 : Ref sig .tc := ⟨.hbm, 58, rfl⟩
abbrev main_while0b_call4_c : Ref sig .tc := ⟨.hbm, 59, rfl⟩
abbrev main_while0b_call4_c_0 : Ref sig .tc := ⟨.hbm, 60, rfl⟩
abbrev main_while0b_call4_c_1 : Ref sig .tc := ⟨.hbm, 61, rfl⟩
abbrev main_while0b_call4_c_2 : Ref sig .tc := ⟨.hbm, 62, rfl⟩
abbrev main_while0b_call4_v0 : Ref sig .tc := ⟨.hbm, 63, rfl⟩
abbrev main_while0b_v39 : Ref sig .tc := ⟨.hbm, 64, rfl⟩
abbrev main_while0b_call5_call0_cst : Ref sig .tc := ⟨.hbm, 65, rfl⟩
abbrev main_while0b_call5_call0_v0 : Ref sig .tc := ⟨.hbm, 66, rfl⟩
abbrev main_while0b_v40 : Ref sig .tc := ⟨.hbm, 67, rfl⟩
abbrev main_while0b_v41 : Ref sig .tc := ⟨.hbm, 68, rfl⟩
abbrev main_while0b_v42 : Ref sig .tc := ⟨.hbm, 69, rfl⟩
abbrev main_while0b_v43 : Ref sig .tc := ⟨.hbm, 70, rfl⟩
abbrev main_while0b_v44 : Ref sig .tc := ⟨.hbm, 71, rfl⟩
abbrev main_while0b_v45 : Ref sig .tc := ⟨.hbm, 72, rfl⟩
abbrev main_while0b_v46 : Ref sig .tc := ⟨.hbm, 73, rfl⟩
abbrev main_while0b_v47 : Ref sig .tc := ⟨.hbm, 74, rfl⟩
abbrev main_while0b_v48 : Ref sig .tc := ⟨.hbm, 75, rfl⟩
abbrev main_while0b_v49 : Ref sig .tc := ⟨.hbm, 76, rfl⟩
abbrev main_while0b_cst_12 : Ref sig .tc := ⟨.hbm, 77, rfl⟩
abbrev main_while0b_call6_v0 : Ref sig .tc := ⟨.hbm, 78, rfl⟩
abbrev main_while0b_call6_v1 : Ref sig .tc := ⟨.hbm, 79, rfl⟩
abbrev main_while0b_call6_v2 : Ref sig .tc := ⟨.hbm, 80, rfl⟩
abbrev main_while0b_v50 : Ref sig .tc := ⟨.hbm, 81, rfl⟩
abbrev main_while0b_v51 : Ref sig .tc := ⟨.hbm, 82, rfl⟩
abbrev main_while0b_cst_13 : Ref sig .tc := ⟨.hbm, 83, rfl⟩
abbrev main_while0b_call7_v0 : Ref sig .tc := ⟨.hbm, 84, rfl⟩
abbrev main_while0b_call7_v1 : Ref sig .tc := ⟨.hbm, 85, rfl⟩
abbrev main_while0b_call7_v2 : Ref sig .tc := ⟨.hbm, 86, rfl⟩
abbrev main_while0b_v52 : Ref sig .tc := ⟨.hbm, 87, rfl⟩
abbrev main_while0b_v53 : Ref sig .tc := ⟨.hbm, 88, rfl⟩
abbrev main_while0b_v54 : Ref sig .tc := ⟨.hbm, 89, rfl⟩
abbrev main_while0b_v55 : Ref sig .tc := ⟨.hbm, 90, rfl⟩
abbrev main_while0b_v56 : Ref sig .tc := ⟨.hbm, 91, rfl⟩
abbrev main_while0b_v57 : Ref sig .tc := ⟨.hbm, 92, rfl⟩
abbrev main_while0b_v58 : Ref sig .tc := ⟨.hbm, 93, rfl⟩
abbrev main_while0b_cst_14 : Ref sig .tc := ⟨.hbm, 94, rfl⟩
abbrev main_while0b_v59 : Ref sig .tc := ⟨.hbm, 95, rfl⟩
abbrev main_while0b_v60 : Ref sig .tc := ⟨.hbm, 96, rfl⟩
abbrev main_while0b_v61 : Ref sig .tc := ⟨.hbm, 97, rfl⟩
abbrev main_while0b_v62 : Ref sig .tc := ⟨.hbm, 98, rfl⟩
abbrev main_while0b_v63 : Ref sig .tc := ⟨.hbm, 99, rfl⟩
abbrev main_while0b_v64 : Ref sig .tc := ⟨.hbm, 100, rfl⟩
abbrev main_while0b_v65 : Ref sig .tc := ⟨.hbm, 101, rfl⟩
abbrev main_while0b_v66 : Ref sig .tc := ⟨.hbm, 102, rfl⟩
abbrev main_while0b_v67 : Ref sig .tc := ⟨.hbm, 103, rfl⟩
abbrev main_while0b_v68 : Ref sig .tc := ⟨.hbm, 104, rfl⟩
abbrev main_while0b_v69 : Ref sig .tc := ⟨.hbm, 105, rfl⟩
abbrev main_while0b_v70 : Ref sig .tc := ⟨.hbm, 106, rfl⟩
abbrev main_while0b_v71 : Ref sig .tc := ⟨.hbm, 107, rfl⟩
abbrev main_while0b_v72 : Ref sig .tc := ⟨.hbm, 108, rfl⟩
abbrev main_while0b_v73 : Ref sig .tc := ⟨.hbm, 109, rfl⟩
abbrev main_while0b_v74 : Ref sig .tc := ⟨.hbm, 110, rfl⟩
abbrev main_while0b_v75 : Ref sig .tc := ⟨.hbm, 111, rfl⟩
abbrev main_while0b_call8_v0 : Ref sig .tc := ⟨.hbm, 112, rfl⟩
abbrev main_while0b_call8_c : Ref sig .tc := ⟨.hbm, 113, rfl⟩
abbrev main_while0b_call8_c_0 : Ref sig .tc := ⟨.hbm, 114, rfl⟩
abbrev main_while0b_call8_c_1 : Ref sig .tc := ⟨.hbm, 115, rfl⟩
abbrev main_while0b_call8_c_2 : Ref sig .tc := ⟨.hbm, 116, rfl⟩
abbrev main_while0b_v76 : Ref sig .tc := ⟨.hbm, 117, rfl⟩
abbrev main_while0b_c_15 : Ref sig .tc := ⟨.hbm, 118, rfl⟩
abbrev main_while0b_v77 : Ref sig .tc := ⟨.hbm, 119, rfl⟩
abbrev main_v14 : Ref sig .tc := ⟨.hbm, 120, rfl⟩
abbrev main_v15 : Ref sig .tc := ⟨.hbm, 121, rfl⟩
abbrev main_v16 : Ref sig .tc := ⟨.hbm, 122, rfl⟩
abbrev main_cst_2 : Ref sig .tc := ⟨.hbm, 123, rfl⟩
abbrev main_v17 : Ref sig .tc := ⟨.hbm, 124, rfl⟩
abbrev main_v18 : Ref sig .tc := ⟨.hbm, 125, rfl⟩
abbrev main_cst_3 : Ref sig .tc := ⟨.hbm, 126, rfl⟩
abbrev main_v19 : Ref sig .tc := ⟨.hbm, 127, rfl⟩
abbrev main_v20 : Ref sig .tc := ⟨.hbm, 128, rfl⟩
abbrev main_cst_4 : Ref sig .tc := ⟨.hbm, 129, rfl⟩
abbrev main_v21 : Ref sig .tc := ⟨.hbm, 130, rfl⟩
abbrev main_v22 : Ref sig .tc := ⟨.hbm, 131, rfl⟩
abbrev main_v23 : Ref sig .tc := ⟨.hbm, 132, rfl⟩
abbrev main_v24 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_v35 : Ref sig .tc := ⟨.hbm, 144, rfl⟩

abbrev nD : Nat := 1
abbrev τ : Topo := Topo.v7x

variable {F : FTy → Type} [FloatOps F]

abbrev main_while0_count : Scf.Loop 32 := ⟨0#32, 64#32, 1#32⟩
-- ==== OutPrompt.lean ====
abbrev S4x4096x1024 : Shape := ⟨3, ![4, 4096, 1024]⟩
abbrev S4x4096x512 : Shape := ⟨3, ![4, 4096, 512]⟩
abbrev S16384x512 : Shape := ⟨2, ![16384, 512]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S16384x512, .bf16⟩
  | .hbm, ⟨7, _⟩ => ⟨S1024x1024, .bf16⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutPromptReferenceIdeal.lean ====
abbrev S4x4096x1024 : Shape := ⟨3, ![4, 4096, 1024]⟩
abbrev S4x4096x512 : Shape := ⟨3, ![4, 4096, 512]⟩
abbrev S16384x512 : Shape := ⟨2, ![16384, 512]⟩
abbrev S1024x1024 : Shape := ⟨2, ![1024, 1024]⟩
abbrev S1024 : Shape := ⟨1, ![1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S16384x512, .bf16⟩
  | .hbm, ⟨6, _⟩ => ⟨S16384x512, .f32⟩
  | .hbm, ⟨7, _⟩ => ⟨S16384x512, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== OutSample.lean ====
abbrev S32x4x1024 : Shape := ⟨3, ![32, 4, 1024]⟩
abbrev S128x512 : Shape := ⟨2, ![128, 512]⟩
abbrev S1024x1024 : Shape := ⟨2, ![1024, 1024]⟩
abbrev S1024 : Shape := ⟨1, ![1024]⟩
abbrev S128x1024 : Shape := ⟨2, ![128, 1024]⟩
abbrev S1x1024 : Shape := ⟨2, ![1, 1024]⟩
abbrev S512x1024 : Shape := ⟨2, ![512, 1024]⟩
abbrev S128 : Shape := ⟨1, ![128]⟩
abbrev S128x1 : Shape := ⟨2, ![128, 1]⟩

abbrev nBuf : Space → Nat
  | .hbm => 9
  | .vmem => 6
  | .smem => 0
  | _ => 0

abbrev bufTy : (tb : Table) → Fin (tcTables nBuf tb) → BufTy
  | .hbm, ⟨0, _⟩ => ⟨S32x4x1024, .f32⟩
  | .hbm, ⟨1, _⟩ => ⟨S128x512, .bf16⟩
  | .hbm, ⟨2, _⟩ => ⟨S128x512, .bf16⟩
  | .hbm, ⟨3, _⟩ => ⟨S1024x1024, .f32⟩
  | .hbm, ⟨4, _⟩ => ⟨S1024, .f32⟩
  | .hbm, ⟨5, _⟩ => ⟨S128x1024, .f32⟩
  | .hbm, ⟨6, _⟩ => ⟨S1024x1024, .bf16⟩
  | .hbm, ⟨7, _⟩ => ⟨S1x1024, .f32⟩
  | .hbm, ⟨8, _⟩ => ⟨S128x1024, .f32⟩
  | .local _ .vmem, ⟨0, _⟩ => ⟨S128x1024, .f32⟩
  | .local _ .vmem, ⟨1, _⟩ => ⟨S128x512, .bf16⟩
  | .local _ .vmem, ⟨2, _⟩ => ⟨S128x512, .bf16⟩
  | .local _ .vmem, ⟨3, _⟩ => ⟨S1024x1024, .bf16⟩
  | .local _ .vmem, ⟨4, _⟩ => ⟨S1x1024, .f32⟩
  | .local _ .vmem, ⟨5, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== OutSampleReferenceIdeal.lean ====
abbrev S32x4x1024 : Shape := ⟨3, ![32, 4, 1024]⟩
abbrev S128x512 : Shape := ⟨2, ![128, 512]⟩
abbrev S1024x1024 : Shape := ⟨2, ![1024, 1024]⟩
abbrev S1024 : Shape := ⟨1, ![1024]⟩
abbrev S128x1024 : Shape := ⟨2, ![128, 1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S128x512, .bf16⟩
  | .hbm, ⟨2, _⟩ => ⟨S128x512, .bf16⟩
  | .hbm, ⟨3, _⟩ => ⟨S1024x1024, .f32⟩
  | .hbm, ⟨4, _⟩ => ⟨S1024, .f32⟩
  | .hbm, ⟨5, _⟩ => ⟨S128x512, .f32⟩
  | .hbm, ⟨6, _⟩ => ⟨S128x512, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x1, .f32⟩
  | .hbm, ⟨22, _⟩ => ⟨S128x1024, .f32⟩
  | .hbm, ⟨23, _⟩ => ⟨S128x1024, .f32⟩
  | .hbm, ⟨24, _⟩ => ⟨S1x1024, .f32⟩
  | .hbm, ⟨25, _⟩ => ⟨S128x1024, .f32⟩
  | .hbm, ⟨26, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== In.lean ====
abbrev S4x4096x1024 : Shape := ⟨3, ![4, 4096, 1024]⟩
abbrev S1024 : Shape := ⟨1, ![1024]⟩
abbrev S1024x3368 : Shape := ⟨2, ![1024, 3368]⟩
abbrev S16x256 : Shape := ⟨2, ![16, 256]⟩
abbrev S256 : Shape := ⟨1, ![256]⟩
abbrev S_ : Shape := ⟨0, ![]⟩
abbrev S32x1024 : Shape := ⟨2, ![32, 1024]⟩
abbrev S1024x24 : Shape := ⟨2, ![1024, 24]⟩
abbrev S24x1024 : Shape := ⟨2, ![24, 1024]⟩
abbrev S1 : Shape := ⟨1, ![1]⟩
abbrev S1024x512 : Shape := ⟨2, ![1024, 512]⟩
abbrev S512x1024 : Shape := ⟨2, ![512, 1024]⟩
abbrev S1024x256 : Shape := ⟨2, ![1024, 256]⟩
abbrev S256x1024 : Shape := ⟨2, ![256, 1024]⟩
abbrev S1312x1024 : Shape := ⟨2, ![1312, 1024]⟩
abbrev S1024x128 : Shape := ⟨2, ![1024, 128]⟩
abbrev S1024x16 : Shape := ⟨2, ![1024, 16]⟩
abbrev S1024x2176 : Shape := ⟨2, ![1024, 2176]⟩
abbrev S128x256 : Shape := ⟨2, ![128, 256]⟩
abbrev S8 : Shape := ⟨1, ![8]⟩
abbrev S8x1 : Shape := ⟨2, ![8, 1]⟩
abbrev S4096 : Shape := ⟨1, ![4096]⟩
abbrev S1x4096 : Shape := ⟨2, ![1, 4096]⟩
abbrev S8x4096 : Shape := ⟨2, ![8, 4096]⟩
abbrev S1x1024 : Shape := ⟨2, ![1, 1024]⟩
abbrev S1x256 : Shape := ⟨2, ![1, 256]⟩
abbrev S16384x1024 : Shape := ⟨2, ![16384, 1024]⟩
abbrev S4x8x64x4096 : Shape := ⟨4, ![4, 8, 64, 4096]⟩
abbrev S4x256x4096 : Shape := ⟨3, ![4, 256, 4096]⟩
abbrev S4x2x4096x64 : Shape := ⟨4, ![4, 2, 4096, 64]⟩
abbrev S4x2x64x4096 : Shape := ⟨4, ![4, 2, 64, 4096]⟩
abbrev S4x32x4096 : Shape := ⟨3, ![4, 32, 4096]⟩
abbrev S16384x512 : Shape := ⟨2, ![16384, 512]⟩
abbrev S16384x256 : Shape := ⟨2, ![16384, 256]⟩
abbrev S8x512 : Shape := ⟨2, ![8, 512]⟩
abbrev S1x8x64x512 : Shape := ⟨4, ![1, 8, 64, 512]⟩
abbrev S1x256x512 : Shape := ⟨3, ![1, 256, 512]⟩
abbrev S1x2x512x64 : Shape := ⟨4, ![1, 2, 512, 64]⟩
abbrev S1x2x64x512 : Shape := ⟨4, ![1, 2, 64, 512]⟩
abbrev S1x32x512 : Shape := ⟨3, ![1, 32, 512]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1312x512 : Shape := ⟨2, ![1312, 512]⟩
abbrev S64x512 : Shape := ⟨2, ![64, 512]⟩
abbrev S48x512 : Shape := ⟨2, ![48, 512]⟩
abbrev S1x1x64x512 : Shape := ⟨4, ![1, 1, 64, 512]⟩
abbrev S256x512 : Shape := ⟨2, ![256, 512]⟩
abbrev S128x512 : Shape := ⟨2, ![128, 512]⟩
abbrev S1x128x512 : Shape := ⟨3, ![1, 128, 512]⟩
abbrev S512x128 : Shape := ⟨2, ![512, 128]⟩
abbrev S512x64 : Shape := ⟨2, ![512, 64]⟩
abbrev S1x1x512x64 : Shape := ⟨4, ![1, 1, 512, 64]⟩
abbrev S32x512 : Shape := ⟨2, ![32, 512]⟩

abbrev nBuf : Space → Nat
  | .hbm => 76
  | .vmem => 41
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3368, .f32⟩
  | .hbm, ⟨3, _⟩ => ⟨S16x256, .f32⟩
  | .hbm, ⟨4, _⟩ => ⟨S256, .f32⟩
  | .hbm, ⟨5, _⟩ => ⟨S_, .f32⟩
  | .hbm, ⟨6, _⟩ => ⟨S32x1024, .f32⟩
  | .hbm, ⟨7, _⟩ => ⟨S1024x24, .f32⟩
  | .hbm, ⟨8, _⟩ => ⟨S24x1024, .f32⟩
  | .hbm, ⟨9, _⟩ => ⟨S_, .i32⟩
  | .hbm, ⟨10, _⟩ => ⟨S1, .i32⟩
  | .hbm, ⟨11, _⟩ => ⟨S32x1024, .f32⟩
  | .hbm, ⟨12, _⟩ => ⟨S1024x512, .f32⟩
  | .hbm, ⟨13, _⟩ => ⟨S512x1024, .f32⟩
  | .hbm, ⟨14, _⟩ => ⟨S1024x256, .f32⟩
  | .hbm, ⟨15, _⟩ => ⟨S256x1024, .f32⟩
  | .hbm, ⟨16, _⟩ => ⟨S1024x256, .f32⟩
  | .hbm, ⟨17, _⟩ => ⟨S256x1024, .f32⟩
  | .hbm, ⟨18, _⟩ => ⟨S1024x256, .f32⟩
  | .hbm, ⟨19, _⟩ => ⟨S256x1024, .f32⟩
  | .hbm, ⟨20, _⟩ => ⟨S1312x1024, .f32⟩
  | .hbm, ⟨21, _⟩ => ⟨S1312x1024, .bf16⟩
  | .hbm, ⟨22, _⟩ => ⟨S_, .f32⟩
  | .hbm, ⟨23, _⟩ => ⟨S1024x128, .f32⟩
  | .hbm, ⟨24, _⟩ => ⟨S1024x16, .f32⟩
  | .hbm, ⟨25, _⟩ => ⟨S_, .i32⟩
  | .hbm, ⟨26, _⟩ => ⟨S1, .i32⟩
  | .hbm, ⟨27, _⟩ => ⟨S1024x128, .f32⟩
  | .hbm, ⟨28, _⟩ => ⟨S1024x512, .f32⟩
  | .hbm, ⟨29, _⟩ => ⟨S1024x256, .f32⟩
  | .hbm, ⟨30, _⟩ => ⟨S1024x256, .f32⟩
  | .hbm, ⟨31, _⟩ => ⟨S1024x512, .f32⟩
  | .hbm, ⟨32, _⟩ => ⟨S1024x512, .f32⟩
  | .hbm, ⟨33, _⟩ => ⟨S1024x2176, .f32⟩
  | .hbm, ⟨34, _⟩ => ⟨S1024x2176, .bf16⟩
  | .hbm, ⟨35, _⟩ => ⟨S_, .f32⟩
  | .hbm, ⟨36, _⟩ => ⟨S128x256, .f32⟩
  | .hbm, ⟨37, _⟩ => ⟨S_, .i32⟩
  | .hbm, ⟨38, _⟩ => ⟨S1, .i32⟩
  | .hbm, ⟨39, _⟩ => ⟨S128x256, .f32⟩
  | .hbm, ⟨40, _⟩ => ⟨S128x256, .bf16⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S8x1, .f32⟩
  | .hbm, ⟨50, _⟩ => ⟨S4096, .i32⟩
  | .hbm, ⟨51, _⟩ => ⟨S4096, .f32⟩
  | .hbm, ⟨52, _⟩ => ⟨S1x4096, .f32⟩
  | .hbm, ⟨53, _⟩ => ⟨S8x4096, .f32⟩
  | .hbm, ⟨54, _⟩ => ⟨S8x4096, .f32⟩
  | .hbm, ⟨55, _⟩ => ⟨S8x4096, .f32⟩
  | .hbm, ⟨56, _⟩ => ⟨S8x4096, .f32⟩
  | .hbm, ⟨57, _⟩ => ⟨S8x4096, .f32⟩
  | .hbm, ⟨58, _⟩ => ⟨S1x1024, .f32⟩
  | .hbm, ⟨59, _⟩ => ⟨S1x256, .f32⟩
  | .hbm, ⟨60, _⟩ => ⟨S16384x1024, .f32⟩
  | .hbm, ⟨61, _⟩ => ⟨S4x8x64x4096, .bf16⟩
  | .hbm, ⟨62, _⟩ => ⟨S4x256x4096, .f32⟩
  | .hbm, ⟨63, _⟩ => ⟨S4x256x4096, .f32⟩
  | .hbm, ⟨64, _⟩ => ⟨S4x256x4096, .f32⟩
  | .hbm, ⟨65, _⟩ => ⟨S4x2x4096x64, .bf16⟩
  | .hbm, ⟨66, _⟩ => ⟨S4x2x4096x64, .bf16⟩
  | .hbm, ⟨67, _⟩ => ⟨S4x2x64x4096, .bf16⟩
  | .hbm, ⟨68, _⟩ => ⟨S4x2x64x4096, .bf16⟩
  | .hbm, ⟨69, _⟩ => ⟨S4x32x4096, .f32⟩
  | .hbm, ⟨70, _⟩ => ⟨S16384x512, .f32⟩
  | .hbm, ⟨71, _⟩ => ⟨S16384x256, .f32⟩
  | .hbm, ⟨72, _⟩ => ⟨S16384x256, .f32⟩
  | .hbm, ⟨73, _⟩ => ⟨S16384x512, .f32⟩
  | .hbm, ⟨74, _⟩ => ⟨S16384x256, .f32⟩
  | .hbm, ⟨75, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1312x1024, .bf16⟩
  | .local _ .vmem, ⟨4, _⟩ => ⟨S1024x2176, .bf16⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S128x256, .bf16⟩
  | .local _ .vmem, ⟨10, _⟩ => ⟨S1x256, .f32⟩
  | .local _ .vmem, ⟨11, _⟩ => ⟨S1x8x64x512, .bf16⟩
  | .local _ .vmem, ⟨12, _⟩ => ⟨S1x8x64x512, .bf16⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x2x512x64, .bf16⟩
  | .local _ .vmem, ⟨20, _⟩ => ⟨S1x2x512x64, .bf16⟩
  | .local _ .vmem, ⟨21, _⟩ => ⟨S1x2x512x64, .bf16⟩
  | .local _ .vmem, ⟨22, _⟩ => ⟨S1x2x512x64, .bf16⟩
  | .local _ .vmem, ⟨23, _⟩ => ⟨S1x2x64x512, .bf16⟩
  | .local _ .vmem, ⟨24, _⟩ => ⟨S1x2x64x512, .bf16⟩
  | .local _ .vmem, ⟨25, _⟩ => ⟨S1x2x64x512, .bf16⟩
  | .local _ .vmem, ⟨26, _⟩ => ⟨S1x2x64x512, .bf16⟩
  | .local _ .vmem, ⟨27, _⟩ => ⟨S1x32x512, .f32⟩
  | .local _ .vmem, ⟨28, _⟩ => ⟨S1x32x512, .f32⟩
  | .local _ .vmem, ⟨29, _⟩ => ⟨S512x512, .f32⟩
  | .local _ .vmem, ⟨30, _⟩ => ⟨S512x512, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | .local _ .vmem, ⟨34, _⟩ => ⟨S512x256, .f32⟩
  | .local _ .vmem, ⟨35, _⟩ => ⟨S512x512, .f32⟩
  | .local _ .vmem, ⟨36, _⟩ => ⟨S512x512, .f32⟩
  | .local _ .vmem, ⟨37, _⟩ => ⟨S512x256, .f32⟩
  | .local _ .vmem, ⟨38, _⟩ => ⟨S512x256, .f32⟩
  | .local _ .vmem, ⟨39, _⟩ => ⟨S512x512, .f32⟩
  | .local _ .vmem, ⟨40, _⟩ => ⟨S512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48_0 : Ref sig .tc := ⟨.hbm, 61, rfl⟩
abbrev main_v48_1 : Ref sig .tc := ⟨.hbm, 62, rfl⟩
abbrev main_v48_2 : Ref sig .tc := ⟨.hbm, 63, rfl⟩
abbrev main_v48_3 : Ref sig .tc := ⟨.hbm, 64, rfl⟩
abbrev main_v48_4 : Ref sig .tc := ⟨.hbm, 65, rfl⟩
abbrev main_v48_5 : Ref sig .tc := ⟨.hbm, 66, rfl⟩
abbrev main_v48_6 : Ref sig .tc := ⟨.hbm, 67, rfl⟩
abbrev main_v48_7 : Ref sig .tc := ⟨.hbm, 68, rfl⟩
abbrev main_v48_8 : Ref sig .tc := ⟨.hbm, 69, rfl⟩
abbrev main_v48_9 : Ref sig .tc := ⟨.hbm, 70, rfl⟩
abbrev main_v48_10 : Ref sig .tc := ⟨.hbm, 71, rfl⟩
abbrev main_v48_11 : Ref sig .tc := ⟨.hbm, 72, rfl⟩
abbrev main_v48_12 : Ref sig .tc := ⟨.hbm, 73, rfl⟩
abbrev main_v48_13 : Ref sig .tc := ⟨.hbm, 74, rfl⟩
abbrev main_v48_14 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_15 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1312x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x64x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x64x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x32x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== InReferenceIdeal.lean ====
abbrev S4x4096x1024 : Shape := ⟨3, ![4, 4096, 1024]⟩
abbrev S1024 : Shape := ⟨1, ![1024]⟩
abbrev S1024x3368 : Shape := ⟨2, ![1024, 3368]⟩
abbrev S16x256 : Shape := ⟨2, ![16, 256]⟩
abbrev S256 : Shape := ⟨1, ![256]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3368 : Shape := ⟨3, ![4, 4096, 3368]⟩
abbrev S4x4096x512 : Shape := ⟨3, ![4, 4096, 512]⟩
abbrev S4x4096x256 : Shape := ⟨3, ![4, 4096, 256]⟩
abbrev S4x4096x24 : Shape := ⟨3, ![4, 4096, 24]⟩
abbrev S4x4096x16 : Shape := ⟨3, ![4, 4096, 16]⟩
abbrev S4096 : Shape := ⟨1, ![4096]⟩
abbrev S4x4096x8x64 : Shape := ⟨4, ![4, 4096, 8, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S4x4096x8x8 : Shape := ⟨4, ![4, 4096, 8, 8]⟩
abbrev S4x4096x8x48 : Shape := ⟨4, ![4, 4096, 8, 48]⟩
abbrev S4x4096x128 : Shape := ⟨3, ![4, 4096, 128]⟩
abbrev S4x4096x2x64 : Shape := ⟨4, ![4, 4096, 2, 64]⟩
abbrev S4x4096x2x8 : Shape := ⟨4, ![4, 4096, 2, 8]⟩
abbrev S4x4096x2x48 : Shape := ⟨4, ![4, 4096, 2, 48]⟩
abbrev S4x4096x32 : Shape := ⟨3, ![4, 4096, 32]⟩
abbrev S1x1x256 : Shape := ⟨3, ![1, 1, 256]⟩
abbrev S4x8x64x4096 : Shape := ⟨4, ![4, 8, 64, 4096]⟩
abbrev S4x256x4096 : Shape := ⟨3, ![4, 256, 4096]⟩
abbrev S4x2x4096x64 : Shape := ⟨4, ![4, 2, 4096, 64]⟩
abbrev S4x2x64x4096 : Shape := ⟨4, ![4, 2, 64, 4096]⟩
abbrev S4x32x4096 : Shape := ⟨3, ![4, 32, 4096]⟩
abbrev S16384x512 : Shape := ⟨2, ![16384, 512]⟩
abbrev S16384x256 : Shape := ⟨2, ![16384, 256]⟩

abbrev nBuf : Space → Nat
  | .hbm => 223
  | .vmem => 0
  | .smem => 0
  | _ => 0

abbrev hbmTy0_0 (i : Nat) : BufTy := match i % 128 with
  | 0 => ⟨S4x4096x1024, .f32⟩
  | 1 => ⟨S1024, .f32⟩
  | 2 => ⟨S1024x3368, .f32⟩
  | 3 => ⟨S16x256, .f32⟩
  | 4 => ⟨S256, .f32⟩
  | 5 => ⟨S4x4096x1024, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x1024, .f32⟩
  | 17 => ⟨S4x4096x1024, .f32⟩
  | 18 => ⟨S1x1x1024, .f32⟩
  | 19 => ⟨S4x4096x1024, .f32⟩
  | 20 => ⟨S4x4096x1024, .f32⟩
  | 21 => ⟨S4x4096x3368, .f32⟩
  | 22 => ⟨S4x4096x512, .f32⟩
  | 23 => ⟨S4x4096x256, .f32⟩
  | 24 => ⟨S4x4096x256, .f32⟩
  | 25 => ⟨S4x4096x256, .f32⟩
  | 26 => ⟨S4x4096x24, .f32⟩
  | 27 => ⟨S4x4096x512, .f32⟩
  | 28 => ⟨S4x4096x256, .f32⟩
  | 29 => ⟨S4x4096x256, .f32⟩
  | 30 => ⟨S4x4096x512, .f32⟩
  | 31 => ⟨S4x4096x16, .f32⟩
  | 32 => ⟨S4x4096x512, .f32⟩
  | 33 => ⟨S4096, .i32⟩
  | 34 => ⟨S4x4096x8x64, .f32⟩
  | 35 => ⟨S8, .f32⟩
  | 36 => ⟨S_, .f32⟩
  | 37 => ⟨S8, .f32⟩
  | 38 => ⟨S8, .f32⟩
  | 39 => ⟨S8, .f32⟩
  | 40 => ⟨S_, .f32⟩
  | 41 => ⟨S8, .f32⟩
  | 42 => ⟨S8, .f32⟩
  | 43 => ⟨S4096, .f32⟩
  | 44 => ⟨S4096x1, .f32⟩
  | 45 => ⟨S1x8, .f32⟩
  | 46 => ⟨S4096x8, .f32⟩
  | 47 => ⟨S4096x8, .f32⟩
  | 48 => ⟨S4096x8, .f32⟩
  | 49 => ⟨S4096x8, .f32⟩
  | 50 => ⟨S1x4096x1x8, .f32⟩
  | 51 => ⟨S4096x8, .f32⟩
  | 52 => ⟨S1x4096x1x8, .f32⟩
  | 53 => ⟨S4x4096x8x8, .f32⟩
  | 54 => ⟨S4x4096x8x8, .f32⟩
  | 55 => ⟨S4x4096x8x8, .f32⟩
  | 56 => ⟨S4x4096x8x8, .f32⟩
  | 57 => ⟨S4x4096x8x8, .f32⟩
  | 58 => ⟨S4x4096x8x8, .f32⟩
  | 59 => ⟨S4x4096x8x8, .f32⟩
  | 60 => ⟨S4x4096x8x8, .f32⟩
  | 61 => ⟨S4x4096x8x8, .f32⟩
  | 62 => ⟨S4x4096x8x8, .f32⟩
  | 63 => ⟨S4x4096x8x8, .f32⟩
  | 64 => ⟨S4x4096x8x8, .f32⟩
  | 65 => ⟨S4x4096x8x48, .f32⟩
  | 66 => ⟨S4x4096x8x64, .f32⟩
  | 67 => ⟨S_, .f32⟩
  | 68 => ⟨S4x4096x8x64, .f32⟩
  | 69 => ⟨S4x4096x8x64, .f32⟩
  | 70 => ⟨S4x4096x128, .f32⟩
  | 71 => ⟨S4x4096x2x64, .f32⟩
  | 72 => ⟨S8, .f32⟩
  | 73 => ⟨S_, .f32⟩
  | 74 => ⟨S8, .f32⟩
  | 75 => ⟨S8, .f32⟩
  | 76 => ⟨S8, .f32⟩
  | 77 => ⟨S_, .f32⟩
  | 78 => ⟨S8, .f32⟩
  | 79 => ⟨S8, .f32⟩
  | 80 => ⟨S4096, .f32⟩
  | 81 => ⟨S4096x1, .f32⟩
  | 82 => ⟨S1x8, .f32⟩
  | 83 => ⟨S4096x8, .f32⟩
  | 84 => ⟨S4096x8, .f32⟩
  | 85 => ⟨S4096x8, .f32⟩
  | 86 => ⟨S4096x8, .f32⟩
  | 87 => ⟨S1x4096x1x8, .f32⟩
  | 88 => ⟨S4096x8, .f32⟩
  | 89 => ⟨S1x4096x1x8, .f32⟩
  | 90 => ⟨S4x4096x2x8, .f32⟩
  | 91 => ⟨S4x4096x2x8, .f32⟩
  | 92 => ⟨S4x4096x2x8, .f32⟩
  | 93 => ⟨S4x4096x2x8, .f32⟩
  | 94 => ⟨S4x4096x2x8, .f32⟩
  | 95 => ⟨S4x4096x2x8, .f32⟩
  | 96 => ⟨S4x4096x2x8, .f32⟩
  | 97 => ⟨S4x4096x2x8, .f32⟩
  | 98 => ⟨S4x4096x2x8, .f32⟩
  | 99 => ⟨S4x4096x2x8, .f32⟩
  | 100 => ⟨S4x4096x2x8, .f32⟩
  | 101 => ⟨S4x4096x2x8, .f32⟩
  | 102 => ⟨S4x4096x2x48, .f32⟩
  | 103 => ⟨S4x4096x2x64, .f32⟩
  | 104 => ⟨S4x4096x128, .f32⟩
  | 105 => ⟨S4x4096x2x64, .f32⟩
  | 106 => ⟨S4x4096x128, .f32⟩
  | 107 => ⟨S4x4096x2x64, .f32⟩
  | 108 => ⟨S8, .f32⟩
  | 109 => ⟨S_, .f32⟩
  | 110 => ⟨S8, .f32⟩
  | 111 => ⟨S8, .f32⟩
  | 112 => ⟨S8, .f32⟩
  | 113 => ⟨S_, .f32⟩
  | 114 => ⟨S8, .f32⟩
  | 115 => ⟨S8, .f32⟩
  | 116 => ⟨S4096, .f32⟩
  | 117 => ⟨S4096x1, .f32⟩
  | 118 => ⟨S1x8, .f32⟩
  | 119 => ⟨S4096x8, .f32⟩
  | 120 => ⟨S4096x8, .f32⟩
  | 121 => ⟨S4096x8, .f32⟩
  | 122 => ⟨S4096x8, .f32⟩
  | 123 => ⟨S1x4096x1x8, .f32⟩
  | 124 => ⟨S4096x8, .f32⟩
  | 125 => ⟨S1x4096x1x8, .f32⟩
  | 126 => ⟨S4x4096x2x8, .f32⟩
  | 127 => ⟨S4x4096x2x8, .f32⟩
  | _ => ⟨S4x4096x1024, .f32⟩

abbrev hbmTy0_1 (i : Nat) : BufTy := match i % 128 with
  | 0 => ⟨S4x4096x2x8, .f32⟩
  | 1 => ⟨S4x4096x2x8, .f32⟩
  | 2 => ⟨S4x4096x2x8, .f32⟩
  | 3 => ⟨S4x4096x2x8, .f32⟩
  | 4 => ⟨S4x4096x2x8, .f32⟩
  | 5 => ⟨S4x4096x2x8, .f32⟩
  | 6 => ⟨S4x4096x2x8, .f32⟩
  | 7 => ⟨S4x4096x2x8, .f32⟩
  | 8 => ⟨S4x4096x2x8, .f32⟩
  | 9 => ⟨S4x4096x2x8, .f32⟩
  | 10 => ⟨S4x4096x2x48, .f32⟩
  | 11 => ⟨S4x4096x2x64, .f32⟩
  | 12 => ⟨S4x4096x128, .f32⟩
  | 13 => ⟨S4x4096x2x64, .f32⟩
  | 14 => ⟨S4x4096x128, .f32⟩
  | 15 => ⟨S4x4096x128, .f32⟩
  | 16 => ⟨S4x4096x256, .f32⟩
  | 17 => ⟨S4x4096x128, .f32⟩
  | 18 => ⟨S4x4096x128, .f32⟩
  | 19 => ⟨S4x4096x256, .f32⟩
  | 20 => ⟨S_, .i32⟩
  | 21 => ⟨S_, .f32⟩
  | 22 => ⟨S4x4096x32, .f32⟩
  | 23 => ⟨S4x4096x32, .f32⟩
  | 24 => ⟨S4x4096x32, .f32⟩
  | 25 => ⟨S_, .f32⟩
  | 26 => ⟨S4x4096x32, .f32⟩
  | 27 => ⟨S4x4096x32, .f32⟩
  | 28 => ⟨S_, .f32⟩
  | 29 => ⟨S4x4096x32, .f32⟩
  | 30 => ⟨S4x4096x32, .f32⟩
  | 31 => ⟨S4x4096x256, .f32⟩
  | 32 => ⟨S1x1x256, .f32⟩
  | 33 => ⟨S4x4096x256, .f32⟩
  | 34 => ⟨S4x4096x256, .f32⟩
  | 35 => ⟨S4x4096x256, .f32⟩
  | 36 => ⟨S_, .f32⟩
  | 37 => ⟨S4x4096x256, .f32⟩
  | 38 => ⟨S4x4096x256, .f32⟩
  | 39 => ⟨S4x4096x256, .f32⟩
  | 40 => ⟨S4x4096x256, .f32⟩
  | 41 => ⟨S4x4096x256, .i1⟩
  | 42 => ⟨S4x4096x256, .f32⟩
  | 43 => ⟨S4x4096x256, .f32⟩
  | 44 => ⟨S4x4096x256, .f32⟩
  | 45 => ⟨S4x4096x256, .f32⟩
  | 46 => ⟨S4x4096x256, .f32⟩
  | 47 => ⟨S4x4096x256, .f32⟩
  | 48 => ⟨S4x4096x256, .f32⟩
  | 49 => ⟨S4x4096x256, .f32⟩
  | 50 => ⟨S4x4096x256, .f32⟩
  | 51 => ⟨S_, .f32⟩
  | 52 => ⟨S4x4096x256, .f32⟩
  | 53 => ⟨S4x4096x256, .f32⟩
  | 54 => ⟨S4x8x64x4096, .f32⟩
  | 55 => ⟨S4x8x64x4096, .bf16⟩
  | 56 => ⟨S4x256x4096, .f32⟩
  | 57 => ⟨S4x256x4096, .f32⟩
  | 58 => ⟨S4x256x4096, .f32⟩
  | 59 => ⟨S4x2x4096x64, .f32⟩
  | 60 => ⟨S4x2x4096x64, .bf16⟩
  | 61 => ⟨S4x2x4096x64, .f32⟩
  | 62 => ⟨S4x2x4096x64, .bf16⟩
  | 63 => ⟨S4x2x64x4096, .f32⟩
  | 64 => ⟨S4x2x64x4096, .bf16⟩
  | 65 => ⟨S4x2x64x4096, .f32⟩
  | 66 => ⟨S4x2x64x4096, .bf16⟩
  | 67 => ⟨S4x32x4096, .f32⟩
  | 68 => ⟨S4x4096x512, .f32⟩
  | 69 => ⟨S4x4096x512, .f32⟩
  | 70 => ⟨S_, .f32⟩
  | 71 => ⟨S4x4096x512, .f32⟩
  | 72 => ⟨S4x4096x512, .f32⟩
  | 73 => ⟨S_, .f32⟩
  | 74 => ⟨S4x4096x512, .f32⟩
  | 75 => ⟨S4x4096x512, .f32⟩
  | 76 => ⟨S4x4096x512, .f32⟩
  | 77 => ⟨S16384x512, .f32⟩
  | 78 => ⟨S_, .f32⟩
  | 79 => ⟨S4x4096x256, .f32⟩
  | 80 => ⟨S4x4096x256, .f32⟩
  | 81 => ⟨S16384x256, .f32⟩
  | 82 => ⟨S16384x256, .f32⟩
  | 83 => ⟨S16384x512, .f32⟩
  | 84 => ⟨S16384x256, .f32⟩
  | 85 => ⟨S4x4096x512, .f32⟩
  | 86 => ⟨S4x4096x512, .f32⟩
  | 87 => ⟨S_, .f32⟩
  | 88 => ⟨S4x4096x512, .f32⟩
  | 89 => ⟨S4x4096x512, .f32⟩
  | 90 => ⟨S_, .f32⟩
  | 91 => ⟨S4x4096x512, .f32⟩
  | 92 => ⟨S4x4096x512, .f32⟩
  | 93 => ⟨S4x4096x512, .f32⟩
  | 94 => ⟨S16384x512, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_4 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_5 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_6 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_cst_7 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_cst_8 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_c : Ref sig .tc := ⟨.hbm, 148, rfl⟩
abbrev main_call0_v0 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_cst_9 : Ref sig .tc := ⟨.hbm, 153, rfl⟩
abbrev main_v136 : Ref sig .tc := ⟨.hbm, 154, rfl⟩
abbrev main_v137 : Ref sig .tc := ⟨.hbm, 155, rfl⟩
abbrev main_cst_10 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_call1_v0 : Ref sig .tc := ⟨.hbm, 163, rfl⟩
abbrev main_call1_call0_cst : Ref sig .tc := ⟨.hbm, 164, rfl⟩
abbrev main_call1_call0_v0 : Ref sig .tc := ⟨.hbm, 165, rfl⟩
abbrev main_call1_call0_v1 : Ref sig .tc := ⟨.hbm, 166, rfl⟩
abbrev main_call1_call0_v2 : Ref sig .tc := ⟨.hbm, 167, rfl⟩
abbrev main_call1_call0_v3 : Ref sig .tc := ⟨.hbm, 168, rfl⟩
abbrev main_call1_call0_v4 : Ref sig .tc := ⟨.hbm, 169, rfl⟩
abbrev main_call1_call0_v5 : Ref sig .tc := ⟨.hbm, 170, rfl⟩
abbrev main_call1_call0_v6 : Ref sig .tc := ⟨.hbm, 171, rfl⟩
abbrev main_call1_call0_v7 : Ref sig .tc := ⟨.hbm, 172, rfl⟩
abbrev main_call1_call0_v8 : Ref sig .tc := ⟨.hbm, 173, rfl⟩
abbrev main_call1_call0_v9 : Ref sig .tc := ⟨.hbm, 174, rfl⟩
abbrev main_call1_call0_v10 : Ref sig .tc := ⟨.hbm, 175, rfl⟩
abbrev main_call1_call0_v11 : Ref sig .tc := ⟨.hbm, 176, rfl⟩
abbrev main_call1_v1 : Ref sig .tc := ⟨.hbm, 177, rfl⟩
abbrev main_v144 : Ref sig .tc := ⟨.hbm, 178, rfl⟩
abbrev main_cst_11 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_call2_v0 : Ref sig .tc := ⟨.hbm, 196, rfl⟩
abbrev main_call2_v1 : Ref sig .tc := ⟨.hbm, 197, rfl⟩
abbrev main_call2_cst : Ref sig .tc := ⟨.hbm, 198, rfl⟩
abbrev main_call2_v2 : Ref sig .tc := ⟨.hbm, 199, rfl⟩
abbrev main_call2_v3 : Ref sig .tc := ⟨.hbm, 200, rfl⟩
abbrev main_call2_cst_0 : Ref sig .tc := ⟨.hbm, 201, rfl⟩
abbrev main_call2_v4 : Ref sig .tc := ⟨.hbm, 202, rfl⟩
abbrev main_call2_v5 : Ref sig .tc := ⟨.hbm, 203, rfl⟩
abbrev main_v161 : Ref sig .tc := ⟨.hbm, 204, rfl⟩
abbrev main_v162 : Ref sig .tc := ⟨.hbm, 205, rfl⟩
abbrev main_cst_12 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_call3_v0 : Ref sig .tc := ⟨.hbm, 213, rfl⟩
abbrev main_call3_v1 : Ref sig .tc := ⟨.hbm, 214, rfl⟩
abbrev main_call3_cst : Ref sig .tc := ⟨.hbm, 215, rfl⟩
abbrev main_call3_v2 : Ref sig .tc := ⟨.hbm, 216, rfl⟩
abbrev main_call3_v3 : Ref sig .tc := ⟨.hbm, 217, rfl⟩
abbrev main_call3_cst_0 : Ref sig .tc := ⟨.hbm, 218, rfl⟩
abbrev main_call3_v4 : Ref sig .tc := ⟨.hbm, 219, rfl⟩
abbrev main_call3_v5 : Ref sig .tc := ⟨.hbm, 220, rfl⟩
abbrev main_v169 : Ref sig .tc := ⟨.hbm, 221, rfl⟩
abbrev main_v170 : Ref sig .tc := ⟨.hbm, 222, rfl⟩

abbrev nD : Nat := 1
abbrev τ : Topo := Topo.v7x

variable {F : FTy → Type} [FloatOps F]
-- ==== Proof.InIdealFrame.lean ====
/-
The frame of the prompt's in-projection read ideally: the body's triple over its 23 windows, and the run of the whole program from it. The body's
obligation at a grid point is checked under a larger bound, since it restates all the windows at once.
-/
module

public import proofs.«01_k».proof.Proof.Gen.InIdeal.Launch
public import proofs.«01_k».proof.Proof.Gen.InIdeal.Skeleton
public import proofs.«01_k».proof.Proof.Gen.InIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.InIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1380000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_InIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S8x512 := Rect.unit (s := S8x512) ![0, 0] S8x512.size inb_S8x512_S8x512_0_0
abbrev r0_3 : Rect S1312x1024 := Rect.unit (s := S1312x1024) ![0, 0] S1312x1024.size inb_S1312x1024_S1312x1024_0_0
abbrev r0_4 : Rect S1x8x64x512 := Rect.unit (s := S1x8x64x512) ![0, 0, 0, 0] S1x1x64x512.size inb_S1x8x64x512_S1x1x64x512_0_0_0_0
abbrev r0_5 : Rect S1x8x64x512 := Rect.unit (s := S1x8x64x512) ![0, 1, 0, 0] S1x1x64x512.size inb_S1x8x64x512_S1x1x64x512_0_1_0_0
abbrev r0_6 : Rect S1x8x64x512 := Rect.unit (s := S1x8x64x512) ![0, 2, 0, 0] S1x1x64x512.size inb_S1x8x64x512_S1x1x64x512_0_2_0_0
abbrev r0_7 : Rect S1x8x64x512 := Rect.unit (s := S1x8x64x512) ![0, 3, 0, 0] S1x1x64x512.size inb_S1x8x64x512_S1x1x64x512_0_3_0_0
abbrev r0_8 : Rect S1x8x64x512 := Rect.unit (s := S1x8x64x512) ![0, 4, 0, 0] S1x1x64x512.size inb_S1x8x64x512_S1x1x64x512_0_4_0_0
abbrev r0_9 : Rect S1x8x64x512 := Rect.unit (s := S1x8x64x512) ![0, 5, 0, 0] S1x1x64x512.size inb_S1x8x64x512_S1x1x64x512_0_5_0_0
abbrev r0_10 : Rect S1x8x64x512 := Rect.unit (s := S1x8x64x512) ![0, 6, 0, 0] S1x1x64x512.size inb_S1x8x64x512_S1x1x64x512_0_6_0_0
abbrev r0_11 : Rect S1x8x64x512 := Rect.unit (s := S1x8x64x512) ![0, 7, 0, 0] S1x1x64x512.size inb_S1x8x64x512_S1x1x64x512_0_7_0_0
abbrev r0_12 : Rect S1x256x512 := Rect.unit (s := S1x256x512) ![0, 0, 0] S1x256x512.size inb_S1x256x512_S1x256x512_0_0_0
abbrev r0_13 : Rect S1x256x512 := Rect.unit (s := S1x256x512) ![0, 0, 0] S1x128x512.size inb_S1x256x512_S1x128x512_0_0_0
abbrev r0_14 : Rect S1x256x512 := Rect.unit (s := S1x256x512) ![0, 128, 0] S1x128x512.size inb_S1x256x512_S1x128x512_0_128_0
abbrev r0_15 : Rect S1x2x512x64 := Rect.unit (s := S1x2x512x64) ![0, 0, 0, 0] S1x1x512x64.size inb_S1x2x512x64_S1x1x512x64_0_0_0_0
abbrev r0_16 : Rect S1x2x64x512 := Rect.unit (s := S1x2x64x512) ![0, 0, 0, 0] S1x1x64x512.size inb_S1x2x64x512_S1x1x64x512_0_0_0_0
abbrev r0_17 : Rect S1x2x512x64 := Rect.unit (s := S1x2x512x64) ![0, 1, 0, 0] S1x1x512x64.size inb_S1x2x512x64_S1x1x512x64_0_1_0_0
abbrev r0_18 : Rect S1x2x64x512 := Rect.unit (s := S1x2x64x512) ![0, 1, 0, 0] S1x1x64x512.size inb_S1x2x64x512_S1x1x64x512_0_1_0_0
abbrev r0_19 : Rect S1x32x512 := Rect.unit (s := S1x32x512) ![0, 0, 0] S1x32x512.size inb_S1x32x512_S1x32x512_0_0_0
abbrev r0_20 : Rect S1024x2176 := Rect.unit (s := S1024x2176) ![0, 0] S1024x512.size inb_S1024x2176_S1024x512_0_0
abbrev r0_21 : Rect S512x512 := Rect.unit (s := S512x512) ![0, 0] S512x512.size inb_S512x512_S512x512_0_0
abbrev r0_22 : Rect S1024x2176 := Rect.unit (s := S1024x2176) ![0, 512] S1024x256.size inb_S1024x2176_S1024x256_0_512
abbrev r0_23 : Rect S512x256 := Rect.unit (s := S512x256) ![0, 0] S512x256.size inb_S512x256_S512x256_0_0
abbrev r0_24 : Rect S1024x2176 := Rect.unit (s := S1024x2176) ![0, 768] S1024x256.size inb_S1024x2176_S1024x256_0_768
abbrev r0_25 : Rect S1024x2176 := Rect.unit (s := S1024x2176) ![0, 1024] S1024x512.size inb_S1024x2176_S1024x512_0_1024
abbrev r0_26 : Rect S1024x2176 := Rect.unit (s := S1024x2176) ![0, 1536] S1024x512.size inb_S1024x2176_S1024x512_0_1536
abbrev r0_27 : Rect S1024x2176 := Rect.unit (s := S1024x2176) ![0, 2048] S1024x128.size inb_S1024x2176_S1024x128_0_2048
abbrev r0_28 : Rect S128x256 := Rect.unit (s := S128x256) ![0, 0] S128x256.size inb_S128x256_S128x256_0_0
abbrev r0_29 : Rect S1x256 := Rect.unit (s := S1x256) ![0, 0] S1x256.size inb_S1x256_S1x256_0_0

/-! ## What the body leaves in each output window's buffer -/

/-! ### Values of the body that the stores' payloads, spelt out, would write more than once

    Each is a vector the body binds (often a part call's result), stated over the input windows' blocks and
    numbered on from the skeleton's payload functions (`k0_pay55` …, after `k0_pay54`), so that
    `out0_W` and the values after it name it instead of spelling it out; the comment after each is the printed function's
    name for the value (a count appended where that name is bound again). -/

def k0_pay55 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : FVec F S512x1024 .bf16 :=
  k0_pay3 (View.ld x0 r0_0) (View.ld x1 r0_1) -- `v16`
def k0_pay56 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : FVec F S8x512 .f32 :=
  k0_pay4 (View.ld x4 r0_2) -- `v18`
def k0_pay57 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : FVec F S8x512 .f32 :=
  k0_pay5 (View.ld x5 r0_2) -- `v20`
def k0_pay58 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : FVec F S1312x512 .f32 :=
  k0_pay6 (View.ld x0 r0_0) (View.ld x1 r0_1) (View.ld x2 r0_3) -- `v23`
def k0_pay59 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : FVec F S512x512 .f32 :=
  k0_pay7 (View.ld x0 r0_0) (View.ld x1 r0_1) (View.ld x2 r0_3) -- `v24`
def k0_pay60 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : FVec F S256x512 .f32 :=
  k0_pay21 (k0_pay58 x0 x1 x2 x3 x4 x5 x6 x7) -- `v165`
def k0_pay61 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : FVec F S64x512 .f32 :=
  k0_pay22 (k0_pay58 x0 x1 x2 x3 x4 x5 x6 x7) -- `v166`
def k0_pay62 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : FVec F S8x512 .f32 :=
  k0_pay23 (k0_pay58 x0 x1 x2 x3 x4 x5 x6 x7) -- `v167`
def k0_pay63 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : FVec F S8x512 .f32 :=
  k0_pay25 (k0_pay56 x0 x1 x2 x3 x4 x5 x6 x7) (k0_pay57 x0 x1 x2 x3 x4 x5 x6 x7) (k0_pay58 x0 x1 x2 x3 x4 x5 x6 x7) -- `v171`
def k0_pay64 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : FVec F S8x512 .f32 :=
  k0_pay26 (k0_pay56 x0 x1 x2 x3 x4 x5 x6 x7) (k0_pay58 x0 x1 x2 x3 x4 x5 x6 x7) -- `v172`
def k0_pay65 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : FVec F S256x512 .f32 :=
  k0_pay36 (k0_pay58 x0 x1 x2 x3 x4 x5 x6 x7) -- `v217`

/-- Window 8's staging buffer after the body, from the input windows' blocks: its 8 stores as pieces, LAST
    FIRST (Lib/Pipeline/FrameBody.lean `View.canon`; the payloads are the skeleton's and the values stated above). -/
def out0_8 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : Vec F S1x8x64x512 .bf16 :=
  View.canon [⟨r0_11, k0_pay19 (k0_pay56 x0 x1 x2 x3 x4 x5 x6 x7) (k0_pay57 x0 x1 x2 x3 x4 x5 x6 x7) (k0_pay59 x0 x1 x2 x3 x4 x5 x6 x7)⟩,
    ⟨r0_10, k0_pay18 (k0_pay56 x0 x1 x2 x3 x4 x5 x6 x7) (k0_pay57 x0 x1 x2 x3 x4 x5 x6 x7) (k0_pay16 (k0_pay59 x0 x1 x2 x3 x4 x5 x6 x7)) (k0_pay17 (k0_pay59 x0 x1 x2 x3 x4 x5 x6 x7))⟩,
    ⟨r0_9, k0_pay15 (k0_pay56 x0 x1 x2 x3 x4 x5 x6 x7) (k0_pay57 x0 x1 x2 x3 x4 x5 x6 x7) (k0_pay59 x0 x1 x2 x3 x4 x5 x6 x7)⟩,
    ⟨r0_8, k0_pay14 (k0_pay56 x0 x1 x2 x3 x4 x5 x6 x7) (k0_pay57 x0 x1 x2 x3 x4 x5 x6 x7) (k0_pay59 x0 x1 x2 x3 x4 x5 x6 x7)⟩,
    ⟨r0_7, k0_pay13 (k0_pay12 (k0_pay56 x0 x1 x2 x3 x4 x5 x6 x7) (k0_pay57 x0 x1 x2 x3 x4 x5 x6 x7) (k0_pay59 x0 x1 x2 x3 x4 x5 x6 x7))⟩,
    ⟨r0_6, k0_pay11 (k0_pay56 x0 x1 x2 x3 x4 x5 x6 x7) (k0_pay57 x0 x1 x2 x3 x4 x5 x6 x7) (k0_pay59 x0 x1 x2 x3 x4 x5 x6 x7)⟩,
    ⟨r0_5, k0_pay10 (k0_pay56 x0 x1 x2 x3 x4 x5 x6 x7) (k0_pay57 x0 x1 x2 x3 x4 x5 x6 x7) (k0_pay59 x0 x1 x2 x3 x4 x5 x6 x7)⟩,
    ⟨r0_4, k0_pay9 (k0_pay8 (View.ld x0 r0_0) (View.ld x1 r0_1) (View.ld x4 r0_2) (View.ld x5 r0_2) (View.ld x2 r0_3))⟩]

/-- Its stores tile the buffer (checked by evaluation), so they cover it. -/
theorem cover0_8 (p0 : Vec F S1x1x64x512 .bf16) (p1 : Vec F S1x1x64x512 .bf16) (p2 : Vec F S1x1x64x512 .bf16) (p3 : Vec F S1x1x64x512 .bf16) (p4 : Vec F S1x1x64x512 .bf16) (p5 : Vec F S1x1x64x512 .bf16) (p6 : Vec F S1x1x64x512 .bf16) (p7 : Vec F S1x1x64x512 .bf16) (y : S1x8x64x512.Idx) :
    ∃ pc ∈ ([⟨r0_11, p0⟩, ⟨r0_10, p1⟩, ⟨r0_9, p2⟩, ⟨r0_8, p3⟩, ⟨r0_7, p4⟩, ⟨r0_6, p5⟩, ⟨r0_5, p6⟩, ⟨r0_4, p7⟩] : List (View.Piece (Elt F) S1x8x64x512 .bf16)), y ∈ pc.1.set :=
  View.cover_of_tiled [⟨r0_11, p0⟩, ⟨r0_10, p1⟩, ⟨r0_9, p2⟩, ⟨r0_8, p3⟩, ⟨r0_7, p4⟩, ⟨r0_6, p5⟩, ⟨r0_5, p6⟩, ⟨r0_4, p7⟩] S1x1x64x512.size (by rfl) y

/-- Window 9's staging buffer after the body, from the input windows' blocks: its 1 store as pieces, LAST
    FIRST (Lib/Pipeline/FrameBody.lean `View.canon`; the payloads are the skeleton's and the values stated above). -/
def out0_9 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : Vec F S1x256x512 .f32 :=
  View.canon [⟨r0_12, k0_pay20 (k0_pay58 x0 x1 x2 x3 x4 x5 x6 x7)⟩]

/-- Its stores tile the buffer (checked by evaluation), so they cover it. -/
theorem cover0_9 (p0 : Vec F S1x256x512 .f32) (y : S1x256x512.Idx) :
    ∃ pc ∈ ([⟨r0_12, p0⟩] : List (View.Piece (Elt F) S1x256x512 .f32)), y ∈ pc.1.set :=
  View.cover_of_tiled [⟨r0_12, p0⟩] S1x256x512.size (by rfl) y

/-- Window 10's staging buffer after the body, from the input windows' blocks: its 2 stores as pieces, LAST
    FIRST (Lib/Pipeline/FrameBody.lean `View.canon`; the payloads are the skeleton's and the values stated above). -/
def out0_10 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : Vec F S1x256x512 .f32 :=
  View.canon [⟨r0_14, k0_pay29 (k0_pay60 x0 x1 x2 x3 x4 x5 x6 x7)⟩,
    ⟨r0_13, k0_pay28 (k0_pay56 x0 x1 x2 x3 x4 x5 x6 x7) (k0_pay57 x0 x1 x2 x3 x4 x5 x6 x7) (k0_pay60 x0 x1 x2 x3 x4 x5 x6 x7) (k0_pay61 x0 x1 x2 x3 x4 x5 x6 x7) (k0_pay62 x0 x1 x2 x3 x4 x5 x6 x7) (k0_pay63 x0 x1 x2 x3 x4 x5 x6 x7) (k0_pay64 x0 x1 x2 x3 x4 x5 x6 x7)⟩]

/-- Its stores tile the buffer (checked by evaluation), so they cover it. -/
theorem cover0_10 (p0 : Vec F S1x128x512 .f32) (p1 : Vec F S1x128x512 .f32) (y : S1x256x512.Idx) :
    ∃ pc ∈ ([⟨r0_14, p0⟩, ⟨r0_13, p1⟩] : List (View.Piece (Elt F) S1x256x512 .f32)), y ∈ pc.1.set :=
  View.cover_of_tiled [⟨r0_14, p0⟩, ⟨r0_13, p1⟩] S1x128x512.size (by rfl) y

/-- Window 11's staging buffer after the body, from the input windows' blocks: its 2 stores as pieces, LAST
    FIRST (Lib/Pipeline/FrameBody.lean `View.canon`; the payloads are the skeleton's and the values stated above). -/
def out0_11 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : Vec F S1x256x512 .f32 :=
  View.canon [⟨r0_14, k0_pay39 (k0_pay58 x0 x1 x2 x3 x4 x5 x6 x7)⟩,
    ⟨r0_13, k0_pay38 (k0_pay56 x0 x1 x2 x3 x4 x5 x6 x7) (k0_pay57 x0 x1 x2 x3 x4 x5 x6 x7) (k0_pay58 x0 x1 x2 x3 x4 x5 x6 x7)⟩]

/-- Its stores tile the buffer (checked by evaluation), so they cover it. -/
theorem cover0_11 (p0 : Vec F S1x128x512 .f32) (p1 : Vec F S1x128x512 .f32) (y : S1x256x512.Idx) :
    ∃ pc ∈ ([⟨r0_14, p0⟩, ⟨r0_13, p1⟩] : List (View.Piece (Elt F) S1x256x512 .f32)), y ∈ pc.1.set :=
  View.cover_of_tiled [⟨r0_14, p0⟩, ⟨r0_13, p1⟩] S1x128x512.size (by rfl) y

/-- Window 12's staging buffer after the body, from the input windows' blocks: its 2 stores as pieces, LAST
    FIRST (Lib/Pipeline/FrameBody.lean `View.canon`; the payloads are the skeleton's and the values stated above). -/
def out0_12 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : Vec F S1x2x512x64 .bf16 :=
  View.canon [⟨r0_17, k0_pay34 (k0_pay33 (k0_pay56 x0 x1 x2 x3 x4 x5 x6 x7) (k0_pay57 x0 x1 x2 x3 x4 x5 x6 x7) (k0_pay60 x0 x1 x2 x3 x4 x5 x6 x7) (k0_pay61 x0 x1 x2 x3 x4 x5 x6 x7) (k0_pay62 x0 x1 x2 x3 x4 x5 x6 x7) (k0_pay63 x0 x1 x2 x3 x4 x5 x6 x7) (k0_pay64 x0 x1 x2 x3 x4 x5 x6 x7))⟩,
    ⟨r0_15, k0_pay31 (k0_pay56 x0 x1 x2 x3 x4 x5 x6 x7) (k0_pay57 x0 x1 x2 x3 x4 x5 x6 x7) (k0_pay60 x0 x1 x2 x3 x4 x5 x6 x7) (k0_pay61 x0 x1 x2 x3 x4 x5 x6 x7) (k0_pay62 x0 x1 x2 x3 x4 x5 x6 x7) (k0_pay63 x0 x1 x2 x3 x4 x5 x6 x7) (k0_pay64 x0 x1 x2 x3 x4 x5 x6 x7)⟩]

/-- Its stores tile the buffer (checked by evaluation), so they cover it. -/
theorem cover0_12 (p0 : Vec F S1x1x512x64 .bf16) (p1 : Vec F S1x1x512x64 .bf16) (y : S1x2x512x64.Idx) :
    ∃ pc ∈ ([⟨r0_17, p0⟩, ⟨r0_15, p1⟩] : List (View.Piece (Elt F) S1x2x512x64 .bf16)), y ∈ pc.1.set :=
  View.cover_of_tiled [⟨r0_17, p0⟩, ⟨r0_15, p1⟩] S1x1x512x64.size (by rfl) y

/-- Window 13's staging buffer after the body, from the input windows' blocks: its 2 stores as pieces, LAST
    FIRST (Lib/Pipeline/FrameBody.lean `View.canon`; the payloads are the skeleton's and the values stated above). -/
def out0_13 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : Vec F S1x2x512x64 .bf16 :=
  View.canon [⟨r0_17, k0_pay44 (k0_pay40 (k0_pay56 x0 x1 x2 x3 x4 x5 x6 x7) (k0_pay57 x0 x1 x2 x3 x4 x5 x6 x7) (k0_pay58 x0 x1 x2 x3 x4 x5 x6 x7))⟩,
    ⟨r0_15, k0_pay42 (k0_pay41 (k0_pay56 x0 x1 x2 x3 x4 x5 x6 x7) (k0_pay57 x0 x1 x2 x3 x4 x5 x6 x7) (k0_pay58 x0 x1 x2 x3 x4 x5 x6 x7))⟩]

/-- Its stores tile the buffer (checked by evaluation), so they cover it. -/
theorem cover0_13 (p0 : Vec F S1x1x512x64 .bf16) (p1 : Vec F S1x1x512x64 .bf16) (y : S1x2x512x64.Idx) :
    ∃ pc ∈ ([⟨r0_17, p0⟩, ⟨r0_15, p1⟩] : List (View.Piece (Elt F) S1x2x512x64 .bf16)), y ∈ pc.1.set :=
  View.cover_of_tiled [⟨r0_17, p0⟩, ⟨r0_15, p1⟩] S1x1x512x64.size (by rfl) y

/-- Window 14's staging buffer after the body, from the input windows' blocks: its 2 stores as pieces, LAST
    FIRST (Lib/Pipeline/FrameBody.lean `View.canon`; the payloads are the skeleton's and the values stated above). -/
def out0_14 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : Vec F S1x2x64x512 .bf16 :=
  View.canon [⟨r0_18, k0_pay35 (k0_pay60 x0 x1 x2 x3 x4 x5 x6 x7)⟩,
    ⟨r0_16, k0_pay32 (k0_pay60 x0 x1 x2 x3 x4 x5 x6 x7)⟩]

/-- Its stores tile the buffer (checked by evaluation), so they cover it. -/
theorem cover0_14 (p0 : Vec F S1x1x64x512 .bf16) (p1 : Vec F S1x1x64x512 .bf16) (y : S1x2x64x512.Idx) :
    ∃ pc ∈ ([⟨r0_18, p0⟩, ⟨r0_16, p1⟩] : List (View.Piece (Elt F) S1x2x64x512 .bf16)), y ∈ pc.1.set :=
  View.cover_of_tiled [⟨r0_18, p0⟩, ⟨r0_16, p1⟩] S1x1x64x512.size (by rfl) y

/-- Window 15's staging buffer after the body, from the input windows' blocks: its 2 stores as pieces, LAST
    FIRST (Lib/Pipeline/FrameBody.lean `View.canon`; the payloads are the skeleton's and the values stated above). -/
def out0_15 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : Vec F S1x2x64x512 .bf16 :=
  View.canon [⟨r0_18, k0_pay45 (k0_pay65 x0 x1 x2 x3 x4 x5 x6 x7)⟩,
    ⟨r0_16, k0_pay43 (k0_pay65 x0 x1 x2 x3 x4 x5 x6 x7)⟩]

/-- Its stores tile the buffer (checked by evaluation), so they cover it. -/
theorem cover0_15 (p0 : Vec F S1x1x64x512 .bf16) (p1 : Vec F S1x1x64x512 .bf16) (y : S1x2x64x512.Idx) :
    ∃ pc ∈ ([⟨r0_18, p0⟩, ⟨r0_16, p1⟩] : List (View.Piece (Elt F) S1x2x64x512 .bf16)), y ∈ pc.1.set :=
  View.cover_of_tiled [⟨r0_18, p0⟩, ⟨r0_16, p1⟩] S1x1x64x512.size (by rfl) y

/-- Window 16's staging buffer after the body, from the input windows' blocks: its 1 store as pieces, LAST
    FIRST (Lib/Pipeline/FrameBody.lean `View.canon`; the payloads are the skeleton's and the values stated above). -/
def out0_16 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : Vec F S1x32x512 .f32 :=
  View.canon [⟨r0_19, k0_pay46 (k0_pay58 x0 x1 x2 x3 x4 x5 x6 x7)⟩]

/-- Its stores tile the buffer (checked by evaluation), so they cover it. -/
theorem cover0_16 (p0 : Vec F S1x32x512 .f32) (y : S1x32x512.Idx) :
    ∃ pc ∈ ([⟨r0_19, p0⟩] : List (View.Piece (Elt F) S1x32x512 .f32)), y ∈ pc.1.set :=
  View.cover_of_tiled [⟨r0_19, p0⟩] S1x32x512.size (by rfl) y

/-- Window 17's staging buffer after the body, from the input windows' blocks: its 1 store as pieces, LAST
    FIRST (Lib/Pipeline/FrameBody.lean `View.canon`; the payloads are the skeleton's and the values stated above). -/
def out0_17 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : Vec F S512x512 .f32 :=
  View.canon [⟨r0_21, k0_pay49 (k0_pay47 (k0_pay55 x0 x1 x2 x3 x4 x5 x6 x7) (View.ld x3 r0_20)) (k0_pay48 (k0_pay55 x0 x1 x2 x3 x4 x5 x6 x7) (View.ld x3 r0_20))⟩]

/-- Its stores tile the buffer (checked by evaluation), so they cover it. -/
theorem cover0_17 (p0 : Vec F S512x512 .f32) (y : S512x512.Idx) :
    ∃ pc ∈ ([⟨r0_21, p0⟩] : List (View.Piece (Elt F) S512x512 .f32)), y ∈ pc.1.set :=
  View.cover_of_tiled [⟨r0_21, p0⟩] S512x512.size (by rfl) y

/-- Window 18's staging buffer after the body, from the input windows' blocks: its 1 store as pieces, LAST
    FIRST (Lib/Pipeline/FrameBody.lean `View.canon`; the payloads are the skeleton's and the values stated above). -/
def out0_18 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : Vec F S512x256 .f32 :=
  View.canon [⟨r0_23, k0_pay50 (k0_pay55 x0 x1 x2 x3 x4 x5 x6 x7) (View.ld x3 r0_22)⟩]

/-- Its stores tile the buffer (checked by evaluation), so they cover it. -/
theorem cover0_18 (p0 : Vec F S512x256 .f32) (y : S512x256.Idx) :
    ∃ pc ∈ ([⟨r0_23, p0⟩] : List (View.Piece (Elt F) S512x256 .f32)), y ∈ pc.1.set :=
  View.cover_of_tiled [⟨r0_23, p0⟩] S512x256.size (by rfl) y

/-- Window 19's staging buffer after the body, from the input windows' blocks: its 1 store as pieces, LAST
    FIRST (Lib/Pipeline/FrameBody.lean `View.canon`; the payloads are the skeleton's and the values stated above). -/
def out0_19 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : Vec F S512x256 .f32 :=
  View.canon [⟨r0_23, k0_pay51 (k0_pay55 x0 x1 x2 x3 x4 x5 x6 x7) (View.ld x3 r0_24)⟩]

/-- Its stores tile the buffer (checked by evaluation), so they cover it. -/
theorem cover0_19 (p0 : Vec F S512x256 .f32) (y : S512x256.Idx) :
    ∃ pc ∈ ([⟨r0_23, p0⟩] : List (View.Piece (Elt F) S512x256 .f32)), y ∈ pc.1.set :=
  View.cover_of_tiled [⟨r0_23, p0⟩] S512x256.size (by rfl) y

/-- Window 20's staging buffer after the body, from the input windows' blocks: its 1 store as pieces, LAST
    FIRST (Lib/Pipeline/FrameBody.lean `View.canon`; the payloads are the skeleton's and the values stated above). -/
def out0_20 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : Vec F S512x512 .f32 :=
  View.canon [⟨r0_21, k0_pay52 (k0_pay55 x0 x1 x2 x3 x4 x5 x6 x7) (View.ld x3 r0_25)⟩]

/-- Its stores tile the buffer (checked by evaluation), so they cover it. -/
theorem cover0_20 (p0 : Vec F S512x512 .f32) (y : S512x512.Idx) :
    ∃ pc ∈ ([⟨r0_21, p0⟩] : List (View.Piece (Elt F) S512x512 .f32)), y ∈ pc.1.set :=
  View.cover_of_tiled [⟨r0_21, p0⟩] S512x512.size (by rfl) y

/-- Window 21's staging buffer after the body, from the input windows' blocks: its 1 store as pieces, LAST
    FIRST (Lib/Pipeline/FrameBody.lean `View.canon`; the payloads are the skeleton's and the values stated above). -/
def out0_21 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : Vec F S512x256 .f32 :=
  View.canon [⟨r0_23, k0_pay2 (k0_pay55 x0 x1 x2 x3 x4 x5 x6 x7) (View.ld x3 r0_27) (View.ld x6 r0_28) (View.ld x7 r0_29)⟩]

/-- Its stores tile the buffer (checked by evaluation), so they cover it. -/
theorem cover0_21 (p0 : Vec F S512x256 .f32) (y : S512x256.Idx) :
    ∃ pc ∈ ([⟨r0_23, p0⟩] : List (View.Piece (Elt F) S512x256 .f32)), y ∈ pc.1.set :=
  View.cover_of_tiled [⟨r0_23, p0⟩] S512x256.size (by rfl) y

/-- Window 22's staging buffer after the body, from the input windows' blocks: its 1 store as pieces, LAST
    FIRST (Lib/Pipeline/FrameBody.lean `View.canon`; the payloads are the skeleton's and the values stated above). -/
def out0_22 (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) : Vec F S512x512 .f32 :=
  View.canon [⟨r0_21, k0_pay1 (k0_pay53 (k0_pay55 x0 x1 x2 x3 x4 x5 x6 x7) (View.ld x3 r0_26)) (k0_pay54 (k0_pay55 x0 x1 x2 x3 x4 x5 x6 x7) (View.ld x3 r0_26))⟩]

/-- Its stores tile the buffer (checked by evaluation), so they cover it. -/
theorem cover0_22 (p0 : Vec F S512x512 .f32) (y : S512x512.Idx) :
    ∃ pc ∈ ([⟨r0_21, p0⟩] : List (View.Piece (Elt F) S512x512 .f32)), y ∈ pc.1.set :=
  View.cover_of_tiled [⟨r0_21, p0⟩] S512x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1312x1024 .bf16) (harg3 : arg3.IsWhole) (arg4 : Memref sig .tc .vmem S1024x2176 .bf16) (harg4 : arg4.IsWhole) (arg5 : Memref sig .tc .vmem S8x512 .f32) (harg5 : arg5.IsWhole) (arg6 : Memref sig .tc .vmem S8x512 .f32) (harg6 : arg6.IsWhole) (arg7 : Memref sig .tc .vmem S128x256 .bf16) (harg7 : arg7.IsWhole) (arg8 : Memref sig .tc .vmem S1x256 .f32) (harg8 : arg8.IsWhole) (arg9 : Memref sig .tc .vmem S1x8x64x512 .bf16) (harg9 : arg9.IsWhole) (arg10 : Memref sig .tc .vmem S1x256x512 .f32) (harg10 : arg10.IsWhole) (arg11 : Memref sig .tc .vmem S1x256x512 .f32) (harg11 : arg11.IsWhole) (arg12 : Memref sig .tc .vmem S1x256x512 .f32) (harg12 : arg12.IsWhole) (arg13 : Memref sig .tc .vmem S1x2x512x64 .bf16) (harg13 : arg13.IsWhole) (arg14 : Memref sig .tc .vmem S1x2x512x64 .bf16) (harg14 : arg14.IsWhole) (arg15 : Memref sig .tc .vmem S1x2x64x512 .bf16) (harg15 : arg15.IsWhole) (arg16 : Memref sig .tc .vmem S1x2x64x512 .bf16) (harg16 : arg16.IsWhole) (arg17 : Memref sig .tc .vmem S1x32x512 .f32) (harg17 : arg17.IsWhole) (arg18 : Memref sig .tc .vmem S512x512 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S512x512 .f32) (harg21 : arg21.IsWhole) (arg22 : Memref sig .tc .vmem S512x256 .f32) (harg22 : arg22.IsWhole) (arg23 : Memref sig .tc .vmem S512x512 .f32) (harg23 : arg23.IsWhole)
    (x0 : Vec F S512x1024 .f32) (x1 : Vec F S1x1024 .f32) (x2 : Vec F S1312x1024 .bf16) (x3 : Vec F S1024x2176 .bf16) (x4 : Vec F S8x512 .f32) (x5 : Vec F S8x512 .f32) (x6 : Vec F S128x256 .bf16) (x7 : Vec F S1x256 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7) ∗ owns (c : Thread nD τ) arg11 fullShare (out0_10 x0 x1 x2 x3 x4 x5 x6 x7) ∗ owns (c : Thread nD τ) arg12 fullShare (out0_11 x0 x1 x2 x3 x4 x5 x6 x7) ∗ owns (c : Thread nD τ) arg13 fullShare (out0_12 x0 x1 x2 x3 x4 x5 x6 x7) ∗ owns (c : Thread nD τ) arg14 fullShare (out0_13 x0 x1 x2 x3 x4 x5 x6 x7) ∗ owns (c : Thread nD τ) arg15 fullShare (out0_14 x0 x1 x2 x3 x4 x5 x6 x7) ∗ owns (c : Thread nD τ) arg16 fullShare (out0_15 x0 x1 x2 x3 x4 x5 x6 x7) ∗ owns (c : Thread nD τ) arg17 fullShare (out0_16 x0 x1 x2 x3 x4 x5 x6 x7) ∗ owns (c : Thread nD τ) arg18 fullShare (out0_17 x0 x1 x2 x3 x4 x5 x6 x7) ∗ owns (c : Thread nD τ) arg19 fullShare (out0_18 x0 x1 x2 x3 x4 x5 x6 x7) ∗ owns (c : Thread nD τ) arg20 fullShare (out0_19 x0 x1 x2 x3 x4 x5 x6 x7) ∗ owns (c : Thread nD τ) arg21 fullShare (out0_20 x0 x1 x2 x3 x4 x5 x6 x7) ∗ owns (c : Thread nD τ) arg22 fullShare (out0_21 x0 x1 x2 x3 x4 x5 x6 x7) ∗ owns (c : Thread nD τ) arg23 fullShare (out0_22 x0 x1 x2 x3 x4 x5 x6 x7)) -∗ K ⟨⟩))
      ⊢ wp frame (wpE (defs₀ (F := F)) Variants.none c none) E (cc0_inproj_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_inproj_prompt_eq_skeleton]; unfold cc0_inproj_prompt_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover0_8 _ _ _ _ _ _ _ _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _ _)).trans ?_
    rfl
  isplitl [H11]
  · iexists _; isplitr
    swap; · iexact H11
    ipureintro
    refine (View.read_writes_eq_canon _ _ _ (cover0_11 _ _)).trans ?_
    rfl
  isplitl [H12]
  · iexists _; isplitr
    swap; · iexact H12
    ipureintro
    refine (View.read_writes_eq_canon _ _ _ (cover0_12 _ _)).trans ?_
    rfl
  isplitl [H13]
  · iexists _; isplitr
    swap; · iexact H13
    ipureintro
    refine (View.read_writes_eq_canon _ _ _ (cover0_13 _ _)).trans ?_
    rfl
  isplitl [H14]
  · iexists _; isplitr
    swap; · iexact H14
    ipureintro
    refine (View.read_writes_eq_canon _ _ _ (cover0_14 _ _)).trans ?_
    rfl
  isplitl [H15]
  · iexists _; isplitr
    swap; · iexact H15
    ipureintro
    refine (View.read_writes_eq_canon _ _ _ (cover0_15 _ _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  iexists _; isplitr
  swap; · iexact H22
  ipureintro
  refine (View.read_writes_eq_canon _ _ _ (cover0_22 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t) (iblk m c 7 t)
    | ⟨10, _⟩ => out0_10 (iblk m c 0 t) (iblk m c 1 t) (iblk m c 2 t) (iblk m c 3 t) (iblk m c 4 t) (iblk m c 5 t) (iblk m c 6 t) (iblk m c 7 t)
    | ⟨11, _⟩ => out0_11 (iblk m c 0 t) (iblk m c 1 t) (iblk m c 2 t) (iblk m c 3 t) (iblk m c 4 t) (iblk m c 5 t) (iblk m c 6 t) (iblk m c 7 t)
    | ⟨12, _⟩ => out0_12 (iblk m c 0 t) (iblk m c 1 t) (iblk m c 2 t) (iblk m c 3 t) (iblk m c 4 t) (iblk m c 5 t) (iblk m c 6 t) (iblk m c 7 t)
    | ⟨13, _⟩ => out0_13 (iblk m c 0 t) (iblk m c 1 t) (iblk m c 2 t) (iblk m c 3 t) (iblk m c 4 t) (iblk m c 5 t) (iblk m c 6 t) (iblk m c 7 t)
    | ⟨14, _⟩ => out0_14 (iblk m c 0 t) (iblk m c 1 t) (iblk m c 2 t) (iblk m c 3 t) (iblk m c 4 t) (iblk m c 5 t) (iblk m c 6 t) (iblk m c 7 t)
    | ⟨15, _⟩ => out0_15 (iblk m c 0 t) (iblk m c 1 t) (iblk m c 2 t) (iblk m c 3 t) (iblk m c 4 t) (iblk m c 5 t) (iblk m c 6 t) (iblk m c 7 t)
    | ⟨16, _⟩ => out0_16 (iblk m c 0 t) (iblk m c 1 t) (iblk m c 2 t) (iblk m c 3 t) (iblk m c 4 t) (iblk m c 5 t) (iblk m c 6 t) (iblk m c 7 t)
    | ⟨17, _⟩ => out0_17 (iblk m c 0 t) (iblk m c 1 t) (iblk m c 2 t) (iblk m c 3 t) (iblk m c 4 t) (iblk m c 5 t) (iblk m c 6 t) (iblk m c 7 t)
    | ⟨18, _⟩ => out0_18 (iblk m c 0 t) (iblk m c 1 t) (iblk m c 2 t) (iblk m c 3 t) (iblk m c 4 t) (iblk m c 5 t) (iblk m c 6 t) (iblk m c 7 t)
    | ⟨19, _⟩ => out0_19 (iblk m c 0 t) (iblk m c 1 t) (iblk m c 2 t) (iblk m c 3 t) (iblk m c 4 t) (iblk m c 5 t) (iblk m c 6 t) (iblk m c 7 t)
    | ⟨20, _⟩ => out0_20 (iblk m c 0 t) (iblk m c 1 t) (iblk m c 2 t) (iblk m c 3 t) (iblk m c 4 t) (iblk m c 5 t) (iblk m c 6 t) (iblk m c 7 t)
    | ⟨21, _⟩ => out0_21 (iblk m c 0 t) (iblk m c 1 t) (iblk m c 2 t) (iblk m c 3 t) (iblk m c 4 t) (iblk m c 5 t) (iblk m c 6 t) (iblk m c 7 t)
    | ⟨22, _⟩ => out0_22 (iblk m c 0 t) (iblk m c 1 t) (iblk m c 2 t) (iblk m c 3 t) (iblk m c 4 t) (iblk m c 5 t) (iblk m c 6 t) (iblk m c 7 t)
    | ⟨_ + 23, h⟩ => absurd h (Nat.not_lt.2 (Nat.le_add_left _ _))
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InIdeal.Gen

end
-- ==== Proof.InRun.lean ====
/-
The run of the prompt's in-projection read ideally, with each of the fifteen arrays after it named, from the frame run.
-/
module

public import proofs.«01_k».proof.Proof.InIdealFrame
public import Idealize.ShloMosaic.Lib.Pipeline.Value

@[expose] public section

noncomputable section

namespace Cert.InIdeal.Value

open Cert.InIdeal Cert.InIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v48_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v48_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v48_2) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v48_3) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v48_4) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v48_5) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v48_6) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v48_7) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v48_8) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v48_9) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v48_10) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v48_11) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v48_12) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v48_13) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v48_14) = (dats m 0 c).arrAt 22 cfg0.N :=
  (h c).1 22

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

set_option maxHeartbeats 364500 in
/-- The frame run with each output array after the run NAMED,
    the arguments unchanged. -/
theorem run_blocks : θ_run defs (onTc (τ := τ) (main (F := F))) ⟨m, fun _ => 0, ρ⟩ fun r => ∀ c : Dev nD,
      r.2.mem ((c : Thread nD τ).loc main_v48_0) = (dats m 0 c).arrAt 8 cfg0.N
      ∧ r.2.mem ((c : Thread nD τ).loc main_v48_1) = (dats m 0 c).arrAt 9 cfg0.N
      ∧ r.2.mem ((c : Thread nD τ).loc main_v48_2) = (dats m 0 c).arrAt 10 cfg0.N
      ∧ r.2.mem ((c : Thread nD τ).loc main_v48_3) = (dats m 0 c).arrAt 11 cfg0.N
      ∧ r.2.mem ((c : Thread nD τ).loc main_v48_4) = (dats m 0 c).arrAt 12 cfg0.N
      ∧ r.2.mem ((c : Thread nD τ).loc main_v48_5) = (dats m 0 c).arrAt 13 cfg0.N
      ∧ r.2.mem ((c : Thread nD τ).loc main_v48_6) = (dats m 0 c).arrAt 14 cfg0.N
      ∧ r.2.mem ((c : Thread nD τ).loc main_v48_7) = (dats m 0 c).arrAt 15 cfg0.N
      ∧ r.2.mem ((c : Thread nD τ).loc main_v48_8) = (dats m 0 c).arrAt 16 cfg0.N
      ∧ r.2.mem ((c : Thread nD τ).loc main_v48_9) = (dats m 0 c).arrAt 17 cfg0.N
      ∧ r.2.mem ((c : Thread nD τ).loc main_v48_10) = (dats m 0 c).arrAt 18 cfg0.N
      ∧ r.2.mem ((c : Thread nD τ).loc main_v48_11) = (dats m 0 c).arrAt 19 cfg0.N
      ∧ r.2.mem ((c : Thread nD τ).loc main_v48_12) = (dats m 0 c).arrAt 20 cfg0.N
      ∧ r.2.mem ((c : Thread nD τ).loc main_v48_13) = (dats m 0 c).arrAt 21 cfg0.N
      ∧ r.2.mem ((c : Thread nD τ).loc main_v48_14) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post8 m r h c,
      post9 m r h c,
      post10 m r h c,
      post11 m r h c,
      post12 m r h c,
      post13 m r h c,
      post14 m r h c,
      post15 m r h c,
      post16 m r h c,
      post17 m r h c,
      post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c⟩)
    (run_main m ρ)

end Cert.InIdeal.Value

end
-- ==== Proof.InHost.lean ====
/-
The prompt's in-projection: the two packed weight arrays as concatenations of parts of the weight argument.
-/
module

public import proofs.«01_k».proof.Proof.InIdealFrame
public import Idealize.ShloMosaic.Lib.Pipeline.ValueKit
public import Idealize.ShloMosaic.Lib.Pointwise
public import Idealize.ShloMosaic.Lib.Claim
public import Idealize.ShloMosaic.Lib.Routing.OpsSet
public import Idealize.ShloMosaic.Lib.Routing.OpsPair

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD)

/-- The buffers after the first `n` host operations. -/
def V0 (n : ℕ) : Valuation τ sig (Elt Ideal) := StableHlo.after (hostOps0.take n) (fun b => m (c, b))

theorem V_split (n : ℕ) (b : Ref sig .tc) : V m c b = StableHlo.after (hostOps0.drop n) (V0 m c n) (Proc.devRef .tc b) := by
  show StableHlo.after hostOps0 (fun b => m (c, b)) (Proc.devRef .tc b) = _
  unfold V0
  rw [← StableHlo.after_append, List.take_append_drop]

theorem V_v14 : V m c main_v14 = (concatenate S1312x1024 0 [⟨S512x1024, (V0 m c 15 (Proc.devRef .tc main_v6) : (⟨S512x1024, .f32⟩ : BufTy).Contents (Elt Ideal))⟩,
    ⟨S256x1024, (V0 m c 15 (Proc.devRef .tc main_v8) : (⟨S256x1024, .f32⟩ : BufTy).Contents (Elt Ideal))⟩,
    ⟨S256x1024, (V0 m c 15 (Proc.devRef .tc main_v10) : (⟨S256x1024, .f32⟩ : BufTy).Contents (Elt Ideal))⟩,
    ⟨S256x1024, (V0 m c 15 (Proc.devRef .tc main_v12) : (⟨S256x1024, .f32⟩ : BufTy).Contents (Elt Ideal))⟩,
    ⟨S32x1024, (V0 m c 15 (Proc.devRef .tc main_v4) : (⟨S32x1024, .f32⟩ : BufTy).Contents (Elt Ideal))⟩] concatenates_S512x1024_S256x1024_S256x1024_S256x1024_S32x1024_S1312x1024_d0 : (⟨S1312x1024, .f32⟩ : BufTy).Contents (Elt Ideal)) := by
  rw [V_split m c 15]
  generalize V0 m c 15 = σ
  simp only [List.drop_succ_cons, List.drop_zero]
  rw [StableHlo.after_cons, StableHlo.after_cons]
  refine (StableHlo.after_of_forall_not_mem (b := Proc.devRef .tc main_v14) _ _ (List.forall_iff_forall_mem.mp (by
    simp only [List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))).trans ?_
  rw [StableHlo.unary_result, StableHlo.nary_result]
  rfl

theorem V_v25 : V m c main_v25 = (concatenate S1024x2176 1 [⟨S1024x512, (V0 m c 28 (Proc.devRef .tc main_v19) : (⟨S1024x512, .f32⟩ : BufTy).Contents (Elt Ideal))⟩,
    ⟨S1024x256, (V0 m c 28 (Proc.devRef .tc main_v20) : (⟨S1024x256, .f32⟩ : BufTy).Contents (Elt Ideal))⟩,
    ⟨S1024x256, (V0 m c 28 (Proc.devRef .tc main_v21) : (⟨S1024x256, .f32⟩ : BufTy).Contents (Elt Ideal))⟩,
    ⟨S1024x512, (V0 m c 28 (Proc.devRef .tc main_v22) : (⟨S1024x512, .f32⟩ : BufTy).Contents (Elt Ideal))⟩,
    ⟨S1024x512, (V0 m c 28 (Proc.devRef .tc main_v23) : (⟨S1024x512, .f32⟩ : BufTy).Contents (Elt Ideal))⟩,
    ⟨S1024x128, (V0 m c 28 (Proc.devRef .tc main_v18) : (⟨S1024x128, .f32⟩ : BufTy).Contents (Elt Ideal))⟩] concatenates_S1024x512_S1024x256_S1024x256_S1024x512_S1024x512_S1024x128_S1024x2176_d1 : (⟨S1024x2176, .f32⟩ : BufTy).Contents (Elt Ideal)) := by
  rw [V_split m c 28]
  generalize V0 m c 28 = σ
  simp only [List.drop_succ_cons, List.drop_zero]
  rw [StableHlo.after_cons, StableHlo.after_cons]
  refine (StableHlo.after_of_forall_not_mem (b := Proc.devRef .tc main_v25) _ _ (List.forall_iff_forall_mem.mp (by
    simp only [List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))).trans ?_
  rw [StableHlo.unary_result, StableHlo.nary_result]
  rfl

theorem V0_v6 : V0 m c 15 (Proc.devRef .tc main_v6) = (transpose S512x1024 [1, 0] (extractStridedSlice S1024x512 ![0, 0] (m ((c : Thread nD τ).loc main_arg2)) slices_S1024x3368_S1024x512_0_0) transposes_S1024x512_S512x1024_1_0) := by
  unfold V0
  simp only [List.take_succ_cons, List.take_zero]
  after_results_simp

theorem V0_v8 : V0 m c 15 (Proc.devRef .tc main_v8) = (transpose S256x1024 [1, 0] (extractStridedSlice S1024x256 ![0, 512] (m ((c : Thread nD τ).loc main_arg2)) slices_S1024x3368_S1024x256_0_512) transposes_S1024x256_S256x1024_1_0) := by
  unfold V0
  simp only [List.take_succ_cons, List.take_zero]
  after_results_simp

theorem V0_v10 : V0 m c 15 (Proc.devRef .tc main_v10) = (transpose S256x1024 [1, 0] (extractStridedSlice S1024x256 ![0, 768] (m ((c : Thread nD τ).loc main_arg2)) slices_S1024x3368_S1024x256_0_768) transposes_S1024x256_S256x1024_1_0) := by
  unfold V0
  simp only [List.take_succ_cons, List.take_zero]
  after_results_simp

theorem V0_v12 : V0 m c 15 (Proc.devRef .tc main_v12) = (transpose S256x1024 [1, 0] (extractStridedSlice S1024x256 ![0, 1024] (m ((c : Thread nD τ).loc main_arg2)) slices_S1024x3368_S1024x256_0_1024) transposes_S1024x256_S256x1024_1_0) := by
  unfold V0
  simp only [List.take_succ_cons, List.take_zero]
  after_results_simp

theorem V0_v4 : V0 m c 15 (Proc.devRef .tc main_v4) = Host.scatter scatter_S32x1024_S1_S24x1024_01_n_0_0 (fun _ b => b) (broadcastInDim S32x1024 ![] bcast_S_S32x1024 (constant (F := Ideal) S_ .f32 0x00000000#32)) (broadcastInDim S1 ![] bcast_S_S1 (constantI S_ 32 0#32)) (transpose S24x1024 [1, 0] (extractStridedSlice S1024x24 ![0, 1280] (m ((c : Thread nD τ).loc main_arg2)) slices_S1024x3368_S1024x24_0_1280) transposes_S1024x24_S24x1024_1_0) := by
  unfold V0
  simp only [List.take_succ_cons, List.take_zero]
  after_results_simp

theorem V0_v19 : V0 m c 28 (Proc.devRef .tc main_v19) = (extractStridedSlice S1024x512 ![0, 1304] (m ((c : Thread nD τ).loc main_arg2)) slices_S1024x3368_S1024x512_0_1304) := by
  unfold V0
  simp only [List.take_succ_cons, List.take_zero]
  after_results_simp

theorem V0_v20 : V0 m c 28 (Proc.devRef .tc main_v20) = (extractStridedSlice S1024x256 ![0, 1816] (m ((c : Thread nD τ).loc main_arg2)) slices_S1024x3368_S1024x256_0_1816) := by
  unfold V0
  simp only [List.take_succ_cons, List.take_zero]
  after_results_simp

theorem V0_v21 : V0 m c 28 (Proc.devRef .tc main_v21) = (extractStridedSlice S1024x256 ![0, 2072] (m ((c : Thread nD τ).loc main_arg2)) slices_S1024x3368_S1024x256_0_2072) := by
  unfold V0
  simp only [List.take_succ_cons, List.take_zero]
  after_results_simp

theorem V0_v22 : V0 m c 28 (Proc.devRef .tc main_v22) = (extractStridedSlice S1024x512 ![0, 2328] (m ((c : Thread nD τ).loc main_arg2)) slices_S1024x3368_S1024x512_0_2328) := by
  unfold V0
  simp only [List.take_succ_cons, List.take_zero]
  after_results_simp

theorem V0_v23 : V0 m c 28 (Proc.devRef .tc main_v23) = (extractStridedSlice S1024x512 ![0, 2856] (m ((c : Thread nD τ).loc main_arg2)) slices_S1024x3368_S1024x512_0_2856) := by
  unfold V0
  simp only [List.take_succ_cons, List.take_zero]
  after_results_simp

theorem V0_v18 : V0 m c 28 (Proc.devRef .tc main_v18) = Host.scatter scatter_S1024x128_S1_S1024x16_01_n_1_0 (fun _ b => b) (broadcastInDim S1024x128 ![] bcast_S_S1024x128 (constant (F := Ideal) S_ .f32 0x00000000#32)) (broadcastInDim S1 ![] bcast_S_S1 (constantI S_ 32 32#32)) (extractStridedSlice S1024x16 ![0, 2840] (m ((c : Thread nD τ).loc main_arg2)) slices_S1024x3368_S1024x16_0_2840) := by
  unfold V0
  simp only [List.take_succ_cons, List.take_zero]
  after_results_simp

/-- A block set at an offset into a matrix, read inside the block. -/
theorem set_hit {α : Type} {R C U V w : ℕ} {si : Shape} (d : ScatterDims ⟨2, ![R, C]⟩ si ⟨2, ![U, V]⟩) (x : Shape.Idx ⟨2, ![R, C]⟩ → α) (idx : IVec si w)
    (u : Shape.Idx ⟨2, ![U, V]⟩ → α) (o0 o1 : ℕ)
    (h0 : ∀ k, d.start k idx (0 : Fin 2) + (d.window k (0 : Fin 2) : Int) = o0 + (k (0 : Fin 2)).val)
    (h1 : ∀ k, d.start k idx (1 : Fin 2) + (d.window k (1 : Fin 2) : Int) = o1 + (k (1 : Fin 2)).val)
    (i : Shape.Idx ⟨2, ![R, C]⟩) (k : Shape.Idx ⟨2, ![U, V]⟩) (e0 : (i (0 : Fin 2)).val = o0 + (k (0 : Fin 2)).val) (e1 : (i (1 : Fin 2)).val = o1 + (k (1 : Fin 2)).val) :
    Host.scatter d (fun _ b => b) x idx u i = u k := by
  refine Routing.scatter_set_hit d x idx u i (u k) (fun k' h => ?_) k ?_
  · rw [Routing.resultIdx?_eq_some] at h
    have a0 := h (0 : Fin 2)
    have a1 := h (1 : Fin 2)
    rw [h0] at a0
    rw [h1] at a1
    refine congrArg u (funext fun a => Fin.ext ?_)
    match a with
    | ⟨0, _⟩ =>
      show (k' (0 : Fin 2)).val = (k (0 : Fin 2)).val
      omega
    | ⟨1, _⟩ =>
      show (k' (1 : Fin 2)).val = (k (1 : Fin 2)).val
      omega
  · rw [Routing.resultIdx?_eq_some]
    intro a
    match a with
    | ⟨0, _⟩ => exact (h0 k).trans (show (o0 : Int) + ((k (0 : Fin 2)).val : Int) = ((i (0 : Fin 2)).val : Int) by omega)
    | ⟨1, _⟩ => exact (h1 k).trans (show (o1 : Int) + ((k (1 : Fin 2)).val : Int) = ((i (1 : Fin 2)).val : Int) by omega)

/-- The same read outside the block. -/
theorem set_miss {α : Type} {R C U V w : ℕ} {si : Shape} (d : ScatterDims ⟨2, ![R, C]⟩ si ⟨2, ![U, V]⟩) (x : Shape.Idx ⟨2, ![R, C]⟩ → α) (idx : IVec si w)
    (u : Shape.Idx ⟨2, ![U, V]⟩ → α) (o0 o1 : ℕ)
    (h0 : ∀ k, d.start k idx (0 : Fin 2) + (d.window k (0 : Fin 2) : Int) = o0 + (k (0 : Fin 2)).val)
    (h1 : ∀ k, d.start k idx (1 : Fin 2) + (d.window k (1 : Fin 2) : Int) = o1 + (k (1 : Fin 2)).val)
    (i : Shape.Idx ⟨2, ![R, C]⟩)
    (e : (i (0 : Fin 2)).val < o0 ∨ o0 + U ≤ (i (0 : Fin 2)).val ∨ (i (1 : Fin 2)).val < o1 ∨ o1 + V ≤ (i (1 : Fin 2)).val) :
    Host.scatter d (fun _ b => b) x idx u i = x i := by
  refine Routing.scatter_set_miss d x idx u i fun k h => ?_
  rw [Routing.resultIdx?_eq_some] at h
  have a0 := h (0 : Fin 2)
  have a1 := h (1 : Fin 2)
  rw [h0] at a0
  rw [h1] at a1
  have b0 : (k (0 : Fin 2)).val < U := (k (0 : Fin 2)).isLt
  have b1 : (k (1 : Fin 2)).val < V := (k (1 : Fin 2)).isLt
  omega

theorem g0 (k : S24x1024.Idx) : ScatterDims.start scatter_S32x1024_S1_S24x1024_01_n_0_0 k (broadcastInDim S1 ![] bcast_S_S1 (constantI S_ 32 0#32)) (0 : Fin 2)
    + (ScatterDims.window scatter_S32x1024_S1_S24x1024_01_n_0_0 k (0 : Fin 2) : Int) = ((0 : ℕ) : Int) + ((k (0 : Fin 2)).val : Int) := rfl

theorem g1 (k : S24x1024.Idx) : ScatterDims.start scatter_S32x1024_S1_S24x1024_01_n_0_0 k (broadcastInDim S1 ![] bcast_S_S1 (constantI S_ 32 0#32)) (1 : Fin 2)
    + (ScatterDims.window scatter_S32x1024_S1_S24x1024_01_n_0_0 k (1 : Fin 2) : Int) = ((0 : ℕ) : Int) + ((k (1 : Fin 2)).val : Int) := rfl

theorem s0 (k : S1024x16.Idx) : ScatterDims.start scatter_S1024x128_S1_S1024x16_01_n_1_0 k (broadcastInDim S1 ![] bcast_S_S1 (constantI S_ 32 32#32)) (0 : Fin 2)
    + (ScatterDims.window scatter_S1024x128_S1_S1024x16_01_n_1_0 k (0 : Fin 2) : Int) = ((0 : ℕ) : Int) + ((k (0 : Fin 2)).val : Int) := rfl

theorem s1 (k : S1024x16.Idx) : ScatterDims.start scatter_S1024x128_S1_S1024x16_01_n_1_0 k (broadcastInDim S1 ![] bcast_S_S1 (constantI S_ 32 32#32)) (1 : Fin 2)
    + (ScatterDims.window scatter_S1024x128_S1_S1024x16_01_n_1_0 k (1 : Fin 2) : Int) = ((32 : ℕ) : Int) + ((k (1 : Fin 2)).val : Int) := rfl

theorem r0 (k : S16x256.Idx) : ScatterDims.start scatter_S128x256_S1_S16x256_01_n_0_0 k (broadcastInDim S1 ![] bcast_S_S1 (constantI S_ 32 32#32)) (0 : Fin 2)
    + (ScatterDims.window scatter_S128x256_S1_S16x256_01_n_0_0 k (0 : Fin 2) : Int) = ((32 : ℕ) : Int) + ((k (0 : Fin 2)).val : Int) := rfl

theorem r1 (k : S16x256.Idx) : ScatterDims.start scatter_S128x256_S1_S16x256_01_n_0_0 k (broadcastInDim S1 ![] bcast_S_S1 (constantI S_ 32 32#32)) (1 : Fin 2)
    + (ScatterDims.window scatter_S128x256_S1_S16x256_01_n_0_0 k (1 : Fin 2) : Int) = ((0 : ℕ) : Int) + ((k (1 : Fin 2)).val : Int) := rfl

theorem g_hit (x : S32x1024.Idx → EReal) (u : S24x1024.Idx → EReal) (a : Fin 32) (b : Fin 1024) (i : Fin 24) (j : Fin 1024) (h : a.val = 0 + i.val) (h' : b.val = 0 + j.val) :
    Host.scatter scatter_S32x1024_S1_S24x1024_01_n_0_0 (fun _ b => b) x (broadcastInDim S1 ![] bcast_S_S1 (constantI S_ 32 0#32)) u (ix2 a b) = u (ix2 i j) :=
  set_hit scatter_S32x1024_S1_S24x1024_01_n_0_0 x (broadcastInDim S1 ![] bcast_S_S1 (constantI S_ 32 0#32)) u 0 0 g0 g1 (ix2 a b) (ix2 i j) h h'

theorem g_miss (x : S32x1024.Idx → EReal) (u : S24x1024.Idx → EReal) (a : Fin 32) (b : Fin 1024) (h : a.val < 0 ∨ 0 + 24 ≤ a.val ∨ b.val < 0 ∨ 0 + 1024 ≤ b.val) :
    Host.scatter scatter_S32x1024_S1_S24x1024_01_n_0_0 (fun _ b => b) x (broadcastInDim S1 ![] bcast_S_S1 (constantI S_ 32 0#32)) u (ix2 a b) = x (ix2 a b) :=
  set_miss scatter_S32x1024_S1_S24x1024_01_n_0_0 x (broadcastInDim S1 ![] bcast_S_S1 (constantI S_ 32 0#32)) u 0 0 g0 g1 (ix2 a b) h

theorem s_hit (x : S1024x128.Idx → EReal) (u : S1024x16.Idx → EReal) (a : Fin 1024) (b : Fin 128) (i : Fin 1024) (j : Fin 16) (h : a.val = 0 + i.val) (h' : b.val = 32 + j.val) :
    Host.scatter scatter_S1024x128_S1_S1024x16_01_n_1_0 (fun _ b => b) x (broadcastInDim S1 ![] bcast_S_S1 (constantI S_ 32 32#32)) u (ix2 a b) = u (ix2 i j) :=
  set_hit scatter_S1024x128_S1_S1024x16_01_n_1_0 x (broadcastInDim S1 ![] bcast_S_S1 (constantI S_ 32 32#32)) u 0 32 s0 s1 (ix2 a b) (ix2 i j) h h'

theorem s_miss (x : S1024x128.Idx → EReal) (u : S1024x16.Idx → EReal) (a : Fin 1024) (b : Fin 128) (h : a.val < 0 ∨ 0 + 1024 ≤ a.val ∨ b.val < 32 ∨ 32 + 16 ≤ b.val) :
    Host.scatter scatter_S1024x128_S1_S1024x16_01_n_1_0 (fun _ b => b) x (broadcastInDim S1 ![] bcast_S_S1 (constantI S_ 32 32#32)) u (ix2 a b) = x (ix2 a b) :=
  set_miss scatter_S1024x128_S1_S1024x16_01_n_1_0 x (broadcastInDim S1 ![] bcast_S_S1 (constantI S_ 32 32#32)) u 0 32 s0 s1 (ix2 a b) h

theorem r_hit (x : S128x256.Idx → EReal) (u : S16x256.Idx → EReal) (a : Fin 128) (b : Fin 256) (i : Fin 16) (j : Fin 256) (h : a.val = 32 + i.val) (h' : b.val = 0 + j.val) :
    Host.scatter scatter_S128x256_S1_S16x256_01_n_0_0 (fun _ b => b) x (broadcastInDim S1 ![] bcast_S_S1 (constantI S_ 32 32#32)) u (ix2 a b) = u (ix2 i j) :=
  set_hit scatter_S128x256_S1_S16x256_01_n_0_0 x (broadcastInDim S1 ![] bcast_S_S1 (constantI S_ 32 32#32)) u 32 0 r0 r1 (ix2 a b) (ix2 i j) h h'

theorem r_miss (x : S128x256.Idx → EReal) (u : S16x256.Idx → EReal) (a : Fin 128) (b : Fin 256) (h : a.val < 32 ∨ 32 + 16 ≤ a.val ∨ b.val < 0 ∨ 0 + 256 ≤ b.val) :
    Host.scatter scatter_S128x256_S1_S16x256_01_n_0_0 (fun _ b => b) x (broadcastInDim S1 ![] bcast_S_S1 (constantI S_ 32 32#32)) u (ix2 a b) = x (ix2 a b) :=
  set_miss scatter_S128x256_S1_S16x256_01_n_0_0 x (broadcastInDim S1 ![] bcast_S_S1 (constantI S_ 32 32#32)) u 32 0 r0 r1 (ix2 a b) h

theorem wt_q (j : Fin 512) (l : Fin 1024) : V m c main_v14 (ix2 (⟨j.val, by omega⟩ : Fin 1312) l) = m ((c : Thread nD τ).loc main_arg2) (ix2 l (⟨j.val, by omega⟩ : Fin 3368)) := by
  rw [V_v14]
  pointwise
  rw [V0_v6]
  pointwise

theorem wt_c (j : Fin 256) (l : Fin 1024) : V m c main_v14 (ix2 (⟨512 + j.val, by omega⟩ : Fin 1312) l) = m ((c : Thread nD τ).loc main_arg2) (ix2 l (⟨512 + j.val, by omega⟩ : Fin 3368)) := by
  rw [V_v14]
  pointwise
  rw [V0_v8]
  pointwise

theorem wt_s (j : Fin 256) (l : Fin 1024) : V m c main_v14 (ix2 (⟨768 + j.val, by omega⟩ : Fin 1312) l) = m ((c : Thread nD τ).loc main_arg2) (ix2 l (⟨768 + j.val, by omega⟩ : Fin 3368)) := by
  rw [V_v14]
  pointwise
  rw [dif_neg (by omega), dif_neg (by omega), dif_pos (by omega)]
  rw [V0_v10]
  pointwise
  refine congrArg _ (congrArg (ix2 l) (Fin.ext ?_))
  show 768 + (768 + j.val - 512 - 256) = 768 + j.val
  omega

theorem wt_w (j : Fin 256) (l : Fin 1024) : V m c main_v14 (ix2 (⟨1024 + j.val, by omega⟩ : Fin 1312) l) = m ((c : Thread nD τ).loc main_arg2) (ix2 l (⟨1024 + j.val, by omega⟩ : Fin 3368)) := by
  rw [V_v14]
  pointwise
  rw [dif_neg (by omega), dif_neg (by omega), dif_neg (by omega), dif_pos (by omega)]
  rw [V0_v12]
  pointwise
  refine congrArg _ (congrArg (ix2 l) (Fin.ext ?_))
  show 1024 + (1024 + j.val - 512 - 256 - 256) = 1024 + j.val
  omega

theorem wt_g (j : Fin 24) (l : Fin 1024) : V m c main_v14 (ix2 (⟨1280 + j.val, by omega⟩ : Fin 1312) l) = m ((c : Thread nD τ).loc main_arg2) (ix2 l (⟨1280 + j.val, by omega⟩ : Fin 3368)) := by
  rw [V_v14]
  pointwise
  rw [dif_neg (by omega), dif_neg (by omega), dif_neg (by omega), dif_neg (by omega)]
  rw [V0_v4]
  refine (g_hit _ _ _ l j l ?_ ?_).trans ?_
  · show 1280 + j.val - 512 - 256 - 256 - 256 = 0 + j.val
    omega
  · omega
  · pointwise

theorem wt_z (j : Fin 8) (l : Fin 1024) : V m c main_v14 (ix2 (⟨1304 + j.val, by omega⟩ : Fin 1312) l) = (0 : EReal) := by
  rw [V_v14]
  pointwise
  rw [dif_neg (by omega), dif_neg (by omega), dif_neg (by omega), dif_neg (by omega)]
  rw [V0_v4]
  refine (g_miss _ _ _ l ?_).trans ?_
  · show 1304 + j.val - 512 - 256 - 256 - 256 < 0 ∨ 0 + 24 ≤ 1304 + j.val - 512 - 256 - 256 - 256 ∨ _
    omega
  · pointwise

theorem wt_at (j : Fin 1304) (l : Fin 1024) : V m c main_v14 (ix2 (⟨j.val, by omega⟩ : Fin 1312) l) = m ((c : Thread nD τ).loc main_arg2) (ix2 l (⟨j.val, by omega⟩ : Fin 3368)) := by
  obtain ⟨j, hj⟩ := j
  by_cases h1 : j < 512
  · exact wt_q m c ⟨j, h1⟩ l
  by_cases h2 : j < 768
  · obtain ⟨i, rfl⟩ : ∃ i, j = 512 + i := ⟨j - 512, by omega⟩
    exact wt_c m c ⟨i, by omega⟩ l
  by_cases h3 : j < 1024
  · obtain ⟨i, rfl⟩ : ∃ i, j = 768 + i := ⟨j - 768, by omega⟩
    exact wt_s m c ⟨i, by omega⟩ l
  by_cases h4 : j < 1280
  · obtain ⟨i, rfl⟩ : ∃ i, j = 1024 + i := ⟨j - 1024, by omega⟩
    exact wt_w m c ⟨i, by omega⟩ l
  · obtain ⟨i, rfl⟩ : ∃ i, j = 1280 + i := ⟨j - 1280, by omega⟩
    exact wt_g m c ⟨i, by omega⟩ l

theorem wk_zn (l : Fin 1024) (j : Fin 512) : V m c main_v25 (ix2 l (⟨j.val, by omega⟩ : Fin 2176)) = m ((c : Thread nD τ).loc main_arg2) (ix2 l (⟨1304 + j.val, by omega⟩ : Fin 3368)) := by
  rw [V_v25]
  pointwise
  rw [V0_v19]
  pointwise

theorem wk_gq (l : Fin 1024) (j : Fin 256) : V m c main_v25 (ix2 l (⟨512 + j.val, by omega⟩ : Fin 2176)) = m ((c : Thread nD τ).loc main_arg2) (ix2 l (⟨1816 + j.val, by omega⟩ : Fin 3368)) := by
  rw [V_v25]
  pointwise
  rw [V0_v20]
  pointwise

theorem wk_gk (l : Fin 1024) (j : Fin 256) : V m c main_v25 (ix2 l (⟨768 + j.val, by omega⟩ : Fin 2176)) = m ((c : Thread nD τ).loc main_arg2) (ix2 l (⟨2072 + j.val, by omega⟩ : Fin 3368)) := by
  rw [V_v25]
  pointwise
  rw [dif_neg (by omega), dif_neg (by omega), dif_pos (by omega)]
  rw [V0_v21]
  pointwise
  refine congrArg _ (congrArg (ix2 l) (Fin.ext ?_))
  show 2072 + (768 + j.val - 512 - 256) = 2072 + j.val
  omega

theorem wk_gv (l : Fin 1024) (j : Fin 512) : V m c main_v25 (ix2 l (⟨1024 + j.val, by omega⟩ : Fin 2176)) = m ((c : Thread nD τ).loc main_arg2) (ix2 l (⟨2328 + j.val, by omega⟩ : Fin 3368)) := by
  rw [V_v25]
  pointwise
  rw [dif_neg (by omega), dif_neg (by omega), dif_neg (by omega), dif_pos (by omega)]
  rw [V0_v22]
  pointwise
  refine congrArg _ (congrArg (ix2 l) (Fin.ext ?_))
  show 2328 + (1024 + j.val - 512 - 256 - 256) = 2328 + j.val
  omega

theorem wk_zg (l : Fin 1024) (j : Fin 512) : V m c main_v25 (ix2 l (⟨1536 + j.val, by omega⟩ : Fin 2176)) = m ((c : Thread nD τ).loc main_arg2) (ix2 l (⟨2856 + j.val, by omega⟩ : Fin 3368)) := by
  rw [V_v25]
  pointwise
  rw [dif_neg (by omega), dif_neg (by omega), dif_neg (by omega), dif_neg (by omega), dif_pos (by omega)]
  rw [V0_v23]
  pointwise
  refine congrArg _ (congrArg (ix2 l) (Fin.ext ?_))
  show 2856 + (1536 + j.val - 512 - 256 - 256 - 512) = 2856 + j.val
  omega

theorem wk_m (l : Fin 1024) (j : Fin 16) : V m c main_v25 (ix2 l (⟨2080 + j.val, by omega⟩ : Fin 2176)) = m ((c : Thread nD τ).loc main_arg2) (ix2 l (⟨2840 + j.val, by omega⟩ : Fin 3368)) := by
  rw [V_v25]
  pointwise
  rw [dif_neg (by omega), dif_neg (by omega), dif_neg (by omega), dif_neg (by omega), dif_neg (by omega)]
  rw [V0_v18]
  refine (s_hit _ _ l _ l j ?_ ?_).trans ?_
  · omega
  · show 2080 + j.val - 512 - 256 - 256 - 512 - 512 = 32 + j.val
    omega
  · pointwise

theorem wk_m0 (l : Fin 1024) (j : Fin 128) (h : j.val < 32 ∨ 48 ≤ j.val) : V m c main_v25 (ix2 l (⟨2048 + j.val, by omega⟩ : Fin 2176)) = (0 : EReal) := by
  rw [V_v25]
  pointwise
  rw [dif_neg (by omega), dif_neg (by omega), dif_neg (by omega), dif_neg (by omega), dif_neg (by omega)]
  rw [V0_v18]
  refine (s_miss _ _ l _ ?_).trans ?_
  · show l.val < 0 ∨ 0 + 1024 ≤ l.val ∨ 2048 + j.val - 512 - 256 - 256 - 512 - 512 < 32 ∨ 32 + 16 ≤ 2048 + j.val - 512 - 256 - 256 - 512 - 512
    omega
  · pointwise

end Cert.InVal

end
-- ==== Proof.InIdx.lean ====
/-
The prompt's in-projection: the index maps of the windows.
-/
module

public import proofs.«01_k».proof.Proof.InIdealFrame
public import proofs.«01_k».proof.Proof.InHost
public import proofs.«01_k».proof.Proof.Gen.InReferenceIdeal.Read
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem idx_val : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = t.val % 8)
    ∧ (win0_5.index t (0 : Fin 2) = 0 ∧ win0_5.index t (1 : Fin 2) = t.val % 8)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 4) = t.val / 8 ∧ win0_8.index t (1 : Fin 4) = 0 ∧ win0_8.index t (2 : Fin 4) = 0 ∧ win0_8.index t (3 : Fin 4) = t.val % 8)
    ∧ (win0_9.index t (0 : Fin 3) = t.val / 8 ∧ win0_9.index t (1 : Fin 3) = 0 ∧ win0_9.index t (2 : Fin 3) = t.val % 8)
    ∧ (win0_10.index t (0 : Fin 3) = t.val / 8 ∧ win0_10.index t (1 : Fin 3) = 0 ∧ win0_10.index t (2 : Fin 3) = t.val % 8)
    ∧ (win0_11.index t (0 : Fin 3) = t.val / 8 ∧ win0_11.index t (1 : Fin 3) = 0 ∧ win0_11.index t (2 : Fin 3) = t.val % 8)
    ∧ (win0_12.index t (0 : Fin 4) = t.val / 8 ∧ win0_12.index t (1 : Fin 4) = 0 ∧ win0_12.index t (2 : Fin 4) = t.val % 8 ∧ win0_12.index t (3 : Fin 4) = 0)
    ∧ (win0_13.index t (0 : Fin 4) = t.val / 8 ∧ win0_13.index t (1 : Fin 4) = 0 ∧ win0_13.index t (2 : Fin 4) = t.val % 8 ∧ win0_13.index t (3 : Fin 4) = 0)
    ∧ (win0_14.index t (0 : Fin 4) = t.val / 8 ∧ win0_14.index t (1 : Fin 4) = 0 ∧ win0_14.index t (2 : Fin 4) = 0 ∧ win0_14.index t (3 : Fin 4) = t.val % 8)
    ∧ (win0_15.index t (0 : Fin 4) = t.val / 8 ∧ win0_15.index t (1 : Fin 4) = 0 ∧ win0_15.index t (2 : Fin 4) = 0 ∧ win0_15.index t (3 : Fin 4) = t.val % 8)
    ∧ (win0_16.index t (0 : Fin 3) = t.val / 8 ∧ win0_16.index t (1 : Fin 3) = 0 ∧ win0_16.index t (2 : Fin 3) = t.val % 8)
    ∧ (win0_17.index t (0 : Fin 2) = t.val ∧ win0_17.index t (1 : Fin 2) = 0)
    ∧ (win0_18.index t (0 : Fin 2) = t.val ∧ win0_18.index t (1 : Fin 2) = 0)
    ∧ (win0_19.index t (0 : Fin 2) = t.val ∧ win0_19.index t (1 : Fin 2) = 0)
    ∧ (win0_20.index t (0 : Fin 2) = t.val ∧ win0_20.index t (1 : Fin 2) = 0)
    ∧ (win0_21.index t (0 : Fin 2) = t.val ∧ win0_21.index t (1 : Fin 2) = 0)
    ∧ (win0_22.index t (0 : Fin 2) = t.val ∧ win0_22.index t (1 : Fin 2) = 0) := by
  decide +kernel

end Cert.InVal

end
-- ==== Proof.InBlk.lean ====
/-
The prompt's in-projection: the arguments behind the staged blocks.
-/
module

public import proofs.«01_k».proof.Proof.InIdealFrame
public import proofs.«01_k».proof.Proof.InHost
public import proofs.«01_k».proof.Proof.Gen.InReferenceIdeal.Read
public import proofs.«01_k».proof.Proof.InIdx
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem V0_53_arg0 : V0 m c 53 (Proc.devRef .tc main_arg0) = m ((c : Thread nD τ).loc main_arg0) := by
  unfold V0
  simp only [List.take_succ_cons, List.take_zero]
  refine StableHlo.after_of_forall_not_mem (b := Proc.devRef .tc main_arg0) _ _ (List.forall_iff_forall_mem.mp (by
    simp only [List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

theorem V0_53_arg1 : V0 m c 53 (Proc.devRef .tc main_arg1) = m ((c : Thread nD τ).loc main_arg1) := by
  unfold V0
  simp only [List.take_succ_cons, List.take_zero]
  refine StableHlo.after_of_forall_not_mem (b := Proc.devRef .tc main_arg1) _ _ (List.forall_iff_forall_mem.mp (by
    simp only [List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

theorem V0_53_arg4 : V0 m c 53 (Proc.devRef .tc main_arg4) = m ((c : Thread nD τ).loc main_arg4) := by
  unfold V0
  simp only [List.take_succ_cons, List.take_zero]
  refine StableHlo.after_of_forall_not_mem (b := Proc.devRef .tc main_arg4) _ _ (List.forall_iff_forall_mem.mp (by
    simp only [List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

theorem V_v45 : V m c main_v45 = shapeCast S1x1024 (m ((c : Thread nD τ).loc main_arg1)) shapeCasts_S1024_S1x1024 := by
  rw [V_split m c 53, ← V0_53_arg1 m c]
  generalize V0 m c 53 = σ
  simp only [List.drop_succ_cons, List.drop_zero]
  after_results_simp
  rfl

theorem V_v46 : V m c main_v46 = shapeCast S1x256 (m ((c : Thread nD τ).loc main_arg4)) shapeCasts_S256_S1x256 := by
  rw [V_split m c 53, ← V0_53_arg4 m c]
  generalize V0 m c 53 = σ
  simp only [List.drop_succ_cons, List.drop_zero]
  after_results_simp
  rfl

theorem V_v47 : V m c main_v47 = shapeCast S16384x1024 (m ((c : Thread nD τ).loc main_arg0)) shapeCasts_S4x4096x1024_S16384x1024 := by
  rw [V_split m c 53, ← V0_53_arg0 m c]
  generalize V0 m c 53 = σ
  simp only [List.drop_succ_cons, List.drop_zero]
  after_results_simp
  rfl

theorem x_e (r : Fin 512) (l : Fin 1024) (q : Fin 16384)
    (hq : q.val = 512 * t.val + r.val) :
    (((View.whole main_v47).slice (win0_0.rect t)).emb (ix2 r l) : S16384x1024.Idx) = ix2 q l := by
  have ht : t.val < 32 := t.isLt
  have hI := idx_val t
  blk_ext [hI]

theorem x_q (r : Fin 512) (l : Fin 1024) (q : Fin 16384) (hq : q.val = 512 * t.val + r.val) :
    iblk m c 0 t (ix2 r l) = V m c main_v47 (ix2 q l) := by
  unfold iblk
  blk_simp
  rw [x_e t r l q hq]

theorem sc_at (x : Vec Ideal S4x4096x1024 .f32) (q : Fin 16384) (l : Fin 1024) (b : Fin 4) (p : Fin 4096)
    (hb : b.val = q.val / 4096) (hp : p.val = q.val % 4096) :
    shapeCast S16384x1024 x shapeCasts_S4x4096x1024_S16384x1024 (ix2 q l) = x (ix3 b p l) := by
  have h0 : q.val / 4096 < 4 := hb ▸ b.isLt
  have h1 : q.val % 4096 < 4096 := hp ▸ p.isLt
  have e0 : b = (⟨q.val / 4096, h0⟩ : Fin 4) := Fin.ext hb
  have e1 : p = (⟨q.val % 4096, h1⟩ : Fin 4096) := Fin.ext hp
  rw [e0, e1]
  pointwise

theorem x_blk (r : Fin 512) (l : Fin 1024) (b : Fin 4) (p : Fin 4096)
    (hb : b.val = t.val / 8) (hp : p.val = 512 * (t.val % 8) + r.val) :
    iblk m c 0 t (ix2 r l) = m ((c : Thread nD τ).loc main_arg0) (ix3 b p l) := by
  have ht : t.val < 32 := t.isLt
  have hx : 4096 * b.val + p.val < 16384 := by omega
  have hq : (⟨4096 * b.val + p.val, hx⟩ : Fin 16384).val = 512 * t.val + r.val := by
    show 4096 * b.val + p.val = _
    omega
  generalize (⟨4096 * b.val + p.val, hx⟩ : Fin 16384) = q at hq
  refine (x_q m c t r l q hq).trans ?_
  rw [V_v47]
  exact sc_at _ q l b p (by omega) (by omega)

theorem gain_blk (l : Fin 1024) :
    iblk m c 1 t (ix2 (0 : Fin 1) l) = m ((c : Thread nD τ).loc main_arg1) (ix1 l) := by
  have ht : t.val < 32 := t.isLt
  have hI := idx_val t
  unfold iblk
  blk_simp
  have e : (((View.whole main_v45).slice (win0_1.rect t)).emb (ix2 (0 : Fin 1) l) : S1x1024.Idx) = ix2 (0 : Fin 1) l := by blk_ext [hI]
  rw [e, V_v45]
  pointwise

theorem ba_blk (l : Fin 256) :
    iblk m c 7 t (ix2 (0 : Fin 1) l) = m ((c : Thread nD τ).loc main_arg4) (ix1 l) := by
  have ht : t.val < 32 := t.isLt
  have hI := idx_val t
  unfold iblk
  blk_simp
  have e : (((View.whole main_v46).slice (win0_7.rect t)).emb (ix2 (0 : Fin 1) l) : S1x256.Idx) = ix2 (0 : Fin 1) l := by blk_ext [hI]
  rw [e, V_v46]
  pointwise

end Cert.InVal

end
-- ==== Proof.InCos.lean ====
/-
The prompt's in-projection: the cosine table behind its staged block.
-/
module

public import proofs.«01_k».proof.Proof.InIdealFrame
public import proofs.«01_k».proof.Proof.InHost
public import proofs.«01_k».proof.Proof.Gen.InReferenceIdeal.Read
public import proofs.«01_k».proof.Proof.InIdx
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

set_option maxHeartbeats 4000000 in
theorem cos_blk (d : Fin 8) (r : Fin 512) (p : Fin 4096) (hp : p.val = 512 * (t.val % 8) + r.val) :
    iblk m c 4 t (ix2 d r) = Cert.InReferenceIdeal.Read.val_main_v39 (F := Ideal) (ix2 p d) := by
  have ht : t.val < 32 := t.isLt
  have hI := idx_val t
  unfold iblk
  blk_simp
  have e : (((View.whole main_v43).slice (win0_4.rect t)).emb (ix2 d r) : S8x4096.Idx) = ix2 d p := by blk_ext [hI]
  rw [e]
  entry_read
  pointwise [Cert.InReferenceIdeal.Read.val_main_v39, Cert.InReferenceIdeal.Read.val_main_v38, Cert.InReferenceIdeal.Read.val_main_v37, Cert.InReferenceIdeal.Read.val_main_v36, Cert.InReferenceIdeal.Read.val_main_v35, Cert.InReferenceIdeal.Read.val_main_v34, Cert.InReferenceIdeal.Read.val_main_v33, Cert.InReferenceIdeal.Read.val_main_v32, Cert.InReferenceIdeal.Read.val_main_v31, Cert.InReferenceIdeal.Read.val_main_v30, Cert.InReferenceIdeal.Read.val_main_v29, Cert.InReferenceIdeal.Read.val_main_v28, Cert.InReferenceIdeal.Read.val_main_v27, Cert.InReferenceIdeal.Read.val_main_v25, Cert.InReferenceIdeal.Read.val_main_cst_2, Cert.InReferenceIdeal.Read.val_main_cst_3]
  exact congrArg Idealize.ShloMosaic.Ideal.cos (mul_comm _ _)

end Cert.InVal

end
-- ==== Proof.InSin.lean ====
/-
The prompt's in-projection: the sine table behind its staged block.
-/
module

public import proofs.«01_k».proof.Proof.InIdealFrame
public import proofs.«01_k».proof.Proof.InHost
public import proofs.«01_k».proof.Proof.Gen.InReferenceIdeal.Read
public import proofs.«01_k».proof.Proof.InIdx
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

set_option maxHeartbeats 4000000 in
theorem sin_blk (d : Fin 8) (r : Fin 512) (p : Fin 4096) (hp : p.val = 512 * (t.val % 8) + r.val) :
    iblk m c 5 t (ix2 d r) = Cert.InReferenceIdeal.Read.val_main_v41 (F := Ideal) (ix2 p d) := by
  have ht : t.val < 32 := t.isLt
  have hI := idx_val t
  unfold iblk
  blk_simp
  have e : (((View.whole main_v44).slice (win0_5.rect t)).emb (ix2 d r) : S8x4096.Idx) = ix2 d p := by blk_ext [hI]
  rw [e]
  entry_read
  pointwise [Cert.InReferenceIdeal.Read.val_main_v41, Cert.InReferenceIdeal.Read.val_main_v38, Cert.InReferenceIdeal.Read.val_main_v37, Cert.InReferenceIdeal.Read.val_main_v36, Cert.InReferenceIdeal.Read.val_main_v35, Cert.InReferenceIdeal.Read.val_main_v34, Cert.InReferenceIdeal.Read.val_main_v33, Cert.InReferenceIdeal.Read.val_main_v32, Cert.InReferenceIdeal.Read.val_main_v31, Cert.InReferenceIdeal.Read.val_main_v30, Cert.InReferenceIdeal.Read.val_main_v29, Cert.InReferenceIdeal.Read.val_main_v28, Cert.InReferenceIdeal.Read.val_main_v27, Cert.InReferenceIdeal.Read.val_main_v25, Cert.InReferenceIdeal.Read.val_main_cst_2, Cert.InReferenceIdeal.Read.val_main_cst_3]
  exact congrArg Idealize.ShloMosaic.Ideal.sin (mul_comm _ _)

end Cert.InVal

end
-- ==== Proof.InWts.lean ====
/-
The prompt's in-projection: the weights behind their staged blocks.
-/
module

public import proofs.«01_k».proof.Proof.InIdealFrame
public import proofs.«01_k».proof.Proof.InHost
public import proofs.«01_k».proof.Proof.Gen.InReferenceIdeal.Read
public import proofs.«01_k».proof.Proof.InIdx
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem wt_blk (r : Fin 1312) (l : Fin 1024) : iblk m c 2 t (ix2 r l) = V m c main_v14 (ix2 r l) := by
  have hI := idx_val t
  unfold iblk
  blk_simp
  have e : (((View.whole main_v14).slice (win0_2.rect t)).emb (ix2 r l) : S1312x1024.Idx) = ix2 r l := by blk_ext [hI]
  rw [e]

theorem wk_blk (r : Fin 1024) (l : Fin 2176) : iblk m c 3 t (ix2 r l) = V m c main_v25 (ix2 r l) := by
  have hI := idx_val t
  unfold iblk
  blk_simp
  have e : (((View.whole main_v25).slice (win0_3.rect t)).emb (ix2 r l) : S1024x2176.Idx) = ix2 r l := by blk_ext [hI]
  rw [e]

theorem wa_blk (r : Fin 128) (l : Fin 256) : iblk m c 6 t (ix2 r l) = V m c main_v29 (ix2 r l) := by
  have hI := idx_val t
  unfold iblk
  blk_simp
  have e : (((View.whole main_v29).slice (win0_6.rect t)).emb (ix2 r l) : S128x256.Idx) = ix2 r l := by blk_ext [hI]
  rw [e]

theorem V0_30_arg3 : V0 m c 30 (Proc.devRef .tc main_arg3) = m ((c : Thread nD τ).loc main_arg3) := by
  unfold V0
  simp only [List.take_succ_cons, List.take_zero]
  refine StableHlo.after_of_forall_not_mem (b := Proc.devRef .tc main_arg3) _ _ (List.forall_iff_forall_mem.mp (by
    simp only [List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

theorem V_v29 : V m c main_v29 = truncf .bf16 (Host.scatter scatter_S128x256_S1_S16x256_01_n_0_0 (fun _ b => b) (broadcastInDim S128x256 ![] bcast_S_S128x256 (constant (F := Ideal) S_ .f32 0x00000000#32)) (broadcastInDim S1 ![] bcast_S_S1 (constantI S_ 32 32#32)) (m ((c : Thread nD τ).loc main_arg3))) bitsLt_bf16_f32 := by
  rw [V_split m c 30, ← V0_30_arg3 m c]
  generalize V0 m c 30 = σ
  simp only [List.drop_succ_cons, List.drop_zero]
  after_results_simp

theorem wa_hit (i : Fin 16) (l : Fin 256) : V m c main_v29 (ix2 (⟨32 + i.val, by omega⟩ : Fin 128) l) = m ((c : Thread nD τ).loc main_arg3) (ix2 i l) := by
  rw [V_v29]
  pointwise
  exact r_hit _ _ _ l i l rfl (by omega)

theorem wa_miss (j : Fin 128) (l : Fin 256) (h : j.val < 32 ∨ 48 ≤ j.val) : V m c main_v29 (ix2 j l) = (0 : EReal) := by
  rw [V_v29]
  pointwise
  refine (r_miss _ _ _ l (by omega)).trans ?_
  pointwise

end Cert.InVal

end
-- ==== Proof.InPj.lean ====
/-
The prompt's in-projection: one column of the projection.
-/
module

public import proofs.«01_k».proof.Proof.InIdealFrame
public import proofs.«01_k».proof.Proof.InHost
public import proofs.«01_k».proof.Proof.Gen.InReferenceIdeal.Read
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

/-- One row after the norm. -/
def hn (f : Fin 1024 → EReal) (g : Fin 1024 → EReal) (l : Fin 1024) : EReal :=
  f l * Idealize.ShloMosaic.Ideal.rsqrt (Idealize.ShloMosaic.Ideal.div (∑ x, f x * f x) (Idealize.ShloMosaic.Ideal.ofBits FTy.f32 1149239296#32) + Idealize.ShloMosaic.Ideal.ofBits FTy.f32 897988541#32) * g l

/-- Column `j` of the projection of position `p` of batch row `b`. -/
def pj (x0 : Vec Ideal S4x4096x1024 .f32) (x1 : Vec Ideal S1024 .f32) (x2 : Vec Ideal S1024x3368 .f32) (b : Fin 4) (p : Fin 4096) (j : Fin 3368) : EReal :=
  ∑ k, hn (fun l => x0 (ix3 b p l)) (fun l => x1 (ix1 l)) k * x2 (ix2 k j)

theorem v13_at (x0 : Vec Ideal S4x4096x1024 .f32) (x1 : Vec Ideal S1024 .f32) (x2 : Vec Ideal S1024x3368 .f32) (b : Fin 4) (p : Fin 4096) (j : Fin 3368) :
    Cert.InReferenceIdeal.Read.val_main_v13 (F := Ideal) x0 x1 x2 (ix3 b p j) = pj x0 x1 x2 b p j := by
  pointwise [Cert.InReferenceIdeal.Read.val_main_v13, Cert.InReferenceIdeal.Read.val_main_v12, Cert.InReferenceIdeal.Read.val_main_v11, Cert.InReferenceIdeal.Read.val_main_v10, Cert.InReferenceIdeal.Read.val_main_v9, Cert.InReferenceIdeal.Read.val_main_v8, Cert.InReferenceIdeal.Read.val_main_v7, Cert.InReferenceIdeal.Read.val_main_v6, Cert.InReferenceIdeal.Read.val_main_v5, Cert.InReferenceIdeal.Read.val_main_v4, Cert.InReferenceIdeal.Read.val_main_v3, Cert.InReferenceIdeal.Read.val_main_v2, Cert.InReferenceIdeal.Read.val_main_v1, Cert.InReferenceIdeal.Read.val_main_v0, Cert.InReferenceIdeal.Read.val_main_cst, Cert.InReferenceIdeal.Read.val_main_cst_0, Cert.InReferenceIdeal.Read.val_main_cst_1]
  rfl

theorem pay3_at (v0 : Vec Ideal S512x1024 .f32) (v12 : Vec Ideal S1x1024 .f32) (r : Fin 512) (l : Fin 1024) :
    k0_pay3 v0 v12 (ix2 r l) = hn (fun l => v0 (ix2 r l)) (fun l => v12 (ix2 (0 : Fin 1) l)) l := by
  pointwise [k0_pay3]
  rfl

theorem pay6_at (v0 : Vec Ideal S512x1024 .f32) (v12 : Vec Ideal S1x1024 .f32) (v21 : Vec Ideal S1312x1024 .bf16) (j : Fin 1312) (r : Fin 512) :
    k0_pay6 v0 v12 v21 (ix2 j r) = ∑ k, v21 (ix2 j k) * k0_pay3 v0 v12 (ix2 r k) := by
  pointwise [k0_pay6]

/-- One head's row of 64, its first 16 entries turned by the angles whose cosines and sines are `cs` and `sn`. -/
def ropeG (u : Fin 64 → EReal) (cs sn : Fin 8 → EReal) (d : Fin 64) : EReal :=
  if h : d.val < 8 then u ⟨d.val, by omega⟩ * cs ⟨d.val, by omega⟩ - u ⟨8 + d.val, by omega⟩ * sn ⟨d.val, by omega⟩
  else if h' : d.val - 8 < 8 then u ⟨8 + (d.val - 8), by omega⟩ * cs ⟨d.val - 8, by omega⟩ + u ⟨d.val - 8, by omega⟩ * sn ⟨d.val - 8, by omega⟩
  else u ⟨16 + (d.val - 8 - 8), by omega⟩

/-- The angle of position `p` at pair `e`. -/
def ang (p : Fin 4096) (e : Fin 8) : EReal :=
  FloatOps.sitofp (F := Ideal) FTy.f32 (BitVec.ofNat 32 p.val) * Idealize.ShloMosaic.Ideal.pow (Idealize.ShloMosaic.Ideal.ofBits FTy.f32 1223959552#32)
    (-Idealize.ShloMosaic.Ideal.div (FloatOps.sitofp (F := Ideal) FTy.f32 (BitVec.ofNat 32 e.val)) (Idealize.ShloMosaic.Ideal.ofBits FTy.f32 1090519040#32))

/-- `1 / (1 + exp (-x))`. -/
def sg (x : EReal) : EReal := Idealize.ShloMosaic.Ideal.div 1 (1 + Idealize.ShloMosaic.Ideal.exp (-x))

end Cert.InVal

end
-- ==== Proof.InAll.lean ====
/-
The prompt's in-projection: the kernel's intermediate values on the arguments.
-/
module

public import proofs.«01_k».proof.Proof.InIdealFrame
public import proofs.«01_k».proof.Proof.InHost
public import proofs.«01_k».proof.Proof.Gen.InReferenceIdeal.Read
public import proofs.«01_k».proof.Proof.InBlk
public import proofs.«01_k».proof.Proof.InCos
public import proofs.«01_k».proof.Proof.InSin
public import proofs.«01_k».proof.Proof.InWts
public import proofs.«01_k».proof.Proof.InPj
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem exF (N n : ℕ) (h : n < N) : ∃ q : Fin N, q.val = n := ⟨⟨n, h⟩, rfl⟩

/-- Column `j` of the projection, on the memory's arguments. -/
abbrev pm (b : Fin 4) (p : Fin 4096) (j : Fin 3368) : EReal := pj (m ((c : Thread nD τ).loc main_arg0)) (m ((c : Thread nD τ).loc main_arg1)) (m ((c : Thread nD τ).loc main_arg2)) b p j

theorem hn_at (r : Fin 512) (k : Fin 1024) (b : Fin 4) (p : Fin 4096) (hb : b.val = t.val / 8) (hp : p.val = 512 * (t.val % 8) + r.val) :
    k0_pay55 (iblk m c 0 t) (iblk m c 1 t) (iblk m c 2 t) (iblk m c 3 t) (iblk m c 4 t) (iblk m c 5 t) (iblk m c 6 t) (iblk m c 7 t) (ix2 r k) = hn (fun l => (m ((c : Thread nD τ).loc main_arg0)) (ix3 b p l)) (fun l => (m ((c : Thread nD τ).loc main_arg1)) (ix1 l)) k := by
  unfold k0_pay55
  refine (pay3_at _ _ r k).trans ?_
  have e0 : (fun l => View.ld (iblk m c 0 t) r0_0 (ix2 r l)) = fun l => (m ((c : Thread nD τ).loc main_arg0)) (ix3 b p l) := by
    funext l
    rw [← x_blk m c t r l b p hb hp]
    pointwise
  have e1 : (fun l => View.ld (iblk m c 1 t) r0_1 (ix2 (0 : Fin 1) l)) = fun l => (m ((c : Thread nD τ).loc main_arg1)) (ix1 l) := by
    funext l
    rw [← gain_blk m c t l]
    pointwise
  exact congrArg₂ (fun f g => hn f g k) e0 e1

theorem wt_ld (j : Fin 1312) (k : Fin 1024) : View.ld (iblk m c 2 t) r0_3 (ix2 j k) = V m c main_v14 (ix2 j k) := by
  rw [← wt_blk m c t j k]
  pointwise

theorem all_at (j : Fin 1312) (r : Fin 512) (hj : j.val < 1304) (b : Fin 4) (p : Fin 4096) (hb : b.val = t.val / 8) (hp : p.val = 512 * (t.val % 8) + r.val) :
    k0_pay58 (iblk m c 0 t) (iblk m c 1 t) (iblk m c 2 t) (iblk m c 3 t) (iblk m c 4 t) (iblk m c 5 t) (iblk m c 6 t) (iblk m c 7 t) (ix2 j r) = pm m c b p ⟨j.val, by omega⟩ := by
  unfold k0_pay58
  refine (pay6_at _ _ _ j r).trans ?_
  unfold pm pj
  refine Finset.sum_congr rfl fun k _ => ?_
  rw [mul_comm]
  exact congrArg₂ (· * ·) (hn_at m c t r k b p hb hp) ((wt_ld m c t j k).trans (wt_at m c ⟨j.val, hj⟩ k))

theorem all_pad (j : Fin 1312) (r : Fin 512) (hj : 1304 ≤ j.val) : k0_pay58 (iblk m c 0 t) (iblk m c 1 t) (iblk m c 2 t) (iblk m c 3 t) (iblk m c 4 t) (iblk m c 5 t) (iblk m c 6 t) (iblk m c 7 t) (ix2 j r) = (0 : EReal) := by
  unfold k0_pay58
  refine (pay6_at _ _ _ j r).trans (Finset.sum_eq_zero fun k _ => ?_)
  obtain ⟨i, hi⟩ := exF 8 (j.val - 1304) (by omega)
  have e : j = (⟨1304 + i.val, by omega⟩ : Fin 1312) := Fin.ext (by show j.val = 1304 + i.val; omega)
  have z : View.ld (iblk m c 2 t) r0_3 (ix2 j k) = (0 : EReal) := (wt_ld m c t j k).trans (by rw [e]; exact wt_z m c i k)
  rw [z, zero_mul]

theorem q_at (j r : Fin 512) (b : Fin 4) (p : Fin 4096) (hb : b.val = t.val / 8) (hp : p.val = 512 * (t.val % 8) + r.val) : k0_pay59 (iblk m c 0 t) (iblk m c 1 t) (iblk m c 2 t) (iblk m c 3 t) (iblk m c 4 t) (iblk m c 5 t) (iblk m c 6 t) (iblk m c 7 t) (ix2 j r) = pm m c b p ⟨j.val, by omega⟩ := by
  refine Eq.trans ?_ (all_at m c t ⟨j.val, by omega⟩ r (by show j.val < 1304; omega) b p hb hp)
  unfold k0_pay59 k0_pay58
  pointwise [k0_pay7]

theorem cos_at (e : Fin 8) (r : Fin 512) (p : Fin 4096) (hp : p.val = 512 * (t.val % 8) + r.val) :
    k0_pay56 (iblk m c 0 t) (iblk m c 1 t) (iblk m c 2 t) (iblk m c 3 t) (iblk m c 4 t) (iblk m c 5 t) (iblk m c 6 t) (iblk m c 7 t) (ix2 e r) = Idealize.ShloMosaic.Ideal.cos (ang p e) := by
  refine Eq.trans ?_ ((cos_blk m c t e r p hp).trans ?_)
  · unfold k0_pay56
    pointwise [k0_pay4]
  · pointwise [Cert.InReferenceIdeal.Read.val_main_v39, Cert.InReferenceIdeal.Read.val_main_v38, Cert.InReferenceIdeal.Read.val_main_v37, Cert.InReferenceIdeal.Read.val_main_v36, Cert.InReferenceIdeal.Read.val_main_v35, Cert.InReferenceIdeal.Read.val_main_v34, Cert.InReferenceIdeal.Read.val_main_v33, Cert.InReferenceIdeal.Read.val_main_v32, Cert.InReferenceIdeal.Read.val_main_v31, Cert.InReferenceIdeal.Read.val_main_v30, Cert.InReferenceIdeal.Read.val_main_v29, Cert.InReferenceIdeal.Read.val_main_v28, Cert.InReferenceIdeal.Read.val_main_v27, Cert.InReferenceIdeal.Read.val_main_v25, Cert.InReferenceIdeal.Read.val_main_cst_2, Cert.InReferenceIdeal.Read.val_main_cst_3]
    rfl

theorem sin_at (e : Fin 8) (r : Fin 512) (p : Fin 4096) (hp : p.val = 512 * (t.val % 8) + r.val) :
    k0_pay57 (iblk m c 0 t) (iblk m c 1 t) (iblk m c 2 t) (iblk m c 3 t) (iblk m c 4 t) (iblk m c 5 t) (iblk m c 6 t) (iblk m c 7 t) (ix2 e r) = Idealize.ShloMosaic.Ideal.sin (ang p e) := by
  refine Eq.trans ?_ ((sin_blk m c t e r p hp).trans ?_)
  · unfold k0_pay57
    pointwise [k0_pay5]
  · pointwise [Cert.InReferenceIdeal.Read.val_main_v41, Cert.InReferenceIdeal.Read.val_main_v38, Cert.InReferenceIdeal.Read.val_main_v37, Cert.InReferenceIdeal.Read.val_main_v36, Cert.InReferenceIdeal.Read.val_main_v35, Cert.InReferenceIdeal.Read.val_main_v34, Cert.InReferenceIdeal.Read.val_main_v33, Cert.InReferenceIdeal.Read.val_main_v32, Cert.InReferenceIdeal.Read.val_main_v31, Cert.InReferenceIdeal.Read.val_main_v30, Cert.InReferenceIdeal.Read.val_main_v29, Cert.InReferenceIdeal.Read.val_main_v28, Cert.InReferenceIdeal.Read.val_main_v27, Cert.InReferenceIdeal.Read.val_main_v25, Cert.InReferenceIdeal.Read.val_main_cst_2, Cert.InReferenceIdeal.Read.val_main_cst_3]
    rfl

end Cert.InVal

end
-- ==== Proof.InRope.lean ====
/-
The prompt's in-projection: the turned rows on the arguments.
-/
module

public import proofs.«01_k».proof.Proof.InIdealFrame
public import proofs.«01_k».proof.Proof.InHost
public import proofs.«01_k».proof.Proof.Gen.InReferenceIdeal.Read
public import proofs.«01_k».proof.Proof.InAll
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem rope_all (r : Fin 512) (p : Fin 4096) (hp : p.val = 512 * (t.val % 8) + r.val) (u u' : Fin 64 → EReal) (d d' : Fin 64) (hu : ∀ e, u e = u' e) (hd : d.val = d'.val) :
    ropeG u (fun e => k0_pay56 (iblk m c 0 t) (iblk m c 1 t) (iblk m c 2 t) (iblk m c 3 t) (iblk m c 4 t) (iblk m c 5 t) (iblk m c 6 t) (iblk m c 7 t) (ix2 e r)) (fun e => k0_pay57 (iblk m c 0 t) (iblk m c 1 t) (iblk m c 2 t) (iblk m c 3 t) (iblk m c 4 t) (iblk m c 5 t) (iblk m c 6 t) (iblk m c 7 t) (ix2 e r)) d
      = ropeG u' (fun e => Idealize.ShloMosaic.Ideal.cos (ang p e)) (fun e => Idealize.ShloMosaic.Ideal.sin (ang p e)) d' := by
  obtain rfl : d = d' := Fin.ext hd
  obtain rfl : u = u' := funext hu
  have h1 : (fun e => k0_pay56 (iblk m c 0 t) (iblk m c 1 t) (iblk m c 2 t) (iblk m c 3 t) (iblk m c 4 t) (iblk m c 5 t) (iblk m c 6 t) (iblk m c 7 t) (ix2 e r)) = fun e => Idealize.ShloMosaic.Ideal.cos (ang p e) := funext fun e => cos_at m c t e r p hp
  have h2 : (fun e => k0_pay57 (iblk m c 0 t) (iblk m c 1 t) (iblk m c 2 t) (iblk m c 3 t) (iblk m c 4 t) (iblk m c 5 t) (iblk m c 6 t) (iblk m c 7 t) (ix2 e r)) = fun e => Idealize.ShloMosaic.Ideal.sin (ang p e) := funext fun e => sin_at m c t e r p hp
  rw [h1, h2]

end Cert.InVal

end
-- ==== Proof.InRefA.lean ====
/-
The prompt's in-projection: the reference results of the attention branches, at an index.
-/
module

public import proofs.«01_k».proof.Proof.InIdealFrame
public import proofs.«01_k».proof.Proof.InHost
public import proofs.«01_k».proof.Proof.Gen.InReferenceIdeal.Read
public import proofs.«01_k».proof.Proof.InPj
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem ref_q (x0 : Vec Ideal S4x4096x1024 .f32) (x1 : Vec Ideal S1024 .f32) (x2 : Vec Ideal S1024x3368 .f32) (b : Fin 4) (h : Fin 8) (d : Fin 64) (p : Fin 4096) :
    Cert.InReferenceIdeal.Read.val_main_v148 (F := Ideal) x0 x1 x2 (ix4 b h d p) = ropeG (fun e => pj x0 x1 x2 b p ⟨h.val * 64 + e.val, by omega⟩) (fun e => Idealize.ShloMosaic.Ideal.cos (ang p e)) (fun e => Idealize.ShloMosaic.Ideal.sin (ang p e)) d * Idealize.ShloMosaic.Ideal.ofBits FTy.f32 1043900987#32 := by
  pointwise [Cert.InReferenceIdeal.Read.val_main_v148, Cert.InReferenceIdeal.Read.val_main_v147, Cert.InReferenceIdeal.Read.val_main_v58, Cert.InReferenceIdeal.Read.val_main_v57, Cert.InReferenceIdeal.Read.val_main_cst_4, Cert.InReferenceIdeal.Read.val_main_v56, Cert.InReferenceIdeal.Read.val_main_v55, Cert.InReferenceIdeal.Read.val_main_v26, Cert.InReferenceIdeal.Read.val_main_v14, Cert.InReferenceIdeal.Read.val_main_v54, Cert.InReferenceIdeal.Read.val_main_v53, Cert.InReferenceIdeal.Read.val_main_v52, Cert.InReferenceIdeal.Read.val_main_v42, Cert.InReferenceIdeal.Read.val_main_v41, Cert.InReferenceIdeal.Read.val_main_v38, Cert.InReferenceIdeal.Read.val_main_v37, Cert.InReferenceIdeal.Read.val_main_v35, Cert.InReferenceIdeal.Read.val_main_v32, Cert.InReferenceIdeal.Read.val_main_v30, Cert.InReferenceIdeal.Read.val_main_v29, Cert.InReferenceIdeal.Read.val_main_v28, Cert.InReferenceIdeal.Read.val_main_cst_2, Cert.InReferenceIdeal.Read.val_main_v27, Cert.InReferenceIdeal.Read.val_main_v31, Cert.InReferenceIdeal.Read.val_main_cst_3, Cert.InReferenceIdeal.Read.val_main_v36, Cert.InReferenceIdeal.Read.val_main_v34, Cert.InReferenceIdeal.Read.val_main_v33, Cert.InReferenceIdeal.Read.val_main_v25, Cert.InReferenceIdeal.Read.val_main_v43, Cert.InReferenceIdeal.Read.val_main_v51, Cert.InReferenceIdeal.Read.val_main_v50, Cert.InReferenceIdeal.Read.val_main_v40, Cert.InReferenceIdeal.Read.val_main_v39, Cert.InReferenceIdeal.Read.val_main_v44, Cert.InReferenceIdeal.Read.val_main_v49, Cert.InReferenceIdeal.Read.val_main_v48, Cert.InReferenceIdeal.Read.val_main_v47, Cert.InReferenceIdeal.Read.val_main_v46, Cert.InReferenceIdeal.Read.val_main_v45]
  simp only [v13_at]
  rfl

theorem ref_kvc (x0 : Vec Ideal S4x4096x1024 .f32) (x1 : Vec Ideal S1024 .f32) (x2 : Vec Ideal S1024x3368 .f32) (b : Fin 4) (f : Fin 256) (p : Fin 4096) :
    Cert.InReferenceIdeal.Read.val_main_v149 (F := Ideal) x0 x1 x2 (ix3 b f p) = pj x0 x1 x2 b p ⟨512 + f.val, by omega⟩ := by
  pointwise [Cert.InReferenceIdeal.Read.val_main_v149, Cert.InReferenceIdeal.Read.val_main_v15]
  simp only [v13_at]

theorem ref_kvs (x0 : Vec Ideal S4x4096x1024 .f32) (x1 : Vec Ideal S1024 .f32) (x2 : Vec Ideal S1024x3368 .f32) (b : Fin 4) (f : Fin 256) (p : Fin 4096) :
    Cert.InReferenceIdeal.Read.val_main_v150 (F := Ideal) x0 x1 x2 (ix3 b f p) = if h : f.val < 128 then ropeG (fun e => pj x0 x1 x2 b p ⟨768 + (f.val / 64 * 64 + e.val), by omega⟩) (fun e => Idealize.ShloMosaic.Ideal.cos (ang p e)) (fun e => Idealize.ShloMosaic.Ideal.sin (ang p e)) ⟨f.val % 64, by omega⟩
      else pj x0 x1 x2 b p ⟨768 + (128 + (f.val - 128)), by omega⟩ := by
  pointwise [Cert.InReferenceIdeal.Read.val_main_v150, Cert.InReferenceIdeal.Read.val_main_v129, Cert.InReferenceIdeal.Read.val_main_v128, Cert.InReferenceIdeal.Read.val_main_v92, Cert.InReferenceIdeal.Read.val_main_v91, Cert.InReferenceIdeal.Read.val_main_v16, Cert.InReferenceIdeal.Read.val_main_v127, Cert.InReferenceIdeal.Read.val_main_v90, Cert.InReferenceIdeal.Read.val_main_v89, Cert.InReferenceIdeal.Read.val_main_v60, Cert.InReferenceIdeal.Read.val_main_v59, Cert.InReferenceIdeal.Read.val_main_v88, Cert.InReferenceIdeal.Read.val_main_v87, Cert.InReferenceIdeal.Read.val_main_v86, Cert.InReferenceIdeal.Read.val_main_v76, Cert.InReferenceIdeal.Read.val_main_v75, Cert.InReferenceIdeal.Read.val_main_v72, Cert.InReferenceIdeal.Read.val_main_v71, Cert.InReferenceIdeal.Read.val_main_v69, Cert.InReferenceIdeal.Read.val_main_v66, Cert.InReferenceIdeal.Read.val_main_v64, Cert.InReferenceIdeal.Read.val_main_v63, Cert.InReferenceIdeal.Read.val_main_v62, Cert.InReferenceIdeal.Read.val_main_cst_5, Cert.InReferenceIdeal.Read.val_main_v61, Cert.InReferenceIdeal.Read.val_main_v65, Cert.InReferenceIdeal.Read.val_main_cst_6, Cert.InReferenceIdeal.Read.val_main_v70, Cert.InReferenceIdeal.Read.val_main_v68, Cert.InReferenceIdeal.Read.val_main_v67, Cert.InReferenceIdeal.Read.val_main_v25, Cert.InReferenceIdeal.Read.val_main_v77, Cert.InReferenceIdeal.Read.val_main_v85, Cert.InReferenceIdeal.Read.val_main_v84, Cert.InReferenceIdeal.Read.val_main_v74, Cert.InReferenceIdeal.Read.val_main_v73, Cert.InReferenceIdeal.Read.val_main_v78, Cert.InReferenceIdeal.Read.val_main_v83, Cert.InReferenceIdeal.Read.val_main_v82, Cert.InReferenceIdeal.Read.val_main_v81, Cert.InReferenceIdeal.Read.val_main_v80, Cert.InReferenceIdeal.Read.val_main_v79]
  simp only [v13_at]
  rfl

theorem ref_kvw (x0 : Vec Ideal S4x4096x1024 .f32) (x1 : Vec Ideal S1024 .f32) (x2 : Vec Ideal S1024x3368 .f32) (b : Fin 4) (f : Fin 256) (p : Fin 4096) :
    Cert.InReferenceIdeal.Read.val_main_v151 (F := Ideal) x0 x1 x2 (ix3 b f p) = if h : f.val < 128 then ropeG (fun e => pj x0 x1 x2 b p ⟨1024 + (f.val / 64 * 64 + e.val), by omega⟩) (fun e => Idealize.ShloMosaic.Ideal.cos (ang p e)) (fun e => Idealize.ShloMosaic.Ideal.sin (ang p e)) ⟨f.val % 64, by omega⟩
      else pj x0 x1 x2 b p ⟨1024 + (128 + (f.val - 128)), by omega⟩ := by
  pointwise [Cert.InReferenceIdeal.Read.val_main_v151, Cert.InReferenceIdeal.Read.val_main_v132, Cert.InReferenceIdeal.Read.val_main_v131, Cert.InReferenceIdeal.Read.val_main_v126, Cert.InReferenceIdeal.Read.val_main_v125, Cert.InReferenceIdeal.Read.val_main_v17, Cert.InReferenceIdeal.Read.val_main_v130, Cert.InReferenceIdeal.Read.val_main_v124, Cert.InReferenceIdeal.Read.val_main_v123, Cert.InReferenceIdeal.Read.val_main_v94, Cert.InReferenceIdeal.Read.val_main_v93, Cert.InReferenceIdeal.Read.val_main_v122, Cert.InReferenceIdeal.Read.val_main_v121, Cert.InReferenceIdeal.Read.val_main_v120, Cert.InReferenceIdeal.Read.val_main_v110, Cert.InReferenceIdeal.Read.val_main_v109, Cert.InReferenceIdeal.Read.val_main_v106, Cert.InReferenceIdeal.Read.val_main_v105, Cert.InReferenceIdeal.Read.val_main_v103, Cert.InReferenceIdeal.Read.val_main_v100, Cert.InReferenceIdeal.Read.val_main_v98, Cert.InReferenceIdeal.Read.val_main_v97, Cert.InReferenceIdeal.Read.val_main_v96, Cert.InReferenceIdeal.Read.val_main_cst_7, Cert.InReferenceIdeal.Read.val_main_v95, Cert.InReferenceIdeal.Read.val_main_v99, Cert.InReferenceIdeal.Read.val_main_cst_8, Cert.InReferenceIdeal.Read.val_main_v104, Cert.InReferenceIdeal.Read.val_main_v102, Cert.InReferenceIdeal.Read.val_main_v101, Cert.InReferenceIdeal.Read.val_main_v25, Cert.InReferenceIdeal.Read.val_main_v111, Cert.InReferenceIdeal.Read.val_main_v119, Cert.InReferenceIdeal.Read.val_main_v118, Cert.InReferenceIdeal.Read.val_main_v108, Cert.InReferenceIdeal.Read.val_main_v107, Cert.InReferenceIdeal.Read.val_main_v112, Cert.InReferenceIdeal.Read.val_main_v117, Cert.InReferenceIdeal.Read.val_main_v116, Cert.InReferenceIdeal.Read.val_main_v115, Cert.InReferenceIdeal.Read.val_main_v114, Cert.InReferenceIdeal.Read.val_main_v113]
  simp only [v13_at]
  rfl

theorem ref_ks (x0 : Vec Ideal S4x4096x1024 .f32) (x1 : Vec Ideal S1024 .f32) (x2 : Vec Ideal S1024x3368 .f32) (b : Fin 4) (h : Fin 2) (p : Fin 4096) (d : Fin 64) :
    Cert.InReferenceIdeal.Read.val_main_v153 (F := Ideal) x0 x1 x2 (ix4 b h p d) = ropeG (fun e => pj x0 x1 x2 b p ⟨768 + (h.val * 64 + e.val), by omega⟩) (fun e => Idealize.ShloMosaic.Ideal.cos (ang p e)) (fun e => Idealize.ShloMosaic.Ideal.sin (ang p e)) d := by
  pointwise [Cert.InReferenceIdeal.Read.val_main_v153, Cert.InReferenceIdeal.Read.val_main_v152, Cert.InReferenceIdeal.Read.val_main_v90, Cert.InReferenceIdeal.Read.val_main_v89, Cert.InReferenceIdeal.Read.val_main_v60, Cert.InReferenceIdeal.Read.val_main_v59, Cert.InReferenceIdeal.Read.val_main_v16, Cert.InReferenceIdeal.Read.val_main_v88, Cert.InReferenceIdeal.Read.val_main_v87, Cert.InReferenceIdeal.Read.val_main_v86, Cert.InReferenceIdeal.Read.val_main_v76, Cert.InReferenceIdeal.Read.val_main_v75, Cert.InReferenceIdeal.Read.val_main_v72, Cert.InReferenceIdeal.Read.val_main_v71, Cert.InReferenceIdeal.Read.val_main_v69, Cert.InReferenceIdeal.Read.val_main_v66, Cert.InReferenceIdeal.Read.val_main_v64, Cert.InReferenceIdeal.Read.val_main_v63, Cert.InReferenceIdeal.Read.val_main_v62, Cert.InReferenceIdeal.Read.val_main_cst_5, Cert.InReferenceIdeal.Read.val_main_v61, Cert.InReferenceIdeal.Read.val_main_v65, Cert.InReferenceIdeal.Read.val_main_cst_6, Cert.InReferenceIdeal.Read.val_main_v70, Cert.InReferenceIdeal.Read.val_main_v68, Cert.InReferenceIdeal.Read.val_main_v67, Cert.InReferenceIdeal.Read.val_main_v25, Cert.InReferenceIdeal.Read.val_main_v77, Cert.InReferenceIdeal.Read.val_main_v85, Cert.InReferenceIdeal.Read.val_main_v84, Cert.InReferenceIdeal.Read.val_main_v74, Cert.InReferenceIdeal.Read.val_main_v73, Cert.InReferenceIdeal.Read.val_main_v78, Cert.InReferenceIdeal.Read.val_main_v83, Cert.InReferenceIdeal.Read.val_main_v82, Cert.InReferenceIdeal.Read.val_main_v81, Cert.InReferenceIdeal.Read.val_main_v80, Cert.InReferenceIdeal.Read.val_main_v79]
  simp only [v13_at]
  rfl

theorem ref_kw (x0 : Vec Ideal S4x4096x1024 .f32) (x1 : Vec Ideal S1024 .f32) (x2 : Vec Ideal S1024x3368 .f32) (b : Fin 4) (h : Fin 2) (p : Fin 4096) (d : Fin 64) :
    Cert.InReferenceIdeal.Read.val_main_v155 (F := Ideal) x0 x1 x2 (ix4 b h p d) = ropeG (fun e => pj x0 x1 x2 b p ⟨1024 + (h.val * 64 + e.val), by omega⟩) (fun e => Idealize.ShloMosaic.Ideal.cos (ang p e)) (fun e => Idealize.ShloMosaic.Ideal.sin (ang p e)) d := by
  pointwise [Cert.InReferenceIdeal.Read.val_main_v155, Cert.InReferenceIdeal.Read.val_main_v154, Cert.InReferenceIdeal.Read.val_main_v124, Cert.InReferenceIdeal.Read.val_main_v123, Cert.InReferenceIdeal.Read.val_main_v94, Cert.InReferenceIdeal.Read.val_main_v93, Cert.InReferenceIdeal.Read.val_main_v17, Cert.InReferenceIdeal.Read.val_main_v122, Cert.InReferenceIdeal.Read.val_main_v121, Cert.InReferenceIdeal.Read.val_main_v120, Cert.InReferenceIdeal.Read.val_main_v110, Cert.InReferenceIdeal.Read.val_main_v109, Cert.InReferenceIdeal.Read.val_main_v106, Cert.InReferenceIdeal.Read.val_main_v105, Cert.InReferenceIdeal.Read.val_main_v103, Cert.InReferenceIdeal.Read.val_main_v100, Cert.InReferenceIdeal.Read.val_main_v98, Cert.InReferenceIdeal.Read.val_main_v97, Cert.InReferenceIdeal.Read.val_main_v96, Cert.InReferenceIdeal.Read.val_main_cst_7, Cert.InReferenceIdeal.Read.val_main_v95, Cert.InReferenceIdeal.Read.val_main_v99, Cert.InReferenceIdeal.Read.val_main_cst_8, Cert.InReferenceIdeal.Read.val_main_v104, Cert.InReferenceIdeal.Read.val_main_v102, Cert.InReferenceIdeal.Read.val_main_v101, Cert.InReferenceIdeal.Read.val_main_v25, Cert.InReferenceIdeal.Read.val_main_v111, Cert.InReferenceIdeal.Read.val_main_v119, Cert.InReferenceIdeal.Read.val_main_v118, Cert.InReferenceIdeal.Read.val_main_v108, Cert.InReferenceIdeal.Read.val_main_v107, Cert.InReferenceIdeal.Read.val_main_v112, Cert.InReferenceIdeal.Read.val_main_v117, Cert.InReferenceIdeal.Read.val_main_v116, Cert.InReferenceIdeal.Read.val_main_v115, Cert.InReferenceIdeal.Read.val_main_v114, Cert.InReferenceIdeal.Read.val_main_v113]
  simp only [v13_at]
  rfl

theorem ref_vs (x0 : Vec Ideal S4x4096x1024 .f32) (x1 : Vec Ideal S1024 .f32) (x2 : Vec Ideal S1024x3368 .f32) (b : Fin 4) (h : Fin 2) (d : Fin 64) (p : Fin 4096) :
    Cert.InReferenceIdeal.Read.val_main_v157 (F := Ideal) x0 x1 x2 (ix4 b h d p) = pj x0 x1 x2 b p ⟨768 + (128 + (h.val * 64 + d.val)), by omega⟩ := by
  pointwise [Cert.InReferenceIdeal.Read.val_main_v157, Cert.InReferenceIdeal.Read.val_main_v156, Cert.InReferenceIdeal.Read.val_main_v92, Cert.InReferenceIdeal.Read.val_main_v91, Cert.InReferenceIdeal.Read.val_main_v16]
  simp only [v13_at]

theorem ref_vw (x0 : Vec Ideal S4x4096x1024 .f32) (x1 : Vec Ideal S1024 .f32) (x2 : Vec Ideal S1024x3368 .f32) (b : Fin 4) (h : Fin 2) (d : Fin 64) (p : Fin 4096) :
    Cert.InReferenceIdeal.Read.val_main_v159 (F := Ideal) x0 x1 x2 (ix4 b h d p) = pj x0 x1 x2 b p ⟨1024 + (128 + (h.val * 64 + d.val)), by omega⟩ := by
  pointwise [Cert.InReferenceIdeal.Read.val_main_v159, Cert.InReferenceIdeal.Read.val_main_v158, Cert.InReferenceIdeal.Read.val_main_v126, Cert.InReferenceIdeal.Read.val_main_v125, Cert.InReferenceIdeal.Read.val_main_v17]
  simp only [v13_at]

end Cert.InVal

end
-- ==== Proof.InKerQ.lean ====
/-
The prompt's in-projection: the query payloads, at an index.
-/
module

public import proofs.«01_k».proof.Proof.InIdealFrame
public import proofs.«01_k».proof.Proof.InHost
public import proofs.«01_k».proof.Proof.Gen.InReferenceIdeal.Read
public import proofs.«01_k».proof.Proof.InPj
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem kq1 (v18 v20 : FVec Ideal S8x512 .f32) (T : FVec Ideal S512x512 .f32) (d : Fin 64) (r : Fin 512) : k0_pay10 v18 v20 T (ix4 (0 : Fin 1) (0 : Fin 1) d r) = ropeG (fun e => T (ix2 ⟨64 + e.val, by omega⟩ r)) (fun e => v18 (ix2 e r)) (fun e => v20 (ix2 e r)) d * Idealize.ShloMosaic.Ideal.ofBits FTy.f32 1043900987#32 := by
  pointwise [k0_pay10]
  rfl

theorem kq2 (v18 v20 : FVec Ideal S8x512 .f32) (T : FVec Ideal S512x512 .f32) (d : Fin 64) (r : Fin 512) : k0_pay11 v18 v20 T (ix4 (0 : Fin 1) (0 : Fin 1) d r) = ropeG (fun e => T (ix2 ⟨128 + e.val, by omega⟩ r)) (fun e => v18 (ix2 e r)) (fun e => v20 (ix2 e r)) d * Idealize.ShloMosaic.Ideal.ofBits FTy.f32 1043900987#32 := by
  pointwise [k0_pay11]
  rfl

theorem kq3 (v18 v20 : FVec Ideal S8x512 .f32) (T : FVec Ideal S512x512 .f32) (d : Fin 64) (r : Fin 512) : k0_pay13 (k0_pay12 v18 v20 T) (ix4 (0 : Fin 1) (0 : Fin 1) d r) = ropeG (fun e => T (ix2 ⟨192 + e.val, by omega⟩ r)) (fun e => v18 (ix2 e r)) (fun e => v20 (ix2 e r)) d * Idealize.ShloMosaic.Ideal.ofBits FTy.f32 1043900987#32 := by
  pointwise [k0_pay13, k0_pay12]
  rfl

theorem kq4 (v18 v20 : FVec Ideal S8x512 .f32) (T : FVec Ideal S512x512 .f32) (d : Fin 64) (r : Fin 512) : k0_pay14 v18 v20 T (ix4 (0 : Fin 1) (0 : Fin 1) d r) = ropeG (fun e => T (ix2 ⟨256 + e.val, by omega⟩ r)) (fun e => v18 (ix2 e r)) (fun e => v20 (ix2 e r)) d * Idealize.ShloMosaic.Ideal.ofBits FTy.f32 1043900987#32 := by
  pointwise [k0_pay14]
  rfl

theorem kq5 (v18 v20 : FVec Ideal S8x512 .f32) (T : FVec Ideal S512x512 .f32) (d : Fin 64) (r : Fin 512) : k0_pay15 v18 v20 T (ix4 (0 : Fin 1) (0 : Fin 1) d r) = ropeG (fun e => T (ix2 ⟨320 + e.val, by omega⟩ r)) (fun e => v18 (ix2 e r)) (fun e => v20 (ix2 e r)) d * Idealize.ShloMosaic.Ideal.ofBits FTy.f32 1043900987#32 := by
  pointwise [k0_pay15]
  rfl

theorem kq6 (v18 v20 : FVec Ideal S8x512 .f32) (T : FVec Ideal S512x512 .f32) (d : Fin 64) (r : Fin 512) : k0_pay18 v18 v20 (k0_pay16 T) (k0_pay17 T) (ix4 (0 : Fin 1) (0 : Fin 1) d r) = ropeG (fun e => T (ix2 ⟨384 + e.val, by omega⟩ r)) (fun e => v18 (ix2 e r)) (fun e => v20 (ix2 e r)) d * Idealize.ShloMosaic.Ideal.ofBits FTy.f32 1043900987#32 := by
  pointwise [k0_pay18, k0_pay16, k0_pay17]
  rfl

theorem kq7 (v18 v20 : FVec Ideal S8x512 .f32) (T : FVec Ideal S512x512 .f32) (d : Fin 64) (r : Fin 512) : k0_pay19 v18 v20 T (ix4 (0 : Fin 1) (0 : Fin 1) d r) = ropeG (fun e => T (ix2 ⟨448 + e.val, by omega⟩ r)) (fun e => v18 (ix2 e r)) (fun e => v20 (ix2 e r)) d * Idealize.ShloMosaic.Ideal.ofBits FTy.f32 1043900987#32 := by
  pointwise [k0_pay19]
  rfl

theorem kq0 (v0 : Vec Ideal S512x1024 .f32) (v12 : Vec Ideal S1x1024 .f32) (v17 v19 : Vec Ideal S8x512 .f32) (v21 : Vec Ideal S1312x1024 .bf16) (d : Fin 64) (r : Fin 512) :
    k0_pay9 (k0_pay8 v0 v12 v17 v19 v21) (ix4 (0 : Fin 1) (0 : Fin 1) d r) = ropeG (fun e => k0_pay7 v0 v12 v21 (ix2 ⟨e.val, by omega⟩ r)) (fun e => k0_pay4 v17 (ix2 e r)) (fun e => k0_pay5 v19 (ix2 e r)) d * Idealize.ShloMosaic.Ideal.ofBits FTy.f32 1043900987#32 := by
  pointwise [k0_pay9, k0_pay8]
  rfl

end Cert.InVal

end
-- ==== Proof.InFinQ.lean ====
/-
The prompt's in-projection: the query result.
-/
module

public import proofs.«01_k».proof.Proof.InIdealFrame
public import proofs.«01_k».proof.Proof.InHost
public import proofs.«01_k».proof.Proof.Gen.InReferenceIdeal.Read
public import proofs.«01_k».proof.Proof.InRope
public import proofs.«01_k».proof.Proof.InRefA
public import proofs.«01_k».proof.Proof.InKerQ
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

set_option maxHeartbeats 2000000 in
theorem final8 : (dats m 0 c).arrAt 8 cfg0.N = Cert.InReferenceIdeal.Read.val_main_v148 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  unfold out0_8
  have ht : t.val < 32 := t.isLt
  change Shape.Idx S1x8x64x512 at y
  idx_vars y
  revert y0 y1 y2 y3
  intro z h d r
  obtain ⟨b, hb⟩ := exF 4 (t.val / 8) (by omega)
  obtain ⟨p, hp⟩ := exF 4096 (512 * (t.val % 8) + r.val) (by omega)
  have e : (((View.whole main_v48_0).slice (win0_8.rect t)).emb (ix4 z h d r) : S4x8x64x4096.Idx) = ix4 b h d p := by
    have hI := idx_val t
    blk_ext [hI]
  refine Eq.trans ?_ (congrArg _ e).symm
  rw [ref_q]
  canon_tiles x g
  · change Shape.Idx S1x1x64x512 at x
    idx_vars x
    obtain rfl : x2 = d := Fin.ext g2.symm
    obtain rfl : x3 = r := Fin.ext g3.symm
    obtain rfl : x0 = 0 := Subsingleton.elim _ _
    obtain rfl : x1 = 0 := Subsingleton.elim _ _
    have hh : h.val = 7 := g1
    refine (kq7 (k0_pay56 (iblk m c 0 t) (iblk m c 1 t) (iblk m c 2 t) (iblk m c 3 t) (iblk m c 4 t) (iblk m c 5 t) (iblk m c 6 t) (iblk m c 7 t)) (k0_pay57 (iblk m c 0 t) (iblk m c 1 t) (iblk m c 2 t) (iblk m c 3 t) (iblk m c 4 t) (iblk m c 5 t) (iblk m c 6 t) (iblk m c 7 t)) (k0_pay59 (iblk m c 0 t) (iblk m c 1 t) (iblk m c 2 t) (iblk m c 3 t) (iblk m c 4 t) (iblk m c 5 t) (iblk m c 6 t) (iblk m c 7 t)) x2 x3).trans ?_
    refine congrArg (· * Idealize.ShloMosaic.Ideal.ofBits FTy.f32 1043900987#32) (rope_all m c t x3 p hp _ _ _ _ (fun e => ?_) rfl)
    refine (q_at m c t _ x3 b p hb hp).trans (congrArg (pm m c b p) (Fin.ext ?_))
    show 448 + e.val = h.val * 64 + e.val
    omega
  · change Shape.Idx S1x1x64x512 at x
    idx_vars x
    obtain rfl : x2 = d := Fin.ext g2.symm
    obtain rfl : x3 = r := Fin.ext g3.symm
    obtain rfl : x0 = 0 := Subsingleton.elim _ _
    obtain rfl : x1 = 0 := Subsingleton.elim _ _
    have hh : h.val = 6 := g1
    refine (kq6 (k0_pay56 (iblk m c 0 t) (iblk m c 1 t) (iblk m c 2 t) (iblk m c 3 t) (iblk m c 4 t) (iblk m c 5 t) (iblk m c 6 t) (iblk m c 7 t)) (k0_pay57 (iblk m c 0 t) (iblk m c 1 t) (iblk m c 2 t) (iblk m c 3 t) (iblk m c 4 t) (iblk m c 5 t) (iblk m c 6 t) (iblk m c 7 t)) (k0_pay59 (iblk m c 0 t) (iblk m c 1 t) (iblk m c 2 t) (iblk m c 3 t) (iblk m c 4 t) (iblk m c 5 t) (iblk m c 6 t) (iblk m c 7 t)) x2 x3).trans ?_
    refine congrArg (· * Idealize.ShloMosaic.Ideal.ofBits FTy.f32 1043900987#32) (rope_all m c t x3 p hp _ _ _ _ (fun e => ?_) rfl)
    refine (q_at m c t _ x3 b p hb hp).trans (congrArg (pm m c b p) (Fin.ext ?_))
    show 384 + e.val = h.val * 64 + e.val
    omega
  · change Shape.Idx S1x1x64x512 at x
    idx_vars x
    obtain rfl : x2 = d := Fin.ext g2.symm
    obtain rfl : x3 = r := Fin.ext g3.symm
    obtain rfl : x0 = 0 := Subsingleton.elim _ _
    obtain rfl : x1 = 0 := Subsingleton.elim _ _
    have hh : h.val = 5 := g1
    refine (kq5 (k0_pay56 (iblk m c 0 t) (iblk m c 1 t) (iblk m c 2 t) (iblk m c 3 t) (iblk m c 4 t) (iblk m c 5 t) (iblk m c 6 t) (iblk m c 7 t)) (k0_pay57 (iblk m c 0 t) (iblk m c 1 t) (iblk m c 2 t) (iblk m c 3 t) (iblk m c 4 t) (iblk m c 5 t) (iblk m c 6 t) (iblk m c 7 t)) (k0_pay59 (iblk m c 0 t) (iblk m c 1 t) (iblk m c 2 t) (iblk m c 3 t) (iblk m c 4 t) (iblk m c 5 t) (iblk m c 6 t) (iblk m c 7 t)) x2 x3).trans ?_
    refine congrArg (· * Idealize.ShloMosaic.Ideal.ofBits FTy.f32 1043900987#32) (rope_all m c t x3 p hp _ _ _ _ (fun e => ?_) rfl)
    refine (q_at m c t _ x3 b p hb hp).trans (congrArg (pm m c b p) (Fin.ext ?_))
    show 320 + e.val = h.val * 64 + e.val
    omega
  · change Shape.Idx S1x1x64x512 at x
    idx_vars x
    obtain rfl : x2 = d := Fin.ext g2.symm
    obtain rfl : x3 = r := Fin.ext g3.symm
    obtain rfl : x0 = 0 := Subsingleton.elim _ _
    obtain rfl : x1 = 0 := Subsingleton.elim _ _
    have hh : h.val = 4 := g1
    refine (kq4 (k0_pay56 (iblk m c 0 t) (iblk m c 1 t) (iblk m c 2 t) (iblk m c 3 t) (iblk m c 4 t) (iblk m c 5 t) (iblk m c 6 t) (iblk m c 7 t)) (k0_pay57 (iblk m c 0 t) (iblk m c 1 t) (iblk m c 2 t) (iblk m c 3 t) (iblk m c 4 t) (iblk m c 5 t) (iblk m c 6 t) (iblk m c 7 t)) (k0_pay59 (iblk m c 0 t) (iblk m c 1 t) (iblk m c 2 t) (iblk m c 3 t) (iblk m c 4 t) (iblk m c 5 t) (iblk m c 6 t) (iblk m c 7 t)) x2 x3).trans ?_
    refine congrArg (· * Idealize.ShloMosaic.Ideal.ofBits FTy.f32 1043900987#32) (rope_all m c t x3 p hp _ _ _ _ (fun e => ?_) rfl)
    refine (q_at m c t _ x3 b p hb hp).trans (congrArg (pm m c b p) (Fin.ext ?_))
    show 256 + e.val = h.val * 64 + e.val
    omega
  · change Shape.Idx S1x1x64x512 at x
    idx_vars x
    obtain rfl : x2 = d := Fin.ext g2.symm
    obtain rfl : x3 = r := Fin.ext g3.symm
    obtain rfl : x0 = 0 := Subsingleton.elim _ _
    obtain rfl : x1 = 0 := Subsingleton.elim _ _
    have hh : h.val = 3 := g1
    refine (kq3 (k0_pay56 (iblk m c 0 t) (iblk m c 1 t) (iblk m c 2 t) (iblk m c 3 t) (iblk m c 4 t) (iblk m c 5 t) (iblk m c 6 t) (iblk m c 7 t)) (k0_pay57 (iblk m c 0 t) (iblk m c 1 t) (iblk m c 2 t) (iblk m c 3 t) (iblk m c 4 t) (iblk m c 5 t) (iblk m c 6 t) (iblk m c 7 t)) (k0_pay59 (iblk m c 0 t) (iblk m c 1 t) (iblk m c 2 t) (iblk m c 3 t) (iblk m c 4 t) (iblk m c 5 t) (iblk m c 6 t) (iblk m c 7 t)) x2 x3).trans ?_
    refine congrArg (· * Idealize.ShloMosaic.Ideal.ofBits FTy.f32 1043900987#32) (rope_all m c t x3 p hp _ _ _ _ (fun e => ?_) rfl)
    refine (q_at m c t _ x3 b p hb hp).trans (congrArg (pm m c b p) (Fin.ext ?_))
    show 192 + e.val = h.val * 64 + e.val
    omega
  · change Shape.Idx S1x1x64x512 at x
    idx_vars x
    obtain rfl : x2 = d := Fin.ext g2.symm
    obtain rfl : x3 = r := Fin.ext g3.symm
    obtain rfl : x0 = 0 := Subsingleton.elim _ _
    obtain rfl : x1 = 0 := Subsingleton.elim _ _
    have hh : h.val = 2 := g1
    refine (kq2 (k0_pay56 (iblk m c 0 t) (iblk m c 1 t) (iblk m c 2 t) (iblk m c 3 t) (iblk m c 4 t) (iblk m c 5 t) (iblk m c 6 t) (iblk m c 7 t)) (k0_pay57 (iblk m c 0 t) (iblk m c 1 t) (iblk m c 2 t) (iblk m c 3 t) (iblk m c 4 t) (iblk m c 5 t) (iblk m c 6 t) (iblk m c 7 t)) (k0_pay59 (iblk m c 0 t) (iblk m c 1 t) (iblk m c 2 t) (iblk m c 3 t) (iblk m c 4 t) (iblk m c 5 t) (iblk m c 6 t) (iblk m c 7 t)) x2 x3).trans ?_
    refine congrArg (· * Idealize.ShloMosaic.Ideal.ofBits FTy.f32 1043900987#32) (rope_all m c t x3 p hp _ _ _ _ (fun e => ?_) rfl)
    refine (q_at m c t _ x3 b p hb hp).trans (congrArg (pm m c b p) (Fin.ext ?_))
    show 128 + e.val = h.val * 64 + e.val
    omega
  · change Shape.Idx S1x1x64x512 at x
    idx_vars x
    obtain rfl : x2 = d := Fin.ext g2.symm
    obtain rfl : x3 = r := Fin.ext g3.symm
    obtain rfl : x0 = 0 := Subsingleton.elim _ _
    obtain rfl : x1 = 0 := Subsingleton.elim _ _
    have hh : h.val = 1 := g1
    refine (kq1 (k0_pay56 (iblk m c 0 t) (iblk m c 1 t) (iblk m c 2 t) (iblk m c 3 t) (iblk m c 4 t) (iblk m c 5 t) (iblk m c 6 t) (iblk m c 7 t)) (k0_pay57 (iblk m c 0 t) (iblk m c 1 t) (iblk m c 2 t) (iblk m c 3 t) (iblk m c 4 t) (iblk m c 5 t) (iblk m c 6 t) (iblk m c 7 t)) (k0_pay59 (iblk m c 0 t) (iblk m c 1 t) (iblk m c 2 t) (iblk m c 3 t) (iblk m c 4 t) (iblk m c 5 t) (iblk m c 6 t) (iblk m c 7 t)) x2 x3).trans ?_
    refine congrArg (· * Idealize.ShloMosaic.Ideal.ofBits FTy.f32 1043900987#32) (rope_all m c t x3 p hp _ _ _ _ (fun e => ?_) rfl)
    refine (q_at m c t _ x3 b p hb hp).trans (congrArg (pm m c b p) (Fin.ext ?_))
    show 64 + e.val = h.val * 64 + e.val
    omega
  · change Shape.Idx S1x1x64x512 at x
    idx_vars x
    obtain rfl : x2 = d := Fin.ext g2.symm
    obtain rfl : x3 = r := Fin.ext g3.symm
    obtain rfl : x0 = 0 := Subsingleton.elim _ _
    obtain rfl : x1 = 0 := Subsingleton.elim _ _
    have hh : h.val = 0 := g1
    refine (kq0 _ _ _ _ _ x2 x3).trans ?_
    refine congrArg (· * Idealize.ShloMosaic.Ideal.ofBits FTy.f32 1043900987#32) (rope_all m c t x3 p hp _ _ _ _ (fun e => ?_) rfl)
    refine (q_at m c t _ x3 b p hb hp).trans (congrArg (pm m c b p) (Fin.ext ?_))
    show e.val = h.val * 64 + e.val
    omega

end Cert.InVal

end
-- ==== Proof.InKerK.lean ====
/-
The prompt's in-projection: the key, value and gate payloads, at an index.
-/
module

public import proofs.«01_k».proof.Proof.InIdealFrame
public import proofs.«01_k».proof.Proof.InHost
public import proofs.«01_k».proof.Proof.Gen.InReferenceIdeal.Read
public import proofs.«01_k».proof.Proof.InPj
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem kkvc (T : FVec Ideal S1312x512 .f32) (f : Fin 256) (r : Fin 512) : k0_pay20 T (ix3 (0 : Fin 1) f r) = T (ix2 ⟨512 + f.val, by omega⟩ r) := by
  pointwise [k0_pay20]

theorem kkvs0 (v18 v20 : FVec Ideal S8x512 .f32) (T : FVec Ideal S1312x512 .f32) (f : Fin 128) (r : Fin 512) : k0_pay28 v18 v20 (k0_pay21 T) (k0_pay22 T) (k0_pay23 T) (k0_pay25 v18 v20 T) (k0_pay26 v18 T) (ix3 (0 : Fin 1) f r) = if h : f.val < 64 then ropeG (fun e => T (ix2 ⟨768 + e.val, by omega⟩ r)) (fun e => v18 (ix2 e r)) (fun e => v20 (ix2 e r)) ⟨f.val, h⟩
      else ropeG (fun e => T (ix2 ⟨768 + (64 + e.val), by omega⟩ r)) (fun e => v18 (ix2 e r)) (fun e => v20 (ix2 e r)) ⟨f.val - 64, by omega⟩ := by
  pointwise [k0_pay28, k0_pay21, k0_pay22, k0_pay23, k0_pay24, k0_pay25, k0_pay26, k0_pay27, k0_pay30]
  rfl

theorem kkvw0 (v18 v20 : FVec Ideal S8x512 .f32) (T : FVec Ideal S1312x512 .f32) (f : Fin 128) (r : Fin 512) : k0_pay38 v18 v20 T (ix3 (0 : Fin 1) f r) = if h : f.val < 64 then ropeG (fun e => T (ix2 ⟨1024 + e.val, by omega⟩ r)) (fun e => v18 (ix2 e r)) (fun e => v20 (ix2 e r)) ⟨f.val, h⟩
      else ropeG (fun e => T (ix2 ⟨1024 + (64 + e.val), by omega⟩ r)) (fun e => v18 (ix2 e r)) (fun e => v20 (ix2 e r)) ⟨f.val - 64, by omega⟩ := by
  pointwise [k0_pay38, k0_pay37, k0_pay36]
  rfl

theorem kkvs1 (T : FVec Ideal S1312x512 .f32) (f : Fin 128) (r : Fin 512) : k0_pay29 (k0_pay21 T) (ix3 (0 : Fin 1) f r) = T (ix2 ⟨768 + (128 + f.val), by omega⟩ r) := by
  pointwise [k0_pay29, k0_pay21]

theorem kkvw1 (T : FVec Ideal S1312x512 .f32) (f : Fin 128) (r : Fin 512) : k0_pay39 T (ix3 (0 : Fin 1) f r) = T (ix2 ⟨1024 + (128 + f.val), by omega⟩ r) := by
  pointwise [k0_pay39, k0_pay36]

theorem kks0 (v18 v20 : FVec Ideal S8x512 .f32) (T : FVec Ideal S1312x512 .f32) (d : Fin 64) (r : Fin 512) : k0_pay31 v18 v20 (k0_pay21 T) (k0_pay22 T) (k0_pay23 T) (k0_pay25 v18 v20 T) (k0_pay26 v18 T) (ix4 (0 : Fin 1) (0 : Fin 1) r d) = ropeG (fun e => T (ix2 ⟨768 + e.val, by omega⟩ r)) (fun e => v18 (ix2 e r)) (fun e => v20 (ix2 e r)) d := by
  pointwise [k0_pay31, k0_pay21, k0_pay22, k0_pay23, k0_pay24, k0_pay25, k0_pay26, k0_pay27, k0_pay30]
  rfl

theorem kks1 (v18 v20 : FVec Ideal S8x512 .f32) (T : FVec Ideal S1312x512 .f32) (d : Fin 64) (r : Fin 512) : k0_pay34 (k0_pay33 v18 v20 (k0_pay21 T) (k0_pay22 T) (k0_pay23 T) (k0_pay25 v18 v20 T) (k0_pay26 v18 T)) (ix4 (0 : Fin 1) (0 : Fin 1) r d) = ropeG (fun e => T (ix2 ⟨768 + (64 + e.val), by omega⟩ r)) (fun e => v18 (ix2 e r)) (fun e => v20 (ix2 e r)) d := by
  pointwise [k0_pay34, k0_pay33, k0_pay21, k0_pay22, k0_pay23, k0_pay24, k0_pay25, k0_pay26, k0_pay27, k0_pay30]
  rfl

theorem kkw0 (v18 v20 : FVec Ideal S8x512 .f32) (T : FVec Ideal S1312x512 .f32) (d : Fin 64) (r : Fin 512) : k0_pay42 (k0_pay41 v18 v20 T) (ix4 (0 : Fin 1) (0 : Fin 1) r d) = ropeG (fun e => T (ix2 ⟨1024 + e.val, by omega⟩ r)) (fun e => v18 (ix2 e r)) (fun e => v20 (ix2 e r)) d := by
  pointwise [k0_pay42, k0_pay41, k0_pay40, k0_pay37, k0_pay36]
  rfl

theorem kkw1 (v18 v20 : FVec Ideal S8x512 .f32) (T : FVec Ideal S1312x512 .f32) (d : Fin 64) (r : Fin 512) : k0_pay44 (k0_pay40 v18 v20 T) (ix4 (0 : Fin 1) (0 : Fin 1) r d) = ropeG (fun e => T (ix2 ⟨1024 + (64 + e.val), by omega⟩ r)) (fun e => v18 (ix2 e r)) (fun e => v20 (ix2 e r)) d := by
  pointwise [k0_pay44, k0_pay40, k0_pay37, k0_pay36]
  rfl

theorem kvs0v (T : FVec Ideal S1312x512 .f32) (d : Fin 64) (r : Fin 512) : k0_pay32 (k0_pay21 T) (ix4 (0 : Fin 1) (0 : Fin 1) d r) = T (ix2 ⟨768 + (128 + d.val), by omega⟩ r) := by
  pointwise [k0_pay32, k0_pay21]

theorem kvs1v (T : FVec Ideal S1312x512 .f32) (d : Fin 64) (r : Fin 512) : k0_pay35 (k0_pay21 T) (ix4 (0 : Fin 1) (0 : Fin 1) d r) = T (ix2 ⟨768 + (192 + d.val), by omega⟩ r) := by
  pointwise [k0_pay35, k0_pay21]

theorem kvw0v (T : FVec Ideal S1312x512 .f32) (d : Fin 64) (r : Fin 512) : k0_pay43 (k0_pay36 T) (ix4 (0 : Fin 1) (0 : Fin 1) d r) = T (ix2 ⟨1024 + (128 + d.val), by omega⟩ r) := by
  pointwise [k0_pay43, k0_pay36]

theorem kvw1v (T : FVec Ideal S1312x512 .f32) (d : Fin 64) (r : Fin 512) : k0_pay45 (k0_pay36 T) (ix4 (0 : Fin 1) (0 : Fin 1) d r) = T (ix2 ⟨1024 + (192 + d.val), by omega⟩ r) := by
  pointwise [k0_pay45, k0_pay36]

theorem kgate (T : FVec Ideal S1312x512 .f32) (f : Fin 32) (r : Fin 512) : k0_pay46 T (ix3 (0 : Fin 1) f r) = sg (T (ix2 ⟨1280 + f.val, by omega⟩ r)) := by
  pointwise [k0_pay46]
  rw [zero_sub]
  rfl

end Cert.InVal

end
-- ==== Proof.InFinK.lean ====
/-
The prompt's in-projection: the compressed and selected feature results.
-/
module

public import proofs.«01_k».proof.Proof.InIdealFrame
public import proofs.«01_k».proof.Proof.InHost
public import proofs.«01_k».proof.Proof.Gen.InReferenceIdeal.Read
public import proofs.«01_k».proof.Proof.InRope
public import proofs.«01_k».proof.Proof.InRefA
public import proofs.«01_k».proof.Proof.InKerK
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem final9 : (dats m 0 c).arrAt 9 cfg0.N = Cert.InReferenceIdeal.Read.val_main_v149 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  unfold out0_9
  have ht : t.val < 32 := t.isLt
  change Shape.Idx S1x256x512 at y
  idx_vars y
  revert y0 y1 y2
  intro z f r
  obtain ⟨b, hb⟩ := exF 4 (t.val / 8) (by omega)
  obtain ⟨p, hp⟩ := exF 4096 (512 * (t.val % 8) + r.val) (by omega)
  have e : (((View.whole main_v48_1).slice (win0_9.rect t)).emb (ix3 z f r) : S4x256x4096.Idx) = ix3 b f p := by
    have hI := idx_val t
    blk_ext [hI]
  refine Eq.trans ?_ (congrArg _ e).symm
  rw [ref_kvc]
  canon_tiles x g
  · change Shape.Idx S1x256x512 at x
    idx_vars x
    obtain rfl : x1 = f := Fin.ext g1.symm
    obtain rfl : x2 = r := Fin.ext g2.symm
    obtain rfl : x0 = 0 := Subsingleton.elim _ _
    refine (kkvc (k0_pay58 (iblk m c 0 t) (iblk m c 1 t) (iblk m c 2 t) (iblk m c 3 t) (iblk m c 4 t) (iblk m c 5 t) (iblk m c 6 t) (iblk m c 7 t)) x1 x2).trans ?_
    exact all_at m c t _ x2 (by show 512 + x1.val < 1304; omega) b p hb hp

theorem final10 : (dats m 0 c).arrAt 10 cfg0.N = Cert.InReferenceIdeal.Read.val_main_v150 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  unfold out0_10 k0_pay60 k0_pay61 k0_pay62 k0_pay63 k0_pay64
  have ht : t.val < 32 := t.isLt
  change Shape.Idx S1x256x512 at y
  idx_vars y
  revert y0 y1 y2
  intro z f r
  obtain ⟨b, hb⟩ := exF 4 (t.val / 8) (by omega)
  obtain ⟨p, hp⟩ := exF 4096 (512 * (t.val % 8) + r.val) (by omega)
  have e : (((View.whole main_v48_2).slice (win0_10.rect t)).emb (ix3 z f r) : S4x256x4096.Idx) = ix3 b f p := by
    have hI := idx_val t
    blk_ext [hI]
  refine Eq.trans ?_ (congrArg _ e).symm
  rw [ref_kvs]
  canon_tiles x g
  · change Shape.Idx S1x128x512 at x
    idx_vars x
    obtain rfl : x2 = r := Fin.ext g2.symm
    obtain rfl : x0 = 0 := Subsingleton.elim _ _
    have hh : f.val = 128 + x1.val := g1
    rw [dif_neg (by omega)]
    refine (kkvs1 (k0_pay58 (iblk m c 0 t) (iblk m c 1 t) (iblk m c 2 t) (iblk m c 3 t) (iblk m c 4 t) (iblk m c 5 t) (iblk m c 6 t) (iblk m c 7 t)) x1 x2).trans ?_
    refine (all_at m c t _ x2 (by show 768 + (128 + x1.val) < 1304; omega) b p hb hp).trans (congrArg (pm m c b p) (Fin.ext ?_))
    show 768 + (128 + x1.val) = 768 + (128 + (f.val - 128))
    omega
  · change Shape.Idx S1x128x512 at x
    idx_vars x
    obtain rfl : x2 = r := Fin.ext g2.symm
    obtain rfl : x0 = 0 := Subsingleton.elim _ _
    have hh : f.val = x1.val := g1
    have hl : x1.val < 128 := x1.isLt
    rw [dif_pos (by omega)]
    refine (kkvs0 (k0_pay56 (iblk m c 0 t) (iblk m c 1 t) (iblk m c 2 t) (iblk m c 3 t) (iblk m c 4 t) (iblk m c 5 t) (iblk m c 6 t) (iblk m c 7 t)) (k0_pay57 (iblk m c 0 t) (iblk m c 1 t) (iblk m c 2 t) (iblk m c 3 t) (iblk m c 4 t) (iblk m c 5 t) (iblk m c 6 t) (iblk m c 7 t)) (k0_pay58 (iblk m c 0 t) (iblk m c 1 t) (iblk m c 2 t) (iblk m c 3 t) (iblk m c 4 t) (iblk m c 5 t) (iblk m c 6 t) (iblk m c 7 t)) x1 x2).trans ?_
    by_cases h64 : x1.val < 64
    · rw [dif_pos h64]
      refine rope_all m c t x2 p hp _ _ _ _ (fun e => ?_) (by show x1.val = f.val % 64; omega)
      refine (all_at m c t _ x2 (by show 768 + e.val < 1304; omega) b p hb hp).trans (congrArg (pm m c b p) (Fin.ext ?_))
      show 768 + e.val = 768 + (f.val / 64 * 64 + e.val)
      omega
    · rw [dif_neg h64]
      refine rope_all m c t x2 p hp _ _ _ _ (fun e => ?_) (by show x1.val - 64 = f.val % 64; omega)
      refine (all_at m c t _ x2 (by show 768 + (64 + e.val) < 1304; omega) b p hb hp).trans (congrArg (pm m c b p) (Fin.ext ?_))
      show 768 + (64 + e.val) = 768 + (f.val / 64 * 64 + e.val)
      omega

end Cert.InVal

end
-- ==== Proof.InFinS.lean ====
/-
The prompt's in-projection: the window feature and selected key results.
-/
module

public import proofs.«01_k».proof.Proof.InIdealFrame
public import proofs.«01_k».proof.Proof.InHost
public import proofs.«01_k».proof.Proof.Gen.InReferenceIdeal.Read
public import proofs.«01_k».proof.Proof.InRope
public import proofs.«01_k».proof.Proof.InRefA
public import proofs.«01_k».proof.Proof.InKerK
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem final11 : (dats m 0 c).arrAt 11 cfg0.N = Cert.InReferenceIdeal.Read.val_main_v151 (F := Ideal) (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11]
  unfold out0_11
  have ht : t.val < 32 := t.isLt
  change Shape.Idx S1x256x512 at y
  idx_vars y
  revert y0 y1 y2
  intro z f r
  obtain ⟨b, hb⟩ := exF 4 (t.val / 8) (by omega)
  obtain ⟨p, hp⟩ := exF 4096 (512 * (t.val % 8) + r.val) (by omega)
  have e : (((View.whole main_v48_3).slice (win0_11.rect t)).emb (ix3 z f r) : S4x256x4096.Idx) = ix3 b f p := by
    have hI := idx_val t
    blk_ext [hI]
  refine Eq.trans ?_ (congrArg _ e).symm
  rw [ref_kvw]
  canon_tiles x g
  · change Shape.Idx S1x128x512 at x
    idx_vars x
    obtain rfl : x2 = r := Fin.ext g2.symm
    obtain rfl : x0 = 0 := Subsingleton.elim _ _
    have hh : f.val = 128 + x1.val := g1
    rw [dif_neg (by omega)]
    refine (kkvw1 (k0_pay58 (iblk m c 0 t) (iblk m c 1 t) (iblk m c 2 t) (iblk m c 3 t) (iblk m c 4 t) (iblk m c 5 t) (iblk m c 6 t) (iblk m c 7 t)) x1 x2).trans ?_
    refine (all_at m c t _ x2 (by show 1024 + (128 + x1.val) < 1304; omega) b p hb hp).trans (congrArg (pm m c b p) (Fin.ext ?_))
    show 1024 + (128 + x1.val) = 1024 + (128 + (f.val - 128))
    omega
  · change Shape.Idx S1x128x512 at x
    idx_vars x
    obtain rfl : x2 = r := Fin.ext g2.symm
    obtain rfl : x0 = 0 := Subsingleton.elim _ _
    have hh : f.val = x1.val := g1
    have hl : x1.val < 128 := x1.isLt
    rw [dif_pos (by omega)]
    refine (kkvw0 (k0_pay56 (iblk m c 0 t) (iblk m c 1 t) (iblk m c 2 t) (iblk m c 3 t) (iblk m c 4 t) (iblk m c 5 t) (iblk m c 6 t) (iblk m c 7 t)) (k0_pay57 (iblk m c 0 t) (iblk m c 1 t) (iblk m c 2 t) (iblk m c 3 t) (iblk m c 4 t) (iblk m c 5 t) (iblk m c 6 t) (iblk m c 7 t)) (k0_pay58 (iblk m c 0 t) (iblk m c 1 t) (iblk m c 2 t) (iblk m c 3 t) (iblk m c 4 t) (iblk m c 5 t) (iblk m c 6 t) (iblk m c 7 t)) x1 x2).trans ?_
    by_cases h64 : x1.val < 64
    · rw [dif_pos h64]
      refine rope_all m c t x2 p hp _ _ _ _ (fun e => ?_) (by show x1.val = f.val % 64; omega)
      refine (all_at m c t _ x2 (by show 1024 + e.val < 1304; omega) b p hb hp).trans (congrArg (pm m c b p) (Fin.ext ?_))
      show 1024 + e.val = 1024 + (f.val / 64 * 64 + e.val)
      omega
    · rw [dif_neg h64]
      refine rope_all m c t x2 p hp _ _ _ _ (fun e => ?_) (by show x1.val - 64 = f.val % 64; omega)
      refine (all_at m c t _ x2 (by show 1024 + (64 + e.val) < 1304; omega) b p hb hp).trans (congrArg (pm m c b p) (Fin.ext ?_))
      show 1024 + (64 + e.val) = 1024 + (f.val / 64 * 64 + e.val)
      omega

theorem final12 : (dats m 0 c).arrAt 12 cfg0.N = Cert.InReferenceIdeal.Read.val_main_v153 (F := Ideal) (m ((c : Thread nD τ).loc main_arg0)) (m ((c : Thread nD τ).loc main_arg1)) (m ((c : Thread nD τ).loc main_arg2)) := by
  refine (dats m 0 c).arrAt_eq_of_covers 12 _ (by decide +kernel) fun t hf y => ?_
  blk_simp
  rw [after0_12]
  unfold out0_12 k0_pay60 k0_pay61 k0_pay62 k0_pay63 k0_pay64
  have ht : t.val < 32 := t.isLt
  change Shape.Idx S1x2x512x64 at y
  idx_vars y
  revert y0 y1 y2 y3
  intro z h r d
  obtain ⟨b, hb⟩ := exF 4 (t.val / 8) (by omega)
  obtain ⟨p, hp⟩ := exF 4096 (512 * (t.val % 8) + r.val) (by omega)
  have e : (((View.whole main_v48_4).slice (win0_12.rect t)).emb (ix4 z h r d) : S4x2x4096x64.Idx) = ix4 b h p d := by
    have hI := idx_val t
    blk_ext [hI]
  refine Eq.trans ?_ (congrArg _ e).symm
  rw [ref_ks]
  canon_tiles x g
  · change Shape.Idx S1x1x512x64 at x
    idx_vars x
    obtain rfl : x2 = r := Fin.ext g2.symm
    obtain rfl : x3 = d := Fin.ext g3.symm
    obtain rfl : x0 = 0 := Subsingleton.elim _ _
    obtain rfl : x1 = 0 := Subsingleton.elim _ _
    have hh : h.val = 1 := g1
    refine (kks1 (k0_pay56 (iblk m c 0 t) (iblk m c 1 t) (iblk m c 2 t) (iblk m c 3 t) (iblk m c 4 t) (iblk m c 5 t) (iblk m c 6 t) (iblk m c 7 t)) (k0_pay57 (iblk m c 0 t) (iblk m c 1 t) (iblk m c 2 t) (iblk m c 3 t) (iblk m c 4 t) (iblk m c 5 t) (iblk m c 6 t) (iblk m c 7 t)) (k0_pay58 (iblk m c 0 t) (iblk m c 1 t) (iblk m c 2 t) (iblk m c 3 t) (iblk m c 4 t) (iblk m c 5 t) (iblk m c 6 t) (iblk m c 7 t)) x3 x2).trans ?_
    refine rope_all m c t x2 p hp _ _ _ _ (fun e => ?_) rfl
    refine (all_at m c t _ x2 (by show 768 + (64 + e.val) < 1304; omega) b p hb hp).trans (congrArg (pm m c b p) (Fin.ext ?_))
    show 768 + (64 + e.val) = 768 + (h.val * 64 + e.val)
    omega
  · change Shape.Idx S1x1x512x64 at x
    idx_vars x
    obtain rfl : x2 = r := Fin.ext g2.symm
    obtain rfl : x3 = d := Fin.ext g3.symm
    obtain rfl : x0 = 0 := Subsingleton.elim _ _
    obtain rfl : x1 = 0 := Subsingleton.elim _ _
    have hh : h.val = 0 := g1
    refine (kks0 (k0_pay56 (iblk m c 0 t) (iblk m c 1 t) (iblk m c 2 t) (iblk m c 3 t) (iblk m c 4 t) (iblk m c 5 t) (iblk m c 6 t) (iblk m c 7 t)) (k0_pay57 (iblk m c 0 t) (iblk m c 1 t) (iblk m c 2 t) (iblk m c 3 t) (iblk m c 4 t) (iblk m c 5 t) (iblk m c 6 t) (iblk m c 7 t)) (k0_pay58 (iblk m c 0 t) (iblk m c 1 t) (iblk m c 2 t) (iblk m c 3 t) (iblk m c 4 t) (iblk m c 5 t) (iblk m c 6 t) (iblk m c 7 t)) x3 x2).trans ?_
    refine rope_all m c t x2 p hp _ _ _ _ (fun e => ?_) rfl
    refine (all_at m c t _ x2 (by show 768 + e.val < 1304; omega) b p hb hp).trans (congrArg (pm m c b p) (Fin.ext ?_))
    show 768 + e.val = 768 + (h.val * 64 + e.val)
    omega

end Cert.InVal

end
-- ==== Proof.InFinT.lean ====
/-
The prompt's in-projection: the window key and selected value results.
-/
module

public import proofs.«01_k».proof.Proof.InIdealFrame
public import proofs.«01_k».proof.Proof.InHost
public import proofs.«01_k».proof.Proof.Gen.InReferenceIdeal.Read
public import proofs.«01_k».proof.Proof.InRope
public import proofs.«01_k».proof.Proof.InRefA
public import proofs.«01_k».proof.Proof.InKerK
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem final13 : (dats m 0 c).arrAt 13 cfg0.N = Cert.InReferenceIdeal.Read.val_main_v155 (F := Ideal) (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp
  rw [after0_13]
  unfold out0_13
  have ht : t.val < 32 := t.isLt
  change Shape.Idx S1x2x512x64 at y
  idx_vars y
  revert y0 y1 y2 y3
  intro z h r d
  obtain ⟨b, hb⟩ := exF 4 (t.val / 8) (by omega)
  obtain ⟨p, hp⟩ := exF 4096 (512 * (t.val % 8) + r.val) (by omega)
  have e : (((View.whole main_v48_5).slice (win0_13.rect t)).emb (ix4 z h r d) : S4x2x4096x64.Idx) = ix4 b h p d := by
    have hI := idx_val t
    blk_ext [hI]
  refine Eq.trans ?_ (congrArg _ e).symm
  rw [ref_kw]
  canon_tiles x g
  · change Shape.Idx S1x1x512x64 at x
    idx_vars x
    obtain rfl : x2 = r := Fin.ext g2.symm
    obtain rfl : x3 = d := Fin.ext g3.symm
    obtain rfl : x0 = 0 := Subsingleton.elim _ _
    obtain rfl : x1 = 0 := Subsingleton.elim _ _
    have hh : h.val = 1 := g1
    refine (kkw1 (k0_pay56 (iblk m c 0 t) (iblk m c 1 t) (iblk m c 2 t) (iblk m c 3 t) (iblk m c 4 t) (iblk m c 5 t) (iblk m c 6 t) (iblk m c 7 t)) (k0_pay57 (iblk m c 0 t) (iblk m c 1 t) (iblk m c 2 t) (iblk m c 3 t) (iblk m c 4 t) (iblk m c 5 t) (iblk m c 6 t) (iblk m c 7 t)) (k0_pay58 (iblk m c 0 t) (iblk m c 1 t) (iblk m c 2 t) (iblk m c 3 t) (iblk m c 4 t) (iblk m c 5 t) (iblk m c 6 t) (iblk m c 7 t)) x3 x2).trans ?_
    refine rope_all m c t x2 p hp _ _ _ _ (fun e => ?_) rfl
    refine (all_at m c t _ x2 (by show 1024 + (64 + e.val) < 1304; omega) b p hb hp).trans (congrArg (pm m c b p) (Fin.ext ?_))
    show 1024 + (64 + e.val) = 1024 + (h.val * 64 + e.val)
    omega
  · change Shape.Idx S1x1x512x64 at x
    idx_vars x
    obtain rfl : x2 = r := Fin.ext g2.symm
    obtain rfl : x3 = d := Fin.ext g3.symm
    obtain rfl : x0 = 0 := Subsingleton.elim _ _
    obtain rfl : x1 = 0 := Subsingleton.elim _ _
    have hh : h.val = 0 := g1
    refine (kkw0 (k0_pay56 (iblk m c 0 t) (iblk m c 1 t) (iblk m c 2 t) (iblk m c 3 t) (iblk m c 4 t) (iblk m c 5 t) (iblk m c 6 t) (iblk m c 7 t)) (k0_pay57 (iblk m c 0 t) (iblk m c 1 t) (iblk m c 2 t) (iblk m c 3 t) (iblk m c 4 t) (iblk m c 5 t) (iblk m c 6 t) (iblk m c 7 t)) (k0_pay58 (iblk m c 0 t) (iblk m c 1 t) (iblk m c 2 t) (iblk m c 3 t) (iblk m c 4 t) (iblk m c 5 t) (iblk m c 6 t) (iblk m c 7 t)) x3 x2).trans ?_
    refine rope_all m c t x2 p hp _ _ _ _ (fun e => ?_) rfl
    refine (all_at m c t _ x2 (by show 1024 + e.val < 1304; omega) b p hb hp).trans (congrArg (pm m c b p) (Fin.ext ?_))
    show 1024 + e.val = 1024 + (h.val * 64 + e.val)
    omega

theorem final14 : (dats m 0 c).arrAt 14 cfg0.N = Cert.InReferenceIdeal.Read.val_main_v157 (F := Ideal) (m ((c : Thread nD τ).loc main_arg0)) (m ((c : Thread nD τ).loc main_arg1)) (m ((c : Thread nD τ).loc main_arg2)) := by
  refine (dats m 0 c).arrAt_eq_of_covers 14 _ (by decide +kernel) fun t hf y => ?_
  blk_simp
  rw [after0_14]
  unfold out0_14 k0_pay60
  have ht : t.val < 32 := t.isLt
  change Shape.Idx S1x2x64x512 at y
  idx_vars y
  revert y0 y1 y2 y3
  intro z h d r
  obtain ⟨b, hb⟩ := exF 4 (t.val / 8) (by omega)
  obtain ⟨p, hp⟩ := exF 4096 (512 * (t.val % 8) + r.val) (by omega)
  have e : (((View.whole main_v48_6).slice (win0_14.rect t)).emb (ix4 z h d r) : S4x2x64x4096.Idx) = ix4 b h d p := by
    have hI := idx_val t
    blk_ext [hI]
  refine Eq.trans ?_ (congrArg _ e).symm
  rw [ref_vs]
  canon_tiles x g
  · change Shape.Idx S1x1x64x512 at x
    idx_vars x
    obtain rfl : x2 = d := Fin.ext g2.symm
    obtain rfl : x3 = r := Fin.ext g3.symm
    obtain rfl : x0 = 0 := Subsingleton.elim _ _
    obtain rfl : x1 = 0 := Subsingleton.elim _ _
    have hh : h.val = 1 := g1
    refine (kvs1v (k0_pay58 (iblk m c 0 t) (iblk m c 1 t) (iblk m c 2 t) (iblk m c 3 t) (iblk m c 4 t) (iblk m c 5 t) (iblk m c 6 t) (iblk m c 7 t)) x2 x3).trans ?_
    refine (all_at m c t _ x3 (by show 768 + (192 + x2.val) < 1304; omega) b p hb hp).trans (congrArg (pm m c b p) (Fin.ext ?_))
    show 768 + (192 + x2.val) = 768 + (128 + (h.val * 64 + x2.val))
    omega
  · change Shape.Idx S1x1x64x512 at x
    idx_vars x
    obtain rfl : x2 = d := Fin.ext g2.symm
    obtain rfl : x3 = r := Fin.ext g3.symm
    obtain rfl : x0 = 0 := Subsingleton.elim _ _
    obtain rfl : x1 = 0 := Subsingleton.elim _ _
    have hh : h.val = 0 := g1
    refine (kvs0v (k0_pay58 (iblk m c 0 t) (iblk m c 1 t) (iblk m c 2 t) (iblk m c 3 t) (iblk m c 4 t) (iblk m c 5 t) (iblk m c 6 t) (iblk m c 7 t)) x2 x3).trans ?_
    refine (all_at m c t _ x3 (by show 768 + (128 + x2.val) < 1304; omega) b p hb hp).trans (congrArg (pm m c b p) (Fin.ext ?_))
    show 768 + (128 + x2.val) = 768 + (128 + (h.val * 64 + x2.val))
    omega

end Cert.InVal

end
-- ==== Proof.InRefB.lean ====
/-
The prompt's in-projection: the other reference results, at an index.
-/
module

public import proofs.«01_k».proof.Proof.InIdealFrame
public import proofs.«01_k».proof.Proof.InHost
public import proofs.«01_k».proof.Proof.Gen.InReferenceIdeal.Read
public import proofs.«01_k».proof.Proof.InPj
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem ref_gate (x0 : Vec Ideal S4x4096x1024 .f32) (x1 : Vec Ideal S1024 .f32) (x2 : Vec Ideal S1024x3368 .f32) (b : Fin 4) (f : Fin 32) (p : Fin 4096) :
    Cert.InReferenceIdeal.Read.val_main_v160 (F := Ideal) x0 x1 x2 (ix3 b f p) = if h : f.val < 24 then sg (pj x0 x1 x2 b p ⟨1280 + f.val, by omega⟩) else sg 0 := by
  pointwise [Cert.InReferenceIdeal.Read.val_main_v160, Cert.InReferenceIdeal.Read.val_main_v139, Cert.InReferenceIdeal.Read.val_main_v137, Cert.InReferenceIdeal.Read.val_main_v135, Cert.InReferenceIdeal.Read.val_main_v134, Cert.InReferenceIdeal.Read.val_main_v133, Cert.InReferenceIdeal.Read.val_main_call0_v0, Cert.InReferenceIdeal.Read.val_main_c, Cert.InReferenceIdeal.Read.val_main_v18, Cert.InReferenceIdeal.Read.val_main_v136, Cert.InReferenceIdeal.Read.val_main_cst_9, Cert.InReferenceIdeal.Read.val_main_v138, Cert.InReferenceIdeal.Read.val_main_cst_10]
  by_cases h : f.val < 24
  · rw [dif_pos h, dif_pos h, v13_at]
    rfl
  · rw [dif_neg h, dif_neg h]
    have hz : FloatOps.sitofp (F := Ideal) FTy.f32 0#32 = (0 : EReal) := by
      show (((0#32 : BitVec 32).toInt : ℝ) : EReal) = 0
      simp
    rw [hz]
    rfl

theorem ref_zn (x0 : Vec Ideal S4x4096x1024 .f32) (x1 : Vec Ideal S1024 .f32) (x2 : Vec Ideal S1024x3368 .f32) (p : Fin 16384) (l : Fin 512) :
    Cert.InReferenceIdeal.Read.val_main_v162 (F := Ideal) x0 x1 x2 (ix2 p l) = pj x0 x1 x2 (⟨p.val / 4096, by omega⟩ : Fin 4) (⟨p.val % 4096, by omega⟩ : Fin 4096) ⟨1304 + l.val, by omega⟩ * sg (pj x0 x1 x2 (⟨p.val / 4096, by omega⟩ : Fin 4) (⟨p.val % 4096, by omega⟩ : Fin 4096) ⟨1304 + l.val, by omega⟩) := by
  pointwise [Cert.InReferenceIdeal.Read.val_main_v162, Cert.InReferenceIdeal.Read.val_main_v161, Cert.InReferenceIdeal.Read.val_main_call2_v5, Cert.InReferenceIdeal.Read.val_main_call2_v3, Cert.InReferenceIdeal.Read.val_main_call2_v1, Cert.InReferenceIdeal.Read.val_main_call2_v0, Cert.InReferenceIdeal.Read.val_main_v19, Cert.InReferenceIdeal.Read.val_main_call2_v2, Cert.InReferenceIdeal.Read.val_main_call2_cst, Cert.InReferenceIdeal.Read.val_main_call2_v4, Cert.InReferenceIdeal.Read.val_main_call2_cst_0]
  simp only [v13_at]
  rfl

theorem ref_zg (x0 : Vec Ideal S4x4096x1024 .f32) (x1 : Vec Ideal S1024 .f32) (x2 : Vec Ideal S1024x3368 .f32) (p : Fin 16384) (l : Fin 512) :
    Cert.InReferenceIdeal.Read.val_main_v170 (F := Ideal) x0 x1 x2 (ix2 p l) = pj x0 x1 x2 (⟨p.val / 4096, by omega⟩ : Fin 4) (⟨p.val % 4096, by omega⟩ : Fin 4096) ⟨2856 + l.val, by omega⟩ * sg (pj x0 x1 x2 (⟨p.val / 4096, by omega⟩ : Fin 4) (⟨p.val % 4096, by omega⟩ : Fin 4096) ⟨2856 + l.val, by omega⟩) := by
  pointwise [Cert.InReferenceIdeal.Read.val_main_v170, Cert.InReferenceIdeal.Read.val_main_v169, Cert.InReferenceIdeal.Read.val_main_call3_v5, Cert.InReferenceIdeal.Read.val_main_call3_v3, Cert.InReferenceIdeal.Read.val_main_call3_v1, Cert.InReferenceIdeal.Read.val_main_call3_v0, Cert.InReferenceIdeal.Read.val_main_v24, Cert.InReferenceIdeal.Read.val_main_call3_v2, Cert.InReferenceIdeal.Read.val_main_call3_cst, Cert.InReferenceIdeal.Read.val_main_call3_v4, Cert.InReferenceIdeal.Read.val_main_call3_cst_0]
  simp only [v13_at]
  rfl

theorem ref_gq (x0 : Vec Ideal S4x4096x1024 .f32) (x1 : Vec Ideal S1024 .f32) (x2 : Vec Ideal S1024x3368 .f32) (p : Fin 16384) (l : Fin 256) :
    Cert.InReferenceIdeal.Read.val_main_v165 (F := Ideal) x0 x1 x2 (ix2 p l) = pj x0 x1 x2 (⟨p.val / 4096, by omega⟩ : Fin 4) (⟨p.val % 4096, by omega⟩ : Fin 4096) ⟨1816 + l.val, by omega⟩ * Idealize.ShloMosaic.Ideal.ofBits FTy.f32 1040187392#32 := by
  pointwise [Cert.InReferenceIdeal.Read.val_main_v165, Cert.InReferenceIdeal.Read.val_main_v164, Cert.InReferenceIdeal.Read.val_main_v163, Cert.InReferenceIdeal.Read.val_main_cst_12, Cert.InReferenceIdeal.Read.val_main_v20]
  simp only [v13_at]

theorem ref_gk (x0 : Vec Ideal S4x4096x1024 .f32) (x1 : Vec Ideal S1024 .f32) (x2 : Vec Ideal S1024x3368 .f32) (p : Fin 16384) (l : Fin 256) :
    Cert.InReferenceIdeal.Read.val_main_v166 (F := Ideal) x0 x1 x2 (ix2 p l) = pj x0 x1 x2 (⟨p.val / 4096, by omega⟩ : Fin 4) (⟨p.val % 4096, by omega⟩ : Fin 4096) ⟨2072 + l.val, by omega⟩ := by
  pointwise [Cert.InReferenceIdeal.Read.val_main_v166, Cert.InReferenceIdeal.Read.val_main_v21]
  simp only [v13_at]

theorem ref_gv (x0 : Vec Ideal S4x4096x1024 .f32) (x1 : Vec Ideal S1024 .f32) (x2 : Vec Ideal S1024x3368 .f32) (p : Fin 16384) (l : Fin 512) :
    Cert.InReferenceIdeal.Read.val_main_v167 (F := Ideal) x0 x1 x2 (ix2 p l) = pj x0 x1 x2 (⟨p.val / 4096, by omega⟩ : Fin 4) (⟨p.val % 4096, by omega⟩ : Fin 4096) ⟨2328 + l.val, by omega⟩ := by
  pointwise [Cert.InReferenceIdeal.Read.val_main_v167, Cert.InReferenceIdeal.Read.val_main_v22]
  simp only [v13_at]

/-- The logarithm of the sigmoid, over 16. -/
def ls (x : EReal) : EReal :=
  Idealize.ShloMosaic.Ideal.div (-(max (-x) 0 + Idealize.ShloMosaic.Ideal.log1p (Idealize.ShloMosaic.Ideal.exp (-FloatOps.absf (F := Ideal) (φ := .f32) (-x))))) (Idealize.ShloMosaic.Ideal.ofBits FTy.f32 1098907648#32)

theorem ref_la (x0 : Vec Ideal S4x4096x1024 .f32) (x1 : Vec Ideal S1024 .f32) (x2 : Vec Ideal S1024x3368 .f32) (x3 : Vec Ideal S16x256 .f32) (x4 : Vec Ideal S256 .f32) (p : Fin 16384) (l : Fin 256) :
    Cert.InReferenceIdeal.Read.val_main_v168 (F := Ideal) x0 x1 x2 x3 x4 (ix2 p l) = ls (∑ i : Fin 16, pj x0 x1 x2 (⟨p.val / 4096, by omega⟩ : Fin 4) (⟨p.val % 4096, by omega⟩ : Fin 4096) ⟨2840 + i.val, by omega⟩ * x3 (ix2 i l) + x4 (ix1 l)) := by
  pointwise [Cert.InReferenceIdeal.Read.val_main_v168, Cert.InReferenceIdeal.Read.val_main_v146, Cert.InReferenceIdeal.Read.val_main_v145, Cert.InReferenceIdeal.Read.val_main_cst_11, Cert.InReferenceIdeal.Read.val_main_v144, Cert.InReferenceIdeal.Read.val_main_call1_v1, Cert.InReferenceIdeal.Read.val_main_call1_call0_v11, Cert.InReferenceIdeal.Read.val_main_call1_call0_v10, Cert.InReferenceIdeal.Read.val_main_call1_call0_v9, Cert.InReferenceIdeal.Read.val_main_call1_call0_v8, Cert.InReferenceIdeal.Read.val_main_call1_call0_v7, Cert.InReferenceIdeal.Read.val_main_call1_call0_v3, Cert.InReferenceIdeal.Read.val_main_call1_call0_v2, Cert.InReferenceIdeal.Read.val_main_call1_call0_cst, Cert.InReferenceIdeal.Read.val_main_call1_v0, Cert.InReferenceIdeal.Read.val_main_v143, Cert.InReferenceIdeal.Read.val_main_v142, Cert.InReferenceIdeal.Read.val_main_v141, Cert.InReferenceIdeal.Read.val_main_v140, Cert.InReferenceIdeal.Read.val_main_v23, Cert.InReferenceIdeal.Read.val_main_call1_call0_v1, Cert.InReferenceIdeal.Read.val_main_call1_call0_v0, Cert.InReferenceIdeal.Read.val_main_call1_call0_v6, Cert.InReferenceIdeal.Read.val_main_call1_call0_v5, Cert.InReferenceIdeal.Read.val_main_call1_call0_v4]
  simp only [v13_at]
  rw [if_neg (fun h => h rfl)]
  rfl

end Cert.InVal

end
-- ==== Proof.InFinG.lean ====
/-
The prompt's in-projection: the window value and gate results.
-/
module

public import proofs.«01_k».proof.Proof.InIdealFrame
public import proofs.«01_k».proof.Proof.InHost
public import proofs.«01_k».proof.Proof.Gen.InReferenceIdeal.Read
public import proofs.«01_k».proof.Proof.InRope
public import proofs.«01_k».proof.Proof.InRefA
public import proofs.«01_k».proof.Proof.InRefB
public import proofs.«01_k».proof.Proof.InKerK
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem final15 : (dats m 0 c).arrAt 15 cfg0.N = Cert.InReferenceIdeal.Read.val_main_v159 (F := Ideal) (m ((c : Thread nD τ).loc main_arg0)) (m ((c : Thread nD τ).loc main_arg1)) (m ((c : Thread nD τ).loc main_arg2)) := by
  refine (dats m 0 c).arrAt_eq_of_covers 15 _ (by decide +kernel) fun t hf y => ?_
  blk_simp
  rw [after0_15]
  unfold out0_15 k0_pay65
  have ht : t.val < 32 := t.isLt
  change Shape.Idx S1x2x64x512 at y
  idx_vars y
  revert y0 y1 y2 y3
  intro z h d r
  obtain ⟨b, hb⟩ := exF 4 (t.val / 8) (by omega)
  obtain ⟨p, hp⟩ := exF 4096 (512 * (t.val % 8) + r.val) (by omega)
  have e : (((View.whole main_v48_7).slice (win0_15.rect t)).emb (ix4 z h d r) : S4x2x64x4096.Idx) = ix4 b h d p := by
    have hI := idx_val t
    blk_ext [hI]
  refine Eq.trans ?_ (congrArg _ e).symm
  rw [ref_vw]
  canon_tiles x g
  · change Shape.Idx S1x1x64x512 at x
    idx_vars x
    obtain rfl : x2 = d := Fin.ext g2.symm
    obtain rfl : x3 = r := Fin.ext g3.symm
    obtain rfl : x0 = 0 := Subsingleton.elim _ _
    obtain rfl : x1 = 0 := Subsingleton.elim _ _
    have hh : h.val = 1 := g1
    refine (kvw1v (k0_pay58 (iblk m c 0 t) (iblk m c 1 t) (iblk m c 2 t) (iblk m c 3 t) (iblk m c 4 t) (iblk m c 5 t) (iblk m c 6 t) (iblk m c 7 t)) x2 x3).trans ?_
    refine (all_at m c t _ x3 (by show 1024 + (192 + x2.val) < 1304; omega) b p hb hp).trans (congrArg (pm m c b p) (Fin.ext ?_))
    show 1024 + (192 + x2.val) = 1024 + (128 + (h.val * 64 + x2.val))
    omega
  · change Shape.Idx S1x1x64x512 at x
    idx_vars x
    obtain rfl : x2 = d := Fin.ext g2.symm
    obtain rfl : x3 = r := Fin.ext g3.symm
    obtain rfl : x0 = 0 := Subsingleton.elim _ _
    obtain rfl : x1 = 0 := Subsingleton.elim _ _
    have hh : h.val = 0 := g1
    refine (kvw0v (k0_pay58 (iblk m c 0 t) (iblk m c 1 t) (iblk m c 2 t) (iblk m c 3 t) (iblk m c 4 t) (iblk m c 5 t) (iblk m c 6 t) (iblk m c 7 t)) x2 x3).trans ?_
    refine (all_at m c t _ x3 (by show 1024 + (128 + x2.val) < 1304; omega) b p hb hp).trans (congrArg (pm m c b p) (Fin.ext ?_))
    show 1024 + (128 + x2.val) = 1024 + (128 + (h.val * 64 + x2.val))
    omega

theorem final16 : (dats m 0 c).arrAt 16 cfg0.N = Cert.InReferenceIdeal.Read.val_main_v160 (F := Ideal) (m ((c : Thread nD τ).loc main_arg0)) (m ((c : Thread nD τ).loc main_arg1)) (m ((c : Thread nD τ).loc main_arg2)) := by
  refine (dats m 0 c).arrAt_eq_of_covers 16 _ (by decide +kernel) fun t hf y => ?_
  blk_simp
  rw [after0_16]
  unfold out0_16
  have ht : t.val < 32 := t.isLt
  change Shape.Idx S1x32x512 at y
  idx_vars y
  revert y0 y1 y2
  intro z f r
  obtain ⟨b, hb⟩ := exF 4 (t.val / 8) (by omega)
  obtain ⟨p, hp⟩ := exF 4096 (512 * (t.val % 8) + r.val) (by omega)
  have e : (((View.whole main_v48_8).slice (win0_16.rect t)).emb (ix3 z f r) : S4x32x4096.Idx) = ix3 b f p := by
    have hI := idx_val t
    blk_ext [hI]
  refine Eq.trans ?_ (congrArg _ e).symm
  rw [ref_gate]
  canon_tiles x g
  · change Shape.Idx S1x32x512 at x
    idx_vars x
    obtain rfl : x1 = f := Fin.ext g1.symm
    obtain rfl : x2 = r := Fin.ext g2.symm
    obtain rfl : x0 = 0 := Subsingleton.elim _ _
    refine (kgate (k0_pay58 (iblk m c 0 t) (iblk m c 1 t) (iblk m c 2 t) (iblk m c 3 t) (iblk m c 4 t) (iblk m c 5 t) (iblk m c 6 t) (iblk m c 7 t)) x1 x2).trans ?_
    by_cases h24 : x1.val < 24
    · rw [dif_pos h24]
      exact congrArg sg (all_at m c t _ x2 (by show 1280 + x1.val < 1304; omega) b p hb hp)
    · rw [dif_neg h24]
      exact congrArg sg (all_pad m c t _ x2 (by show 1304 ≤ 1280 + x1.val; omega))

end Cert.InVal

end
-- ==== Proof.InRec.lean ====
/-
The prompt's in-projection: the columns of the recurrent branch on the arguments.
-/
module

public import proofs.«01_k».proof.Proof.InIdealFrame
public import proofs.«01_k».proof.Proof.InHost
public import proofs.«01_k».proof.Proof.Gen.InReferenceIdeal.Read
public import proofs.«01_k».proof.Proof.InAll
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem zn_at (r : Fin 512) (l : Fin 512) (b : Fin 4) (p : Fin 4096) (hb : b.val = t.val / 8) (hp : p.val = 512 * (t.val % 8) + r.val) :
    ∑ x, k0_pay55 (iblk m c 0 t) (iblk m c 1 t) (iblk m c 2 t) (iblk m c 3 t) (iblk m c 4 t) (iblk m c 5 t) (iblk m c 6 t) (iblk m c 7 t) (ix2 r x) * View.ld (iblk m c 3 t) r0_20 (ix2 x l) = pm m c b p ⟨1304 + l.val, by omega⟩ := by
  unfold pm pj
  refine Finset.sum_congr rfl fun k _ => congrArg₂ (· * ·) (hn_at m c t r k b p hb hp) ?_
  refine Eq.trans ?_ ((wk_blk m c t k ⟨l.val, by omega⟩).trans (wk_zn m c k l))
  pointwise

theorem gq_at (r : Fin 512) (l : Fin 256) (b : Fin 4) (p : Fin 4096) (hb : b.val = t.val / 8) (hp : p.val = 512 * (t.val % 8) + r.val) :
    ∑ x, k0_pay55 (iblk m c 0 t) (iblk m c 1 t) (iblk m c 2 t) (iblk m c 3 t) (iblk m c 4 t) (iblk m c 5 t) (iblk m c 6 t) (iblk m c 7 t) (ix2 r x) * View.ld (iblk m c 3 t) r0_22 (ix2 x l) = pm m c b p ⟨1816 + l.val, by omega⟩ := by
  unfold pm pj
  refine Finset.sum_congr rfl fun k _ => congrArg₂ (· * ·) (hn_at m c t r k b p hb hp) ?_
  refine Eq.trans ?_ ((wk_blk m c t k ⟨512 + l.val, by omega⟩).trans (wk_gq m c k l))
  pointwise

theorem gk_at (r : Fin 512) (l : Fin 256) (b : Fin 4) (p : Fin 4096) (hb : b.val = t.val / 8) (hp : p.val = 512 * (t.val % 8) + r.val) :
    ∑ x, k0_pay55 (iblk m c 0 t) (iblk m c 1 t) (iblk m c 2 t) (iblk m c 3 t) (iblk m c 4 t) (iblk m c 5 t) (iblk m c 6 t) (iblk m c 7 t) (ix2 r x) * View.ld (iblk m c 3 t) r0_24 (ix2 x l) = pm m c b p ⟨2072 + l.val, by omega⟩ := by
  unfold pm pj
  refine Finset.sum_congr rfl fun k _ => congrArg₂ (· * ·) (hn_at m c t r k b p hb hp) ?_
  refine Eq.trans ?_ ((wk_blk m c t k ⟨768 + l.val, by omega⟩).trans (wk_gk m c k l))
  pointwise

theorem gv_at (r : Fin 512) (l : Fin 512) (b : Fin 4) (p : Fin 4096) (hb : b.val = t.val / 8) (hp : p.val = 512 * (t.val % 8) + r.val) :
    ∑ x, k0_pay55 (iblk m c 0 t) (iblk m c 1 t) (iblk m c 2 t) (iblk m c 3 t) (iblk m c 4 t) (iblk m c 5 t) (iblk m c 6 t) (iblk m c 7 t) (ix2 r x) * View.ld (iblk m c 3 t) r0_25 (ix2 x l) = pm m c b p ⟨2328 + l.val, by omega⟩ := by
  unfold pm pj
  refine Finset.sum_congr rfl fun k _ => congrArg₂ (· * ·) (hn_at m c t r k b p hb hp) ?_
  refine Eq.trans ?_ ((wk_blk m c t k ⟨1024 + l.val, by omega⟩).trans (wk_gv m c k l))
  pointwise

theorem zg_at (r : Fin 512) (l : Fin 512) (b : Fin 4) (p : Fin 4096) (hb : b.val = t.val / 8) (hp : p.val = 512 * (t.val % 8) + r.val) :
    ∑ x, k0_pay55 (iblk m c 0 t) (iblk m c 1 t) (iblk m c 2 t) (iblk m c 3 t) (iblk m c 4 t) (iblk m c 5 t) (iblk m c 6 t) (iblk m c 7 t) (ix2 r x) * View.ld (iblk m c 3 t) r0_26 (ix2 x l) = pm m c b p ⟨2856 + l.val, by omega⟩ := by
  unfold pm pj
  refine Finset.sum_congr rfl fun k _ => congrArg₂ (· * ·) (hn_at m c t r k b p hb hp) ?_
  refine Eq.trans ?_ ((wk_blk m c t k ⟨1536 + l.val, by omega⟩).trans (wk_zg m c k l))
  pointwise

theorem mi_at (r : Fin 512) (i : Fin 16) (b : Fin 4) (p : Fin 4096) (hb : b.val = t.val / 8) (hp : p.val = 512 * (t.val % 8) + r.val) :
    ∑ x, k0_pay55 (iblk m c 0 t) (iblk m c 1 t) (iblk m c 2 t) (iblk m c 3 t) (iblk m c 4 t) (iblk m c 5 t) (iblk m c 6 t) (iblk m c 7 t) (ix2 r x) * View.ld (iblk m c 3 t) r0_27 (ix2 x (⟨32 + i.val, by omega⟩ : Fin 128)) = pm m c b p ⟨2840 + i.val, by omega⟩ := by
  unfold pm pj
  refine Finset.sum_congr rfl fun k _ => congrArg₂ (· * ·) (hn_at m c t r k b p hb hp) ?_
  refine Eq.trans ?_ ((wk_blk m c t k ⟨2080 + i.val, by omega⟩).trans (wk_m m c k i))
  pointwise
  all_goals try blk_ext

theorem la_at (r : Fin 512) (l : Fin 256) (b : Fin 4) (p : Fin 4096) (hb : b.val = t.val / 8) (hp : p.val = 512 * (t.val % 8) + r.val) :
    ∑ x, (∑ y, k0_pay55 (iblk m c 0 t) (iblk m c 1 t) (iblk m c 2 t) (iblk m c 3 t) (iblk m c 4 t) (iblk m c 5 t) (iblk m c 6 t) (iblk m c 7 t) (ix2 r y) * View.ld (iblk m c 3 t) r0_27 (ix2 y x)) * View.ld (iblk m c 6 t) r0_28 (ix2 x l)
      = ∑ i : Fin 16, pm m c b p ⟨2840 + i.val, by omega⟩ * (m ((c : Thread nD τ).loc main_arg3)) (ix2 i l) := by
  have hw : ∀ x : Fin 128, View.ld (iblk m c 6 t) r0_28 (ix2 x l) = V m c main_v29 (ix2 x l) := by
    intro x
    rw [← wa_blk m c t x l]
    pointwise
  refine (Fintype.sum_of_injective (fun i : Fin 16 => (⟨32 + i.val, by omega⟩ : Fin 128)) ?_ _ _ ?_ ?_).symm
  · intro i j h
    have h' : 32 + i.val = 32 + j.val := congrArg Fin.val h
    exact Fin.ext (by omega)
  · intro x hx
    rw [hw x, wa_miss m c x l ?_, mul_zero]
    by_contra hc
    refine hx ⟨⟨x.val - 32, by omega⟩, Fin.ext ?_⟩
    show 32 + (x.val - 32) = x.val
    omega
  · intro i
    exact congrArg₂ (· * ·) (mi_at m c t r i b p hb hp).symm (((hw _).trans (wa_hit m c i l)).symm)

theorem ba_ld (l : Fin 256) : View.ld (iblk m c 7 t) r0_29 (ix2 (0 : Fin 1) l) = (m ((c : Thread nD τ).loc main_arg4)) (ix1 l) := by
  rw [← ba_blk m c t l]
  pointwise

end Cert.InVal

end
-- ==== Proof.InKerG.lean ====
/-
The prompt's in-projection: the payloads of the recurrent branch, at an index.
-/
module

public import proofs.«01_k».proof.Proof.InIdealFrame
public import proofs.«01_k».proof.Proof.InHost
public import proofs.«01_k».proof.Proof.Gen.InReferenceIdeal.Read
public import proofs.«01_k».proof.Proof.InPj
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem kzn (hn : FVec Ideal S512x1024 .bf16) (w : Vec Ideal S1024x512 .bf16)(l : Fin 512) (r : Fin 512) : k0_pay49 (k0_pay47 hn w) (k0_pay48 hn w) (ix2 r l) = (∑ x, hn (ix2 r x) * w (ix2 x l)) * sg (∑ x, hn (ix2 r x) * w (ix2 x l)) := by
  pointwise [k0_pay49, k0_pay47, k0_pay48]
  rw [zero_sub]
  rfl

theorem kzg (hn : FVec Ideal S512x1024 .bf16) (w : Vec Ideal S1024x512 .bf16)(l : Fin 512) (r : Fin 512) : k0_pay1 (k0_pay53 hn w) (k0_pay54 hn w) (ix2 r l) = (∑ x, hn (ix2 r x) * w (ix2 x l)) * sg (∑ x, hn (ix2 r x) * w (ix2 x l)) := by
  pointwise [k0_pay1, k0_pay53, k0_pay54]
  rw [zero_sub]
  rfl

theorem kgq (hn : FVec Ideal S512x1024 .bf16) (w : Vec Ideal S1024x256 .bf16)(l : Fin 256) (r : Fin 512) : k0_pay50 hn w (ix2 r l) = (∑ x, hn (ix2 r x) * w (ix2 x l)) * Idealize.ShloMosaic.Ideal.ofBits FTy.f32 1040187392#32 := by
  pointwise [k0_pay50]

theorem kgk (hn : FVec Ideal S512x1024 .bf16) (w : Vec Ideal S1024x256 .bf16)(l : Fin 256) (r : Fin 512) : k0_pay51 hn w (ix2 r l) = (∑ x, hn (ix2 r x) * w (ix2 x l)) := by
  pointwise [k0_pay51]

theorem kgv (hn : FVec Ideal S512x1024 .bf16) (w : Vec Ideal S1024x512 .bf16)(l : Fin 512) (r : Fin 512) : k0_pay52 hn w (ix2 r l) = (∑ x, hn (ix2 r x) * w (ix2 x l)) := by
  pointwise [k0_pay52]

/-- The same logarithm of the sigmoid over 16, as a minimum less a logarithm. -/
def lsK (x : EReal) : EReal :=
  Idealize.ShloMosaic.Ideal.div (min x 0 - Idealize.ShloMosaic.Ideal.log1p (Idealize.ShloMosaic.Ideal.exp (0 - FloatOps.absf (F := Ideal) (φ := .f32) x))) (Idealize.ShloMosaic.Ideal.ofBits FTy.f32 1098907648#32)

theorem kla (hn : FVec Ideal S512x1024 .bf16) (w : Vec Ideal S1024x128 .bf16) (wa : Vec Ideal S128x256 .bf16) (ba : Vec Ideal S1x256 .f32) (l : Fin 256) (r : Fin 512) : k0_pay2 hn w wa ba (ix2 r l) = lsK (∑ x, (∑ y, hn (ix2 r y) * w (ix2 y x)) * wa (ix2 x l) + ba (ix2 (0 : Fin 1) l)) := by
  pointwise [k0_pay2]
  rfl

theorem abs_neg' (x : EReal) : FloatOps.absf (F := Ideal) (φ := .f32) (-x) = FloatOps.absf (F := Ideal) (φ := .f32) x := by
  show max (-x) (- -x) = max x (-x)
  rw [neg_neg, max_comm]

theorem log1p_exp_ne_bot (y : EReal) : Idealize.ShloMosaic.Ideal.log1p (Idealize.ShloMosaic.Ideal.exp y) ≠ ⊥ := by
  have key : ∀ r : ℝ, 0 ≤ r → Idealize.ShloMosaic.Ideal.log1p (r : EReal) ≠ ⊥ := by
    intro r hr
    have e : Idealize.ShloMosaic.Ideal.log1p (r : EReal) = Idealize.ShloMosaic.Ideal.log ((1 + r : ℝ) : EReal) := by
      unfold Idealize.ShloMosaic.Ideal.log1p
      rw [EReal.coe_add, EReal.coe_one]
    rw [e]
    show (if (1 + r : ℝ) ≤ 0 then (⊥ : EReal) else (Real.log (1 + r) : EReal)) ≠ ⊥
    rw [if_neg (by linarith)]
    exact EReal.coe_ne_bot _
  induction y using EReal.rec with
  | bot =>
    have h := key 0 le_rfl
    exact h
  | coe r => exact key (Real.exp r) (Real.exp_pos r).le
  | top =>
    have e : Idealize.ShloMosaic.Ideal.log1p (⊤ : EReal) = ⊤ := by
      unfold Idealize.ShloMosaic.Ideal.log1p
      rw [EReal.add_top_of_ne_bot (by decide)]
      rfl
    show Idealize.ShloMosaic.Ideal.log1p (⊤ : EReal) ≠ ⊥
    rw [e]
    exact top_ne_bot

theorem neg_max' (x : EReal) : -(max (-x) 0) = min x 0 := by
  rcases le_total x 0 with h | h
  · rw [min_eq_left h, max_eq_left, neg_neg]
    rw [← neg_zero]
    exact EReal.neg_le_neg_iff.mpr h
  · rw [min_eq_right h, max_eq_right, neg_zero]
    rw [← neg_zero]
    exact EReal.neg_le_neg_iff.mpr h

theorem lsK_eq (x : EReal) : lsK x = Idealize.ShloMosaic.Ideal.div (-(max (-x) 0 + Idealize.ShloMosaic.Ideal.log1p (Idealize.ShloMosaic.Ideal.exp (-FloatOps.absf (F := Ideal) (φ := .f32) (-x))))) (Idealize.ShloMosaic.Ideal.ofBits FTy.f32 1098907648#32) := by
  unfold lsK
  rw [abs_neg', zero_sub]
  rw [EReal.neg_add (Or.inl (ne_of_gt (lt_of_lt_of_le EReal.bot_lt_zero (le_max_right _ _)))) (Or.inr (log1p_exp_ne_bot _)), neg_max']

end Cert.InVal

end
-- ==== Proof.InFinR.lean ====
/-
The prompt's in-projection: three results of the recurrent branch.
-/
module

public import proofs.«01_k».proof.Proof.InIdealFrame
public import proofs.«01_k».proof.Proof.InHost
public import proofs.«01_k».proof.Proof.Gen.InReferenceIdeal.Read
public import proofs.«01_k».proof.Proof.InRec
public import proofs.«01_k».proof.Proof.InRefB
public import proofs.«01_k».proof.Proof.InKerG
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem final17 : (dats m 0 c).arrAt 17 cfg0.N = Cert.InReferenceIdeal.Read.val_main_v162 (F := Ideal) (m ((c : Thread nD τ).loc main_arg0)) (m ((c : Thread nD τ).loc main_arg1)) (m ((c : Thread nD τ).loc main_arg2)) := by
  refine (dats m 0 c).arrAt_eq_of_covers 17 _ (by decide +kernel) fun t hf y => ?_
  blk_simp
  rw [after0_17]
  unfold out0_17
  have ht : t.val < 32 := t.isLt
  change Shape.Idx S512x512 at y
  idx_vars y
  revert y0 y1
  intro r l
  obtain ⟨q, hq⟩ := exF 16384 (512 * t.val + r.val) (by omega)
  have e : (((View.whole main_v48_9).slice (win0_17.rect t)).emb (ix2 r l) : S16384x512.Idx) = ix2 q l := by
    have hI := idx_val t
    blk_ext [hI]
  refine Eq.trans ?_ (congrArg _ e).symm
  rw [ref_zn]
  canon_tiles x h
  change Shape.Idx S512x512 at x
  idx_vars x
  obtain rfl : x0 = r := Fin.ext h0.symm
  obtain rfl : x1 = l := Fin.ext h1.symm
  refine (kzn _ _ x1 x0).trans ?_
  exact congrArg (fun s => s * sg s) (zn_at m c t x0 x1 (⟨q.val / 4096, by omega⟩ : Fin 4) (⟨q.val % 4096, by omega⟩ : Fin 4096) (by show q.val / 4096 = t.val / 8; omega) (by show q.val % 4096 = 512 * (t.val % 8) + x0.val; omega))

theorem final18 : (dats m 0 c).arrAt 18 cfg0.N = Cert.InReferenceIdeal.Read.val_main_v165 (F := Ideal) (m ((c : Thread nD τ).loc main_arg0)) (m ((c : Thread nD τ).loc main_arg1)) (m ((c : Thread nD τ).loc main_arg2)) := by
  refine (dats m 0 c).arrAt_eq_of_covers 18 _ (by decide +kernel) fun t hf y => ?_
  blk_simp
  rw [after0_18]
  unfold out0_18
  have ht : t.val < 32 := t.isLt
  change Shape.Idx S512x256 at y
  idx_vars y
  revert y0 y1
  intro r l
  obtain ⟨q, hq⟩ := exF 16384 (512 * t.val + r.val) (by omega)
  have e : (((View.whole main_v48_10).slice (win0_18.rect t)).emb (ix2 r l) : S16384x256.Idx) = ix2 q l := by
    have hI := idx_val t
    blk_ext [hI]
  refine Eq.trans ?_ (congrArg _ e).symm
  rw [ref_gq]
  canon_tiles x h
  change Shape.Idx S512x256 at x
  idx_vars x
  obtain rfl : x0 = r := Fin.ext h0.symm
  obtain rfl : x1 = l := Fin.ext h1.symm
  refine (kgq _ _ x1 x0).trans ?_
  exact congrArg (fun s => s * Idealize.ShloMosaic.Ideal.ofBits FTy.f32 1040187392#32) (gq_at m c t x0 x1 (⟨q.val / 4096, by omega⟩ : Fin 4) (⟨q.val % 4096, by omega⟩ : Fin 4096) (by show q.val / 4096 = t.val / 8; omega) (by show q.val % 4096 = 512 * (t.val % 8) + x0.val; omega))

theorem final19 : (dats m 0 c).arrAt 19 cfg0.N = Cert.InReferenceIdeal.Read.val_main_v166 (F := Ideal) (m ((c : Thread nD τ).loc main_arg0)) (m ((c : Thread nD τ).loc main_arg1)) (m ((c : Thread nD τ).loc main_arg2)) := by
  refine (dats m 0 c).arrAt_eq_of_covers 19 _ (by decide +kernel) fun t hf y => ?_
  blk_simp
  rw [after0_19]
  unfold out0_19
  have ht : t.val < 32 := t.isLt
  change Shape.Idx S512x256 at y
  idx_vars y
  revert y0 y1
  intro r l
  obtain ⟨q, hq⟩ := exF 16384 (512 * t.val + r.val) (by omega)
  have e : (((View.whole main_v48_11).slice (win0_19.rect t)).emb (ix2 r l) : S16384x256.Idx) = ix2 q l := by
    have hI := idx_val t
    blk_ext [hI]
  refine Eq.trans ?_ (congrArg _ e).symm
  rw [ref_gk]
  canon_tiles x h
  change Shape.Idx S512x256 at x
  idx_vars x
  obtain rfl : x0 = r := Fin.ext h0.symm
  obtain rfl : x1 = l := Fin.ext h1.symm
  refine (kgk _ _ x1 x0).trans ?_
  exact gk_at m c t x0 x1 (⟨q.val / 4096, by omega⟩ : Fin 4) (⟨q.val % 4096, by omega⟩ : Fin 4096) (by show q.val / 4096 = t.val / 8; omega) (by show q.val % 4096 = 512 * (t.val % 8) + x0.val; omega)

end Cert.InVal

end
-- ==== Proof.InFinL.lean ====
/-
The prompt's in-projection: the other results of the recurrent branch.
-/
module

public import proofs.«01_k».proof.Proof.InIdealFrame
public import proofs.«01_k».proof.Proof.InHost
public import proofs.«01_k».proof.Proof.Gen.InReferenceIdeal.Read
public import proofs.«01_k».proof.Proof.InRec
public import proofs.«01_k».proof.Proof.InRefB
public import proofs.«01_k».proof.Proof.InKerG
public import Idealize.ShloMosaic.Lib.Pipeline.ValueKit
public import Idealize.ShloMosaic.Lib.Pointwise
public import Idealize.ShloMosaic.Lib.Claim

@[expose] public section

set_option maxRecDepth 16384

noncomputable section

namespace Cert.InVal

open Idealize.ShloMosaic Idealize.ShloMosaic.TcCoe
open Cert.InIdeal Cert.InIdeal.Gen

variable (m : (l : Loc nD τ sig) → Buf (Elt Ideal) l) (c : Dev nD) (t : Fin cfg0.N)

theorem final20 : (dats m 0 c).arrAt 20 cfg0.N = Cert.InReferenceIdeal.Read.val_main_v167 (F := Ideal) (m ((c : Thread nD τ).loc main_arg0)) (m ((c : Thread nD τ).loc main_arg1)) (m ((c : Thread nD τ).loc main_arg2)) := by
  refine (dats m 0 c).arrAt_eq_of_covers 20 _ (by decide +kernel) fun t hf y => ?_
  blk_simp
  rw [after0_20]
  unfold out0_20
  have ht : t.val < 32 := t.isLt
  change Shape.Idx S512x512 at y
  idx_vars y
  revert y0 y1
  intro r l
  obtain ⟨q, hq⟩ := exF 16384 (512 * t.val + r.val) (by omega)
  have e : (((View.whole main_v48_12).slice (win0_20.rect t)).emb (ix2 r l) : S16384x512.Idx) = ix2 q l := by
    have hI := idx_val t
    blk_ext [hI]
  refine Eq.trans ?_ (congrArg _ e).symm
  rw [ref_gv]
  canon_tiles x h
  change Shape.Idx S512x512 at x
  idx_vars x
  obtain rfl : x0 = r := Fin.ext h0.symm
  obtain rfl : x1 = l := Fin.ext h1.symm
  refine (kgv _ _ x1 x0).trans ?_
  exact gv_at m c t x0 x1 (⟨q.val / 4096, by omega⟩ : Fin 4) (⟨q.val % 4096, by omega⟩ : Fin 4096) (by show q.val / 4096 = t.val / 8; omega) (by show q.val % 4096 = 512 * (t.val % 8) + x0.val; omega)

theorem final21 : (dats m 0 c).arrAt 21 cfg0.N = Cert.InReferenceIdeal.Read.val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 21 _ (by decide +kernel) fun t hf y => ?_
  blk_simp
  rw [after0_21]
  unfold out0_21
  have ht : t.val < 32 := t.isLt
  change Shape.Idx S512x256 at y
  idx_vars y
  revert y0 y1
  intro r l
  obtain ⟨q, hq⟩ := exF 16384 (512 * t.val + r.val) (by omega)
  have e : (((View.whole main_v48_13).slice (win0_21.rect t)).emb (ix2 r l) : S16384x256.Idx) = ix2 q l := by
    have hI := idx_val t
    blk_ext [hI]
  refine Eq.trans ?_ (congrArg _ e).symm
  rw [ref_la]
  canon_tiles x h
  change Shape.Idx S512x256 at x
  idx_vars x
  obtain rfl : x0 = r := Fin.ext h0.symm
  obtain rfl : x1 = l := Fin.ext h1.symm
  refine (kla _ _ _ _ x1 x0).trans ?_
  refine (lsK_eq _).trans (congrArg ls ?_)
  exact congrArg₂ (· + ·) (la_at m c t x0 x1 (⟨q.val / 4096, by omega⟩ : Fin 4) (⟨q.val % 4096, by omega⟩ : Fin 4096) (by show q.val / 4096 = t.val / 8; omega) (by show q.val % 4096 = 512 * (t.val % 8) + x0.val; omega)) (ba_ld m c t x1)

theorem final22 : (dats m 0 c).arrAt 22 cfg0.N = Cert.InReferenceIdeal.Read.val_main_v170 (F := Ideal) (m ((c : Thread nD τ).loc main_arg0)) (m ((c : Thread nD τ).loc main_arg1)) (m ((c : Thread nD τ).loc main_arg2)) := by
  refine (dats m 0 c).arrAt_eq_of_covers 22 _ (by decide +kernel) fun t hf y => ?_
  blk_simp
  rw [after0_22]
  unfold out0_22
  have ht : t.val < 32 := t.isLt
  change Shape.Idx S512x512 at y
  idx_vars y
  revert y0 y1
  intro r l
  obtain ⟨q, hq⟩ := exF 16384 (512 * t.val + r.val) (by omega)
  have e : (((View.whole main_v48_14).slice (win0_22.rect t)).emb (ix2 r l) : S16384x512.Idx) = ix2 q l := by
    have hI := idx_val t
    blk_ext [hI]
  refine Eq.trans ?_ (congrArg _ e).symm
  rw [ref_zg]
  canon_tiles x h
  change Shape.Idx S512x512 at x
  idx_vars x
  obtain rfl : x0 = r := Fin.ext h0.symm
  obtain rfl : x1 = l := Fin.ext h1.symm
  refine (kzg _ _ x1 x0).trans ?_
  exact congrArg (fun s => s * sg s) (zg_at m c t x0 x1 (⟨q.val / 4096, by omega⟩ : Fin 4) (⟨q.val % 4096, by omega⟩ : Fin 4096) (by show q.val / 4096 = t.val / 8; omega) (by show q.val % 4096 = 512 * (t.val % 8) + x0.val; omega))

end Cert.InVal

end
-- ==== Proof.RefRun.lean ====
/-
The run of the reference's scan over the 64 chunks, stated over `Step.step`: a valuation that holds a state holds the
next state after one trip, so the results are read off the 64th state.
-/
module

public import proofs.«01_k».proof.Proof.Gen.ReferenceIdeal.Run
public import proofs.«01_k».proof.Proof.Gen.ReferenceIdeal.Step

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The valuation holds scan state `s`, the causal mask, and the number `j` of the trip. -/
structure Holds (V : Valuation τ sig (Elt F)) (s : Step.State F) (j : ℕ) : Prop where
  st : V (Proc.devRef .tc main_v13_6) = s.main_v13_6
  out : V (Proc.devRef .tc main_v13_7) = s.main_v13_7
  q : V (Proc.devRef .tc main_v13_0) = s.main_v13_0
  k : V (Proc.devRef .tc main_v13_1) = s.main_v13_1
  v : V (Proc.devRef .tc main_v13_2) = s.main_v13_2
  a : V (Proc.devRef .tc main_v13_3) = s.main_v13_3
  trip : V (Proc.devRef .tc main_v13_5) = constantI S_ 32 (BitVec.ofNat 32 j)
  mask : V (Proc.devRef .tc main_v13_4) = Step.K_main_v3 (F := F)

variable {V : Valuation τ sig (Elt F)} {s : Step.State F} {j : ℕ}

theorem q_eq (h : Holds V s j) : res_main_while0b_v36 V = Step.b5 j s := by
  unfold res_main_while0b_v36
  rw [h.q, h.trip]
  rfl

theorem k_eq (h : Holds V s j) : res_main_while0b_v37 V = Step.b11 j s := by
  unfold res_main_while0b_v37
  rw [h.k, h.trip]
  rfl

theorem v_eq (h : Holds V s j) : res_main_while0b_v38 V = Step.b17 j s := by
  unfold res_main_while0b_v38
  rw [h.v, h.trip]
  rfl

theorem cum_eq (h : Holds V s j) : res_main_while0b_v40 V = Step.b26 j s := by
  unfold res_main_while0b_v40
  rw [h.a, h.trip]
  rfl

theorem last_eq (h : Holds V s j) : res_main_while0b_v63 V = Step.b58 j s := by
  unfold res_main_while0b_v63
  rw [cum_eq h]
  rfl

theorem step_st (h : Holds V s j) : step_main_v13_6 V = Step.b69 j s := by
  unfold step_main_v13_6
  rw [k_eq h, v_eq h, cum_eq h, last_eq h, h.st]
  rfl

theorem step_out (h : Holds V s j) : step_main_v13_7 V = Step.b76 j s := by
  unfold step_main_v13_7
  rw [q_eq h, k_eq h, v_eq h, cum_eq h, h.st, h.out, h.trip, h.mask]
  rfl

theorem step_trip (h : Holds V s j) : step_main_v13_5 V = constantI S_ 32 (BitVec.ofNat 32 (j + 1)) := by
  unfold step_main_v13_5
  rw [h.trip]
  funext i
  show BitVec.ofNat 32 j + 1#32 = _
  simp only [BitVec.ofNat_add, constantI]

/-- One trip of the loop. -/
theorem Holds.next (h : Holds V s j) : Holds (STEP V) (Step.step j s) (j + 1) where
  st := (STEP_main_v13_6 V).trans (step_st h)
  out := (STEP_main_v13_7 V).trans (step_out h)
  q := (STEP_main_v13_0 V).trans h.q
  k := (STEP_main_v13_1 V).trans h.k
  v := (STEP_main_v13_2 V).trans h.v
  a := (STEP_main_v13_3 V).trans h.a
  trip := (STEP_main_v13_5 V).trans (step_trip h)
  mask := (STEP_main_v13_4 V).trans h.mask

variable (m : (ℓ : Loc nD τ sig) → Buf (Elt F) ℓ) (c : Dev nD)

/-- The state before the first chunk. -/
abbrev start : Step.State F :=
  Step.init (m ((c.tc : Thread nD τ).loc main_arg0)) (m ((c.tc : Thread nD τ).loc main_arg1))
    (m ((c.tc : Thread nD τ).loc main_arg2)) (m ((c.tc : Thread nD τ).loc main_arg3))

/-- The state before chunk `n`. -/
def states : ℕ → Step.State F
  | 0 => start m c
  | n + 1 => Step.step n (states n)

set_option maxRecDepth 65536 in
theorem holds_start : Holds (entryContents preI m c) (start m c) 0 := by
  constructor <;> (simp only [entryContents, afterL_cons, afterL_nil]; after_reads_simp) <;> rfl

theorem holds_states (n : ℕ) : Holds (STEP^[n] (entryContents preI m c)) (states m c n) n := by
  induction n with
  | zero => exact holds_start m c
  | succ n ih =>
    rw [Function.iterate_succ_apply']
    exact ih.next

theorem out_y (h : Holds V s j) {z : (⟨S4x4096x512, .f32⟩ : BufTy).Contents (Elt F)} (hz : V (Proc.devRef .tc main_arg4) = z)
    {g : (⟨S128, .f32⟩ : BufTy).Contents (Elt F)} (hg : V (Proc.devRef .tc main_arg5) = g) :
    out_main_v35 V = Step.R_main_v35 s z g := by
  unfold out_main_v35
  rw [h.out, hz, hg]
  rfl

theorem out_st (h : Holds V s j) : out_main_v34 V = Step.R_main_v34 s := by
  unfold out_main_v34
  rw [h.st]
  rfl

/-- Every execution of the reference ends with its results read off the state after 64 chunks and its arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v35) = Step.R_main_v35 (states m c 64) (m ((c.tc : Thread nD τ).loc main_arg4))
        (m ((c.tc : Thread nD τ).loc main_arg5))
      ∧ r.2.mem ((c.tc : Thread nD τ).loc main_v34) = Step.R_main_v34 (states m c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (Value.run m ρ)
  have hs := holds_states m c 64
  obtain ⟨hy, hst, hargs⟩ := h c
  exact ⟨hy.trans (out_y hs (iter_main_arg4 m c 64) (iter_main_arg5 m c 64)), hst.trans (out_st hs), hargs⟩

end Cert.RefRun

end
-- ==== Proof.GlaCum.lean ====
/-
The running sum of the reference read at an index: entry `i` of the window sum along the chunk's 64 rows is the sum of
the entries up to and including `i`.
-/
module

public import Idealize.ShloMosaic.Lib.Pointwise
public import proofs.«01_k».proof.ReferenceIdeal

@[expose] public section

set_option maxRecDepth 16384

noncomputable section

namespace Cert.GlaCum

open Idealize.ShloMosaic
open Cert.ReferenceIdeal

theorem foldl_add_eq {α : Type} (f : α → EReal) (l : List α) (v : EReal) :
    l.foldl (fun r n => r + f n) v = v + (l.map f).sum := by
  induction l generalizing v with
  | nil => simp
  | cons a l ih => rw [List.foldl_cons, ih, List.map_cons, List.sum_cons, add_assoc]

/-- A window of 64 ending at `i` with zeros before the start sums the entries up to `i`. -/
theorem sum_window (g : ℕ → EReal) (i : Fin 64) :
    (∑ n : Fin 64, if 63 ≤ i.val + n.val then g (i.val + n.val - 63) else 0) = ∑ j : Fin 64, if j ≤ i then g j.val else 0 := by
  have hi := i.isLt
  have e : ∀ j : Fin 64, (if j ≤ i then g j.val else 0) = (fun n : ℕ => if n ≤ i.val then g n else 0) j.val := fun j => rfl
  rw [Finset.sum_congr rfl fun j _ => e j, Fin.sum_univ_eq_sum_range (fun n : ℕ => if n ≤ i.val then g n else 0) 64,
    Fin.sum_univ_eq_sum_range (fun n : ℕ => if 63 ≤ i.val + n then g (i.val + n - 63) else 0) 64,
    ← Finset.sum_filter, ← Finset.sum_filter]
  refine Finset.sum_nbij' (fun n => i.val + n - 63) (fun n => n + 63 - i.val) ?_ ?_ ?_ ?_ ?_
  all_goals intro n hn; simp only [Finset.mem_filter, Finset.mem_range] at *; try omega

/-- The box one window position sees, and its row in the chunk. -/
abbrev W : Shape := ⟨4, ![1, 64, 1, 1]⟩

/-- Row `n` of the chunk, zero outside. -/
def row (x : FVec Ideal S4x64x4x64 .f32) (b : Fin 4) (h : Fin 4) (d : Fin 64) (n : ℕ) : EReal :=
  if hn : n < 64 then x (ix4 b ⟨n, hn⟩ h d) else 0

theorem position (x : FVec Ideal S4x64x4x64 .f32) (b : Fin 4) (i : Fin 64) (h : Fin 4) (d : Fin 64) (w : W.Idx)
    (p : Fin S4x64x4x64.rank → ℕ) (p0 : p 0 = b.val * 1 + (w 0).val) (p1 : p 1 = i.val * 1 + (w 1).val)
    (p2 : p 2 = h.val * 1 + (w 2).val) (p3 : p 3 = d.val * 1 + (w 3).val)
    {dec : Decidable (∀ a, (![0, 63, 0, 0] : Fin 4 → ℕ) a ≤ p a ∧ p a - (![0, 63, 0, 0] : Fin 4 → ℕ) a < S4x64x4x64.size a)} :
    (if hin : ∀ a, (![0, 63, 0, 0] : Fin 4 → ℕ) a ≤ p a ∧ p a - (![0, 63, 0, 0] : Fin 4 → ℕ) a < S4x64x4x64.size a
      then x (fun a => ⟨p a - (![0, 63, 0, 0] : Fin 4 → ℕ) a, (hin a).2⟩) else (0 : EReal))
      = if 63 ≤ i.val + (w 1).val then row x b h d (i.val + (w 1).val - 63) else 0 := by
  have h0 : (w 0).val < 1 := (w 0).isLt
  have h2 : (w 2).val < 1 := (w 2).isLt
  have h3 : (w 3).val < 1 := (w 3).isLt
  have h1 : (w 1).val < 64 := (w 1).isLt
  generalize (w 0).val = w0 at *
  generalize (w 1).val = w1 at *
  generalize (w 2).val = w2 at *
  generalize (w 3).val = w3 at *
  have hi := i.isLt
  have hb := b.isLt
  have hh := h.isLt
  have hd := d.isLt
  have all : (∀ a, (![0, 63, 0, 0] : Fin 4 → ℕ) a ≤ p a ∧ p a - (![0, 63, 0, 0] : Fin 4 → ℕ) a < S4x64x4x64.size a)
      ↔ 63 ≤ i.val + w1 := by
    constructor
    · intro hin
      have q : 63 ≤ p 1 := (hin 1).1
      omega
    · intro hle a
      match a with
      | ⟨0, _⟩ => exact ⟨Nat.zero_le _, (by omega : p 0 - 0 < 4)⟩
      | ⟨1, _⟩ => exact ⟨(by omega : 63 ≤ p 1), (by omega : p 1 - 63 < 64)⟩
      | ⟨2, _⟩ => exact ⟨Nat.zero_le _, (by omega : p 2 - 0 < 4)⟩
      | ⟨3, _⟩ => exact ⟨Nat.zero_le _, (by omega : p 3 - 0 < 64)⟩
  by_cases hle : 63 ≤ i.val + w1
  · rw [dif_pos (all.mpr hle), if_pos hle]
    unfold row
    rw [dif_pos (by omega)]
    refine congrArg x (funext fun a => Fin.ext ?_)
    match a with
    | ⟨0, _⟩ => exact (by omega : p 0 - 0 = b.val)
    | ⟨1, _⟩ => exact (by omega : p 1 - 63 = i.val + w1 - 63)
    | ⟨2, _⟩ => exact (by omega : p 2 - 0 = h.val)
    | ⟨3, _⟩ => exact (by omega : p 3 - 0 = d.val)
  · rw [dif_neg fun hin => hle (all.mp hin), if_neg hle]

theorem sum_window_box (g : ℕ → EReal) (i : Fin 64) :
    (∑ n : Fin W.numel, if 63 ≤ i.val + (W.rowMajor.symm n 1).val then g (i.val + (W.rowMajor.symm n 1).val - 63) else 0)
      = ∑ n : Fin 64, if 63 ≤ i.val + n.val then g (i.val + n.val - 63) else 0 := by
  rw [Equiv.sum_comp W.rowMajor.symm fun w : W.Idx => if 63 ≤ i.val + (w 1).val then g (i.val + (w 1).val - 63) else 0,
    sum_idx4]
  simp only [Fin.sum_univ_one]
  rfl

theorem cumsum_at (x : FVec Ideal S4x64x4x64 .f32) (init : FVec Ideal S_ .f32) (hinit : ∀ u, init u = 0)
    (hw : S4x64x4x64.ReduceWindows ![1, 64, 1, 1] ![1, 1, 1, 1] ![0, 63, 0, 0] ![0, 0, 0, 0] S4x64x4x64) (hu : 0 < S_.numel)
    (b : Fin 4) (i : Fin 64) (h : Fin 4) (d : Fin 64) :
    Host.reduceWindowAdd ![1, 64, 1, 1] ![1, 1, 1, 1] ![0, 63, 0, 0] ![0, 0, 0, 0] x init hw hu (ix4 b i h d)
      = ∑ j : Fin 64, if j ≤ i then x (ix4 b j h d) else 0 := by
  unfold Host.reduceWindowAdd
  rw [Ideal.hostReduceWindowAdd_def]
  unfold Ideal.hostReduceWindowAdd Host.reduceWindow
  rw [hinit]
  dsimp only
  rw [foldl_add_eq, zero_add, ← Fin.sum_univ_def]
  refine (Finset.sum_congr rfl fun n _ => position x b i h d (W.rowMajor.symm n)
    (fun a => (ix4 (n0 := 4) (n1 := 64) (n2 := 4) (n3 := 64) b i h d a).val * (![1, 1, 1, 1] : Fin 4 → ℕ) a + (W.rowMajor.symm n a).val)
    rfl rfl rfl rfl).trans ?_
  rw [sum_window_box, sum_window]
  refine Finset.sum_congr rfl fun j _ => ?_
  unfold row
  rw [dif_pos j.isLt]

end Cert.GlaCum

end
-- ==== Proof.GlaUnit.lean ====
/-
One chunk of the gated recurrence for one batch entry and one head, on the extended reals: the running sum of the log
decays, the state after the chunk and the 64 output rows, as the reference writes them.
-/
module

public import Idealize.ShloMosaic.Lib.Pointwise

@[expose] public section

noncomputable section

namespace Cert.GlaUnit

open Idealize.ShloMosaic

/-- A chunk's 64 rows of 64 lanes. -/
abbrev Rows := Fin 64 → Fin 64 → EReal
/-- A chunk's 64 value rows; a head's state. -/
abbrev Vals := Fin 64 → Fin 128 → EReal

/-- The running sum of the log decays. -/
def cum (a : Rows) (i d : Fin 64) : EReal := ∑ j : Fin 64, if j ≤ i then a j d else 0

/-- The state after the chunk. -/
def next (k a : Rows) (v S : Vals) (d : Fin 64) (e : Fin 128) : EReal :=
  S d e * Ideal.exp (cum a 63 d) + ∑ j : Fin 64, k j d * Ideal.exp (cum a 63 d - cum a j d) * v j e

/-- The decay from row `j` to row `i` in lane `d`: zero above the diagonal. -/
def decay (a : Rows) (i j d : Fin 64) : EReal := if j ≤ i then Ideal.exp (cum a i d - cum a j d) else 0

/-- The output rows: what the state contributes, and what the chunk's own rows contribute. -/
def out (q k a : Rows) (v S : Vals) (i : Fin 64) (e : Fin 128) : EReal :=
  (∑ d : Fin 64, S d e * (q i d * Ideal.exp (cum a i d)))
    + ∑ j : Fin 64, v j e * ∑ d : Fin 64, q i d * k j d * decay a i j d

end Cert.GlaUnit

end
-- ==== Proof.GlaRef.lean ====
/-
One trip of the reference's scan read at an index: per batch entry and head it is the recurrence's unit.
-/
module

public import proofs.«01_k».proof.Proof.GlaCum
public import proofs.«01_k».proof.Proof.GlaUnit
public import proofs.«01_k».proof.Proof.Gen.ReferenceIdeal.Step

@[expose] public section

set_option maxRecDepth 16384

noncomputable section

namespace Cert.GlaRef

open Idealize.ShloMosaic
open Cert.ReferenceIdeal Cert.ReferenceIdeal.Gen Cert.ReferenceIdeal.Step Cert.GlaUnit

theorem start_val (j : ℕ) (hj : j < 64) : (min (max (BitVec.ofNat 32 j).toInt 0) 63).toNat = j := by
  have h : (BitVec.ofNat 32 j).toInt = j := by
    rw [BitVec.toInt_eq_toNat_of_lt (by rw [BitVec.toNat_ofNat]; omega), BitVec.toNat_ofNat]
    omega
  rw [h]; omega

variable (j : Fin 64) (s : State Ideal)

/-- The start indices of a slice at chunk `j`. -/
abbrev starts (j : ℕ) : Fin 5 → ℤ := fun k => BitVec.toInt
  ((![constantI S_ 32 (BitVec.ofNat 32 j), constantI S_ 32 0#32, constantI S_ 32 0#32, constantI S_ 32 0#32, constantI S_ 32 0#32] :
    Fin 5 → S_.Idx → BitVec 32) k (Shape.Idx.first h_S_))

theorem b5_at (b : Fin 4) (i : Fin 64) (h : Fin 4) (d : Fin 64) :
    b5 j s (ix4 b i h d) = s.main_v13_0 (ix5 j b i h d) := by
  pointwise [b5, b4, b0, b1, b2, b3]
  refine congrArg s.main_v13_0 (funext fun a => Fin.ext ?_)
  have hj := j.isLt
  match a with
  | ⟨0, _⟩ => exact (start_val j hj : (min (max (starts j 0) 0) 63).toNat = j.val)
  | ⟨1, _⟩ => exact Nat.zero_add b.val
  | ⟨2, _⟩ => exact Nat.zero_add i.val
  | ⟨3, _⟩ => exact Nat.zero_add h.val
  | ⟨4, _⟩ => exact Nat.zero_add d.val

theorem b11_at (b : Fin 4) (i : Fin 64) (h : Fin 4) (d : Fin 64) :
    b11 j s (ix4 b i h d) = s.main_v13_1 (ix5 j b i h d) := by
  pointwise [b11, b10, b6, b7, b8, b9]
  refine congrArg s.main_v13_1 (funext fun a => Fin.ext ?_)
  have hj := j.isLt
  match a with
  | ⟨0, _⟩ => exact (start_val j hj : (min (max (starts j 0) 0) 63).toNat = j.val)
  | ⟨1, _⟩ => exact Nat.zero_add b.val
  | ⟨2, _⟩ => exact Nat.zero_add i.val
  | ⟨3, _⟩ => exact Nat.zero_add h.val
  | ⟨4, _⟩ => exact Nat.zero_add d.val

theorem b17_at (b : Fin 4) (i : Fin 64) (h : Fin 4) (e : Fin 128) :
    b17 j s (ix4 b i h e) = s.main_v13_2 (ix5 j b i h e) := by
  pointwise [b17, b16, b12, b13, b14, b15]
  refine congrArg s.main_v13_2 (funext fun a => Fin.ext ?_)
  have hj := j.isLt
  match a with
  | ⟨0, _⟩ => exact (start_val j hj : (min (max (starts j 0) 0) 63).toNat = j.val)
  | ⟨1, _⟩ => exact Nat.zero_add b.val
  | ⟨2, _⟩ => exact Nat.zero_add i.val
  | ⟨3, _⟩ => exact Nat.zero_add h.val
  | ⟨4, _⟩ => exact Nat.zero_add e.val

theorem b23_at (b : Fin 4) (i : Fin 64) (h : Fin 4) (d : Fin 64) :
    b23 j s (ix4 b i h d) = s.main_v13_3 (ix5 j b i h d) := by
  pointwise [b23, b22, b18, b19, b20, b21]
  refine congrArg s.main_v13_3 (funext fun a => Fin.ext ?_)
  have hj := j.isLt
  match a with
  | ⟨0, _⟩ => exact (start_val j hj : (min (max (starts j 0) 0) 63).toNat = j.val)
  | ⟨1, _⟩ => exact Nat.zero_add b.val
  | ⟨2, _⟩ => exact Nat.zero_add i.val
  | ⟨3, _⟩ => exact Nat.zero_add h.val
  | ⟨4, _⟩ => exact Nat.zero_add d.val

/-- The rows of one batch entry and head in chunk `j`. -/
def qR (b h : Fin 4) : Rows := fun i d => s.main_v13_0 (ix5 j b i h d)
def kR (b h : Fin 4) : Rows := fun i d => s.main_v13_1 (ix5 j b i h d)
def vR (b h : Fin 4) : Vals := fun i e => s.main_v13_2 (ix5 j b i h e)
def aR (b h : Fin 4) : Rows := fun i d => s.main_v13_3 (ix5 j b i h d)
def sR (b h : Fin 4) : Vals := fun d e => s.main_v13_6 (ix4 b h d e)

theorem b26_at (b : Fin 4) (i : Fin 64) (h : Fin 4) (d : Fin 64) :
    b26 j s (ix4 b i h d) = cum (aR j s b h) i d := by
  unfold b26
  rw [GlaCum.cumsum_at _ _ (fun u => by pointwise [b25, b24])]
  unfold cum aR
  exact Finset.sum_congr rfl fun i' _ => by rw [b23_at]

theorem b58_at (b h : Fin 4) (d : Fin 64) : b58 j s (ix3 b h d) = cum (aR j s b h) 63 d := by
  rw [← b26_at]
  pointwise [b58, b57]

theorem b69_at (b h : Fin 4) (d : Fin 64) (e : Fin 128) :
    b69 j s (ix4 b h d e) = next (kR j s b h) (aR j s b h) (vR j s b h) (sR s b h) d e := by
  pointwise [b69, b68, b67, b66, b65, b64, b63, b62, b61, b60, b59, b58_at, b26_at, b11_at, b17_at]
  rfl

theorem mask_at (i i' : Fin 64) : K_main_v3 (F := Ideal) (ix5 0 i i' 0 0) = BitVec.ofBool (decide (i' ≤ i)) := by
  pointwise [K_main_v3, K_main_v2, K_main_call0_v4, K_main_call0_v2, K_main_call0_v0, K_main_call0_v1, K_main_call0_c, K_main_call0_v3,
   K_main_v1, K_main_c, K_main_call0_v5, K_main_call0_c_0]
  revert i i'
  decide

theorem b46_at (b : Fin 4) (i i' : Fin 64) (h : Fin 4) (d : Fin 64) :
    b46 j s (ix5 b i i' h d) = decay (aR j s b h) i i' d := by
  pointwise [b46, b45, b44, b43, b42, b41, b40, b39, b38, b37, b36, b35, b34, b33, b32, b31, b26_at, mask_at]
  unfold decay
  by_cases hi : i' ≤ i <;> simp [hi]

theorem b70_at (b : Fin 4) (i : Fin 64) (h : Fin 4) (e : Fin 128) :
    b70 j s (ix4 b i h e) = out (qR j s b h) (kR j s b h) (aR j s b h) (vR j s b h) (sR s b h) i e := by
  pointwise [b70, b30, b29, b28, b27, b56, b55, b54, b53, b52, b51, b50, b49, b48, b47, b46_at, b26_at, b5_at, b11_at, b17_at]
  rfl

theorem b76_at (n : Fin 64) (b : Fin 4) (i : Fin 64) (h : Fin 4) (e : Fin 128) :
    b76 j s (ix5 n b i h e) = if n = j then b70 j s (ix4 b i h e) else s.main_v13_7 (ix5 n b i h e) := by
  pointwise [b76, b75, b74, b73, b72, b71]
  have hj := j.isLt
  have e0 : Host.clampedStart S64x4x64x4x128 S1x4x64x4x128 rfl (starts j) 0 = j.val := start_val j hj
  have e1 : Host.clampedStart S64x4x64x4x128 S1x4x64x4x128 rfl (starts j) 1 = 0 := rfl
  have e2 : Host.clampedStart S64x4x64x4x128 S1x4x64x4x128 rfl (starts j) 2 = 0 := rfl
  have e3 : Host.clampedStart S64x4x64x4x128 S1x4x64x4x128 rfl (starts j) 3 = 0 := rfl
  have e4 : Host.clampedStart S64x4x64x4x128 S1x4x64x4x128 rfl (starts j) 4 = 0 := rfl
  split
  · next hin =>
    have h0 : Host.clampedStart S64x4x64x4x128 S1x4x64x4x128 rfl (starts j) 0 ≤ n.val
      ∧ n.val < Host.clampedStart S64x4x64x4x128 S1x4x64x4x128 rfl (starts j) 0 + 1 := hin.1
    rw [e0] at h0
    rw [if_pos (Fin.ext (by omega))]
    rfl
  · next hin =>
    rw [if_neg]
    intro hn
    refine hin ⟨?_, ?_, ?_, ?_, ?_⟩
    · show Host.clampedStart S64x4x64x4x128 S1x4x64x4x128 rfl (starts j) 0 ≤ n.val
        ∧ n.val < Host.clampedStart S64x4x64x4x128 S1x4x64x4x128 rfl (starts j) 0 + 1
      rw [e0, hn]
      omega
    · exact e1.le.trans (Nat.zero_le _)
    · exact e2.le.trans (Nat.zero_le _)
    · exact e3.le.trans (Nat.zero_le _)
    · exact e4.le.trans (Nat.zero_le _)

end Cert.GlaRef

end
-- ==== Proof.GlaSpec.lean ====
/-
The whole recurrence as a function of its arguments: 64 chunks per batch entry and head, each taking the state the
one before left, and the normalised, gated output.
-/
module

public import proofs.«01_k».proof.Proof.GlaUnit

@[expose] public section

noncomputable section

namespace Cert.GlaSpec

open Idealize.ShloMosaic Cert.GlaUnit

/-- Queries, keys, log decays: batch, position, head, lane. -/
abbrev Lanes := (⟨4, ![4, 4096, 4, 64]⟩ : Shape).Idx → EReal
/-- Values: batch, position, head, lane. -/
abbrev Wide := (⟨4, ![4, 4096, 4, 128]⟩ : Shape).Idx → EReal
/-- Gates: batch, position, all heads' lanes. -/
abbrev Gates := (⟨3, ![4, 4096, 512]⟩ : Shape).Idx → EReal
abbrev Gain := (⟨1, ![128]⟩ : Shape).Idx → EReal

/-- Row `i` of chunk `n` in the sequence. -/
def pos (n : ℕ) (i : Fin 64) : Fin 4096 := ⟨(64 * n + i.val) % 4096, Nat.mod_lt _ (by decide)⟩

def rows (x : Lanes) (b h : Fin 4) (n : ℕ) : Rows := fun i d => x (ix4 b (pos n i) h d)
def vals (x : Wide) (b h : Fin 4) (n : ℕ) : Vals := fun i e => x (ix4 b (pos n i) h e)

/-- The state before chunk `n`. -/
def stateAt (k : Lanes) (v : Wide) (a : Lanes) (b h : Fin 4) : ℕ → Vals
  | 0 => fun _ _ => 0
  | n + 1 => next (rows k b h n) (rows a b h n) (vals v b h n) (stateAt k v a b h n)

/-- The output rows of chunk `n`. -/
def outAt (q k : Lanes) (v : Wide) (a : Lanes) (b h : Fin 4) (n : ℕ) : Vals :=
  out (rows q b h n) (rows k b h n) (rows a b h n) (vals v b h n) (stateAt k v a b h n)

/-- A row normalised by its root mean square, times the gain, times the gate. -/
def normed (o : Fin 128 → EReal) (g : Gain) (z : Fin 128 → EReal) (e : Fin 128) : EReal :=
  o e * Ideal.rsqrt (Ideal.div (∑ e' : Fin 128, o e' * o e') (Ideal.ofBits .f32 0x43000000#32) + Ideal.ofBits .f32 0x358637BD#32)
    * g (ix1 e) * z e

/-- Lane `e` of head `h` among the 512. -/
def wide (h : Fin 4) (e : Fin 128) : Fin 512 := ⟨128 * h.val + e.val, by omega⟩

def yAt (q k : Lanes) (v : Wide) (a : Lanes) (z : Gates) (g : Gain) (b h : Fin 4) (n : ℕ) (i : Fin 64) (e : Fin 128) : EReal :=
  normed (outAt q k v a b h n i) g (fun e' => z (ix3 b (pos n i) (wide h e'))) e

end Cert.GlaSpec

end
-- ==== Proof.RefVal.lean ====
/-
The reference's two results as the recurrence of its arguments.
-/
module

public import proofs.«01_k».proof.Proof.GlaRef
public import proofs.«01_k».proof.Proof.GlaSpec
public import proofs.«01_k».proof.Proof.RefRun

@[expose] public section

set_option maxRecDepth 16384

noncomputable section

namespace Cert.RefVal

open Idealize.ShloMosaic Idealize.ShloMosaic.TcCoe Idealize.SL.Sem
open Cert.ReferenceIdeal Cert.ReferenceIdeal.Gen Cert.GlaUnit Cert.GlaSpec Cert.GlaRef

variable (q k : Lanes) (v : Wide) (a : Lanes)

/-- The scan's states from given arguments. -/
def st : ℕ → Step.State Ideal
  | 0 => Step.init q k v a
  | n + 1 => Step.step n (st n)

theorem pos_eq (n i : Fin 64) (h : n.val * 64 + i.val < 4096) : (⟨n.val * 64 + i.val, h⟩ : Fin 4096) = pos n i :=
  Fin.ext (by show n.val * 64 + i.val = (64 * n.val + i.val) % 4096; omega)

theorem fixed (n : ℕ) : (st q k v a n).main_v13_0 = Step.A_main_v5 q k v a ∧ (st q k v a n).main_v13_1 = Step.A_main_v7 q k v a
    ∧ (st q k v a n).main_v13_2 = Step.A_main_v9 q k v a ∧ (st q k v a n).main_v13_3 = Step.A_main_v11 q k v a := by
  induction n with
  | zero => exact ⟨rfl, rfl, rfl, rfl⟩
  | succ n ih => exact ih

theorem qR_eq (n : Fin 64) (m : ℕ) (b h : Fin 4) : qR n (st q k v a m) b h = rows q b h n := by
  funext i d
  unfold qR rows
  rw [(fixed q k v a m).1]
  pointwise [Step.A_main_v5, Step.A_main_v4]
  rw [pos_eq]

theorem kR_eq (n : Fin 64) (m : ℕ) (b h : Fin 4) : kR n (st q k v a m) b h = rows k b h n := by
  funext i d
  unfold kR rows
  rw [(fixed q k v a m).2.1]
  pointwise [Step.A_main_v7, Step.A_main_v6]
  rw [pos_eq]

theorem vR_eq (n : Fin 64) (m : ℕ) (b h : Fin 4) : vR n (st q k v a m) b h = vals v b h n := by
  funext i d
  unfold vR vals
  rw [(fixed q k v a m).2.2.1]
  pointwise [Step.A_main_v9, Step.A_main_v8]
  rw [pos_eq]

theorem aR_eq (n : Fin 64) (m : ℕ) (b h : Fin 4) : aR n (st q k v a m) b h = rows a b h n := by
  funext i d
  unfold aR rows
  rw [(fixed q k v a m).2.2.2]
  pointwise [Step.A_main_v11, Step.A_main_v10]
  rw [pos_eq]

theorem sR_eq (n : ℕ) (hn : n ≤ 64) (b h : Fin 4) : sR (st q k v a n) b h = stateAt k v a b h n := by
  induction n with
  | zero =>
    funext d e
    unfold sR
    show Step.K_main_v0 (F := Ideal) (ix4 b h d e) = 0
    pointwise [Step.K_main_v0, Step.K_main_cst]
  | succ n ih =>
    have ih := ih (by omega)
    funext d e
    have h69 := b69_at ⟨n, by omega⟩ (st q k v a n) b h d e
    rw [kR_eq, aR_eq, vR_eq, ih] at h69
    exact h69

theorem outs (N : ℕ) (hN : N ≤ 64) (n : Fin 64) (hn : n.val < N) (b : Fin 4) (i : Fin 64) (h : Fin 4) (e : Fin 128) :
    (st q k v a N).main_v13_7 (ix5 n b i h e) = outAt q k v a b h n i e := by
  induction N with
  | zero => omega
  | succ N ih =>
    have h76 := b76_at ⟨N, by omega⟩ (st q k v a N) n b i h e
    refine h76.trans ?_
    split
    · next he =>
      obtain rfl : n.val = N := congrArg Fin.val he
      rw [b70_at, qR_eq, kR_eq, aR_eq, vR_eq, sR_eq _ _ _ _ n.val (by omega)]
      rfl
    · next he =>
      exact ih (by omega) (by have : n.val ≠ N := fun h' => he (Fin.ext h')
                              omega)

theorem R34_of (s : Step.State Ideal) (b : Fin 4) (p : Fin 2) (e l : Fin 128) :
    Step.R_main_v34 s (ix4 b p e l) = sR s b ⟨2 * p.val + l.val / 64, by omega⟩ ⟨l.val % 64, by omega⟩ e := by
  have hh : (⟨2 * p.val + l.val / 64, by omega⟩ : Fin 4) = ⟨p.val * 2 + l.val / 64, by omega⟩ :=
    Fin.ext (by show 2 * p.val + l.val / 64 = p.val * 2 + l.val / 64; omega)
  rw [hh]
  unfold sR
  pointwise [Step.R_main_v34]

theorem R34_at (b : Fin 4) (p : Fin 2) (e l : Fin 128) :
    Step.R_main_v34 (st q k v a 64) (ix4 b p e l)
      = stateAt k v a b ⟨2 * p.val + l.val / 64, by omega⟩ 64 ⟨l.val % 64, by omega⟩ e := by
  rw [R34_of, sR_eq q k v a 64 le_rfl]

/-- The scan's outputs as the reshaped array. -/
theorem R35_of (s : Step.State Ideal) (z : Gates) (g : Gain) (r : Fin 16384) (l : Fin 512) :
    Step.R_main_v35 s z g (ix2 r l)
      = normed (fun e => s.main_v13_7 (ix5 ⟨r.val % 4096 / 64, by omega⟩ ⟨r.val / 4096, by omega⟩ ⟨r.val % 4096 % 64, by omega⟩ ⟨l.val / 128, by omega⟩ e))
        g (fun _ => z (ix3 ⟨r.val / 4096, by omega⟩ ⟨r.val % 4096, by omega⟩ l)) ⟨l.val % 128, by omega⟩ := by
  unfold normed
  pointwise [Step.R_main_v35]

theorem R35_at (z : Gates) (g : Gain) (r : Fin 16384) (l : Fin 512) :
    Step.R_main_v35 (st q k v a 64) z g (ix2 r l)
      = yAt q k v a z g ⟨r.val / 4096, by omega⟩ ⟨l.val / 128, by omega⟩ (r.val % 4096 / 64) ⟨r.val % 4096 % 64, by omega⟩ ⟨l.val % 128, by omega⟩ := by
  rw [R35_of]
  unfold yAt normed
  simp only [outs q k v a 64 le_rfl _ (Fin.isLt _)]
  have h1 : (⟨r.val % 4096, by omega⟩ : Fin 4096) = pos (r.val % 4096 / 64) ⟨r.val % 4096 % 64, by omega⟩ :=
    Fin.ext (by show r.val % 4096 = (64 * (r.val % 4096 / 64) + r.val % 4096 % 64) % 4096; omega)
  have h2 : l = wide ⟨l.val / 128, by omega⟩ ⟨l.val % 128, by omega⟩ :=
    Fin.ext (by show l.val = 128 * (l.val / 128) + l.val % 128; omega)
  rw [h1, ← h2]

end Cert.RefVal

end
-- ==== Proof.GlaVec.lean ====
/-
One chunk of the kernel for one pair of heads, as functions of the blocks it loads: what the kernel's text computes in
each of its 32 unrolled copies.
-/
module

public import Idealize.ShloMosaic.Lib.Pointwise
public import proofs.«01_k».proof.Proof.Gen.KernelIdeal.Skeleton

@[expose] public section

noncomputable section

namespace Cert.GlaVec

open Idealize.ShloMosaic
open Cert.KernelIdeal Cert.KernelIdeal.Gen

variable {F : FTy → Type} [FloatOps F]

/-- The running sums of the log decays: the lower triangle of ones times the rounded decays and times what the rounding left. -/
def bcV (la : Vec F S64x128 .f32) : FVec F S64x128 .f32 :=
  have x : FVec F S64x128 .f32 := shapeCast S64x128 la shapeCasts_S64x128_S64x128
  have hi : FVec F S64x128 .bf16 := truncf .bf16 x bitsLt_bf16_f32
  have lo : FVec F S64x128 .bf16 := truncf .bf16 (subf x (extf .f32 hi bitsLt_bf16_f32)) bitsLt_bf16_f32
  addf (matmul dot_S64x64_S64x128_S64x128_1_0_0_1_n_n none (k0_pay5 (F := F)) hi (constant S64x128 .f32 0x00000000#32))
    (matmul dot_S64x64_S64x128_S64x128_1_0_0_1_n_n none (k0_pay5 (F := F)) lo (constant S64x128 .f32 0x00000000#32))

/-- The last row of the running sums, and their middle row. -/
def lastV (la : Vec F S64x128 .f32) : FVec F S1x128 .f32 :=
  extractStridedSlice S1x128 ![63, 0] (bcV la) slices_S64x128_o63_0_S1x128
def midV (la : Vec F S64x128 .f32) : FVec F S1x128 .f32 :=
  extractStridedSlice S1x128 ![31, 0] (bcV la) slices_S64x128_o31_0_S1x128

/-- The keys decayed to the end of the chunk. -/
def kendV (la k : Vec F S64x128 .f32) : FVec F S64x128 .f32 :=
  mulf (shapeCast S64x128 k shapeCasts_S64x128_S64x128)
    (exp (subf (broadcastTo S64x128 (lastV la) broadcasts_S1x128_S64x128) (bcV la)))

/-- What one head's values and keys add to the pair's state, the keys masked to the head's lanes by `m`. -/
def updV (m : FVec F S1x128 .f32) (la k v : Vec F S64x128 .f32) : FVec F S128x128 .f32 :=
  matmul dot_S64x128_S64x128_S128x128_0_0_1_1_n_n none
    (truncf .bf16 (shapeCast S64x128 v shapeCasts_S64x128_S64x128 : FVec F S64x128 .f32) bitsLt_bf16_f32)
    (truncf .bf16 (mulf (kendV la k) (broadcastTo S64x128 m broadcasts_S1x128_S64x128)) bitsLt_bf16_f32)
    (constant S128x128 .f32 0x00000000#32)

/-- The pair's state after the chunk. -/
def stV (la k v0 v1 : Vec F S64x128 .f32) (st : FVec F S128x128 .f32) : FVec F S128x128 .f32 :=
  addf (mulf st (broadcastTo S128x128 (exp (lastV la)) broadcasts_S1x128_S128x128))
    (addf (updV k0_pay6 la k v0) (updV k0_pay7 la k v1))

/-- The masked products of the head's queries and keys, scaled about the middle row. -/
def attV (m : FVec F S1x128 .f32) (la q k : Vec F S64x128 .f32) : FVec F S64x64 .bf16 :=
  truncf .bf16 (select k0_pay4
    (matmul dot_S64x128_S64x128_S64x64_1_1_0_0_n_n none
      (truncf .bf16 (mulf (mulf (shapeCast S64x128 q shapeCasts_S64x128_S64x128)
        (exp (subf (bcV la) (broadcastTo S64x128 (midV la) broadcasts_S1x128_S64x128))))
        (broadcastTo S64x128 m broadcasts_S1x128_S64x128)) bitsLt_bf16_f32)
      (truncf .bf16 (mulf (shapeCast S64x128 k shapeCasts_S64x128_S64x128)
        (exp (subf (broadcastTo S64x128 (midV la) broadcasts_S1x128_S64x128) (bcV la)))) bitsLt_bf16_f32)
      (constant S64x64 .f32 0x00000000#32))
    (broadcast S64x64 (Scalar.ofBits .f32 0x00000000#32))) bitsLt_bf16_f32

/-- One head's output rows: the chunk's own part plus the state's part. -/
def oV (m : FVec F S1x128 .f32) (la q k v : Vec F S64x128 .f32) (st : FVec F S128x128 .f32) : FVec F S64x128 .f32 :=
  addf (matmul dot_S64x64_S64x128_S64x128_1_0_0_1_n_n none (attV m la q k)
      (truncf .bf16 (shapeCast S64x128 v shapeCasts_S64x128_S64x128 : FVec F S64x128 .f32) bitsLt_bf16_f32)
      (constant S64x128 .f32 0x00000000#32))
    (matmul dot_S64x128_S128x128_S64x128_1_1_0_0_n_n none
      (truncf .bf16 (mulf (mulf (shapeCast S64x128 q shapeCasts_S64x128_S64x128) (exp (bcV la)))
        (broadcastTo S64x128 m broadcasts_S1x128_S64x128)) bitsLt_bf16_f32)
      (truncf .bf16 st bitsLt_bf16_f32) (constant S64x128 .f32 0x00000000#32))

/-- Rows normalised by their root mean square, times the gain, times the gate. -/
def yV (g : Vec F S1x128 .f32) (z : Vec F S64x128 .f32) (o : FVec F S64x128 .f32) : FVec F S64x128 .bf16 :=
  truncf .bf16 (mulf (mulf (mulf o (broadcastTo S64x128
      (rsqrt (addf (divf (shapeCast S64x1 (multiReduction .add [1] S64 (mulf o o) 0x00000000#32 reduces_S64x128_S64 (.inl rfl) rfl)
        shapeCasts_S64_S64x1) (broadcast S64x1 (Scalar.ofBits .f32 0x43000000#32))) (broadcast S64x1 (Scalar.ofBits .f32 0x358637BD#32))))
      broadcasts_S64x1_S64x128)) (broadcastTo S64x128 (shapeCast S1x128 g shapeCasts_S1x128_S1x128) broadcasts_S1x128_S64x128))
    (shapeCast S64x128 z shapeCasts_S64x128_S64x128)) bitsLt_bf16_f32

/-- A 64 by 128 block of an array, from row `a` and lane `b`. -/
def blk {W : ℕ} (hW : 0 < W) (x : (⟨2, ![1024, W]⟩ : Shape).Idx → F .f32) (a b : ℕ) : Vec F S64x128 .f32 :=
  fun i => x (ix2 ⟨(a + (i 0).val) % 1024, Nat.mod_lt _ (by decide)⟩ ⟨(b + (i 1).val) % W, Nat.mod_lt _ hW⟩)

abbrev blk2 (x : Vec F S1024x256 .f32) (a b : ℕ) : Vec F S64x128 .f32 := blk (W := 256) (by decide) x a b
abbrev blk5 (x : Vec F S1024x512 .f32) (a b : ℕ) : Vec F S64x128 .f32 := blk (W := 512) (by decide) x a b

/-- The pair's state before chunk `n` of the block, from the state `s` the block starts with. -/
def seqV (k : Vec F S1024x256 .f32) (v : Vec F S1024x512 .f32) (la : Vec F S1024x256 .f32) (pr : ℕ) (s : FVec F S128x128 .f32) :
    ℕ → FVec F S128x128 .f32
  | 0 => s
  | n + 1 => stV (blk2 la (64 * n) (128 * pr)) (blk2 k (64 * n) (128 * pr)) (blk5 v (64 * n) (256 * pr))
      (blk5 v (64 * n) (256 * pr + 128)) (seqV k v la pr s n)

/-- The mask of the first and of the second head's 64 lanes. -/
def maskV : ℕ → FVec F S1x128 .f32
  | 0 => k0_pay6
  | _ + 1 => k0_pay7

/-- What the kernel stores for chunk `n`, pair `pr`, head `hh` of the pair. -/
def pieceV (q k : Vec F S1024x256 .f32) (v : Vec F S1024x512 .f32) (la : Vec F S1024x256 .f32) (z : Vec F S1024x512 .f32)
    (g : Vec F S1x128 .f32) (s : FVec F S128x128 .f32) (n pr hh : ℕ) : FVec F S64x128 .bf16 :=
  yV g (blk5 z (64 * n) (256 * pr + 128 * hh))
    (oV (maskV hh) (blk2 la (64 * n) (128 * pr)) (blk2 q (64 * n) (128 * pr)) (blk2 k (64 * n) (128 * pr))
      (blk5 v (64 * n) (256 * pr + 128 * hh)) (seqV k v la pr s n))

/-- A pair's slab of a state array of two slabs, as the kernel loads it. -/
def slab (xs : Vec F S2x128x128 .f32) (pr : ℕ) : Vec F S1x128x128 .f32 :=
  fun i => xs (ix3 ⟨pr % 2, Nat.mod_lt _ (by decide)⟩ (i 1) (i 2))

/-- A pair's starting state. -/
def startV (xs : Vec F S2x128x128 .f32) (pr : ℕ) : FVec F S128x128 .f32 :=
  shapeCast S128x128 (slab xs pr) shapeCasts_S1x128x128_S128x128

/-- The rows the kernel stores for one block of 1024 positions, at a row and a lane. -/
def rowsV (q k : Vec F S1024x256 .f32) (v : Vec F S1024x512 .f32) (la : Vec F S1024x256 .f32) (z : Vec F S1024x512 .f32)
    (g : Vec F S1x128 .f32) (xs : Vec F S2x128x128 .f32) : Vec F S1024x512 .bf16 := fun y =>
  pieceV q k v la z g (startV xs ((y 1).val / 256)) ((y 0).val / 64) ((y 1).val / 256) ((y 1).val % 256 / 128)
    (ix2 ⟨(y 0).val % 64, Nat.mod_lt _ (by decide)⟩ ⟨(y 1).val % 128, Nat.mod_lt _ (by decide)⟩)

/-- The two states after the block. -/
def endV (k : Vec F S1024x256 .f32) (v : Vec F S1024x512 .f32) (la : Vec F S1024x256 .f32) (xs : Vec F S2x128x128 .f32) (pr : ℕ) :
    FVec F S128x128 .f32 := seqV k v la pr (startV xs pr) 16
def endS (k : Vec F S1024x256 .f32) (v : Vec F S1024x512 .f32) (la : Vec F S1024x256 .f32) (xs : Vec F S2x128x128 .f32) :
    Vec F S2x128x128 .f32 := fun y => endV k v la xs (y 0).val (ix2 (y 1) (y 2))
def endO (k : Vec F S1024x256 .f32) (v : Vec F S1024x512 .f32) (la : Vec F S1024x256 .f32) (xs : Vec F S2x128x128 .f32) :
    Vec F S1x2x128x128 .f32 := fun y => endV k v la xs (y 1).val (ix2 (y 2) (y 3))

end Cert.GlaVec

end
-- ==== Proof.GlaRead.lean ====
/-
The kernel's chunk functions read at an index on the extended reals, and one head's part of them: the recurrence's unit.
-/
module

public import proofs.«01_k».proof.Proof.GlaVec
public import proofs.«01_k».proof.Proof.GlaUnit

@[expose] public section

set_option maxRecDepth 16384

noncomputable section

namespace Cert.GlaRead

open Idealize.ShloMosaic
open Cert.KernelIdeal Cert.KernelIdeal.Gen Cert.GlaVec Cert.GlaUnit

theorem sle_small (i j : ℕ) (hi : i < 64) (hj : j < 64) :
    IntOp.cmpi CmpIPredicate.sle (BitVec.ofNat 32 j) (BitVec.ofNat 32 i) = if j ≤ i then 1#1 else 0#1 := by
  have h (n : ℕ) (hn : n < 64) : (BitVec.ofNat 32 n).toInt = n := by
    rw [BitVec.toInt_eq_toNat_of_lt (by rw [BitVec.toNat_ofNat]; omega), BitVec.toNat_ofNat]; omega
  simp only [IntOp.cmpi, BitVec.sle, h i hi, h j hj]
  by_cases hij : j ≤ i <;> simp [hij]

theorem slt_small (j : ℕ) (hj : j < 128) :
    IntOp.cmpi CmpIPredicate.slt (BitVec.ofNat 32 j) 64#32 = if j < 64 then 1#1 else 0#1 := by
  have h (n : ℕ) (hn : n < 128) : (BitVec.ofNat 32 n).toInt = n := by
    rw [BitVec.toInt_eq_toNat_of_lt (by rw [BitVec.toNat_ofNat]; omega), BitVec.toNat_ofNat]; omega
  simp only [IntOp.cmpi, BitVec.slt, h j hj, show (64#32).toInt = 64 from rfl]
  by_cases hij : j < 64 <;> simp [hij] <;> omega

theorem sge_small (j : ℕ) (hj : j < 128) :
    IntOp.cmpi CmpIPredicate.sge (BitVec.ofNat 32 j) 64#32 = if j < 64 then 0#1 else 1#1 := by
  have h : ∀ j : Fin 128, IntOp.cmpi CmpIPredicate.sge (BitVec.ofNat 32 j.val) 64#32 = if j.val < 64 then 0#1 else 1#1 := by decide
  exact h ⟨j, hj⟩

theorem tri_at (i j : Fin 64) : k0_pay5 (F := Ideal) (ix2 i j) = if j ≤ i then (1 : EReal) else 0 := by
  pointwise [k0_pay5, k0_pay4]
  rw [sle_small i.val j.val i.isLt j.isLt]
  by_cases h : j ≤ i
  · rw [if_pos h, if_pos (by exact h)]; rfl
  · rw [if_neg h, if_neg (by exact h)]; rfl

/-- Lane `d` of the pair's head `hh`. -/
def lane (hh : Fin 2) (d : Fin 64) : Fin 128 := ⟨64 * hh.val + d.val, by omega⟩

theorem mask_at (hh h' : Fin 2) (d : Fin 64) :
    maskV (F := Ideal) hh.val (ix2 (0 : Fin 1) (lane h' d)) = if hh = h' then (1 : EReal) else 0 := by
  have h0 : k0_pay6 (F := Ideal) (ix2 (0 : Fin 1) (lane h' d)) = if (0 : Fin 2) = h' then (1 : EReal) else 0 := by
    pointwise [k0_pay6]
    rw [slt_small _ (lane h' d).isLt]
    match h' with
    | 0 => rw [if_pos (by show 64 * 0 + d.val < 64; omega)]; rfl
    | 1 => rw [if_neg (by show ¬ 64 * 1 + d.val < 64; omega)]; rfl
  have h1 : k0_pay7 (F := Ideal) (ix2 (0 : Fin 1) (lane h' d)) = if (1 : Fin 2) = h' then (1 : EReal) else 0 := by
    pointwise [k0_pay7]
    rw [sge_small _ (lane h' d).isLt]
    match h' with
    | 0 => rw [if_pos (by show 64 * 0 + d.val < 64; omega)]; rfl
    | 1 => rw [if_neg (by show ¬ 64 * 1 + d.val < 64; omega)]; rfl
  match hh with
  | 0 => exact h0
  | 1 => exact h1

theorem sum_lanes (f : Fin 128 → EReal) : ∑ l, f l = ∑ d : Fin 64, f (lane 0 d) + ∑ d : Fin 64, f (lane 1 d) := by
  rw [Fin.sum_univ_add (a := 64) (b := 64) f]
  congr 1

/-- A 128-lane sum whose terms vanish off the head's lanes. -/
theorem sum_head (hh : Fin 2) (f : Fin 128 → EReal) (h : ∀ h' d, h' ≠ hh → f (lane h' d) = 0) : ∑ l, f l = ∑ d : Fin 64, f (lane hh d) := by
  rw [sum_lanes]
  match hh with
  | 0 => rw [Finset.sum_eq_zero (s := Finset.univ) (f := fun d => f (lane 1 d)) fun d _ => h 1 d (by decide), add_zero]
  | 1 => rw [Finset.sum_eq_zero (s := Finset.univ) (f := fun d => f (lane 0 d)) fun d _ => h 0 d (by decide), zero_add]

/-- The block's log decays are real numbers. -/
def Fin' (la : Vec Ideal S64x128 .f32) : Prop := ∀ j l, ∃ r : ℝ, la (ix2 j l) = (r : EReal)

abbrev headR (x : Vec Ideal S64x128 .f32) (hh : Fin 2) : Rows := fun i d => x (ix2 i (lane hh d))
abbrev headV (x : Vec Ideal S64x128 .f32) : Vals := fun i e => x (ix2 i e)
abbrev headS (st : FVec Ideal S128x128 .f32) (hh : Fin 2) : Vals := fun d e => st (ix2 e (lane hh d))

theorem bc_at (la : Vec Ideal S64x128 .f32) (hla : Fin' la) (i : Fin 64) (hh : Fin 2) (d : Fin 64) :
    bcV la (ix2 i (lane hh d)) = cum (headR la hh) i d := by
  pointwise [bcV]
  rw [Finset.sum_eq_zero (f := fun x => k0_pay5 (F := Ideal) (ix2 i x) * (la (ix2 x (lane hh d)) - la (ix2 x (lane hh d)))), add_zero]
  · refine Finset.sum_congr rfl fun j _ => ?_
    rw [tri_at]
    by_cases h : j ≤ i
    · rw [if_pos h, if_pos h, one_mul]
    · rw [if_neg h, if_neg h, zero_mul]
  · intro j _
    obtain ⟨r, hr⟩ := hla j (lane hh d)
    rw [hr, ← EReal.coe_sub, sub_self, EReal.coe_zero, mul_zero]

theorem coe_sum {ι : Type} (s : Finset ι) (f : ι → ℝ) : ((∑ j ∈ s, f j : ℝ) : EReal) = ∑ j ∈ s, ((f j : ℝ) : EReal) := by
  classical
  induction s using Finset.induction_on with
  | empty => simp
  | insert a s ha ih => rw [Finset.sum_insert ha, Finset.sum_insert ha, EReal.coe_add, ih]

theorem cum_real (la : Vec Ideal S64x128 .f32) (hla : Fin' la) (i : Fin 64) (hh : Fin 2) (d : Fin 64) :
    ∃ r : ℝ, cum (headR la hh) i d = (r : EReal) := by
  choose f hf using hla
  refine ⟨∑ j : Fin 64, if j ≤ i then f j (lane hh d) else 0, ?_⟩
  unfold cum headR
  rw [coe_sum]
  refine Finset.sum_congr rfl fun j _ => ?_
  by_cases h : j ≤ i
  · rw [if_pos h, if_pos h, hf]
  · rw [if_neg h, if_neg h, EReal.coe_zero]

theorem st_at (la k v0 v1 : Vec Ideal S64x128 .f32) (st : FVec Ideal S128x128 .f32) (hla : Fin' la) (hh : Fin 2) (d : Fin 64) (e : Fin 128) :
    stV la k v0 v1 st (ix2 e (lane hh d))
      = next (headR k hh) (headR la hh) (headV (if hh = 0 then v0 else v1)) (headS st hh) d e := by
  have m0 : k0_pay6 (F := Ideal) (ix2 (0 : Fin 1) (lane hh d)) = _ := mask_at 0 hh d
  have m1 : k0_pay7 (F := Ideal) (ix2 (0 : Fin 1) (lane hh d)) = _ := mask_at 1 hh d
  pointwise [stV, updV, kendV, lastV]
  simp only [bc_at la hla]
  rw [m0, m1]
  unfold next
  congr 1
  match hh with
  | 0 =>
    rw [Finset.sum_eq_zero (f := fun x => v1 (ix2 x e) * _), add_zero]
    · refine Finset.sum_congr rfl fun j _ => ?_
      simp only [if_true, mul_one]
      exact mul_comm _ _
    · intro j _; rw [if_neg (by decide), mul_zero, mul_zero]
  | 1 =>
    rw [Finset.sum_eq_zero (f := fun x => v0 (ix2 x e) * _), zero_add]
    · refine Finset.sum_congr rfl fun j _ => ?_
      simp only [if_true, mul_one]
      exact mul_comm _ _
    · intro j _; rw [if_neg (by decide), mul_zero, mul_zero]

theorem exp_split (a b c : ℝ) : Ideal.exp ((a : EReal) - b) * Ideal.exp ((b : EReal) - c) = Ideal.exp ((a : EReal) - c) := by
  rw [← EReal.coe_sub, ← EReal.coe_sub, ← EReal.coe_sub]
  show ((Real.exp (a - b) : ℝ) : EReal) * ((Real.exp (b - c) : ℝ) : EReal) = ((Real.exp (a - c) : ℝ) : EReal)
  rw [← EReal.coe_mul, ← Real.exp_add]
  congr 2; ring

theorem o_at (la q k v : Vec Ideal S64x128 .f32) (st : FVec Ideal S128x128 .f32) (hla : Fin' la) (hh : Fin 2) (i : Fin 64) (e : Fin 128) :
    oV (maskV hh.val) la q k v st (ix2 i e) = out (headR q hh) (headR k hh) (headR la hh) (headV v) (headS st hh) i e := by
  have hm := mask_at hh
  generalize maskV (F := Ideal) hh.val = m at hm
  pointwise [oV, attV, lastV, midV, k0_pay4]
  rw [add_comm]
  unfold out
  congr 1
  · rw [sum_head hh]
    · refine Finset.sum_congr rfl fun d _ => ?_
      rw [hm, if_pos rfl, mul_one, bc_at la hla]
      exact mul_comm _ _
    · intro h' d hne
      rw [hm, if_neg (Ne.symm hne), mul_zero, zero_mul]
  · refine Finset.sum_congr rfl fun j _ => ?_
    rw [sle_small i.val j.val i.isLt j.isLt]
    by_cases hij : j ≤ i
    · rw [if_pos (by exact hij)]
      show (∑ l, _) * v (ix2 j e) = _
      rw [mul_comm, sum_head hh]
      · congr 1
        refine Finset.sum_congr rfl fun d _ => ?_
        rw [hm, if_pos rfl, mul_one]
        simp only [bc_at la hla]
        unfold decay
        rw [if_pos hij]
        obtain ⟨a, ha⟩ := cum_real la hla i hh d
        obtain ⟨b, hb⟩ := cum_real la hla 31 hh d
        obtain ⟨c, hc⟩ := cum_real la hla j hh d
        rw [ha, hb, hc, ← exp_split a b c]
        generalize Ideal.exp ((a : EReal) - b) = E1
        generalize Ideal.exp ((b : EReal) - c) = E2
        exact mul_mul_mul_comm _ _ _ _
      · intro h' d hne
        rw [hm, if_neg (Ne.symm hne), mul_zero, zero_mul]
    · rw [if_neg (by exact hij)]
      show (0 : EReal) = _
      rw [Finset.sum_eq_zero, mul_zero]
      intro d _
      unfold decay
      rw [if_neg hij, mul_zero]

theorem y_at (g : Vec Ideal S1x128 .f32) (z : Vec Ideal S64x128 .f32) (o : FVec Ideal S64x128 .f32) (i : Fin 64) (e : Fin 128) :
    yV g z o (ix2 i e) = o (ix2 i e) * Ideal.rsqrt (Ideal.div (∑ e' : Fin 128, o (ix2 i e') * o (ix2 i e'))
      (Ideal.ofBits .f32 0x43000000#32) + Ideal.ofBits .f32 0x358637BD#32) * g (ix2 (0 : Fin 1) e) * z (ix2 i e) := by
  pointwise [yV]

end Cert.GlaRead

end
-- ==== Proof.GlaVal.lean ====
/-
The blocks of a grid point read as chunks of the whole sequence: the states and the rows the kernel computes from them
are the recurrence's.
-/
module

public import proofs.«01_k».proof.Proof.GlaRead
public import proofs.«01_k».proof.Proof.GlaSpec

@[expose] public section

set_option maxRecDepth 16384

noncomputable section

namespace Cert.GlaVal

open Idealize.ShloMosaic
open Cert.KernelIdeal Cert.KernelIdeal.Gen Cert.GlaVec Cert.GlaUnit Cert.GlaSpec Cert.GlaRead

/-- A block of 1024 rows is the argument's rows `1024 * (t % 4)` on of batch entry `t / 4`. -/
def Cut (t : ℕ) (x : Vec Ideal S1024x256 .f32) (X : Lanes) : Prop :=
  ∀ (r : Fin 1024) (l : Fin 256) (b : Fin 4) (p : Fin 4096) (h : Fin 4) (d : Fin 64),
    b.val = t / 4 → p.val = 1024 * (t % 4) + r.val → l.val = 64 * h.val + d.val → x (ix2 r l) = X (ix4 b p h d)
def CutW (t : ℕ) (x : Vec Ideal S1024x512 .f32) (X : Wide) : Prop :=
  ∀ (r : Fin 1024) (l : Fin 512) (b : Fin 4) (p : Fin 4096) (h : Fin 4) (d : Fin 128),
    b.val = t / 4 → p.val = 1024 * (t % 4) + r.val → l.val = 128 * h.val + d.val → x (ix2 r l) = X (ix4 b p h d)
def CutZ (t : ℕ) (x : Vec Ideal S1024x512 .f32) (X : Gates) : Prop :=
  ∀ (r : Fin 1024) (l : Fin 512) (b : Fin 4) (p : Fin 4096),
    b.val = t / 4 → p.val = 1024 * (t % 4) + r.val → x (ix2 r l) = X (ix3 b p l)

variable {t : ℕ} {b h : Fin 4} (hb : b.val = t / 4) {n pr : ℕ} (hn : n < 16) (hpr : pr < 2) {hh : Fin 2} (hhd : h.val = 2 * pr + hh.val)
include hb hn hpr hhd

theorem rows_eq {x : Vec Ideal S1024x256 .f32} {X : Lanes} (hx : Cut t x X) :
    headR (blk2 x (64 * n) (128 * pr)) hh = rows X b h (16 * (t % 4) + n) := by
  funext i d
  have h1 := i.isLt
  have h2 := d.isLt
  have h3 := hh.isLt
  refine hx _ _ b (pos (16 * (t % 4) + n) i) h d hb ?_ ?_
  · show (64 * (16 * (t % 4) + n) + i.val) % 4096 = 1024 * (t % 4) + (64 * n + i.val) % 1024
    omega
  · show (128 * pr + (64 * hh.val + d.val)) % 256 = 64 * h.val + d.val
    omega

theorem vals_eq {x : Vec Ideal S1024x512 .f32} {X : Wide} (hx : CutW t x X) :
    headV (blk5 x (64 * n) (256 * pr + 128 * hh.val)) = vals X b h (16 * (t % 4) + n) := by
  funext i d
  have h1 := i.isLt
  have h2 := d.isLt
  have h3 := hh.isLt
  refine hx _ _ b (pos (16 * (t % 4) + n) i) h d hb ?_ ?_
  · show (64 * (16 * (t % 4) + n) + i.val) % 4096 = 1024 * (t % 4) + (64 * n + i.val) % 1024
    omega
  · show (256 * pr + 128 * hh.val + d.val) % 512 = 128 * h.val + d.val
    omega

theorem gate_eq {x : Vec Ideal S1024x512 .f32} {X : Gates} (hx : CutZ t x X) (i : Fin 64) (e : Fin 128) :
    blk5 x (64 * n) (256 * pr + 128 * hh.val) (ix2 i e) = X (ix3 b (pos (16 * (t % 4) + n) i) (wide h e)) := by
  have h1 := i.isLt
  have h2 := e.isLt
  have h3 := hh.isLt
  have hw : (⟨(256 * pr + 128 * hh.val + e.val) % 512, Nat.mod_lt _ (by decide)⟩ : Fin 512) = wide h e := by
    apply Fin.ext
    show (256 * pr + 128 * hh.val + e.val) % 512 = 128 * h.val + e.val
    omega
  rw [← hw]
  refine hx _ _ b (pos (16 * (t % 4) + n) i) hb ?_
  show (64 * (16 * (t % 4) + n) + i.val) % 4096 = 1024 * (t % 4) + (64 * n + i.val) % 1024
  omega

omit hhd in
theorem fin_eq {x : Vec Ideal S1024x256 .f32} {X : Lanes} (hx : Cut t x X) (hX : ∀ i, ∃ r : ℝ, X i = (r : EReal)) :
    Fin' (blk2 x (64 * n) (128 * pr)) := by
  intro i l
  have h1 := i.isLt
  have h2 := l.isLt
  have e := hx ⟨(64 * n + i.val) % 1024, Nat.mod_lt _ (by decide)⟩ ⟨(128 * pr + l.val) % 256, Nat.mod_lt _ (by decide)⟩ b
    (pos (16 * (t % 4) + n) i) ⟨(128 * pr + l.val) / 64, by omega⟩ ⟨l.val % 64, by omega⟩ hb
    (by show (64 * (16 * (t % 4) + n) + i.val) % 4096 = 1024 * (t % 4) + (64 * n + i.val) % 1024
        omega)
    (by show (128 * pr + l.val) % 256 = 64 * ((128 * pr + l.val) / 64) + l.val % 64
        omega)
  obtain ⟨r, hr⟩ := hX (ix4 b (pos (16 * (t % 4) + n) i) ⟨(128 * pr + l.val) / 64, by omega⟩ ⟨l.val % 64, by omega⟩)
  exact ⟨r, e.trans hr⟩

omit hn in
/-- The states inside a block, from the state before its first chunk. -/
theorem seq_eq {k la : Vec Ideal S1024x256 .f32} {v : Vec Ideal S1024x512 .f32} {K A : Lanes} {V : Wide} (hk : Cut t k K)
    (hla : Cut t la A) (hv : CutW t v V) (hA : ∀ i, ∃ r : ℝ, A i = (r : EReal)) {s : FVec Ideal S128x128 .f32}
    (hs : headS s hh = stateAt K V A b h (16 * (t % 4))) : ∀ n, n ≤ 16 →
    headS (seqV k v la pr s n) hh = stateAt K V A b h (16 * (t % 4) + n)
  | 0, _ => hs
  | n + 1, hn => by
    have ih := seq_eq hk hla hv hA hs n (by omega)
    have hn' : n < 16 := by omega
    have hvv : headV (if hh = 0 then blk5 v (64 * n) (256 * pr) else blk5 v (64 * n) (256 * pr + 128)) = vals V b h (16 * (t % 4) + n) := by
      rw [← vals_eq hb hn' hpr hhd hv]
      match hh with
      | 0 => rfl
      | 1 => rfl
    funext d e
    show stV (F := Ideal) (blk2 la (64 * n) (128 * pr)) (blk2 k (64 * n) (128 * pr)) (blk5 v (64 * n) (256 * pr))
      (blk5 v (64 * n) (256 * pr + 128)) (seqV k v la pr s n) (ix2 e (lane hh d))
      = next (rows K b h (16 * (t % 4) + n)) (rows A b h (16 * (t % 4) + n)) (vals V b h (16 * (t % 4) + n))
        (stateAt K V A b h (16 * (t % 4) + n)) d e
    rw [st_at _ _ _ _ _ (fin_eq hb hn' hpr hla hA), hvv, rows_eq hb hn' hpr hhd hk, rows_eq hb hn' hpr hhd hla, ih]

/-- The rows the kernel stores for a chunk, pair and head. -/
theorem piece_eq {q k la : Vec Ideal S1024x256 .f32} {v z : Vec Ideal S1024x512 .f32} {g : Vec Ideal S1x128 .f32} {Q K A : Lanes}
    {V : Wide} {Z : Gates} {G : Gain} (hq : Cut t q Q) (hk : Cut t k K)
    (hla : Cut t la A) (hv : CutW t v V) (hz : CutZ t z Z) (hg : ∀ e : Fin 128, g (ix2 (0 : Fin 1) e) = G (ix1 e))
    (hA : ∀ i, ∃ r : ℝ, A i = (r : EReal)) {s : FVec Ideal S128x128 .f32}
    (hs : headS s hh = stateAt K V A b h (16 * (t % 4))) (i : Fin 64) (e : Fin 128) :
    pieceV q k v la z g s n pr hh.val (ix2 i e) = yAt Q K V A Z G b h (16 * (t % 4) + n) i e := by
  have ho : ∀ e' : Fin 128, oV (maskV hh.val) (blk2 la (64 * n) (128 * pr)) (blk2 q (64 * n) (128 * pr)) (blk2 k (64 * n) (128 * pr))
      (blk5 v (64 * n) (256 * pr + 128 * hh.val)) (seqV k v la pr s n) (ix2 i e') = outAt Q K V A b h (16 * (t % 4) + n) i e' := by
    intro e'
    rw [o_at _ _ _ _ _ (fin_eq hb hn hpr hla hA), rows_eq hb hn hpr hhd hq, rows_eq hb hn hpr hhd hk, rows_eq hb hn hpr hhd hla,
      vals_eq hb hn hpr hhd hv, seq_eq hb hpr hhd hk hla hv hA hs n (by omega)]
    rfl
  unfold pieceV
  rw [y_at]
  simp only [ho]
  rw [hg, gate_eq hb hn hpr hhd hz]
  rfl

end Cert.GlaVal

end
-- ==== Proof.GlaBlk.lean ====
/-
The blocks the kernel's windows stage, as parts of the kernel's arguments.
-/
module

public import proofs.«01_k».proof.Proof.GlaVec
public import proofs.«01_k».proof.Proof.Gen.KernelIdeal.Value
public import Idealize.ShloMosaic.Lib.Pipeline.ValueKit
public import Idealize.ShloMosaic.Lib.Claim

@[expose] public section

set_option maxRecDepth 16384

noncomputable section

namespace Cert.GlaBlk

open Idealize.ShloMosaic Idealize.ShloMosaic.TcCoe
open Cert.KernelIdeal Cert.KernelIdeal.Gen

variable (m : (l : Loc nD τ sig) → Buf (Elt Ideal) l) (c : Dev nD) (t : Fin cfg0.N)

theorem idx_val : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 4) = t.val / 4 ∧ win0_6.index t (1 : Fin 4) = 0 ∧ win0_6.index t (2 : Fin 4) = 0 ∧ win0_6.index t (3 : Fin 4) = 0) := by
  decide +kernel

/-- A row of the block of window 0 is a row of the argument it is cut from. -/
theorem q_blk (r : Fin 1024) (l : Fin 256) (b : Fin 4) (p : Fin 4096) (h : Fin 4) (d : Fin 64)
    (hb : b.val = t.val / 4) (hp : p.val = 1024 * (t.val % 4) + r.val) (hl : l.val = 64 * h.val + d.val) :
    iblk m c 0 t (ix2 r l) = m ((c : Thread nD τ).loc main_arg0) (ix4 b p h d) := by
  have ht : t.val < 16 := t.isLt
  have hI := idx_val t
  unfold iblk
  blk_simp
  entry_read
  pointwise
  blk_ext [hI]

/-- A row of the block of window 1 is a row of the argument it is cut from. -/
theorem k_blk (r : Fin 1024) (l : Fin 256) (b : Fin 4) (p : Fin 4096) (h : Fin 4) (d : Fin 64)
    (hb : b.val = t.val / 4) (hp : p.val = 1024 * (t.val % 4) + r.val) (hl : l.val = 64 * h.val + d.val) :
    iblk m c 1 t (ix2 r l) = m ((c : Thread nD τ).loc main_arg1) (ix4 b p h d) := by
  have ht : t.val < 16 := t.isLt
  have hI := idx_val t
  unfold iblk
  blk_simp
  entry_read
  pointwise
  blk_ext [hI]

/-- A row of the block of window 2 is a row of the argument it is cut from. -/
theorem v_blk (r : Fin 1024) (l : Fin 512) (b : Fin 4) (p : Fin 4096) (h : Fin 4) (d : Fin 128)
    (hb : b.val = t.val / 4) (hp : p.val = 1024 * (t.val % 4) + r.val) (hl : l.val = 128 * h.val + d.val) :
    iblk m c 2 t (ix2 r l) = m ((c : Thread nD τ).loc main_arg2) (ix4 b p h d) := by
  have ht : t.val < 16 := t.isLt
  have hI := idx_val t
  unfold iblk
  blk_simp
  entry_read
  pointwise
  blk_ext [hI]

/-- A row of the block of window 3 is a row of the argument it is cut from. -/
theorem la_blk (r : Fin 1024) (l : Fin 256) (b : Fin 4) (p : Fin 4096) (h : Fin 4) (d : Fin 64)
    (hb : b.val = t.val / 4) (hp : p.val = 1024 * (t.val % 4) + r.val) (hl : l.val = 64 * h.val + d.val) :
    iblk m c 3 t (ix2 r l) = m ((c : Thread nD τ).loc main_arg3) (ix4 b p h d) := by
  have ht : t.val < 16 := t.isLt
  have hI := idx_val t
  unfold iblk
  blk_simp
  entry_read
  pointwise
  blk_ext [hI]

theorem z_blk (r : Fin 1024) (l : Fin 512) (b : Fin 4) (p : Fin 4096)
    (hb : b.val = t.val / 4) (hp : p.val = 1024 * (t.val % 4) + r.val) :
    iblk m c 4 t (ix2 r l) = m ((c : Thread nD τ).loc main_arg4) (ix3 b p l) := by
  have ht : t.val < 16 := t.isLt
  have hI := idx_val t
  unfold iblk
  blk_simp
  entry_read
  pointwise
  blk_ext [hI]

theorem g_blk (l : Fin 128) : iblk m c 5 t (ix2 (0 : Fin 1) l) = m ((c : Thread nD τ).loc main_arg5) (ix1 l) := by
  have ht : t.val < 16 := t.isLt
  have hI := idx_val t
  unfold iblk
  blk_simp
  entry_read
  pointwise
  blk_ext [hI]

theorem s_blk (pr : Fin 2) (e l : Fin 128) : (k0_pay3 (iblk m c 6 t) : FVec Ideal S2x128x128 .f32) (ix3 pr e l) = 0 := by
  have ht : t.val < 16 := t.isLt
  have hI := idx_val t
  pointwise [k0_pay3]
  unfold iblk
  blk_simp
  entry_read
  pointwise

end Cert.GlaBlk

end
-- ==== Proof.GlaLink.lean ====
/-
How the kernel's loads and stores of one grid point are read: a load of part of a block is a block of the array, and the
stored pieces are the rows of one function.
-/
module

public import proofs.«01_k».proof.Proof.GlaVec
public import Idealize.ShloMosaic.Lib.Pipeline.ValueKit

@[expose] public section

noncomputable section

namespace Cert.GlaVec

open Idealize.ShloMosaic
open Cert.KernelIdeal Cert.KernelIdeal.Gen

variable {F : FTy → Type} [FloatOps F]

theorem rd2 (arg : Memref sig .tc .vmem S1024x256 .f32) (harg : arg.IsWhole) (x : Vec F S1024x256 .f32)
    (a b : ℕ) (inb : ∀ i, ![a, b] i + ![64, 128] i ≤ S1024x256.size i) :
    View.readAt (Elt F) arg.view (Rect.unit (s := S1024x256) ![a, b] ![64, 128] inb).toLoadRect (harg.unread x) = blk2 x a b := by
  rw [View.readAt_eq_ld, Memref.IsWhole.read_unread]
  have h0 := inb 0; have h1 := inb 1
  simp [S64x128, S1024x256] at h0 h1
  funext i; idx_vars i
  pointwise [blk2, blk]
  congr 2 <;> apply Fin.ext <;> simp <;> omega

theorem rd5 (arg : Memref sig .tc .vmem S1024x512 .f32) (harg : arg.IsWhole) (x : Vec F S1024x512 .f32)
    (a b : ℕ) (inb : ∀ i, ![a, b] i + ![64, 128] i ≤ S1024x512.size i) :
    View.readAt (Elt F) arg.view (Rect.unit (s := S1024x512) ![a, b] ![64, 128] inb).toLoadRect (harg.unread x) = blk5 x a b := by
  rw [View.readAt_eq_ld, Memref.IsWhole.read_unread]
  have h0 := inb 0; have h1 := inb 1
  simp [S64x128, S1024x512] at h0 h1
  funext i; idx_vars i
  pointwise [blk5, blk]
  congr 2 <;> apply Fin.ext <;> simp <;> omega

theorem rdg (arg : Memref sig .tc .vmem S1x128 .f32) (harg : arg.IsWhole) (x : Vec F S1x128 .f32)
    (inb : ∀ i, ![0, 0] i + ![1, 128] i ≤ S1x128.size i) :
    View.readAt (Elt F) arg.view (Rect.unit (s := S1x128) ![0, 0] ![1, 128] inb).toLoadRect (harg.unread x) = x := by
  rw [View.readAt_eq_ld, Memref.IsWhole.read_unread]
  funext i; idx_vars i
  pointwise
  rw [Subsingleton.elim i0 0]

theorem rds (arg : Memref sig .tc .vmem S2x128x128 .f32) (harg : arg.IsWhole) (x : Vec F S2x128x128 .f32)
    (a : ℕ) (inb : ∀ i, ![a, 0, 0] i + ![1, 128, 128] i ≤ S2x128x128.size i) :
    View.readAt (Elt F) arg.view (Rect.unit (s := S2x128x128) ![a, 0, 0] ![1, 128, 128] inb).toLoadRect (harg.unread x) = slab x a := by
  rw [View.readAt_eq_ld, Memref.IsWhole.read_unread]
  have h0 := inb 0
  simp [S2x128x128] at h0
  funext i; idx_vars i
  pointwise [slab]
  congr 2; apply Fin.ext; simp; omega

/-- One stored piece, read as rows of `rowsV`. -/
theorem piece_of (q k : Vec F S1024x256 .f32) (v : Vec F S1024x512 .f32) (la : Vec F S1024x256 .f32) (z : Vec F S1024x512 .f32)
    (g : Vec F S1x128 .f32) (xs : Vec F S2x128x128 .f32) (n pr hh : ℕ) (hn : n < 16) (hp : pr < 2) (hh' : hh < 2)
    (inb : ∀ i, ![64 * n, 256 * pr + 128 * hh] i + ![64, 128] i ≤ S1024x512.size i) (p : FVec F S64x128 .bf16)
    (h : p = pieceV q k v la z g (startV xs pr) n pr hh)
    (x : (Rect.unit (s := S1024x512) ![64 * n, 256 * pr + 128 * hh] ![64, 128] inb).shape.Idx) :
    p x = rowsV q k v la z g xs ((Rect.unit (s := S1024x512) ![64 * n, 256 * pr + 128 * hh] ![64, 128] inb).emb x) := by
  subst h
  have e0 : (((Rect.unit (s := S1024x512) ![64 * n, 256 * pr + 128 * hh] ![64, 128] inb).emb x) 0).val = 64 * n + (x 0).val := by
    show 64 * n + 1 * (x 0).val = _; omega
  have e1 : (((Rect.unit (s := S1024x512) ![64 * n, 256 * pr + 128 * hh] ![64, 128] inb).emb x) 1).val
      = 256 * pr + 128 * hh + (x 1).val := by
    show 256 * pr + 128 * hh + 1 * (x 1).val = _; omega
  have b0 : (x 0).val < 64 := (x 0).isLt
  have b1 : (x 1).val < 128 := (x 1).isLt
  unfold rowsV
  have q1 : (256 * pr + 128 * hh + (x 1).val) / 256 = pr := by omega
  have q2 : (64 * n + (x 0).val) / 64 = n := by omega
  have q3 : (256 * pr + 128 * hh + (x 1).val) % 256 / 128 = hh := by omega
  have q4 : (64 * n + (x 0).val) % 64 = (x 0).val := by omega
  have q5 : (256 * pr + 128 * hh + (x 1).val) % 128 = (x 1).val := by omega
  simp only [e0, e1, q1, q2, q3, q4, q5]
  congr 1
  funext a
  match a with
  | ⟨0, _⟩ => rfl
  | ⟨1, _⟩ => rfl

/-- Two pieces over others, where the two agree with one function and cover the index. -/
theorem canon_two {S : Shape} {e : EltTy} (p r : View.Piece (Elt F) S e) (L : List (View.Piece (Elt F) S e)) (G : S.Idx → Elt F e)
    (hp : ∀ x, p.2 x = G (p.1.emb x)) (hr : ∀ x, r.2 x = G (r.1.emb x)) (y : S.Idx) (hy : y ∈ p.1.set ∨ y ∈ r.1.set) :
    View.canon (p :: r :: L) y = G y := by
  by_cases hm : y ∈ p.1.set
  · obtain ⟨x, rfl⟩ := p.1.exists_idx_of_mem hm
    rw [show p.1.idx x = p.1.emb x from rfl, View.canon_cons_emb]
    exact hp x
  · rw [View.canon_cons_of_not_mem _ _ hm]
    obtain ⟨x, rfl⟩ := r.1.exists_idx_of_mem (hy.resolve_left hm)
    rw [show r.1.idx x = r.1.emb x from rfl, View.canon_cons_emb]
    exact hr x

theorem endO_0 (k : Vec F S1024x256 .f32) (v : Vec F S1024x512 .f32) (la : Vec F S1024x256 .f32) (xs : Vec F S2x128x128 .f32)
    (inb : ∀ i, ![0, 0, 0, 0] i + ![1, 1, 128, 128] i ≤ S1x2x128x128.size i)
    (x : (Rect.unit (s := S1x2x128x128) ![0, 0, 0, 0] ![1, 1, 128, 128] inb).shape.Idx) :
    k0_pay866 (seqV k v la 0 (startV xs 0) 16) x
      = endO k v la xs ((Rect.unit (s := S1x2x128x128) ![0, 0, 0, 0] ![1, 1, 128, 128] inb).emb x) := by
  have e1 : (((Rect.unit (s := S1x2x128x128) ![0, 0, 0, 0] ![1, 1, 128, 128] inb).emb x) 1).val = 0 := by
    have : (x 1).val < 1 := (x 1).isLt
    show 0 + 1 * (x 1).val = _; omega
  unfold endO endV
  rw [e1]
  generalize seqV k v la 0 (startV xs 0) 16 = s
  show shapeCast S1x1x128x128 s shapeCasts_S128x128_S1x1x128x128 x = _
  change (⟨4, ![1, 1, 128, 128]⟩ : Shape).Idx at x
  idx_vars x
  pointwise
  congr 1
  funext a
  match a with
  | ⟨0, _⟩ => apply Fin.ext; show x2.val = 0 + 1 * x2.val; omega
  | ⟨1, _⟩ => apply Fin.ext; show x3.val = 0 + 1 * x3.val; omega

theorem endO_1 (k : Vec F S1024x256 .f32) (v : Vec F S1024x512 .f32) (la : Vec F S1024x256 .f32) (xs : Vec F S2x128x128 .f32)
    (inb : ∀ i, ![0, 1, 0, 0] i + ![1, 1, 128, 128] i ≤ S1x2x128x128.size i)
    (x : (Rect.unit (s := S1x2x128x128) ![0, 1, 0, 0] ![1, 1, 128, 128] inb).shape.Idx) :
    k0_pay2 (seqV k v la 1 (startV xs 1) 16) x
      = endO k v la xs ((Rect.unit (s := S1x2x128x128) ![0, 1, 0, 0] ![1, 1, 128, 128] inb).emb x) := by
  have e1 : (((Rect.unit (s := S1x2x128x128) ![0, 1, 0, 0] ![1, 1, 128, 128] inb).emb x) 1).val = 1 := by
    have : (x 1).val < 1 := (x 1).isLt
    show 1 + 1 * (x 1).val = _; omega
  unfold endO endV
  rw [e1]
  generalize seqV k v la 1 (startV xs 1) 16 = s
  show shapeCast S1x1x128x128 s shapeCasts_S128x128_S1x1x128x128 x = _
  change (⟨4, ![1, 1, 128, 128]⟩ : Shape).Idx at x
  idx_vars x
  pointwise
  congr 1
  funext a
  match a with
  | ⟨0, _⟩ => apply Fin.ext; show x2.val = 0 + 1 * x2.val; omega
  | ⟨1, _⟩ => apply Fin.ext; show x3.val = 0 + 1 * x3.val; omega

theorem endS_0 (k : Vec F S1024x256 .f32) (v : Vec F S1024x512 .f32) (la : Vec F S1024x256 .f32) (xs : Vec F S2x128x128 .f32)
    (inb : ∀ i, ![0, 0, 0] i + ![1, 128, 128] i ≤ S2x128x128.size i)
    (x : (Rect.unit (s := S2x128x128) ![0, 0, 0] ![1, 128, 128] inb).shape.Idx) :
    k0_pay865 (seqV k v la 0 (startV xs 0) 16) x
      = endS k v la xs ((Rect.unit (s := S2x128x128) ![0, 0, 0] ![1, 128, 128] inb).emb x) := by
  have e1 : (((Rect.unit (s := S2x128x128) ![0, 0, 0] ![1, 128, 128] inb).emb x) 0).val = 0 := by
    have : (x 0).val < 1 := (x 0).isLt
    show 0 + 1 * (x 0).val = _; omega
  unfold endS endV
  rw [e1]
  generalize seqV k v la 0 (startV xs 0) 16 = s
  show shapeCast S1x128x128 s shapeCasts_S128x128_S1x128x128 x = _
  change (⟨3, ![1, 128, 128]⟩ : Shape).Idx at x
  idx_vars x
  pointwise
  congr 1
  funext a
  match a with
  | ⟨0, _⟩ => apply Fin.ext; show x1.val = 0 + 1 * x1.val; omega
  | ⟨1, _⟩ => apply Fin.ext; show x2.val = 0 + 1 * x2.val; omega

theorem endS_1 (k : Vec F S1024x256 .f32) (v : Vec F S1024x512 .f32) (la : Vec F S1024x256 .f32) (xs : Vec F S2x128x128 .f32)
    (inb : ∀ i, ![1, 0, 0] i + ![1, 128, 128] i ≤ S2x128x128.size i)
    (x : (Rect.unit (s := S2x128x128) ![1, 0, 0] ![1, 128, 128] inb).shape.Idx) :
    k0_pay1 (seqV k v la 1 (startV xs 1) 16) x
      = endS k v la xs ((Rect.unit (s := S2x128x128) ![1, 0, 0] ![1, 128, 128] inb).emb x) := by
  have e1 : (((Rect.unit (s := S2x128x128) ![1, 0, 0] ![1, 128, 128] inb).emb x) 0).val = 1 := by
    have : (x 0).val < 1 := (x 0).isLt
    show 1 + 1 * (x 0).val = _; omega
  unfold endS endV
  rw [e1]
  generalize seqV k v la 1 (startV xs 1) 16 = s
  show shapeCast S1x128x128 s shapeCasts_S128x128_S1x128x128 x = _
  change (⟨3, ![1, 128, 128]⟩ : Shape).Idx at x
  idx_vars x
  pointwise
  congr 1
  funext a
  match a with
  | ⟨0, _⟩ => apply Fin.ext; show x1.val = 0 + 1 * x1.val; omega
  | ⟨1, _⟩ => apply Fin.ext; show x2.val = 0 + 1 * x2.val; omega

theorem cover_O (y : S1x2x128x128.Idx) (inb1 : ∀ i, ![0, 1, 0, 0] i + ![1, 1, 128, 128] i ≤ S1x2x128x128.size i)
    (inb0 : ∀ i, ![0, 0, 0, 0] i + ![1, 1, 128, 128] i ≤ S1x2x128x128.size i) :
    y ∈ (Rect.unit (s := S1x2x128x128) ![0, 1, 0, 0] ![1, 1, 128, 128] inb1).set
      ∨ y ∈ (Rect.unit (s := S1x2x128x128) ![0, 0, 0, 0] ![1, 1, 128, 128] inb0).set := by
  have h0 : (y 0).val < 1 := (y 0).isLt
  have h1 : (y 1).val < 2 := (y 1).isLt
  have h2 : (y 2).val < 128 := (y 2).isLt
  have h3 : (y 3).val < 128 := (y 3).isLt
  by_cases h : (y 1).val = 1
  · left; refine Rect.mem_set_unit.mpr fun a => ?_
    match a with
    | ⟨0, _⟩ => show 0 ≤ (y 0).val ∧ (y 0).val < 0 + 1; omega
    | ⟨1, _⟩ => show 1 ≤ (y 1).val ∧ (y 1).val < 1 + 1; omega
    | ⟨2, _⟩ => show 0 ≤ (y 2).val ∧ (y 2).val < 0 + 128; omega
    | ⟨3, _⟩ => show 0 ≤ (y 3).val ∧ (y 3).val < 0 + 128; omega
  · right; refine Rect.mem_set_unit.mpr fun a => ?_
    match a with
    | ⟨0, _⟩ => show 0 ≤ (y 0).val ∧ (y 0).val < 0 + 1; omega
    | ⟨1, _⟩ => show 0 ≤ (y 1).val ∧ (y 1).val < 0 + 1; omega
    | ⟨2, _⟩ => show 0 ≤ (y 2).val ∧ (y 2).val < 0 + 128; omega
    | ⟨3, _⟩ => show 0 ≤ (y 3).val ∧ (y 3).val < 0 + 128; omega

theorem cover_S (y : S2x128x128.Idx) (inb1 : ∀ i, ![1, 0, 0] i + ![1, 128, 128] i ≤ S2x128x128.size i)
    (inb0 : ∀ i, ![0, 0, 0] i + ![1, 128, 128] i ≤ S2x128x128.size i) :
    y ∈ (Rect.unit (s := S2x128x128) ![1, 0, 0] ![1, 128, 128] inb1).set
      ∨ y ∈ (Rect.unit (s := S2x128x128) ![0, 0, 0] ![1, 128, 128] inb0).set := by
  have h1 : (y 0).val < 2 := (y 0).isLt
  have h2 : (y 1).val < 128 := (y 1).isLt
  have h3 : (y 2).val < 128 := (y 2).isLt
  by_cases h : (y 0).val = 1
  · left; refine Rect.mem_set_unit.mpr fun a => ?_
    match a with
    | ⟨0, _⟩ => show 1 ≤ (y 0).val ∧ (y 0).val < 1 + 1; omega
    | ⟨1, _⟩ => show 0 ≤ (y 1).val ∧ (y 1).val < 0 + 128; omega
    | ⟨2, _⟩ => show 0 ≤ (y 2).val ∧ (y 2).val < 0 + 128; omega
  · right; refine Rect.mem_set_unit.mpr fun a => ?_
    match a with
    | ⟨0, _⟩ => show 0 ≤ (y 0).val ∧ (y 0).val < 0 + 1; omega
    | ⟨1, _⟩ => show 0 ≤ (y 1).val ∧ (y 1).val < 0 + 128; omega
    | ⟨2, _⟩ => show 0 ≤ (y 2).val ∧ (y 2).val < 0 + 128; omega

end Cert.GlaVec

end
-- ==== Proof.GlaLinkA.lean ====
/-
The first grid points of a sequence: each state and each stored piece of the kernel's body is the uniform function of the
chunk's blocks and of the state before it.
-/
module

public import proofs.«01_k».proof.Proof.GlaLink
public import proofs.«01_k».proof.Proof.Gen.KernelIdeal.Frame

@[expose] public section

noncomputable section

namespace Cert.GlaVec

open Idealize.ShloMosaic
open Cert.KernelIdeal Cert.KernelIdeal.Gen

variable {F : FTy → Type} [FloatOps F] (c : Dev nD) (i : grid0.Coords) (arg2 : Memref sig .tc .vmem S1024x256 .f32) (harg2 : arg2.IsWhole)
  (arg3 : Memref sig .tc .vmem S1024x256 .f32) (harg3 : arg3.IsWhole) (arg4 : Memref sig .tc .vmem S1024x512 .f32) (harg4 : arg4.IsWhole)
  (arg5 : Memref sig .tc .vmem S1024x256 .f32) (harg5 : arg5.IsWhole) (arg6 : Memref sig .tc .vmem S1024x512 .f32) (harg6 : arg6.IsWhole)
  (arg7 : Memref sig .tc .vmem S1x128 .f32) (harg7 : arg7.IsWhole) (arg8 : Memref sig .tc .vmem S1x2x128x128 .f32) (harg8 : arg8.IsWhole)
  (arg9 : Memref sig .tc .vmem S1024x512 .bf16) (harg9 : arg9.IsWhole) (arg10 : Memref sig .tc .vmem S1x2x128x128 .f32)
  (harg10 : arg10.IsWhole) (arg11 : Memref sig .tc .vmem S2x128x128 .f32) (harg11 : arg11.IsWhole)
  (x0 : Vec F S1024x256 .f32) (x1 : Vec F S1024x256 .f32) (x2 : Vec F S1024x512 .f32) (x3 : Vec F S1024x256 .f32)
  (x4 : Vec F S1024x512 .f32) (x5 : Vec F S1x128 .f32) (x6 : Vec F S1x2x128x128 .f32) (xs0 : Vec F S2x128x128 .f32)

/-- The starting states of a sequence, written to the scratch and read back. -/
theorem A_slab (pr : ℕ) (inb : ∀ i, ![pr, 0, 0] i + ![1, 128, 128] i ≤ S2x128x128.size i) :
    arg11.view.readCov (kernelRun0_A.sl.HS0_1 c arg8 harg8 x6) (Rect.unit (s := S2x128x128) ![pr, 0, 0] ![1, 128, 128] inb).toLoadRect
      = slab (k0_pay3 x6) pr := by
  have h0 := inb 0
  simp [S2x128x128] at h0
  rw [View.readCov_eq_canon']
  funext i
  show View.canon (kernelRun0_A.sl.HS0_1 c arg8 harg8 x6) _ = _
  unfold kernelRun0_A.sl.HS0_1
  rw [View.canon_unit_zero (by decide)]
  rw [View.readAt_eq_ld, Memref.IsWhole.read_unread, View.ld_unit_zero (by decide)]
  idx_vars i
  unfold slab
  congr 1
  funext a
  match a with
  | ⟨0, _⟩ => apply Fin.ext; show pr + 1 * i0.val = pr % 2; omega
  | ⟨1, _⟩ => apply Fin.ext; show 0 + 1 * i1.val = i1.val; omega
  | ⟨2, _⟩ => apply Fin.ext; show 0 + 1 * i2.val = i2.val; omega

theorem A_st_0_0 : kernelRun0_A.sl.r_501 c arg8 harg8 arg11 x6 = startV (k0_pay3 x6) 0 := by
  simp only [kernelRun0_A.sl.r_501, kernelRun0_A.sl.v2199, kernelRun0_A.sl.v2201, A_slab]; rfl

theorem A_st_0_1 : kernelRun0_A.sl.r_506 c arg3 harg3 arg4 harg4 arg5 harg5 arg8 harg8 arg11 x1 x2 x3 x6 = seqV x1 x2 x3 0 (startV (k0_pay3 x6) 0) 1 := by
  simp only [kernelRun0_A.sl.r_506, kernelRun0_A.sl.r_1, kernelRun0_A.sl.r_47, kernelRun0_A.sl.r_48, kernelRun0_A.sl.r_317,
    A_st_0_0, rd2, rd5]; rfl

theorem A_st_0_2 : kernelRun0_A.sl.r_514 c arg3 harg3 arg4 harg4 arg5 harg5 arg8 harg8 arg11 x1 x2 x3 x6 = seqV x1 x2 x3 0 (startV (k0_pay3 x6) 0) 2 := by
  simp only [kernelRun0_A.sl.r_514, kernelRun0_A.sl.r_5, kernelRun0_A.sl.r_57, kernelRun0_A.sl.r_58, kernelRun0_A.sl.r_330,
    A_st_0_1, rd2, rd5]; rfl

theorem A_st_0_3 : kernelRun0_A.sl.r_522 c arg3 harg3 arg4 harg4 arg5 harg5 arg8 harg8 arg11 x1 x2 x3 x6 = seqV x1 x2 x3 0 (startV (k0_pay3 x6) 0) 3 := by
  simp only [kernelRun0_A.sl.r_522, kernelRun0_A.sl.r_7, kernelRun0_A.sl.r_69, kernelRun0_A.sl.r_70, kernelRun0_A.sl.r_342,
    A_st_0_2, rd2, rd5]; rfl

theorem A_st_0_4 : kernelRun0_A.sl.r_530 c arg3 harg3 arg4 harg4 arg5 harg5 arg8 harg8 arg11 x1 x2 x3 x6 = seqV x1 x2 x3 0 (startV (k0_pay3 x6) 0) 4 := by
  simp only [kernelRun0_A.sl.r_530, kernelRun0_A.sl.r_9, kernelRun0_A.sl.r_10, kernelRun0_A.sl.r_83, kernelRun0_A.sl.r_84, kernelRun0_A.sl.r_355,
    A_st_0_3, rd2, rd5]; rfl

theorem A_st_0_5 : kernelRun0_A.sl.r_538 c arg3 harg3 arg4 harg4 arg5 harg5 arg8 harg8 arg11 x1 x2 x3 x6 = seqV x1 x2 x3 0 (startV (k0_pay3 x6) 0) 5 := by
  simp only [kernelRun0_A.sl.r_538, kernelRun0_A.sl.r_12, kernelRun0_A.sl.r_96, kernelRun0_A.sl.r_97, kernelRun0_A.sl.r_367,
    A_st_0_4, rd2, rd5]; rfl

theorem A_st_0_6 : kernelRun0_A.sl.r_546 c arg3 harg3 arg4 harg4 arg5 harg5 arg8 harg8 arg11 x1 x2 x3 x6 = seqV x1 x2 x3 0 (startV (k0_pay3 x6) 0) 6 := by
  simp only [kernelRun0_A.sl.r_546, kernelRun0_A.sl.r_14, kernelRun0_A.sl.r_15, kernelRun0_A.sl.r_16, kernelRun0_A.sl.r_107, kernelRun0_A.sl.r_108, kernelRun0_A.sl.r_379,
    A_st_0_5, rd2, rd5]; rfl

theorem A_st_0_7 : kernelRun0_A.sl.r_554 c arg3 harg3 arg4 harg4 arg5 harg5 arg8 harg8 arg11 x1 x2 x3 x6 = seqV x1 x2 x3 0 (startV (k0_pay3 x6) 0) 7 := by
  simp only [kernelRun0_A.sl.r_554, kernelRun0_A.sl.r_18, kernelRun0_A.sl.r_115, kernelRun0_A.sl.r_117, kernelRun0_A.sl.r_121, kernelRun0_A.sl.r_122, kernelRun0_A.sl.r_390,
    A_st_0_6, rd2, rd5]; rfl

theorem A_st_0_8 : kernelRun0_A.sl.r_562 c arg3 harg3 arg4 harg4 arg5 harg5 arg8 harg8 arg11 x1 x2 x3 x6 = seqV x1 x2 x3 0 (startV (k0_pay3 x6) 0) 8 := by
  simp only [kernelRun0_A.sl.r_562, kernelRun0_A.sl.r_20, kernelRun0_A.sl.r_128, kernelRun0_A.sl.r_129, kernelRun0_A.sl.r_133, kernelRun0_A.sl.r_134, kernelRun0_A.sl.r_135, kernelRun0_A.sl.r_401,
    A_st_0_7, rd2, rd5]; rfl

theorem A_st_0_9 : kernelRun0_A.sl.r_570 c arg3 harg3 arg4 harg4 arg5 harg5 arg8 harg8 arg11 x1 x2 x3 x6 = seqV x1 x2 x3 0 (startV (k0_pay3 x6) 0) 9 := by
  simp only [kernelRun0_A.sl.r_570, kernelRun0_A.sl.r_24, kernelRun0_A.sl.r_144, kernelRun0_A.sl.r_145, kernelRun0_A.sl.r_413,
    A_st_0_8, rd2, rd5]; rfl

theorem A_st_0_10 : kernelRun0_A.sl.r_578 c arg3 harg3 arg4 harg4 arg5 harg5 arg8 harg8 arg11 x1 x2 x3 x6 = seqV x1 x2 x3 0 (startV (k0_pay3 x6) 0) 10 := by
  simp only [kernelRun0_A.sl.r_578, kernelRun0_A.sl.r_26, kernelRun0_A.sl.r_155, kernelRun0_A.sl.r_156, kernelRun0_A.sl.r_425,
    A_st_0_9, rd2, rd5]; rfl

theorem A_st_0_11 : kernelRun0_A.sl.r_586 c arg3 harg3 arg4 harg4 arg5 harg5 arg8 harg8 arg11 x1 x2 x3 x6 = seqV x1 x2 x3 0 (startV (k0_pay3 x6) 0) 11 := by
  simp only [kernelRun0_A.sl.r_586, kernelRun0_A.sl.r_28, kernelRun0_A.sl.r_170, kernelRun0_A.sl.r_171, kernelRun0_A.sl.r_437,
    A_st_0_10, rd2, rd5]; rfl

theorem A_st_0_12 : kernelRun0_A.sl.r_594 c arg3 harg3 arg4 harg4 arg5 harg5 arg8 harg8 arg11 x1 x2 x3 x6 = seqV x1 x2 x3 0 (startV (k0_pay3 x6) 0) 12 := by
  simp only [kernelRun0_A.sl.r_594, kernelRun0_A.sl.r_30, kernelRun0_A.sl.r_184, kernelRun0_A.sl.r_185, kernelRun0_A.sl.r_448,
    A_st_0_11, rd2, rd5]; rfl

theorem A_st_0_13 : kernelRun0_A.sl.r_602 c arg3 harg3 arg4 harg4 arg5 harg5 arg8 harg8 arg11 x1 x2 x3 x6 = seqV x1 x2 x3 0 (startV (k0_pay3 x6) 0) 13 := by
  simp only [kernelRun0_A.sl.r_602, kernelRun0_A.sl.r_32, kernelRun0_A.sl.r_33, kernelRun0_A.sl.r_34, kernelRun0_A.sl.r_194, kernelRun0_A.sl.r_195, kernelRun0_A.sl.r_459,
    A_st_0_12, rd2, rd5]; rfl

theorem A_st_0_14 : kernelRun0_A.sl.r_610 c arg3 harg3 arg4 harg4 arg5 harg5 arg8 harg8 arg11 x1 x2 x3 x6 = seqV x1 x2 x3 0 (startV (k0_pay3 x6) 0) 14 := by
  simp only [kernelRun0_A.sl.r_610, kernelRun0_A.sl.r_36, kernelRun0_A.sl.r_202, kernelRun0_A.sl.r_204, kernelRun0_A.sl.r_208, kernelRun0_A.sl.r_209, kernelRun0_A.sl.r_470,
    A_st_0_13, rd2, rd5]; rfl

theorem A_st_0_15 : kernelRun0_A.sl.r_618 c arg3 harg3 arg4 harg4 arg5 harg5 arg8 harg8 arg11 x1 x2 x3 x6 = seqV x1 x2 x3 0 (startV (k0_pay3 x6) 0) 15 := by
  simp only [kernelRun0_A.sl.r_618, kernelRun0_A.sl.r_38, kernelRun0_A.sl.r_216, kernelRun0_A.sl.r_217, kernelRun0_A.sl.r_222, kernelRun0_A.sl.r_223, kernelRun0_A.sl.r_478, kernelRun0_A.sl.r_481, kernelRun0_A.sl.r_482,
    A_st_0_14, rd2, rd5]; rfl

theorem A_st_0_16 : kernelRun0_A.sl.r_626 c arg3 harg3 arg4 harg4 arg5 harg5 arg8 harg8 arg11 x1 x2 x3 x6 = seqV x1 x2 x3 0 (startV (k0_pay3 x6) 0) 16 := by
  simp only [kernelRun0_A.sl.r_626, kernelRun0_A.sl.r_42, kernelRun0_A.sl.r_232, kernelRun0_A.sl.r_233, kernelRun0_A.sl.r_490, kernelRun0_A.sl.r_491, kernelRun0_A.sl.r_494, kernelRun0_A.sl.r_495,
    A_st_0_15, rd2, rd5]; rfl

theorem A_st_1_0 : kernelRun0_A.sl.r_502 c arg8 harg8 arg11 x6 = startV (k0_pay3 x6) 1 := by
  simp only [kernelRun0_A.sl.r_502, kernelRun0_A.sl.v2199, kernelRun0_A.sl.v2201, A_slab]; rfl

theorem A_st_1_1 : kernelRun0_A.sl.r_510 c arg3 harg3 arg4 harg4 arg5 harg5 arg8 harg8 arg11 x1 x2 x3 x6 = seqV x1 x2 x3 1 (startV (k0_pay3 x6) 1) 1 := by
  simp only [kernelRun0_A.sl.r_510, kernelRun0_A.sl.r_2, kernelRun0_A.sl.r_3, kernelRun0_A.sl.r_4, kernelRun0_A.sl.r_52, kernelRun0_A.sl.r_53, kernelRun0_A.sl.r_320, kernelRun0_A.sl.r_321, kernelRun0_A.sl.r_324, kernelRun0_A.sl.r_325,
    A_st_1_0, rd2, rd5]; rfl

theorem A_st_1_2 : kernelRun0_A.sl.r_518 c arg3 harg3 arg4 harg4 arg5 harg5 arg8 harg8 arg11 x1 x2 x3 x6 = seqV x1 x2 x3 1 (startV (k0_pay3 x6) 1) 2 := by
  simp only [kernelRun0_A.sl.r_518, kernelRun0_A.sl.r_6, kernelRun0_A.sl.r_60, kernelRun0_A.sl.r_64, kernelRun0_A.sl.r_65, kernelRun0_A.sl.r_333, kernelRun0_A.sl.r_334, kernelRun0_A.sl.r_337,
    A_st_1_1, rd2, rd5]; rfl

theorem A_st_1_3 : kernelRun0_A.sl.r_526 c arg3 harg3 arg4 harg4 arg5 harg5 arg8 harg8 arg11 x1 x2 x3 x6 = seqV x1 x2 x3 1 (startV (k0_pay3 x6) 1) 3 := by
  simp only [kernelRun0_A.sl.r_526, kernelRun0_A.sl.r_8, kernelRun0_A.sl.r_72, kernelRun0_A.sl.r_73, kernelRun0_A.sl.r_78, kernelRun0_A.sl.r_79, kernelRun0_A.sl.r_345, kernelRun0_A.sl.r_346, kernelRun0_A.sl.r_350,
    A_st_1_2, rd2, rd5]; rfl

theorem A_st_1_4 : kernelRun0_A.sl.r_534 c arg3 harg3 arg4 harg4 arg5 harg5 arg8 harg8 arg11 x1 x2 x3 x6 = seqV x1 x2 x3 1 (startV (k0_pay3 x6) 1) 4 := by
  simp only [kernelRun0_A.sl.r_534, kernelRun0_A.sl.r_11, kernelRun0_A.sl.r_85, kernelRun0_A.sl.r_86, kernelRun0_A.sl.r_90, kernelRun0_A.sl.r_91, kernelRun0_A.sl.r_92, kernelRun0_A.sl.r_358, kernelRun0_A.sl.r_359, kernelRun0_A.sl.r_362,
    A_st_1_3, rd2, rd5]; rfl

theorem A_st_1_5 : kernelRun0_A.sl.r_542 c arg3 harg3 arg4 harg4 arg5 harg5 arg8 harg8 arg11 x1 x2 x3 x6 = seqV x1 x2 x3 1 (startV (k0_pay3 x6) 1) 5 := by
  simp only [kernelRun0_A.sl.r_542, kernelRun0_A.sl.r_13, kernelRun0_A.sl.r_101, kernelRun0_A.sl.r_102, kernelRun0_A.sl.r_370, kernelRun0_A.sl.r_371, kernelRun0_A.sl.r_374,
    A_st_1_4, rd2, rd5]; rfl

theorem A_st_1_6 : kernelRun0_A.sl.r_550 c arg3 harg3 arg4 harg4 arg5 harg5 arg8 harg8 arg11 x1 x2 x3 x6 = seqV x1 x2 x3 1 (startV (k0_pay3 x6) 1) 6 := by
  simp only [kernelRun0_A.sl.r_550, kernelRun0_A.sl.r_17, kernelRun0_A.sl.r_112, kernelRun0_A.sl.r_113, kernelRun0_A.sl.r_382, kernelRun0_A.sl.r_385,
    A_st_1_5, rd2, rd5]; rfl

theorem A_st_1_7 : kernelRun0_A.sl.r_558 c arg3 harg3 arg4 harg4 arg5 harg5 arg8 harg8 arg11 x1 x2 x3 x6 = seqV x1 x2 x3 1 (startV (k0_pay3 x6) 1) 7 := by
  simp only [kernelRun0_A.sl.r_558, kernelRun0_A.sl.r_19, kernelRun0_A.sl.r_126, kernelRun0_A.sl.r_127, kernelRun0_A.sl.r_393, kernelRun0_A.sl.r_396,
    A_st_1_6, rd2, rd5]; rfl

theorem A_st_1_8 : kernelRun0_A.sl.r_566 c arg3 harg3 arg4 harg4 arg5 harg5 arg8 harg8 arg11 x1 x2 x3 x6 = seqV x1 x2 x3 1 (startV (k0_pay3 x6) 1) 8 := by
  simp only [kernelRun0_A.sl.r_566, kernelRun0_A.sl.r_21, kernelRun0_A.sl.r_22, kernelRun0_A.sl.r_23, kernelRun0_A.sl.r_139, kernelRun0_A.sl.r_140, kernelRun0_A.sl.r_402, kernelRun0_A.sl.r_405, kernelRun0_A.sl.r_408,
    A_st_1_7, rd2, rd5]; rfl

theorem A_st_1_9 : kernelRun0_A.sl.r_574 c arg3 harg3 arg4 harg4 arg5 harg5 arg8 harg8 arg11 x1 x2 x3 x6 = seqV x1 x2 x3 1 (startV (k0_pay3 x6) 1) 9 := by
  simp only [kernelRun0_A.sl.r_574, kernelRun0_A.sl.r_25, kernelRun0_A.sl.r_150, kernelRun0_A.sl.r_151, kernelRun0_A.sl.r_414, kernelRun0_A.sl.r_417, kernelRun0_A.sl.r_420,
    A_st_1_8, rd2, rd5]; rfl

theorem A_st_1_10 : kernelRun0_A.sl.r_582 c arg3 harg3 arg4 harg4 arg5 harg5 arg8 harg8 arg11 x1 x2 x3 x6 = seqV x1 x2 x3 1 (startV (k0_pay3 x6) 1) 10 := by
  simp only [kernelRun0_A.sl.r_582, kernelRun0_A.sl.r_27, kernelRun0_A.sl.r_158, kernelRun0_A.sl.r_160, kernelRun0_A.sl.r_165, kernelRun0_A.sl.r_166, kernelRun0_A.sl.r_426, kernelRun0_A.sl.r_432,
    A_st_1_9, rd2, rd5]; rfl

theorem A_st_1_11 : kernelRun0_A.sl.r_590 c arg3 harg3 arg4 harg4 arg5 harg5 arg8 harg8 arg11 x1 x2 x3 x6 = seqV x1 x2 x3 1 (startV (k0_pay3 x6) 1) 11 := by
  simp only [kernelRun0_A.sl.r_590, kernelRun0_A.sl.r_29, kernelRun0_A.sl.r_173, kernelRun0_A.sl.r_174, kernelRun0_A.sl.r_179, kernelRun0_A.sl.r_180, kernelRun0_A.sl.r_438, kernelRun0_A.sl.r_443,
    A_st_1_10, rd2, rd5]; rfl

theorem A_st_1_12 : kernelRun0_A.sl.r_598 c arg3 harg3 arg4 harg4 arg5 harg5 arg8 harg8 arg11 x1 x2 x3 x6 = seqV x1 x2 x3 1 (startV (k0_pay3 x6) 1) 12 := by
  simp only [kernelRun0_A.sl.r_598, kernelRun0_A.sl.r_31, kernelRun0_A.sl.r_189, kernelRun0_A.sl.r_190, kernelRun0_A.sl.r_449, kernelRun0_A.sl.r_454,
    A_st_1_11, rd2, rd5]; rfl

theorem A_st_1_13 : kernelRun0_A.sl.r_606 c arg3 harg3 arg4 harg4 arg5 harg5 arg8 harg8 arg11 x1 x2 x3 x6 = seqV x1 x2 x3 1 (startV (k0_pay3 x6) 1) 13 := by
  simp only [kernelRun0_A.sl.r_606, kernelRun0_A.sl.r_35, kernelRun0_A.sl.r_199, kernelRun0_A.sl.r_200, kernelRun0_A.sl.r_460, kernelRun0_A.sl.r_465,
    A_st_1_12, rd2, rd5]; rfl

theorem A_st_1_14 : kernelRun0_A.sl.r_614 c arg3 harg3 arg4 harg4 arg5 harg5 arg8 harg8 arg11 x1 x2 x3 x6 = seqV x1 x2 x3 1 (startV (k0_pay3 x6) 1) 14 := by
  simp only [kernelRun0_A.sl.r_614, kernelRun0_A.sl.r_37, kernelRun0_A.sl.r_213, kernelRun0_A.sl.r_214, kernelRun0_A.sl.r_475,
    A_st_1_13, rd2, rd5]; rfl

theorem A_st_1_15 : kernelRun0_A.sl.r_622 c arg3 harg3 arg4 harg4 arg5 harg5 arg8 harg8 arg11 x1 x2 x3 x6 = seqV x1 x2 x3 1 (startV (k0_pay3 x6) 1) 15 := by
  simp only [kernelRun0_A.sl.r_622, kernelRun0_A.sl.r_39, kernelRun0_A.sl.r_40, kernelRun0_A.sl.r_41, kernelRun0_A.sl.r_227, kernelRun0_A.sl.r_228, kernelRun0_A.sl.r_487,
    A_st_1_14, rd2, rd5]; rfl

theorem A_st_1_16 : kernelRun0_A.sl.r_630 c arg3 harg3 arg4 harg4 arg5 harg5 arg8 harg8 arg11 x1 x2 x3 x6 = seqV x1 x2 x3 1 (startV (k0_pay3 x6) 1) 16 := by
  simp only [kernelRun0_A.sl.r_630, kernelRun0_A.sl.r_43, kernelRun0_A.sl.r_237, kernelRun0_A.sl.r_238, kernelRun0_A.sl.r_500,
    A_st_1_15, rd2, rd5]; rfl

/-- Every stored piece of the output rows is that piece of `rowsV`. -/
theorem A_pieces (hc0 : cond0_0 i) :
    ∀ p ∈ (kernelRun0_A c i arg2 harg2 arg3 harg3 arg4 harg4 arg5 harg5 arg6 harg6 arg7 harg7 arg8 harg8 arg9 harg9 arg10 harg10 arg11 harg11 hc0 x0 x1 x2 x3 x4 x5 x6).1,
      ∀ x, p.2 x = rowsV x0 x1 x2 x3 x4 x5 (k0_pay3 x6) (p.1.emb x) := by
  dsimp only [kernelRun0_A]
  refine List.forall_mem_cons.mpr ⟨piece_of x0 x1 x2 x3 x4 x5 (k0_pay3 x6) 15 1 1 (by decide) (by decide) (by decide)
    inb_S1024x512_S64x128_960_384 _ ?_, ?_⟩
  rotate_left
  refine List.forall_mem_cons.mpr ⟨piece_of x0 x1 x2 x3 x4 x5 (k0_pay3 x6) 15 1 0 (by decide) (by decide) (by decide)
    inb_S1024x512_S64x128_960_256 _ ?_, ?_⟩
  rotate_left
  refine List.forall_mem_cons.mpr ⟨piece_of x0 x1 x2 x3 x4 x5 (k0_pay3 x6) 15 0 1 (by decide) (by decide) (by decide)
    inb_S1024x512_S64x128_960_128 _ ?_, ?_⟩
  rotate_left
  refine List.forall_mem_cons.mpr ⟨piece_of x0 x1 x2 x3 x4 x5 (k0_pay3 x6) 15 0 0 (by decide) (by decide) (by decide)
    inb_S1024x512_S64x128_960_0 _ ?_, ?_⟩
  rotate_left
  refine List.forall_mem_cons.mpr ⟨piece_of x0 x1 x2 x3 x4 x5 (k0_pay3 x6) 14 1 1 (by decide) (by decide) (by decide)
    inb_S1024x512_S64x128_896_384 _ ?_, ?_⟩
  rotate_left
  refine List.forall_mem_cons.mpr ⟨piece_of x0 x1 x2 x3 x4 x5 (k0_pay3 x6) 14 1 0 (by decide) (by decide) (by decide)
    inb_S1024x512_S64x128_896_256 _ ?_, ?_⟩
  rotate_left
  refine List.forall_mem_cons.mpr ⟨piece_of x0 x1 x2 x3 x4 x5 (k0_pay3 x6) 14 0 1 (by decide) (by decide) (by decide)
    inb_S1024x512_S64x128_896_128 _ ?_, ?_⟩
  rotate_left
  refine List.forall_mem_cons.mpr ⟨piece_of x0 x1 x2 x3 x4 x5 (k0_pay3 x6) 14 0 0 (by decide) (by decide) (by decide)
    inb_S1024x512_S64x128_896_0 _ ?_, ?_⟩
  rotate_left
  refine List.forall_mem_cons.mpr ⟨piece_of x0 x1 x2 x3 x4 x5 (k0_pay3 x6) 13 1 1 (by decide) (by decide) (by decide)
    inb_S1024x512_S64x128_832_384 _ ?_, ?_⟩
  rotate_left
  refine List.forall_mem_cons.mpr ⟨piece_of x0 x1 x2 x3 x4 x5 (k0_pay3 x6) 13 1 0 (by decide) (by decide) (by decide)
    inb_S1024x512_S64x128_832_256 _ ?_, ?_⟩
  rotate_left
  refine List.forall_mem_cons.mpr ⟨piece_of x0 x1 x2 x3 x4 x5 (k0_pay3 x6) 13 0 1 (by decide) (by decide) (by decide)
    inb_S1024x512_S64x128_832_128 _ ?_, ?_⟩
  rotate_left
  refine List.forall_mem_cons.mpr ⟨piece_of x0 x1 x2 x3 x4 x5 (k0_pay3 x6) 13 0 0 (by decide) (by decide) (by decide)
    inb_S1024x512_S64x128_832_0 _ ?_, ?_⟩
  rotate_left
  refine List.forall_mem_cons.mpr ⟨piece_of x0 x1 x2 x3 x4 x5 (k0_pay3 x6) 12 1 1 (by decide) (by decide) (by decide)
    inb_S1024x512_S64x128_768_384 _ ?_, ?_⟩
  rotate_left
  refine List.forall_mem_cons.mpr ⟨piece_of x0 x1 x2 x3 x4 x5 (k0_pay3 x6) 12 1 0 (by decide) (by decide) (by decide)
    inb_S1024x512_S64x128_768_256 _ ?_, ?_⟩
  rotate_left
  refine List.forall_mem_cons.mpr ⟨piece_of x0 x1 x2 x3 x4 x5 (k0_pay3 x6) 12 0 1 (by decide) (by decide) (by decide)
    inb_S1024x512_S64x128_768_128 _ ?_, ?_⟩
  rotate_left
  refine List.forall_mem_cons.mpr ⟨piece_of x0 x1 x2 x3 x4 x5 (k0_pay3 x6) 12 0 0 (by decide) (by decide) (by decide)
    inb_S1024x512_S64x128_768_0 _ ?_, ?_⟩
  rotate_left
  refine List.forall_mem_cons.mpr ⟨piece_of x0 x1 x2 x3 x4 x5 (k0_pay3 x6) 11 1 1 (by decide) (by decide) (by decide)
    inb_S1024x512_S64x128_704_384 _ ?_, ?_⟩
  rotate_left
  refine List.forall_mem_cons.mpr ⟨piece_of x0 x1 x2 x3 x4 x5 (k0_pay3 x6) 11 1 0 (by decide) (by decide) (by decide)
    inb_S1024x512_S64x128_704_256 _ ?_, ?_⟩
  rotate_left
  refine List.forall_mem_cons.mpr ⟨piece_of x0 x1 x2 x3 x4 x5 (k0_pay3 x6) 11 0 1 (by decide) (by decide) (by decide)
    inb_S1024x512_S64x128_704_128 _ ?_, ?_⟩
  rotate_left
  refine List.forall_mem_cons.mpr ⟨piece_of x0 x1 x2 x3 x4 x5 (k0_pay3 x6) 11 0 0 (by decide) (by decide) (by decide)
    inb_S1024x512_S64x128_704_0 _ ?_, ?_⟩
  rotate_left
  refine List.forall_mem_cons.mpr ⟨piece_of x0 x1 x2 x3 x4 x5 (k0_pay3 x6) 10 1 1 (by decide) (by decide) (by decide)
    inb_S1024x512_S64x128_640_384 _ ?_, ?_⟩
  rotate_left
  refine List.forall_mem_cons.mpr ⟨piece_of x0 x1 x2 x3 x4 x5 (k0_pay3 x6) 10 1 0 (by decide) (by decide) (by decide)
    inb_S1024x512_S64x128_640_256 _ ?_, ?_⟩
  rotate_left
  refine List.forall_mem_cons.mpr ⟨piece_of x0 x1 x2 x3 x4 x5 (k0_pay3 x6) 10 0 1 (by decide) (by decide) (by decide)
    inb_S1024x512_S64x128_640_128 _ ?_, ?_⟩
  rotate_left
  refine List.forall_mem_cons.mpr ⟨piece_of x0 x1 x2 x3 x4 x5 (k0_pay3 x6) 10 0 0 (by decide) (by decide) (by decide)
    inb_S1024x512_S64x128_640_0 _ ?_, ?_⟩
  rotate_left
  refine List.forall_mem_cons.mpr ⟨piece_of x0 x1 x2 x3 x4 x5 (k0_pay3 x6) 9 1 1 (by decide) (by decide) (by decide)
    inb_S1024x512_S64x128_576_384 _ ?_, ?_⟩
  rotate_left
  refine List.forall_mem_cons.mpr ⟨piece_of x0 x1 x2 x3 x4 x5 (k0_pay3 x6) 9 1 0 (by decide) (by decide) (by decide)
    inb_S1024x512_S64x128_576_256 _ ?_, ?_⟩
  rotate_left
  refine List.forall_mem_cons.mpr ⟨piece_of x0 x1 x2 x3 x4 x5 (k0_pay3 x6) 9 0 1 (by decide) (by decide) (by decide)
    inb_S1024x512_S64x128_576_128 _ ?_, ?_⟩
  rotate_left
  refine List.forall_mem_cons.mpr ⟨piece_of x0 x1 x2 x3 x4 x5 (k0_pay3 x6) 9 0 0 (by decide) (by decide) (by decide)
    inb_S1024x512_S64x128_576_0 _ ?_, ?_⟩
  rotate_left
  refine List.forall_mem_cons.mpr ⟨piece_of x0 x1 x2 x3 x4 x5 (k0_pay3 x6) 8 1 1 (by decide) (by decide) (by decide)
    inb_S1024x512_S64x128_512_384 _ ?_, ?_⟩
  rotate_left
  refine List.forall_mem_cons.mpr ⟨piece_of x0 x1 x2 x3 x4 x5 (k0_pay3 x6) 8 1 0 (by decide) (by decide) (by decide)
    inb_S1024x512_S64x128_512_256 _ ?_, ?_⟩
  rotate_left
  refine List.forall_mem_cons.mpr ⟨piece_of x0 x1 x2 x3 x4 x5 (k0_pay3 x6) 8 0 1 (by decide) (by decide) (by decide)
    inb_S1024x512_S64x128_512_128 _ ?_, ?_⟩
  rotate_left
  refine List.forall_mem_cons.mpr ⟨piece_of x0 x1 x2 x3 x4 x5 (k0_pay3 x6) 8 0 0 (by decide) (by decide) (by decide)
    inb_S1024x512_S64x128_512_0 _ ?_, ?_⟩
  rotate_left
  refine List.forall_mem_cons.mpr ⟨piece_of x0 x1 x2 x3 x4 x5 (k0_pay3 x6) 7 1 1 (by decide) (by decide) (by decide)
    inb_S1024x512_S64x128_448_384 _ ?_, ?_⟩
  rotate_left
  refine List.forall_mem_cons.mpr ⟨piece_of x0 x1 x2 x3 x4 x5 (k0_pay3 x6) 7 1 0 (by decide) (by decide) (by decide)
    inb_S1024x512_S64x128_448_256 _ ?_, ?_⟩
  rotate_left
  refine List.forall_mem_cons.mpr ⟨piece_of x0 x1 x2 x3 x4 x5 (k0_pay3 x6) 7 0 1 (by decide) (by decide) (by decide)
    inb_S1024x512_S64x128_448_128 _ ?_, ?_⟩
  rotate_left
  refine List.forall_mem_cons.mpr ⟨piece_of x0 x1 x2 x3 x4 x5 (k0_pay3 x6) 7 0 0 (by decide) (by decide) (by decide)
    inb_S1024x512_S64x128_448_0 _ ?_, ?_⟩
  rotate_left
  refine List.forall_mem_cons.mpr ⟨piece_of x0 x1 x2 x3 x4 x5 (k0_pay3 x6) 6 1 1 (by decide) (by decide) (by decide)
    inb_S1024x512_S64x128_384_384 _ ?_, ?_⟩
  rotate_left
  refine List.forall_mem_cons.mpr ⟨piece_of x0 x1 x2 x3 x4 x5 (k0_pay3 x6) 6 1 0 (by decide) (by decide) (by decide)
    inb_S1024x512_S64x128_384_256 _ ?_, ?_⟩
  rotate_left
  refine List.forall_mem_cons.mpr ⟨piece_of x0 x1 x2 x3 x4 x5 (k0_pay3 x6) 6 0 1 (by decide) (by decide) (by decide)
    inb_S1024x512_S64x128_384_128 _ ?_, ?_⟩
  rotate_left
  refine List.forall_mem_cons.mpr ⟨piece_of x0 x1 x2 x3 x4 x5 (k0_pay3 x6) 6 0 0 (by decide) (by decide) (by decide)
    inb_S1024x512_S64x128_384_0 _ ?_, ?_⟩
  rotate_left
  refine List.forall_mem_cons.mpr ⟨piece_of x0 x1 x2 x3 x4 x5 (k0_pay3 x6) 5 1 1 (by decide) (by decide) (by decide)
    inb_S1024x512_S64x128_320_384 _ ?_, ?_⟩
  rotate_left
  refine List.forall_mem_cons.mpr ⟨piece_of x0 x1 x2 x3 x4 x5 (k0_pay3 x6) 5 1 0 (by decide) (by decide) (by decide)
    inb_S1024x512_S64x128_320_256 _ ?_, ?_⟩
  rotate_left
  refine List.forall_mem_cons.mpr ⟨piece_of x0 x1 x2 x3 x4 x5 (k0_pay3 x6) 5 0 1 (by decide) (by decide) (by decide)
    inb_S1024x512_S64x128_320_128 _ ?_, ?_⟩
  rotate_left
  refine List.forall_mem_cons.mpr ⟨piece_of x0 x1 x2 x3 x4 x5 (k0_pay3 x6) 5 0 0 (by decide) (by decide) (by decide)
    inb_S1024x512_S64x128_320_0 _ ?_, ?_⟩
  rotate_left
  refine List.forall_mem_cons.mpr ⟨piece_of x0 x1 x2 x3 x4 x5 (k0_pay3 x6) 4 1 1 (by decide) (by decide) (by decide)
    inb_S1024x512_S64x128_256_384 _ ?_, ?_⟩
  rotate_left
  refine List.forall_mem_cons.mpr ⟨piece_of x0 x1 x2 x3 x4 x5 (k0_pay3 x6) 4 1 0 (by decide) (by decide) (by decide)
    inb_S1024x512_S64x128_256_256 _ ?_, ?_⟩
  rotate_left
  refine List.forall_mem_cons.mpr ⟨piece_of x0 x1 x2 x3 x4 x5 (k0_pay3 x6) 4 0 1 (by decide) (by decide) (by decide)
    inb_S1024x512_S64x128_256_128 _ ?_, ?_⟩
  rotate_left
  refine List.forall_mem_cons.mpr ⟨piece_of x0 x1 x2 x3 x4 x5 (k0_pay3 x6) 4 0 0 (by decide) (by decide) (by decide)
    inb_S1024x512_S64x128_256_0 _ ?_, ?_⟩
  rotate_left
  refine List.forall_mem_cons.mpr ⟨piece_of x0 x1 x2 x3 x4 x5 (k0_pay3 x6) 3 1 1 (by decide) (by decide) (by decide)
    inb_S1024x512_S64x128_192_384 _ ?_, ?_⟩
  rotate_left
  refine List.forall_mem_cons.mpr ⟨piece_of x0 x1 x2 x3 x4 x5 (k0_pay3 x6) 3 1 0 (by decide) (by decide) (by decide)
    inb_S1024x512_S64x128_192_256 _ ?_, ?_⟩
  rotate_left
  refine List.forall_mem_cons.mpr ⟨piece_of x0 x1 x2 x3 x4 x5 (k0_pay3 x6) 3 0 1 (by decide) (by decide) (by decide)
    inb_S1024x512_S64x128_192_128 _ ?_, ?_⟩
  rotate_left
  refine List.forall_mem_cons.mpr ⟨piece_of x0 x1 x2 x3 x4 x5 (k0_pay3 x6) 3 0 0 (by decide) (by decide) (by decide)
    inb_S1024x512_S64x128_192_0 _ ?_, ?_⟩
  rotate_left
  refine List.forall_mem_cons.mpr ⟨piece_of x0 x1 x2 x3 x4 x5 (k0_pay3 x6) 2 1 1 (by decide) (by decide) (by decide)
    inb_S1024x512_S64x128_128_384 _ ?_, ?_⟩
  rotate_left
  refine List.forall_mem_cons.mpr ⟨piece_of x0 x1 x2 x3 x4 x5 (k0_pay3 x6) 2 1 0 (by decide) (by decide) (by decide)
    inb_S1024x512_S64x128_128_256 _ ?_, ?_⟩
  rotate_left
  refine List.forall_mem_cons.mpr ⟨piece_of x0 x1 x2 x3 x4 x5 (k0_pay3 x6) 2 0 1 (by decide) (by decide) (by decide)
    inb_S1024x512_S64x128_128_128 _ ?_, ?_⟩
  rotate_left
  refine List.forall_mem_cons.mpr ⟨piece_of x0 x1 x2 x3 x4 x5 (k0_pay3 x6) 2 0 0 (by decide) (by decide) (by decide)
    inb_S1024x512_S64x128_128_0 _ ?_, ?_⟩
  rotate_left
  refine List.forall_mem_cons.mpr ⟨piece_of x0 x1 x2 x3 x4 x5 (k0_pay3 x6) 1 1 1 (by decide) (by decide) (by decide)
    inb_S1024x512_S64x128_64_384 _ ?_, ?_⟩
  rotate_left
  refine List.forall_mem_cons.mpr ⟨piece_of x0 x1 x2 x3 x4 x5 (k0_pay3 x6) 1 1 0 (by decide) (by decide) (by decide)
    inb_S1024x512_S64x128_64_256 _ ?_, ?_⟩
  rotate_left
  refine List.forall_mem_cons.mpr ⟨piece_of x0 x1 x2 x3 x4 x5 (k0_pay3 x6) 1 0 1 (by decide) (by decide) (by decide)
    inb_S1024x512_S64x128_64_128 _ ?_, ?_⟩
  rotate_left
  refine List.forall_mem_cons.mpr ⟨piece_of x0 x1 x2 x3 x4 x5 (k0_pay3 x6) 1 0 0 (by decide) (by decide) (by decide)
    inb_S1024x512_S64x128_64_0 _ ?_, ?_⟩
  rotate_left
  refine List.forall_mem_cons.mpr ⟨piece_of x0 x1 x2 x3 x4 x5 (k0_pay3 x6) 0 1 1 (by decide) (by decide) (by decide)
    inb_S1024x512_S64x128_0_384 _ ?_, ?_⟩
  rotate_left
  refine List.forall_mem_cons.mpr ⟨piece_of x0 x1 x2 x3 x4 x5 (k0_pay3 x6) 0 1 0 (by decide) (by decide) (by decide)
    inb_S1024x512_S64x128_0_256 _ ?_, ?_⟩
  rotate_left
  refine List.forall_mem_cons.mpr ⟨piece_of x0 x1 x2 x3 x4 x5 (k0_pay3 x6) 0 0 1 (by decide) (by decide) (by decide)
    inb_S1024x512_S64x128_0_128 _ ?_, ?_⟩
  rotate_left
  refine List.forall_mem_cons.mpr ⟨piece_of x0 x1 x2 x3 x4 x5 (k0_pay3 x6) 0 0 0 (by decide) (by decide) (by decide)
    inb_S1024x512_S64x128_0_0 _ ?_, ?_⟩
  rotate_left
  exact List.forall_mem_nil _
  all_goals
   (simp only [
    kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19,
    kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, kernelRun0_A.sl.r_43, kernelRun0_A.sl.r_44,
    kernelRun0_A.sl.r_45, kernelRun0_A.sl.r_46, kernelRun0_A.sl.r_47, kernelRun0_A.sl.r_48, kernelRun0_A.sl.r_49,
    kernelRun0_A.sl.r_50, kernelRun0_A.sl.r_51, kernelRun0_A.sl.r_52, kernelRun0_A.sl.r_53, kernelRun0_A.sl.r_54,
    kernelRun0_A.sl.r_55, kernelRun0_A.sl.r_56, kernelRun0_A.sl.r_57, kernelRun0_A.sl.r_58, kernelRun0_A.sl.r_59,
    kernelRun0_A.sl.r_60, kernelRun0_A.sl.r_61, kernelRun0_A.sl.r_62, kernelRun0_A.sl.r_63, kernelRun0_A.sl.r_64,
    kernelRun0_A.sl.r_65, kernelRun0_A.sl.r_66, kernelRun0_A.sl.r_67, kernelRun0_A.sl.r_68, kernelRun0_A.sl.r_69,
    kernelRun0_A.sl.r_70, kernelRun0_A.sl.r_71, kernelRun0_A.sl.r_72, kernelRun0_A.sl.r_73, kernelRun0_A.sl.r_74,
    kernelRun0_A.sl.r_75, kernelRun0_A.sl.r_76, kernelRun0_A.sl.r_77, kernelRun0_A.sl.r_78, kernelRun0_A.sl.r_79,
    kernelRun0_A.sl.r_80, kernelRun0_A.sl.r_81, kernelRun0_A.sl.r_82, kernelRun0_A.sl.r_83, kernelRun0_A.sl.r_84,
    kernelRun0_A.sl.r_85, kernelRun0_A.sl.r_86, kernelRun0_A.sl.r_87, kernelRun0_A.sl.r_88, kernelRun0_A.sl.r_89,
    kernelRun0_A.sl.r_90, kernelRun0_A.sl.r_91, kernelRun0_A.sl.r_92, kernelRun0_A.sl.r_93, kernelRun0_A.sl.r_94,
    kernelRun0_A.sl.r_95, kernelRun0_A.sl.r_96, kernelRun0_A.sl.r_97, kernelRun0_A.sl.r_98, kernelRun0_A.sl.r_99,
    kernelRun0_A.sl.r_100, kernelRun0_A.sl.r_101, kernelRun0_A.sl.r_102, kernelRun0_A.sl.r_103, kernelRun0_A.sl.r_104,
    kernelRun0_A.sl.r_105, kernelRun0_A.sl.r_106, kernelRun0_A.sl.r_107, kernelRun0_A.sl.r_108, kernelRun0_A.sl.r_109,
    kernelRun0_A.sl.r_110, kernelRun0_A.sl.r_111, kernelRun0_A.sl.r_112, kernelRun0_A.sl.r_113, kernelRun0_A.sl.r_114,
    kernelRun0_A.sl.r_115, kernelRun0_A.sl.r_116, kernelRun0_A.sl.r_117, kernelRun0_A.sl.r_118, kernelRun0_A.sl.r_119,
    kernelRun0_A.sl.r_120, kernelRun0_A.sl.r_121, kernelRun0_A.sl.r_122, kernelRun0_A.sl.r_123, kernelRun0_A.sl.r_124,
    kernelRun0_A.sl.r_125, kernelRun0_A.sl.r_126, kernelRun0_A.sl.r_127, kernelRun0_A.sl.r_128, kernelRun0_A.sl.r_129,
    kernelRun0_A.sl.r_130, kernelRun0_A.sl.r_131, kernelRun0_A.sl.r_132, kernelRun0_A.sl.r_133, kernelRun0_A.sl.r_134,
    kernelRun0_A.sl.r_135, kernelRun0_A.sl.r_136, kernelRun0_A.sl.r_137, kernelRun0_A.sl.r_138, kernelRun0_A.sl.r_139,
    kernelRun0_A.sl.r_140, kernelRun0_A.sl.r_141, kernelRun0_A.sl.r_142, kernelRun0_A.sl.r_143, kernelRun0_A.sl.r_144,
    kernelRun0_A.sl.r_145, kernelRun0_A.sl.r_146, kernelRun0_A.sl.r_147, kernelRun0_A.sl.r_148, kernelRun0_A.sl.r_149,
    kernelRun0_A.sl.r_150, kernelRun0_A.sl.r_151, kernelRun0_A.sl.r_152, kernelRun0_A.sl.r_153, kernelRun0_A.sl.r_154,
    kernelRun0_A.sl.r_155, kernelRun0_A.sl.r_156, kernelRun0_A.sl.r_157, kernelRun0_A.sl.r_158, kernelRun0_A.sl.r_159,
    kernelRun0_A.sl.r_160, kernelRun0_A.sl.r_161, kernelRun0_A.sl.r_162, kernelRun0_A.sl.r_163, kernelRun0_A.sl.r_164,
    kernelRun0_A.sl.r_165, kernelRun0_A.sl.r_166, kernelRun0_A.sl.r_167, kernelRun0_A.sl.r_168, kernelRun0_A.sl.r_169,
    kernelRun0_A.sl.r_170, kernelRun0_A.sl.r_171, kernelRun0_A.sl.r_172, kernelRun0_A.sl.r_173, kernelRun0_A.sl.r_174,
    kernelRun0_A.sl.r_175, kernelRun0_A.sl.r_176, kernelRun0_A.sl.r_177, kernelRun0_A.sl.r_178, kernelRun0_A.sl.r_179,
    kernelRun0_A.sl.r_180, kernelRun0_A.sl.r_181, kernelRun0_A.sl.r_182, kernelRun0_A.sl.r_183, kernelRun0_A.sl.r_184,
    kernelRun0_A.sl.r_185, kernelRun0_A.sl.r_186, kernelRun0_A.sl.r_187, kernelRun0_A.sl.r_188, kernelRun0_A.sl.r_189,
    kernelRun0_A.sl.r_190, kernelRun0_A.sl.r_191, kernelRun0_A.sl.r_192, kernelRun0_A.sl.r_193, kernelRun0_A.sl.r_194,
    kernelRun0_A.sl.r_195, kernelRun0_A.sl.r_196, kernelRun0_A.sl.r_197, kernelRun0_A.sl.r_198, kernelRun0_A.sl.r_199,
    kernelRun0_A.sl.r_200, kernelRun0_A.sl.r_201, kernelRun0_A.sl.r_202, kernelRun0_A.sl.r_203, kernelRun0_A.sl.r_204,
    kernelRun0_A.sl.r_205, kernelRun0_A.sl.r_206, kernelRun0_A.sl.r_207, kernelRun0_A.sl.r_208, kernelRun0_A.sl.r_209,
    kernelRun0_A.sl.r_210, kernelRun0_A.sl.r_211, kernelRun0_A.sl.r_212, kernelRun0_A.sl.r_213, kernelRun0_A.sl.r_214,
    kernelRun0_A.sl.r_215, kernelRun0_A.sl.r_216, kernelRun0_A.sl.r_217, kernelRun0_A.sl.r_218, kernelRun0_A.sl.r_219,
    kernelRun0_A.sl.r_220, kernelRun0_A.sl.r_221, kernelRun0_A.sl.r_222, kernelRun0_A.sl.r_223, kernelRun0_A.sl.r_224,
    kernelRun0_A.sl.r_225, kernelRun0_A.sl.r_226, kernelRun0_A.sl.r_227, kernelRun0_A.sl.r_228, kernelRun0_A.sl.r_229,
    kernelRun0_A.sl.r_230, kernelRun0_A.sl.r_231, kernelRun0_A.sl.r_232, kernelRun0_A.sl.r_233, kernelRun0_A.sl.r_234,
    kernelRun0_A.sl.r_235, kernelRun0_A.sl.r_236, kernelRun0_A.sl.r_237, kernelRun0_A.sl.r_238, kernelRun0_A.sl.r_239,
    kernelRun0_A.sl.r_240, kernelRun0_A.sl.r_241, kernelRun0_A.sl.r_242, kernelRun0_A.sl.r_243, kernelRun0_A.sl.r_244,
    kernelRun0_A.sl.r_245, kernelRun0_A.sl.r_246, kernelRun0_A.sl.r_247, kernelRun0_A.sl.r_248, kernelRun0_A.sl.r_249,
    kernelRun0_A.sl.r_250, kernelRun0_A.sl.r_251, kernelRun0_A.sl.r_252, kernelRun0_A.sl.r_253, kernelRun0_A.sl.r_254,
    kernelRun0_A.sl.r_255, kernelRun0_A.sl.r_256, kernelRun0_A.sl.r_257, kernelRun0_A.sl.r_258, kernelRun0_A.sl.r_259,
    kernelRun0_A.sl.r_260, kernelRun0_A.sl.r_261, kernelRun0_A.sl.r_262, kernelRun0_A.sl.r_263, kernelRun0_A.sl.r_264,
    kernelRun0_A.sl.r_265, kernelRun0_A.sl.r_266, kernelRun0_A.sl.r_267, kernelRun0_A.sl.r_268, kernelRun0_A.sl.r_269,
    kernelRun0_A.sl.r_270, kernelRun0_A.sl.r_271, kernelRun0_A.sl.r_272, kernelRun0_A.sl.r_273, kernelRun0_A.sl.r_274,
    kernelRun0_A.sl.r_275, kernelRun0_A.sl.r_276, kernelRun0_A.sl.r_277, kernelRun0_A.sl.r_278, kernelRun0_A.sl.r_279,
    kernelRun0_A.sl.r_280, kernelRun0_A.sl.r_281, kernelRun0_A.sl.r_282, kernelRun0_A.sl.r_283, kernelRun0_A.sl.r_284,
    kernelRun0_A.sl.r_285, kernelRun0_A.sl.r_286, kernelRun0_A.sl.r_287, kernelRun0_A.sl.r_288, kernelRun0_A.sl.r_289,
    kernelRun0_A.sl.r_290, kernelRun0_A.sl.r_291, kernelRun0_A.sl.r_292, kernelRun0_A.sl.r_293, kernelRun0_A.sl.r_294,
    kernelRun0_A.sl.r_295, kernelRun0_A.sl.r_296, kernelRun0_A.sl.r_297, kernelRun0_A.sl.r_298, kernelRun0_A.sl.r_299,
    kernelRun0_A.sl.r_300, kernelRun0_A.sl.r_301, kernelRun0_A.sl.r_302, kernelRun0_A.sl.r_303, kernelRun0_A.sl.r_304,
    kernelRun0_A.sl.r_305, kernelRun0_A.sl.r_306, kernelRun0_A.sl.r_307, kernelRun0_A.sl.r_308, kernelRun0_A.sl.r_309,
    kernelRun0_A.sl.r_310, kernelRun0_A.sl.r_311, kernelRun0_A.sl.r_312, kernelRun0_A.sl.r_313, kernelRun0_A.sl.r_314,
    kernelRun0_A.sl.r_315, kernelRun0_A.sl.r_316, kernelRun0_A.sl.r_317, kernelRun0_A.sl.r_318, kernelRun0_A.sl.r_319,
    kernelRun0_A.sl.r_320, kernelRun0_A.sl.r_321, kernelRun0_A.sl.r_322, kernelRun0_A.sl.r_323, kernelRun0_A.sl.r_324,
    kernelRun0_A.sl.r_325, kernelRun0_A.sl.r_326, kernelRun0_A.sl.r_327, kernelRun0_A.sl.r_328, kernelRun0_A.sl.r_329,
    kernelRun0_A.sl.r_330, kernelRun0_A.sl.r_331, kernelRun0_A.sl.r_332, kernelRun0_A.sl.r_333, kernelRun0_A.sl.r_334,
    kernelRun0_A.sl.r_335, kernelRun0_A.sl.r_336, kernelRun0_A.sl.r_337, kernelRun0_A.sl.r_338, kernelRun0_A.sl.r_339,
    kernelRun0_A.sl.r_340, kernelRun0_A.sl.r_341, kernelRun0_A.sl.r_342, kernelRun0_A.sl.r_343, kernelRun0_A.sl.r_344,
    kernelRun0_A.sl.r_345, kernelRun0_A.sl.r_346, kernelRun0_A.sl.r_347, kernelRun0_A.sl.r_348, kernelRun0_A.sl.r_349,
    kernelRun0_A.sl.r_350, kernelRun0_A.sl.r_351, kernelRun0_A.sl.r_352, kernelRun0_A.sl.r_353, kernelRun0_A.sl.r_354,
    kernelRun0_A.sl.r_355, kernelRun0_A.sl.r_356, kernelRun0_A.sl.r_357, kernelRun0_A.sl.r_358, kernelRun0_A.sl.r_359,
    kernelRun0_A.sl.r_360, kernelRun0_A.sl.r_361, kernelRun0_A.sl.r_362, kernelRun0_A.sl.r_363, kernelRun0_A.sl.r_364,
    kernelRun0_A.sl.r_365, kernelRun0_A.sl.r_366, kernelRun0_A.sl.r_367, kernelRun0_A.sl.r_368, kernelRun0_A.sl.r_369,
    kernelRun0_A.sl.r_370, kernelRun0_A.sl.r_371, kernelRun0_A.sl.r_372, kernelRun0_A.sl.r_373, kernelRun0_A.sl.r_374,
    kernelRun0_A.sl.r_375, kernelRun0_A.sl.r_376, kernelRun0_A.sl.r_377, kernelRun0_A.sl.r_378, kernelRun0_A.sl.r_379,
    kernelRun0_A.sl.r_380, kernelRun0_A.sl.r_381, kernelRun0_A.sl.r_382, kernelRun0_A.sl.r_383, kernelRun0_A.sl.r_384,
    kernelRun0_A.sl.r_385, kernelRun0_A.sl.r_386, kernelRun0_A.sl.r_387, kernelRun0_A.sl.r_388, kernelRun0_A.sl.r_389,
    kernelRun0_A.sl.r_390, kernelRun0_A.sl.r_391, kernelRun0_A.sl.r_392, kernelRun0_A.sl.r_393, kernelRun0_A.sl.r_394,
    kernelRun0_A.sl.r_395, kernelRun0_A.sl.r_396, kernelRun0_A.sl.r_397, kernelRun0_A.sl.r_398, kernelRun0_A.sl.r_399,
    kernelRun0_A.sl.r_400, kernelRun0_A.sl.r_401, kernelRun0_A.sl.r_402, kernelRun0_A.sl.r_403, kernelRun0_A.sl.r_404,
    kernelRun0_A.sl.r_405, kernelRun0_A.sl.r_406, kernelRun0_A.sl.r_407, kernelRun0_A.sl.r_408, kernelRun0_A.sl.r_409,
    kernelRun0_A.sl.r_410, kernelRun0_A.sl.r_411, kernelRun0_A.sl.r_412, kernelRun0_A.sl.r_413, kernelRun0_A.sl.r_414,
    kernelRun0_A.sl.r_415, kernelRun0_A.sl.r_416, kernelRun0_A.sl.r_417, kernelRun0_A.sl.r_418, kernelRun0_A.sl.r_419,
    kernelRun0_A.sl.r_420, kernelRun0_A.sl.r_421, kernelRun0_A.sl.r_422, kernelRun0_A.sl.r_423, kernelRun0_A.sl.r_424,
    kernelRun0_A.sl.r_425, kernelRun0_A.sl.r_426, kernelRun0_A.sl.r_427, kernelRun0_A.sl.r_428, kernelRun0_A.sl.r_429,
    kernelRun0_A.sl.r_430, kernelRun0_A.sl.r_431, kernelRun0_A.sl.r_432, kernelRun0_A.sl.r_433, kernelRun0_A.sl.r_434,
    kernelRun0_A.sl.r_435, kernelRun0_A.sl.r_436, kernelRun0_A.sl.r_437, kernelRun0_A.sl.r_438, kernelRun0_A.sl.r_439,
    kernelRun0_A.sl.r_440, kernelRun0_A.sl.r_441, kernelRun0_A.sl.r_442, kernelRun0_A.sl.r_443, kernelRun0_A.sl.r_444,
    kernelRun0_A.sl.r_445, kernelRun0_A.sl.r_446, kernelRun0_A.sl.r_447, kernelRun0_A.sl.r_448, kernelRun0_A.sl.r_449,
    kernelRun0_A.sl.r_450, kernelRun0_A.sl.r_451, kernelRun0_A.sl.r_452, kernelRun0_A.sl.r_453, kernelRun0_A.sl.r_454,
    kernelRun0_A.sl.r_455, kernelRun0_A.sl.r_456, kernelRun0_A.sl.r_457, kernelRun0_A.sl.r_458, kernelRun0_A.sl.r_459,
    kernelRun0_A.sl.r_460, kernelRun0_A.sl.r_461, kernelRun0_A.sl.r_462, kernelRun0_A.sl.r_463, kernelRun0_A.sl.r_464,
    kernelRun0_A.sl.r_465, kernelRun0_A.sl.r_466, kernelRun0_A.sl.r_467, kernelRun0_A.sl.r_468, kernelRun0_A.sl.r_469,
    kernelRun0_A.sl.r_470, kernelRun0_A.sl.r_471, kernelRun0_A.sl.r_472, kernelRun0_A.sl.r_473, kernelRun0_A.sl.r_474,
    kernelRun0_A.sl.r_475, kernelRun0_A.sl.r_476, kernelRun0_A.sl.r_477, kernelRun0_A.sl.r_478, kernelRun0_A.sl.r_479,
    kernelRun0_A.sl.r_480, kernelRun0_A.sl.r_481, kernelRun0_A.sl.r_482, kernelRun0_A.sl.r_483, kernelRun0_A.sl.r_484,
    kernelRun0_A.sl.r_485, kernelRun0_A.sl.r_486, kernelRun0_A.sl.r_487, kernelRun0_A.sl.r_488, kernelRun0_A.sl.r_489,
    kernelRun0_A.sl.r_490, kernelRun0_A.sl.r_491, kernelRun0_A.sl.r_492, kernelRun0_A.sl.r_493, kernelRun0_A.sl.r_494,
    kernelRun0_A.sl.r_495, kernelRun0_A.sl.r_496, kernelRun0_A.sl.r_497, kernelRun0_A.sl.r_498, kernelRun0_A.sl.r_499,
    kernelRun0_A.sl.r_500, kernelRun0_A.sl.r_503, kernelRun0_A.sl.r_504, kernelRun0_A.sl.r_505, kernelRun0_A.sl.r_507,
    kernelRun0_A.sl.r_508, kernelRun0_A.sl.r_509, kernelRun0_A.sl.r_511, kernelRun0_A.sl.r_512, kernelRun0_A.sl.r_513,
    kernelRun0_A.sl.r_515, kernelRun0_A.sl.r_516, kernelRun0_A.sl.r_517, kernelRun0_A.sl.r_519, kernelRun0_A.sl.r_520,
    kernelRun0_A.sl.r_521, kernelRun0_A.sl.r_523, kernelRun0_A.sl.r_524, kernelRun0_A.sl.r_525, kernelRun0_A.sl.r_527,
    kernelRun0_A.sl.r_528, kernelRun0_A.sl.r_529, kernelRun0_A.sl.r_531, kernelRun0_A.sl.r_532, kernelRun0_A.sl.r_533,
    kernelRun0_A.sl.r_535, kernelRun0_A.sl.r_536, kernelRun0_A.sl.r_537, kernelRun0_A.sl.r_539, kernelRun0_A.sl.r_540,
    kernelRun0_A.sl.r_541, kernelRun0_A.sl.r_543, kernelRun0_A.sl.r_544, kernelRun0_A.sl.r_545, kernelRun0_A.sl.r_547,
    kernelRun0_A.sl.r_548, kernelRun0_A.sl.r_549, kernelRun0_A.sl.r_551, kernelRun0_A.sl.r_552, kernelRun0_A.sl.r_553,
    kernelRun0_A.sl.r_555, kernelRun0_A.sl.r_556, kernelRun0_A.sl.r_557, kernelRun0_A.sl.r_559, kernelRun0_A.sl.r_560,
    kernelRun0_A.sl.r_561, kernelRun0_A.sl.r_563, kernelRun0_A.sl.r_564, kernelRun0_A.sl.r_565, kernelRun0_A.sl.r_567,
    kernelRun0_A.sl.r_568, kernelRun0_A.sl.r_569, kernelRun0_A.sl.r_571, kernelRun0_A.sl.r_572, kernelRun0_A.sl.r_573,
    kernelRun0_A.sl.r_575, kernelRun0_A.sl.r_576, kernelRun0_A.sl.r_577, kernelRun0_A.sl.r_579, kernelRun0_A.sl.r_580,
    kernelRun0_A.sl.r_581, kernelRun0_A.sl.r_583, kernelRun0_A.sl.r_584, kernelRun0_A.sl.r_585, kernelRun0_A.sl.r_587,
    kernelRun0_A.sl.r_588, kernelRun0_A.sl.r_589, kernelRun0_A.sl.r_591, kernelRun0_A.sl.r_592, kernelRun0_A.sl.r_593,
    kernelRun0_A.sl.r_595, kernelRun0_A.sl.r_596, kernelRun0_A.sl.r_597, kernelRun0_A.sl.r_599, kernelRun0_A.sl.r_600,
    kernelRun0_A.sl.r_601, kernelRun0_A.sl.r_603, kernelRun0_A.sl.r_604, kernelRun0_A.sl.r_605, kernelRun0_A.sl.r_607,
    kernelRun0_A.sl.r_608, kernelRun0_A.sl.r_609, kernelRun0_A.sl.r_611, kernelRun0_A.sl.r_612, kernelRun0_A.sl.r_613,
    kernelRun0_A.sl.r_615, kernelRun0_A.sl.r_616, kernelRun0_A.sl.r_617, kernelRun0_A.sl.r_619, kernelRun0_A.sl.r_620,
    kernelRun0_A.sl.r_621, kernelRun0_A.sl.r_623, kernelRun0_A.sl.r_624, kernelRun0_A.sl.r_625, kernelRun0_A.sl.r_627,
    kernelRun0_A.sl.r_628, kernelRun0_A.sl.r_629, A_st_0_0, A_st_0_1, A_st_0_2, A_st_0_3, A_st_0_4, A_st_0_5, A_st_0_6,
    A_st_0_7, A_st_0_8, A_st_0_9, A_st_0_10, A_st_0_11, A_st_0_12, A_st_0_13, A_st_0_14, A_st_0_15, A_st_0_16, A_st_1_0,
    A_st_1_1, A_st_1_2, A_st_1_3, A_st_1_4, A_st_1_5, A_st_1_6, A_st_1_7, A_st_1_8, A_st_1_9, A_st_1_10, A_st_1_11, A_st_1_12,
    A_st_1_13, A_st_1_14, A_st_1_15, A_st_1_16, rd2, rd5, rdg, kernelRun0_A.sl.v2199, kernelRun0_A.sl.v2201, A_slab]; rfl)

theorem A_7 (hc0 : cond0_0 i) : out0_A_7 c i arg2 harg2 arg3 harg3 arg4 harg4 arg5 harg5 arg6 harg6 arg7 harg7 arg8 harg8 arg9 harg9 arg10 harg10 arg11 harg11 hc0 x0 x1 x2 x3 x4 x5 x6 = rowsV x0 x1 x2 x3 x4 x5 (k0_pay3 x6) := by
  rw [out0_A_7, View.read_writes_junk_eq_canon]
  funext y
  refine View.canon_apply_of_pieces _ _ ?_ y ?_
  · apply A_pieces
  · apply cover0_A_7

theorem A_8 (hc0 : cond0_0 i) : out0_A_8 c i arg2 harg2 arg3 harg3 arg4 harg4 arg5 harg5 arg6 harg6 arg7 harg7 arg8 harg8 arg9 harg9 arg10 harg10 arg11 harg11 hc0 x0 x1 x2 x3 x4 x5 x6 = endO x1 x2 x3 (k0_pay3 x6) := by
  rw [out0_A_8, View.read_writes_junk_eq_canon]
  dsimp only [kernelRun0_A]
  rw [A_st_0_16, A_st_1_16]
  funext y
  refine canon_two _ _ _ (endO x1 x2 x3 (k0_pay3 x6)) ?_ ?_ y ?_
  · exact endO_1 x1 x2 x3 (k0_pay3 x6) inb_S1x2x128x128_S1x1x128x128_0_1_0_0
  · exact endO_0 x1 x2 x3 (k0_pay3 x6) inb_S1x2x128x128_S1x1x128x128_0_0_0_0
  · exact cover_O y inb_S1x2x128x128_S1x1x128x128_0_1_0_0 inb_S1x2x128x128_S1x1x128x128_0_0_0_0

theorem A_s (hc0 : cond0_0 i) : sout0_A_0 c i arg2 harg2 arg3 harg3 arg4 harg4 arg5 harg5 arg6 harg6 arg7 harg7 arg8 harg8 arg9 harg9 arg10 harg10 arg11 harg11 hc0 x0 x1 x2 x3 x4 x5 x6 = endS x1 x2 x3 (k0_pay3 x6) := by
  rw [sout0_A_0, View.read_writes_junk_eq_canon]
  dsimp only [kernelRun0_A]
  rw [A_st_0_16, A_st_1_16]
  funext y
  refine canon_two _ _ _ (endS x1 x2 x3 (k0_pay3 x6)) ?_ ?_ y ?_
  · exact endS_1 x1 x2 x3 (k0_pay3 x6) inb_S2x128x128_S1x128x128_1_0_0
  · exact endS_0 x1 x2 x3 (k0_pay3 x6) inb_S2x128x128_S1x128x128_0_0_0
  · exact cover_S y inb_S2x128x128_S1x128x128_1_0_0 inb_S2x128x128_S1x128x128_0_0_0

end Cert.GlaVec

end
-- ==== Proof.GlaLinkB.lean ====
/-
The later grid points of a sequence: each state and each stored piece of the kernel's body is the uniform function of the
chunk's blocks and of the state before it.
-/
module

public import proofs.«01_k».proof.Proof.GlaLink
public import proofs.«01_k».proof.Proof.Gen.KernelIdeal.Frame

@[expose] public section

noncomputable section

namespace Cert.GlaVec

open Idealize.ShloMosaic
open Cert.KernelIdeal Cert.KernelIdeal.Gen

variable {F : FTy → Type} [FloatOps F] (c : Dev nD) (i : grid0.Coords) (arg2 : Memref sig .tc .vmem S1024x256 .f32) (harg2 : arg2.IsWhole)
  (arg3 : Memref sig .tc .vmem S1024x256 .f32) (harg3 : arg3.IsWhole) (arg4 : Memref sig .tc .vmem S1024x512 .f32) (harg4 : arg4.IsWhole)
  (arg5 : Memref sig .tc .vmem S1024x256 .f32) (harg5 : arg5.IsWhole) (arg6 : Memref sig .tc .vmem S1024x512 .f32) (harg6 : arg6.IsWhole)
  (arg7 : Memref sig .tc .vmem S1x128 .f32) (harg7 : arg7.IsWhole) (arg8 : Memref sig .tc .vmem S1x2x128x128 .f32) (harg8 : arg8.IsWhole)
  (arg9 : Memref sig .tc .vmem S1024x512 .bf16) (harg9 : arg9.IsWhole) (arg10 : Memref sig .tc .vmem S1x2x128x128 .f32)
  (harg10 : arg10.IsWhole) (arg11 : Memref sig .tc .vmem S2x128x128 .f32) (harg11 : arg11.IsWhole)
  (x0 : Vec F S1024x256 .f32) (x1 : Vec F S1024x256 .f32) (x2 : Vec F S1024x512 .f32) (x3 : Vec F S1024x256 .f32)
  (x4 : Vec F S1024x512 .f32) (x5 : Vec F S1x128 .f32) (x6 : Vec F S1x2x128x128 .f32) (xs0 : Vec F S2x128x128 .f32)

theorem B_st_0_0 : kernelRun0_B.sl.r_501 c arg11 harg11 xs0 = startV xs0 0 := by
  simp only [kernelRun0_B.sl.r_501, rds]; rfl

theorem B_st_0_1 : kernelRun0_B.sl.r_506 c arg3 harg3 arg4 harg4 arg5 harg5 arg11 harg11 x1 x2 x3 xs0 = seqV x1 x2 x3 0 (startV xs0 0) 1 := by
  simp only [kernelRun0_B.sl.r_506, kernelRun0_B.sl.r_1, kernelRun0_B.sl.r_47, kernelRun0_B.sl.r_48, kernelRun0_B.sl.r_317,
    B_st_0_0, rd2, rd5]; rfl

theorem B_st_0_2 : kernelRun0_B.sl.r_514 c arg3 harg3 arg4 harg4 arg5 harg5 arg11 harg11 x1 x2 x3 xs0 = seqV x1 x2 x3 0 (startV xs0 0) 2 := by
  simp only [kernelRun0_B.sl.r_514, kernelRun0_B.sl.r_5, kernelRun0_B.sl.r_57, kernelRun0_B.sl.r_58, kernelRun0_B.sl.r_330,
    B_st_0_1, rd2, rd5]; rfl

theorem B_st_0_3 : kernelRun0_B.sl.r_522 c arg3 harg3 arg4 harg4 arg5 harg5 arg11 harg11 x1 x2 x3 xs0 = seqV x1 x2 x3 0 (startV xs0 0) 3 := by
  simp only [kernelRun0_B.sl.r_522, kernelRun0_B.sl.r_7, kernelRun0_B.sl.r_69, kernelRun0_B.sl.r_70, kernelRun0_B.sl.r_342,
    B_st_0_2, rd2, rd5]; rfl

theorem B_st_0_4 : kernelRun0_B.sl.r_530 c arg3 harg3 arg4 harg4 arg5 harg5 arg11 harg11 x1 x2 x3 xs0 = seqV x1 x2 x3 0 (startV xs0 0) 4 := by
  simp only [kernelRun0_B.sl.r_530, kernelRun0_B.sl.r_9, kernelRun0_B.sl.r_10, kernelRun0_B.sl.r_83, kernelRun0_B.sl.r_84, kernelRun0_B.sl.r_355,
    B_st_0_3, rd2, rd5]; rfl

theorem B_st_0_5 : kernelRun0_B.sl.r_538 c arg3 harg3 arg4 harg4 arg5 harg5 arg11 harg11 x1 x2 x3 xs0 = seqV x1 x2 x3 0 (startV xs0 0) 5 := by
  simp only [kernelRun0_B.sl.r_538, kernelRun0_B.sl.r_12, kernelRun0_B.sl.r_96, kernelRun0_B.sl.r_97, kernelRun0_B.sl.r_367,
    B_st_0_4, rd2, rd5]; rfl

theorem B_st_0_6 : kernelRun0_B.sl.r_546 c arg3 harg3 arg4 harg4 arg5 harg5 arg11 harg11 x1 x2 x3 xs0 = seqV x1 x2 x3 0 (startV xs0 0) 6 := by
  simp only [kernelRun0_B.sl.r_546, kernelRun0_B.sl.r_14, kernelRun0_B.sl.r_15, kernelRun0_B.sl.r_16, kernelRun0_B.sl.r_107, kernelRun0_B.sl.r_108, kernelRun0_B.sl.r_379,
    B_st_0_5, rd2, rd5]; rfl

theorem B_st_0_7 : kernelRun0_B.sl.r_554 c arg3 harg3 arg4 harg4 arg5 harg5 arg11 harg11 x1 x2 x3 xs0 = seqV x1 x2 x3 0 (startV xs0 0) 7 := by
  simp only [kernelRun0_B.sl.r_554, kernelRun0_B.sl.r_18, kernelRun0_B.sl.r_115, kernelRun0_B.sl.r_117, kernelRun0_B.sl.r_121, kernelRun0_B.sl.r_122, kernelRun0_B.sl.r_390,
    B_st_0_6, rd2, rd5]; rfl

theorem B_st_0_8 : kernelRun0_B.sl.r_562 c arg3 harg3 arg4 harg4 arg5 harg5 arg11 harg11 x1 x2 x3 xs0 = seqV x1 x2 x3 0 (startV xs0 0) 8 := by
  simp only [kernelRun0_B.sl.r_562, kernelRun0_B.sl.r_20, kernelRun0_B.sl.r_128, kernelRun0_B.sl.r_129, kernelRun0_B.sl.r_133, kernelRun0_B.sl.r_134, kernelRun0_B.sl.r_135, kernelRun0_B.sl.r_401,
    B_st_0_7, rd2, rd5]; rfl

theorem B_st_0_9 : kernelRun0_B.sl.r_570 c arg3 harg3 arg4 harg4 arg5 harg5 arg11 harg11 x1 x2 x3 xs0 = seqV x1 x2 x3 0 (startV xs0 0) 9 := by
  simp only [kernelRun0_B.sl.r_570, kernelRun0_B.sl.r_24, kernelRun0_B.sl.r_144, kernelRun0_B.sl.r_145, kernelRun0_B.sl.r_413,
    B_st_0_8, rd2, rd5]; rfl

theorem B_st_0_10 : kernelRun0_B.sl.r_578 c arg3 harg3 arg4 harg4 arg5 harg5 arg11 harg11 x1 x2 x3 xs0 = seqV x1 x2 x3 0 (startV xs0 0) 10 := by
  simp only [kernelRun0_B.sl.r_578, kernelRun0_B.sl.r_26, kernelRun0_B.sl.r_155, kernelRun0_B.sl.r_156, kernelRun0_B.sl.r_425,
    B_st_0_9, rd2, rd5]; rfl

theorem B_st_0_11 : kernelRun0_B.sl.r_586 c arg3 harg3 arg4 harg4 arg5 harg5 arg11 harg11 x1 x2 x3 xs0 = seqV x1 x2 x3 0 (startV xs0 0) 11 := by
  simp only [kernelRun0_B.sl.r_586, kernelRun0_B.sl.r_28, kernelRun0_B.sl.r_170, kernelRun0_B.sl.r_171, kernelRun0_B.sl.r_437,
    B_st_0_10, rd2, rd5]; rfl

theorem B_st_0_12 : kernelRun0_B.sl.r_594 c arg3 harg3 arg4 harg4 arg5 harg5 arg11 harg11 x1 x2 x3 xs0 = seqV x1 x2 x3 0 (startV xs0 0) 12 := by
  simp only [kernelRun0_B.sl.r_594, kernelRun0_B.sl.r_30, kernelRun0_B.sl.r_184, kernelRun0_B.sl.r_185, kernelRun0_B.sl.r_448,
    B_st_0_11, rd2, rd5]; rfl

theorem B_st_0_13 : kernelRun0_B.sl.r_602 c arg3 harg3 arg4 harg4 arg5 harg5 arg11 harg11 x1 x2 x3 xs0 = seqV x1 x2 x3 0 (startV xs0 0) 13 := by
  simp only [kernelRun0_B.sl.r_602, kernelRun0_B.sl.r_32, kernelRun0_B.sl.r_33, kernelRun0_B.sl.r_34, kernelRun0_B.sl.r_194, kernelRun0_B.sl.r_195, kernelRun0_B.sl.r_459,
    B_st_0_12, rd2, rd5]; rfl

theorem B_st_0_14 : kernelRun0_B.sl.r_610 c arg3 harg3 arg4 harg4 arg5 harg5 arg11 harg11 x1 x2 x3 xs0 = seqV x1 x2 x3 0 (startV xs0 0) 14 := by
  simp only [kernelRun0_B.sl.r_610, kernelRun0_B.sl.r_36, kernelRun0_B.sl.r_202, kernelRun0_B.sl.r_204, kernelRun0_B.sl.r_208, kernelRun0_B.sl.r_209, kernelRun0_B.sl.r_470,
    B_st_0_13, rd2, rd5]; rfl

theorem B_st_0_15 : kernelRun0_B.sl.r_618 c arg3 harg3 arg4 harg4 arg5 harg5 arg11 harg11 x1 x2 x3 xs0 = seqV x1 x2 x3 0 (startV xs0 0) 15 := by
  simp only [kernelRun0_B.sl.r_618, kernelRun0_B.sl.r_38, kernelRun0_B.sl.r_216, kernelRun0_B.sl.r_217, kernelRun0_B.sl.r_222, kernelRun0_B.sl.r_223, kernelRun0_B.sl.r_478, kernelRun0_B.sl.r_481, kernelRun0_B.sl.r_482,
    B_st_0_14, rd2, rd5]; rfl

theorem B_st_0_16 : kernelRun0_B.sl.r_626 c arg3 harg3 arg4 harg4 arg5 harg5 arg11 harg11 x1 x2 x3 xs0 = seqV x1 x2 x3 0 (startV xs0 0) 16 := by
  simp only [kernelRun0_B.sl.r_626, kernelRun0_B.sl.r_42, kernelRun0_B.sl.r_232, kernelRun0_B.sl.r_233, kernelRun0_B.sl.r_490, kernelRun0_B.sl.r_491, kernelRun0_B.sl.r_494, kernelRun0_B.sl.r_495,
    B_st_0_15, rd2, rd5]; rfl

theorem B_st_1_0 : kernelRun0_B.sl.r_502 c arg11 harg11 xs0 = startV xs0 1 := by
  simp only [kernelRun0_B.sl.r_502, rds]; rfl

theorem B_st_1_1 : kernelRun0_B.sl.r_510 c arg3 harg3 arg4 harg4 arg5 harg5 arg11 harg11 x1 x2 x3 xs0 = seqV x1 x2 x3 1 (startV xs0 1) 1 := by
  simp only [kernelRun0_B.sl.r_510, kernelRun0_B.sl.r_2, kernelRun0_B.sl.r_3, kernelRun0_B.sl.r_4, kernelRun0_B.sl.r_52, kernelRun0_B.sl.r_53, kernelRun0_B.sl.r_320, kernelRun0_B.sl.r_321, kernelRun0_B.sl.r_324, kernelRun0_B.sl.r_325,
    B_st_1_0, rd2, rd5]; rfl

theorem B_st_1_2 : kernelRun0_B.sl.r_518 c arg3 harg3 arg4 harg4 arg5 harg5 arg11 harg11 x1 x2 x3 xs0 = seqV x1 x2 x3 1 (startV xs0 1) 2 := by
  simp only [kernelRun0_B.sl.r_518, kernelRun0_B.sl.r_6, kernelRun0_B.sl.r_60, kernelRun0_B.sl.r_64, kernelRun0_B.sl.r_65, kernelRun0_B.sl.r_333, kernelRun0_B.sl.r_334, kernelRun0_B.sl.r_337,
    B_st_1_1, rd2, rd5]; rfl

theorem B_st_1_3 : kernelRun0_B.sl.r_526 c arg3 harg3 arg4 harg4 arg5 harg5 arg11 harg11 x1 x2 x3 xs0 = seqV x1 x2 x3 1 (startV xs0 1) 3 := by
  simp only [kernelRun0_B.sl.r_526, kernelRun0_B.sl.r_8, kernelRun0_B.sl.r_72, kernelRun0_B.sl.r_73, kernelRun0_B.sl.r_78, kernelRun0_B.sl.r_79, kernelRun0_B.sl.r_345, kernelRun0_B.sl.r_346, kernelRun0_B.sl.r_350,
    B_st_1_2, rd2, rd5]; rfl

theorem B_st_1_4 : kernelRun0_B.sl.r_534 c arg3 harg3 arg4 harg4 arg5 harg5 arg11 harg11 x1 x2 x3 xs0 = seqV x1 x2 x3 1 (startV xs0 1) 4 := by
  simp only [kernelRun0_B.sl.r_534, kernelRun0_B.sl.r_11, kernelRun0_B.sl.r_85, kernelRun0_B.sl.r_86, kernelRun0_B.sl.r_90, kernelRun0_B.sl.r_91, kernelRun0_B.sl.r_92, kernelRun0_B.sl.r_358, kernelRun0_B.sl.r_359, kernelRun0_B.sl.r_362,
    B_st_1_3, rd2, rd5]; rfl

theorem B_st_1_5 : kernelRun0_B.sl.r_542 c arg3 harg3 arg4 harg4 arg5 harg5 arg11 harg11 x1 x2 x3 xs0 = seqV x1 x2 x3 1 (startV xs0 1) 5 := by
  simp only [kernelRun0_B.sl.r_542, kernelRun0_B.sl.r_13, kernelRun0_B.sl.r_101, kernelRun0_B.sl.r_102, kernelRun0_B.sl.r_370, kernelRun0_B.sl.r_371, kernelRun0_B.sl.r_374,
    B_st_1_4, rd2, rd5]; rfl

theorem B_st_1_6 : kernelRun0_B.sl.r_550 c arg3 harg3 arg4 harg4 arg5 harg5 arg11 harg11 x1 x2 x3 xs0 = seqV x1 x2 x3 1 (startV xs0 1) 6 := by
  simp only [kernelRun0_B.sl.r_550, kernelRun0_B.sl.r_17, kernelRun0_B.sl.r_112, kernelRun0_B.sl.r_113, kernelRun0_B.sl.r_382, kernelRun0_B.sl.r_385,
    B_st_1_5, rd2, rd5]; rfl

theorem B_st_1_7 : kernelRun0_B.sl.r_558 c arg3 harg3 arg4 harg4 arg5 harg5 arg11 harg11 x1 x2 x3 xs0 = seqV x1 x2 x3 1 (startV xs0 1) 7 := by
  simp only [kernelRun0_B.sl.r_558, kernelRun0_B.sl.r_19, kernelRun0_B.sl.r_126, kernelRun0_B.sl.r_127, kernelRun0_B.sl.r_393, kernelRun0_B.sl.r_396,
    B_st_1_6, rd2, rd5]; rfl

theorem B_st_1_8 : kernelRun0_B.sl.r_566 c arg3 harg3 arg4 harg4 arg5 harg5 arg11 harg11 x1 x2 x3 xs0 = seqV x1 x2 x3 1 (startV xs0 1) 8 := by
  simp only [kernelRun0_B.sl.r_566, kernelRun0_B.sl.r_21, kernelRun0_B.sl.r_22, kernelRun0_B.sl.r_23, kernelRun0_B.sl.r_139, kernelRun0_B.sl.r_140, kernelRun0_B.sl.r_402, kernelRun0_B.sl.r_405, kernelRun0_B.sl.r_408,
    B_st_1_7, rd2, rd5]; rfl

theorem B_st_1_9 : kernelRun0_B.sl.r_574 c arg3 harg3 arg4 harg4 arg5 harg5 arg11 harg11 x1 x2 x3 xs0 = seqV x1 x2 x3 1 (startV xs0 1) 9 := by
  simp only [kernelRun0_B.sl.r_574, kernelRun0_B.sl.r_25, kernelRun0_B.sl.r_150, kernelRun0_B.sl.r_151, kernelRun0_B.sl.r_414, kernelRun0_B.sl.r_417, kernelRun0_B.sl.r_420,
    B_st_1_8, rd2, rd5]; rfl

theorem B_st_1_10 : kernelRun0_B.sl.r_582 c arg3 harg3 arg4 harg4 arg5 harg5 arg11 harg11 x1 x2 x3 xs0 = seqV x1 x2 x3 1 (startV xs0 1) 10 := by
  simp only [kernelRun0_B.sl.r_582, kernelRun0_B.sl.r_27, kernelRun0_B.sl.r_158, kernelRun0_B.sl.r_160, kernelRun0_B.sl.r_165, kernelRun0_B.sl.r_166, kernelRun0_B.sl.r_426, kernelRun0_B.sl.r_432,
    B_st_1_9, rd2, rd5]; rfl

theorem B_st_1_11 : kernelRun0_B.sl.r_590 c arg3 harg3 arg4 harg4 arg5 harg5 arg11 harg11 x1 x2 x3 xs0 = seqV x1 x2 x3 1 (startV xs0 1) 11 := by
  simp only [kernelRun0_B.sl.r_590, kernelRun0_B.sl.r_29, kernelRun0_B.sl.r_173, kernelRun0_B.sl.r_174, kernelRun0_B.sl.r_179, kernelRun0_B.sl.r_180, kernelRun0_B.sl.r_438, kernelRun0_B.sl.r_443,
    B_st_1_10, rd2, rd5]; rfl

theorem B_st_1_12 : kernelRun0_B.sl.r_598 c arg3 harg3 arg4 harg4 arg5 harg5 arg11 harg11 x1 x2 x3 xs0 = seqV x1 x2 x3 1 (startV xs0 1) 12 := by
  simp only [kernelRun0_B.sl.r_598, kernelRun0_B.sl.r_31, kernelRun0_B.sl.r_189, kernelRun0_B.sl.r_190, kernelRun0_B.sl.r_449, kernelRun0_B.sl.r_454,
    B_st_1_11, rd2, rd5]; rfl

theorem B_st_1_13 : kernelRun0_B.sl.r_606 c arg3 harg3 arg4 harg4 arg5 harg5 arg11 harg11 x1 x2 x3 xs0 = seqV x1 x2 x3 1 (startV xs0 1) 13 := by
  simp only [kernelRun0_B.sl.r_606, kernelRun0_B.sl.r_35, kernelRun0_B.sl.r_199, kernelRun0_B.sl.r_200, kernelRun0_B.sl.r_460, kernelRun0_B.sl.r_465,
    B_st_1_12, rd2, rd5]; rfl

theorem B_st_1_14 : kernelRun0_B.sl.r_614 c arg3 harg3 arg4 harg4 arg5 harg5 arg11 harg11 x1 x2 x3 xs0 = seqV x1 x2 x3 1 (startV xs0 1) 14 := by
  simp only [kernelRun0_B.sl.r_614, kernelRun0_B.sl.r_37, kernelRun0_B.sl.r_213, kernelRun0_B.sl.r_214, kernelRun0_B.sl.r_475,
    B_st_1_13, rd2, rd5]; rfl

theorem B_st_1_15 : kernelRun0_B.sl.r_622 c arg3 harg3 arg4 harg4 arg5 harg5 arg11 harg11 x1 x2 x3 xs0 = seqV x1 x2 x3 1 (startV xs0 1) 15 := by
  simp only [kernelRun0_B.sl.r_622, kernelRun0_B.sl.r_39, kernelRun0_B.sl.r_40, kernelRun0_B.sl.r_41, kernelRun0_B.sl.r_227, kernelRun0_B.sl.r_228, kernelRun0_B.sl.r_487,
    B_st_1_14, rd2, rd5]; rfl

theorem B_st_1_16 : kernelRun0_B.sl.r_630 c arg3 harg3 arg4 harg4 arg5 harg5 arg11 harg11 x1 x2 x3 xs0 = seqV x1 x2 x3 1 (startV xs0 1) 16 := by
  simp only [kernelRun0_B.sl.r_630, kernelRun0_B.sl.r_43, kernelRun0_B.sl.r_237, kernelRun0_B.sl.r_238, kernelRun0_B.sl.r_500,
    B_st_1_15, rd2, rd5]; rfl

/-- Every stored piece of the output rows is that piece of `rowsV`. -/
theorem B_pieces (hc0 : ¬cond0_0 i) :
    ∀ p ∈ (kernelRun0_B c i arg2 harg2 arg3 harg3 arg4 harg4 arg5 harg5 arg6 harg6 arg7 harg7 arg8 harg8 arg9 harg9 arg10 harg10 arg11 harg11 hc0 x0 x1 x2 x3 x4 x5 x6 xs0).1,
      ∀ x, p.2 x = rowsV x0 x1 x2 x3 x4 x5 xs0 (p.1.emb x) := by
  dsimp only [kernelRun0_B]
  refine List.forall_mem_cons.mpr ⟨piece_of x0 x1 x2 x3 x4 x5 xs0 15 1 1 (by decide) (by decide) (by decide)
    inb_S1024x512_S64x128_960_384 _ ?_, ?_⟩
  rotate_left
  refine List.forall_mem_cons.mpr ⟨piece_of x0 x1 x2 x3 x4 x5 xs0 15 1 0 (by decide) (by decide) (by decide)
    inb_S1024x512_S64x128_960_256 _ ?_, ?_⟩
  rotate_left
  refine List.forall_mem_cons.mpr ⟨piece_of x0 x1 x2 x3 x4 x5 xs0 15 0 1 (by decide) (by decide) (by decide)
    inb_S1024x512_S64x128_960_128 _ ?_, ?_⟩
  rotate_left
  refine List.forall_mem_cons.mpr ⟨piece_of x0 x1 x2 x3 x4 x5 xs0 15 0 0 (by decide) (by decide) (by decide)
    inb_S1024x512_S64x128_960_0 _ ?_, ?_⟩
  rotate_left
  refine List.forall_mem_cons.mpr ⟨piece_of x0 x1 x2 x3 x4 x5 xs0 14 1 1 (by decide) (by decide) (by decide)
    inb_S1024x512_S64x128_896_384 _ ?_, ?_⟩
  rotate_left
  refine List.forall_mem_cons.mpr ⟨piece_of x0 x1 x2 x3 x4 x5 xs0 14 1 0 (by decide) (by decide) (by decide)
    inb_S1024x512_S64x128_896_256 _ ?_, ?_⟩
  rotate_left
  refine List.forall_mem_cons.mpr ⟨piece_of x0 x1 x2 x3 x4 x5 xs0 14 0 1 (by decide) (by decide) (by decide)
    inb_S1024x512_S64x128_896_128 _ ?_, ?_⟩
  rotate_left
  refine List.forall_mem_cons.mpr ⟨piece_of x0 x1 x2 x3 x4 x5 xs0 14 0 0 (by decide) (by decide) (by decide)
    inb_S1024x512_S64x128_896_0 _ ?_, ?_⟩
  rotate_left
  refine List.forall_mem_cons.mpr ⟨piece_of x0 x1 x2 x3 x4 x5 xs0 13 1 1 (by decide) (by decide) (by decide)
    inb_S1024x512_S64x128_832_384 _ ?_, ?_⟩
  rotate_left
  refine List.forall_mem_cons.mpr ⟨piece_of x0 x1 x2 x3 x4 x5 xs0 13 1 0 (by decide) (by decide) (by decide)
    inb_S1024x512_S64x128_832_256 _ ?_, ?_⟩
  rotate_left
  refine List.forall_mem_cons.mpr ⟨piece_of x0 x1 x2 x3 x4 x5 xs0 13 0 1 (by decide) (by decide) (by decide)
    inb_S1024x512_S64x128_832_128 _ ?_, ?_⟩
  rotate_left
  refine List.forall_mem_cons.mpr ⟨piece_of x0 x1 x2 x3 x4 x5 xs0 13 0 0 (by decide) (by decide) (by decide)
    inb_S1024x512_S64x128_832_0 _ ?_, ?_⟩
  rotate_left
  refine List.forall_mem_cons.mpr ⟨piece_of x0 x1 x2 x3 x4 x5 xs0 12 1 1 (by decide) (by decide) (by decide)
    inb_S1024x512_S64x128_768_384 _ ?_, ?_⟩
  rotate_left
  refine List.forall_mem_cons.mpr ⟨piece_of x0 x1 x2 x3 x4 x5 xs0 12 1 0 (by decide) (by decide) (by decide)
    inb_S1024x512_S64x128_768_256 _ ?_, ?_⟩
  rotate_left
  refine List.forall_mem_cons.mpr ⟨piece_of x0 x1 x2 x3 x4 x5 xs0 12 0 1 (by decide) (by decide) (by decide)
    inb_S1024x512_S64x128_768_128 _ ?_, ?_⟩
  rotate_left
  refine List.forall_mem_cons.mpr ⟨piece_of x0 x1 x2 x3 x4 x5 xs0 12 0 0 (by decide) (by decide) (by decide)
    inb_S1024x512_S64x128_768_0 _ ?_, ?_⟩
  rotate_left
  refine List.forall_mem_cons.mpr ⟨piece_of x0 x1 x2 x3 x4 x5 xs0 11 1 1 (by decide) (by decide) (by decide)
    inb_S1024x512_S64x128_704_384 _ ?_, ?_⟩
  rotate_left
  refine List.forall_mem_cons.mpr ⟨piece_of x0 x1 x2 x3 x4 x5 xs0 11 1 0 (by decide) (by decide) (by decide)
    inb_S1024x512_S64x128_704_256 _ ?_, ?_⟩
  rotate_left
  refine List.forall_mem_cons.mpr ⟨piece_of x0 x1 x2 x3 x4 x5 xs0 11 0 1 (by decide) (by decide) (by decide)
    inb_S1024x512_S64x128_704_128 _ ?_, ?_⟩
  rotate_left
  refine List.forall_mem_cons.mpr ⟨piece_of x0 x1 x2 x3 x4 x5 xs0 11 0 0 (by decide) (by decide) (by decide)
    inb_S1024x512_S64x128_704_0 _ ?_, ?_⟩
  rotate_left
  refine List.forall_mem_cons.mpr ⟨piece_of x0 x1 x2 x3 x4 x5 xs0 10 1 1 (by decide) (by decide) (by decide)
    inb_S1024x512_S64x128_640_384 _ ?_, ?_⟩
  rotate_left
  refine List.forall_mem_cons.mpr ⟨piece_of x0 x1 x2 x3 x4 x5 xs0 10 1 0 (by decide) (by decide) (by decide)
    inb_S1024x512_S64x128_640_256 _ ?_, ?_⟩
  rotate_left
  refine List.forall_mem_cons.mpr ⟨piece_of x0 x1 x2 x3 x4 x5 xs0 10 0 1 (by decide) (by decide) (by decide)
    inb_S1024x512_S64x128_640_128 _ ?_, ?_⟩
  rotate_left
  refine List.forall_mem_cons.mpr ⟨piece_of x0 x1 x2 x3 x4 x5 xs0 10 0 0 (by decide) (by decide) (by decide)
    inb_S1024x512_S64x128_640_0 _ ?_, ?_⟩
  rotate_left
  refine List.forall_mem_cons.mpr ⟨piece_of x0 x1 x2 x3 x4 x5 xs0 9 1 1 (by decide) (by decide) (by decide)
    inb_S1024x512_S64x128_576_384 _ ?_, ?_⟩
  rotate_left
  refine List.forall_mem_cons.mpr ⟨piece_of x0 x1 x2 x3 x4 x5 xs0 9 1 0 (by decide) (by decide) (by decide)
    inb_S1024x512_S64x128_576_256 _ ?_, ?_⟩
  rotate_left
  refine List.forall_mem_cons.mpr ⟨piece_of x0 x1 x2 x3 x4 x5 xs0 9 0 1 (by decide) (by decide) (by decide)
    inb_S1024x512_S64x128_576_128 _ ?_, ?_⟩
  rotate_left
  refine List.forall_mem_cons.mpr ⟨piece_of x0 x1 x2 x3 x4 x5 xs0 9 0 0 (by decide) (by decide) (by decide)
    inb_S1024x512_S64x128_576_0 _ ?_, ?_⟩
  rotate_left
  refine List.forall_mem_cons.mpr ⟨piece_of x0 x1 x2 x3 x4 x5 xs0 8 1 1 (by decide) (by decide) (by decide)
    inb_S1024x512_S64x128_512_384 _ ?_, ?_⟩
  rotate_left
  refine List.forall_mem_cons.mpr ⟨piece_of x0 x1 x2 x3 x4 x5 xs0 8 1 0 (by decide) (by decide) (by decide)
    inb_S1024x512_S64x128_512_256 _ ?_, ?_⟩
  rotate_left
  refine List.forall_mem_cons.mpr ⟨piece_of x0 x1 x2 x3 x4 x5 xs0 8 0 1 (by decide) (by decide) (by decide)
    inb_S1024x512_S64x128_512_128 _ ?_, ?_⟩
  rotate_left
  refine List.forall_mem_cons.mpr ⟨piece_of x0 x1 x2 x3 x4 x5 xs0 8 0 0 (by decide) (by decide) (by decide)
    inb_S1024x512_S64x128_512_0 _ ?_, ?_⟩
  rotate_left
  refine List.forall_mem_cons.mpr ⟨piece_of x0 x1 x2 x3 x4 x5 xs0 7 1 1 (by decide) (by decide) (by decide)
    inb_S1024x512_S64x128_448_384 _ ?_, ?_⟩
  rotate_left
  refine List.forall_mem_cons.mpr ⟨piece_of x0 x1 x2 x3 x4 x5 xs0 7 1 0 (by decide) (by decide) (by decide)
    inb_S1024x512_S64x128_448_256 _ ?_, ?_⟩
  rotate_left
  refine List.forall_mem_cons.mpr ⟨piece_of x0 x1 x2 x3 x4 x5 xs0 7 0 1 (by decide) (by decide) (by decide)
    inb_S1024x512_S64x128_448_128 _ ?_, ?_⟩
  rotate_left
  refine List.forall_mem_cons.mpr ⟨piece_of x0 x1 x2 x3 x4 x5 xs0 7 0 0 (by decide) (by decide) (by decide)
    inb_S1024x512_S64x128_448_0 _ ?_, ?_⟩
  rotate_left
  refine List.forall_mem_cons.mpr ⟨piece_of x0 x1 x2 x3 x4 x5 xs0 6 1 1 (by decide) (by decide) (by decide)
    inb_S1024x512_S64x128_384_384 _ ?_, ?_⟩
  rotate_left
  refine List.forall_mem_cons.mpr ⟨piece_of x0 x1 x2 x3 x4 x5 xs0 6 1 0 (by decide) (by decide) (by decide)
    inb_S1024x512_S64x128_384_256 _ ?_, ?_⟩
  rotate_left
  refine List.forall_mem_cons.mpr ⟨piece_of x0 x1 x2 x3 x4 x5 xs0 6 0 1 (by decide) (by decide) (by decide)
    inb_S1024x512_S64x128_384_128 _ ?_, ?_⟩
  rotate_left
  refine List.forall_mem_cons.mpr ⟨piece_of x0 x1 x2 x3 x4 x5 xs0 6 0 0 (by decide) (by decide) (by decide)
    inb_S1024x512_S64x128_384_0 _ ?_, ?_⟩
  rotate_left
  refine List.forall_mem_cons.mpr ⟨piece_of x0 x1 x2 x3 x4 x5 xs0 5 1 1 (by decide) (by decide) (by decide)
    inb_S1024x512_S64x128_320_384 _ ?_, ?_⟩
  rotate_left
  refine List.forall_mem_cons.mpr ⟨piece_of x0 x1 x2 x3 x4 x5 xs0 5 1 0 (by decide) (by decide) (by decide)
    inb_S1024x512_S64x128_320_256 _ ?_, ?_⟩
  rotate_left
  refine List.forall_mem_cons.mpr ⟨piece_of x0 x1 x2 x3 x4 x5 xs0 5 0 1 (by decide) (by decide) (by decide)
    inb_S1024x512_S64x128_320_128 _ ?_, ?_⟩
  rotate_left
  refine List.forall_mem_cons.mpr ⟨piece_of x0 x1 x2 x3 x4 x5 xs0 5 0 0 (by decide) (by decide) (by decide)
    inb_S1024x512_S64x128_320_0 _ ?_, ?_⟩
  rotate_left
  refine List.forall_mem_cons.mpr ⟨piece_of x0 x1 x2 x3 x4 x5 xs0 4 1 1 (by decide) (by decide) (by decide)
    inb_S1024x512_S64x128_256_384 _ ?_, ?_⟩
  rotate_left
  refine List.forall_mem_cons.mpr ⟨piece_of x0 x1 x2 x3 x4 x5 xs0 4 1 0 (by decide) (by decide) (by decide)
    inb_S1024x512_S64x128_256_256 _ ?_, ?_⟩
  rotate_left
  refine List.forall_mem_cons.mpr ⟨piece_of x0 x1 x2 x3 x4 x5 xs0 4 0 1 (by decide) (by decide) (by decide)
    inb_S1024x512_S64x128_256_128 _ ?_, ?_⟩
  rotate_left
  refine List.forall_mem_cons.mpr ⟨piece_of x0 x1 x2 x3 x4 x5 xs0 4 0 0 (by decide) (by decide) (by decide)
    inb_S1024x512_S64x128_256_0 _ ?_, ?_⟩
  rotate_left
  refine List.forall_mem_cons.mpr ⟨piece_of x0 x1 x2 x3 x4 x5 xs0 3 1 1 (by decide) (by decide) (by decide)
    inb_S1024x512_S64x128_192_384 _ ?_, ?_⟩
  rotate_left
  refine List.forall_mem_cons.mpr ⟨piece_of x0 x1 x2 x3 x4 x5 xs0 3 1 0 (by decide) (by decide) (by decide)
    inb_S1024x512_S64x128_192_256 _ ?_, ?_⟩
  rotate_left
  refine List.forall_mem_cons.mpr ⟨piece_of x0 x1 x2 x3 x4 x5 xs0 3 0 1 (by decide) (by decide) (by decide)
    inb_S1024x512_S64x128_192_128 _ ?_, ?_⟩
  rotate_left
  refine List.forall_mem_cons.mpr ⟨piece_of x0 x1 x2 x3 x4 x5 xs0 3 0 0 (by decide) (by decide) (by decide)
    inb_S1024x512_S64x128_192_0 _ ?_, ?_⟩
  rotate_left
  refine List.forall_mem_cons.mpr ⟨piece_of x0 x1 x2 x3 x4 x5 xs0 2 1 1 (by decide) (by decide) (by decide)
    inb_S1024x512_S64x128_128_384 _ ?_, ?_⟩
  rotate_left
  refine List.forall_mem_cons.mpr ⟨piece_of x0 x1 x2 x3 x4 x5 xs0 2 1 0 (by decide) (by decide) (by decide)
    inb_S1024x512_S64x128_128_256 _ ?_, ?_⟩
  rotate_left
  refine List.forall_mem_cons.mpr ⟨piece_of x0 x1 x2 x3 x4 x5 xs0 2 0 1 (by decide) (by decide) (by decide)
    inb_S1024x512_S64x128_128_128 _ ?_, ?_⟩
  rotate_left
  refine List.forall_mem_cons.mpr ⟨piece_of x0 x1 x2 x3 x4 x5 xs0 2 0 0 (by decide) (by decide) (by decide)
    inb_S1024x512_S64x128_128_0 _ ?_, ?_⟩
  rotate_left
  refine List.forall_mem_cons.mpr ⟨piece_of x0 x1 x2 x3 x4 x5 xs0 1 1 1 (by decide) (by decide) (by decide)
    inb_S1024x512_S64x128_64_384 _ ?_, ?_⟩
  rotate_left
  refine List.forall_mem_cons.mpr ⟨piece_of x0 x1 x2 x3 x4 x5 xs0 1 1 0 (by decide) (by decide) (by decide)
    inb_S1024x512_S64x128_64_256 _ ?_, ?_⟩
  rotate_left
  refine List.forall_mem_cons.mpr ⟨piece_of x0 x1 x2 x3 x4 x5 xs0 1 0 1 (by decide) (by decide) (by decide)
    inb_S1024x512_S64x128_64_128 _ ?_, ?_⟩
  rotate_left
  refine List.forall_mem_cons.mpr ⟨piece_of x0 x1 x2 x3 x4 x5 xs0 1 0 0 (by decide) (by decide) (by decide)
    inb_S1024x512_S64x128_64_0 _ ?_, ?_⟩
  rotate_left
  refine List.forall_mem_cons.mpr ⟨piece_of x0 x1 x2 x3 x4 x5 xs0 0 1 1 (by decide) (by decide) (by decide)
    inb_S1024x512_S64x128_0_384 _ ?_, ?_⟩
  rotate_left
  refine List.forall_mem_cons.mpr ⟨piece_of x0 x1 x2 x3 x4 x5 xs0 0 1 0 (by decide) (by decide) (by decide)
    inb_S1024x512_S64x128_0_256 _ ?_, ?_⟩
  rotate_left
  refine List.forall_mem_cons.mpr ⟨piece_of x0 x1 x2 x3 x4 x5 xs0 0 0 1 (by decide) (by decide) (by decide)
    inb_S1024x512_S64x128_0_128 _ ?_, ?_⟩
  rotate_left
  refine List.forall_mem_cons.mpr ⟨piece_of x0 x1 x2 x3 x4 x5 xs0 0 0 0 (by decide) (by decide) (by decide)
    inb_S1024x512_S64x128_0_0 _ ?_, ?_⟩
  rotate_left
  exact List.forall_mem_nil _
  all_goals
   (simp only [
    kernelRun0_B.sl.r, kernelRun0_B.sl.r_1, kernelRun0_B.sl.r_2, kernelRun0_B.sl.r_3, kernelRun0_B.sl.r_4,
    kernelRun0_B.sl.r_5, kernelRun0_B.sl.r_6, kernelRun0_B.sl.r_7, kernelRun0_B.sl.r_8, kernelRun0_B.sl.r_9,
    kernelRun0_B.sl.r_10, kernelRun0_B.sl.r_11, kernelRun0_B.sl.r_12, kernelRun0_B.sl.r_13, kernelRun0_B.sl.r_14,
    kernelRun0_B.sl.r_15, kernelRun0_B.sl.r_16, kernelRun0_B.sl.r_17, kernelRun0_B.sl.r_18, kernelRun0_B.sl.r_19,
    kernelRun0_B.sl.r_20, kernelRun0_B.sl.r_21, kernelRun0_B.sl.r_22, kernelRun0_B.sl.r_23, kernelRun0_B.sl.r_24,
    kernelRun0_B.sl.r_25, kernelRun0_B.sl.r_26, kernelRun0_B.sl.r_27, kernelRun0_B.sl.r_28, kernelRun0_B.sl.r_29,
    kernelRun0_B.sl.r_30, kernelRun0_B.sl.r_31, kernelRun0_B.sl.r_32, kernelRun0_B.sl.r_33, kernelRun0_B.sl.r_34,
    kernelRun0_B.sl.r_35, kernelRun0_B.sl.r_36, kernelRun0_B.sl.r_37, kernelRun0_B.sl.r_38, kernelRun0_B.sl.r_39,
    kernelRun0_B.sl.r_40, kernelRun0_B.sl.r_41, kernelRun0_B.sl.r_42, kernelRun0_B.sl.r_43, kernelRun0_B.sl.r_44,
    kernelRun0_B.sl.r_45, kernelRun0_B.sl.r_46, kernelRun0_B.sl.r_47, kernelRun0_B.sl.r_48, kernelRun0_B.sl.r_49,
    kernelRun0_B.sl.r_50, kernelRun0_B.sl.r_51, kernelRun0_B.sl.r_52, kernelRun0_B.sl.r_53, kernelRun0_B.sl.r_54,
    kernelRun0_B.sl.r_55, kernelRun0_B.sl.r_56, kernelRun0_B.sl.r_57, kernelRun0_B.sl.r_58, kernelRun0_B.sl.r_59,
    kernelRun0_B.sl.r_60, kernelRun0_B.sl.r_61, kernelRun0_B.sl.r_62, kernelRun0_B.sl.r_63, kernelRun0_B.sl.r_64,
    kernelRun0_B.sl.r_65, kernelRun0_B.sl.r_66, kernelRun0_B.sl.r_67, kernelRun0_B.sl.r_68, kernelRun0_B.sl.r_69,
    kernelRun0_B.sl.r_70, kernelRun0_B.sl.r_71, kernelRun0_B.sl.r_72, kernelRun0_B.sl.r_73, kernelRun0_B.sl.r_74,
    kernelRun0_B.sl.r_75, kernelRun0_B.sl.r_76, kernelRun0_B.sl.r_77, kernelRun0_B.sl.r_78, kernelRun0_B.sl.r_79,
    kernelRun0_B.sl.r_80, kernelRun0_B.sl.r_81, kernelRun0_B.sl.r_82, kernelRun0_B.sl.r_83, kernelRun0_B.sl.r_84,
    kernelRun0_B.sl.r_85, kernelRun0_B.sl.r_86, kernelRun0_B.sl.r_87, kernelRun0_B.sl.r_88, kernelRun0_B.sl.r_89,
    kernelRun0_B.sl.r_90, kernelRun0_B.sl.r_91, kernelRun0_B.sl.r_92, kernelRun0_B.sl.r_93, kernelRun0_B.sl.r_94,
    kernelRun0_B.sl.r_95, kernelRun0_B.sl.r_96, kernelRun0_B.sl.r_97, kernelRun0_B.sl.r_98, kernelRun0_B.sl.r_99,
    kernelRun0_B.sl.r_100, kernelRun0_B.sl.r_101, kernelRun0_B.sl.r_102, kernelRun0_B.sl.r_103, kernelRun0_B.sl.r_104,
    kernelRun0_B.sl.r_105, kernelRun0_B.sl.r_106, kernelRun0_B.sl.r_107, kernelRun0_B.sl.r_108, kernelRun0_B.sl.r_109,
    kernelRun0_B.sl.r_110, kernelRun0_B.sl.r_111, kernelRun0_B.sl.r_112, kernelRun0_B.sl.r_113, kernelRun0_B.sl.r_114,
    kernelRun0_B.sl.r_115, kernelRun0_B.sl.r_116, kernelRun0_B.sl.r_117, kernelRun0_B.sl.r_118, kernelRun0_B.sl.r_119,
    kernelRun0_B.sl.r_120, kernelRun0_B.sl.r_121, kernelRun0_B.sl.r_122, kernelRun0_B.sl.r_123, kernelRun0_B.sl.r_124,
    kernelRun0_B.sl.r_125, kernelRun0_B.sl.r_126, kernelRun0_B.sl.r_127, kernelRun0_B.sl.r_128, kernelRun0_B.sl.r_129,
    kernelRun0_B.sl.r_130, kernelRun0_B.sl.r_131, kernelRun0_B.sl.r_132, kernelRun0_B.sl.r_133, kernelRun0_B.sl.r_134,
    kernelRun0_B.sl.r_135, kernelRun0_B.sl.r_136, kernelRun0_B.sl.r_137, kernelRun0_B.sl.r_138, kernelRun0_B.sl.r_139,
    kernelRun0_B.sl.r_140, kernelRun0_B.sl.r_141, kernelRun0_B.sl.r_142, kernelRun0_B.sl.r_143, kernelRun0_B.sl.r_144,
    kernelRun0_B.sl.r_145, kernelRun0_B.sl.r_146, kernelRun0_B.sl.r_147, kernelRun0_B.sl.r_148, kernelRun0_B.sl.r_149,
    kernelRun0_B.sl.r_150, kernelRun0_B.sl.r_151, kernelRun0_B.sl.r_152, kernelRun0_B.sl.r_153, kernelRun0_B.sl.r_154,
    kernelRun0_B.sl.r_155, kernelRun0_B.sl.r_156, kernelRun0_B.sl.r_157, kernelRun0_B.sl.r_158, kernelRun0_B.sl.r_159,
    kernelRun0_B.sl.r_160, kernelRun0_B.sl.r_161, kernelRun0_B.sl.r_162, kernelRun0_B.sl.r_163, kernelRun0_B.sl.r_164,
    kernelRun0_B.sl.r_165, kernelRun0_B.sl.r_166, kernelRun0_B.sl.r_167, kernelRun0_B.sl.r_168, kernelRun0_B.sl.r_169,
    kernelRun0_B.sl.r_170, kernelRun0_B.sl.r_171, kernelRun0_B.sl.r_172, kernelRun0_B.sl.r_173, kernelRun0_B.sl.r_174,
    kernelRun0_B.sl.r_175, kernelRun0_B.sl.r_176, kernelRun0_B.sl.r_177, kernelRun0_B.sl.r_178, kernelRun0_B.sl.r_179,
    kernelRun0_B.sl.r_180, kernelRun0_B.sl.r_181, kernelRun0_B.sl.r_182, kernelRun0_B.sl.r_183, kernelRun0_B.sl.r_184,
    kernelRun0_B.sl.r_185, kernelRun0_B.sl.r_186, kernelRun0_B.sl.r_187, kernelRun0_B.sl.r_188, kernelRun0_B.sl.r_189,
    kernelRun0_B.sl.r_190, kernelRun0_B.sl.r_191, kernelRun0_B.sl.r_192, kernelRun0_B.sl.r_193, kernelRun0_B.sl.r_194,
    kernelRun0_B.sl.r_195, kernelRun0_B.sl.r_196, kernelRun0_B.sl.r_197, kernelRun0_B.sl.r_198, kernelRun0_B.sl.r_199,
    kernelRun0_B.sl.r_200, kernelRun0_B.sl.r_201, kernelRun0_B.sl.r_202, kernelRun0_B.sl.r_203, kernelRun0_B.sl.r_204,
    kernelRun0_B.sl.r_205, kernelRun0_B.sl.r_206, kernelRun0_B.sl.r_207, kernelRun0_B.sl.r_208, kernelRun0_B.sl.r_209,
    kernelRun0_B.sl.r_210, kernelRun0_B.sl.r_211, kernelRun0_B.sl.r_212, kernelRun0_B.sl.r_213, kernelRun0_B.sl.r_214,
    kernelRun0_B.sl.r_215, kernelRun0_B.sl.r_216, kernelRun0_B.sl.r_217, kernelRun0_B.sl.r_218, kernelRun0_B.sl.r_219,
    kernelRun0_B.sl.r_220, kernelRun0_B.sl.r_221, kernelRun0_B.sl.r_222, kernelRun0_B.sl.r_223, kernelRun0_B.sl.r_224,
    kernelRun0_B.sl.r_225, kernelRun0_B.sl.r_226, kernelRun0_B.sl.r_227, kernelRun0_B.sl.r_228, kernelRun0_B.sl.r_229,
    kernelRun0_B.sl.r_230, kernelRun0_B.sl.r_231, kernelRun0_B.sl.r_232, kernelRun0_B.sl.r_233, kernelRun0_B.sl.r_234,
    kernelRun0_B.sl.r_235, kernelRun0_B.sl.r_236, kernelRun0_B.sl.r_237, kernelRun0_B.sl.r_238, kernelRun0_B.sl.r_239,
    kernelRun0_B.sl.r_240, kernelRun0_B.sl.r_241, kernelRun0_B.sl.r_242, kernelRun0_B.sl.r_243, kernelRun0_B.sl.r_244,
    kernelRun0_B.sl.r_245, kernelRun0_B.sl.r_246, kernelRun0_B.sl.r_247, kernelRun0_B.sl.r_248, kernelRun0_B.sl.r_249,
    kernelRun0_B.sl.r_250, kernelRun0_B.sl.r_251, kernelRun0_B.sl.r_252, kernelRun0_B.sl.r_253, kernelRun0_B.sl.r_254,
    kernelRun0_B.sl.r_255, kernelRun0_B.sl.r_256, kernelRun0_B.sl.r_257, kernelRun0_B.sl.r_258, kernelRun0_B.sl.r_259,
    kernelRun0_B.sl.r_260, kernelRun0_B.sl.r_261, kernelRun0_B.sl.r_262, kernelRun0_B.sl.r_263, kernelRun0_B.sl.r_264,
    kernelRun0_B.sl.r_265, kernelRun0_B.sl.r_266, kernelRun0_B.sl.r_267, kernelRun0_B.sl.r_268, kernelRun0_B.sl.r_269,
    kernelRun0_B.sl.r_270, kernelRun0_B.sl.r_271, kernelRun0_B.sl.r_272, kernelRun0_B.sl.r_273, kernelRun0_B.sl.r_274,
    kernelRun0_B.sl.r_275, kernelRun0_B.sl.r_276, kernelRun0_B.sl.r_277, kernelRun0_B.sl.r_278, kernelRun0_B.sl.r_279,
    kernelRun0_B.sl.r_280, kernelRun0_B.sl.r_281, kernelRun0_B.sl.r_282, kernelRun0_B.sl.r_283, kernelRun0_B.sl.r_284,
    kernelRun0_B.sl.r_285, kernelRun0_B.sl.r_286, kernelRun0_B.sl.r_287, kernelRun0_B.sl.r_288, kernelRun0_B.sl.r_289,
    kernelRun0_B.sl.r_290, kernelRun0_B.sl.r_291, kernelRun0_B.sl.r_292, kernelRun0_B.sl.r_293, kernelRun0_B.sl.r_294,
    kernelRun0_B.sl.r_295, kernelRun0_B.sl.r_296, kernelRun0_B.sl.r_297, kernelRun0_B.sl.r_298, kernelRun0_B.sl.r_299,
    kernelRun0_B.sl.r_300, kernelRun0_B.sl.r_301, kernelRun0_B.sl.r_302, kernelRun0_B.sl.r_303, kernelRun0_B.sl.r_304,
    kernelRun0_B.sl.r_305, kernelRun0_B.sl.r_306, kernelRun0_B.sl.r_307, kernelRun0_B.sl.r_308, kernelRun0_B.sl.r_309,
    kernelRun0_B.sl.r_310, kernelRun0_B.sl.r_311, kernelRun0_B.sl.r_312, kernelRun0_B.sl.r_313, kernelRun0_B.sl.r_314,
    kernelRun0_B.sl.r_315, kernelRun0_B.sl.r_316, kernelRun0_B.sl.r_317, kernelRun0_B.sl.r_318, kernelRun0_B.sl.r_319,
    kernelRun0_B.sl.r_320, kernelRun0_B.sl.r_321, kernelRun0_B.sl.r_322, kernelRun0_B.sl.r_323, kernelRun0_B.sl.r_324,
    kernelRun0_B.sl.r_325, kernelRun0_B.sl.r_326, kernelRun0_B.sl.r_327, kernelRun0_B.sl.r_328, kernelRun0_B.sl.r_329,
    kernelRun0_B.sl.r_330, kernelRun0_B.sl.r_331, kernelRun0_B.sl.r_332, kernelRun0_B.sl.r_333, kernelRun0_B.sl.r_334,
    kernelRun0_B.sl.r_335, kernelRun0_B.sl.r_336, kernelRun0_B.sl.r_337, kernelRun0_B.sl.r_338, kernelRun0_B.sl.r_339,
    kernelRun0_B.sl.r_340, kernelRun0_B.sl.r_341, kernelRun0_B.sl.r_342, kernelRun0_B.sl.r_343, kernelRun0_B.sl.r_344,
    kernelRun0_B.sl.r_345, kernelRun0_B.sl.r_346, kernelRun0_B.sl.r_347, kernelRun0_B.sl.r_348, kernelRun0_B.sl.r_349,
    kernelRun0_B.sl.r_350, kernelRun0_B.sl.r_351, kernelRun0_B.sl.r_352, kernelRun0_B.sl.r_353, kernelRun0_B.sl.r_354,
    kernelRun0_B.sl.r_355, kernelRun0_B.sl.r_356, kernelRun0_B.sl.r_357, kernelRun0_B.sl.r_358, kernelRun0_B.sl.r_359,
    kernelRun0_B.sl.r_360, kernelRun0_B.sl.r_361, kernelRun0_B.sl.r_362, kernelRun0_B.sl.r_363, kernelRun0_B.sl.r_364,
    kernelRun0_B.sl.r_365, kernelRun0_B.sl.r_366, kernelRun0_B.sl.r_367, kernelRun0_B.sl.r_368, kernelRun0_B.sl.r_369,
    kernelRun0_B.sl.r_370, kernelRun0_B.sl.r_371, kernelRun0_B.sl.r_372, kernelRun0_B.sl.r_373, kernelRun0_B.sl.r_374,
    kernelRun0_B.sl.r_375, kernelRun0_B.sl.r_376, kernelRun0_B.sl.r_377, kernelRun0_B.sl.r_378, kernelRun0_B.sl.r_379,
    kernelRun0_B.sl.r_380, kernelRun0_B.sl.r_381, kernelRun0_B.sl.r_382, kernelRun0_B.sl.r_383, kernelRun0_B.sl.r_384,
    kernelRun0_B.sl.r_385, kernelRun0_B.sl.r_386, kernelRun0_B.sl.r_387, kernelRun0_B.sl.r_388, kernelRun0_B.sl.r_389,
    kernelRun0_B.sl.r_390, kernelRun0_B.sl.r_391, kernelRun0_B.sl.r_392, kernelRun0_B.sl.r_393, kernelRun0_B.sl.r_394,
    kernelRun0_B.sl.r_395, kernelRun0_B.sl.r_396, kernelRun0_B.sl.r_397, kernelRun0_B.sl.r_398, kernelRun0_B.sl.r_399,
    kernelRun0_B.sl.r_400, kernelRun0_B.sl.r_401, kernelRun0_B.sl.r_402, kernelRun0_B.sl.r_403, kernelRun0_B.sl.r_404,
    kernelRun0_B.sl.r_405, kernelRun0_B.sl.r_406, kernelRun0_B.sl.r_407, kernelRun0_B.sl.r_408, kernelRun0_B.sl.r_409,
    kernelRun0_B.sl.r_410, kernelRun0_B.sl.r_411, kernelRun0_B.sl.r_412, kernelRun0_B.sl.r_413, kernelRun0_B.sl.r_414,
    kernelRun0_B.sl.r_415, kernelRun0_B.sl.r_416, kernelRun0_B.sl.r_417, kernelRun0_B.sl.r_418, kernelRun0_B.sl.r_419,
    kernelRun0_B.sl.r_420, kernelRun0_B.sl.r_421, kernelRun0_B.sl.r_422, kernelRun0_B.sl.r_423, kernelRun0_B.sl.r_424,
    kernelRun0_B.sl.r_425, kernelRun0_B.sl.r_426, kernelRun0_B.sl.r_427, kernelRun0_B.sl.r_428, kernelRun0_B.sl.r_429,
    kernelRun0_B.sl.r_430, kernelRun0_B.sl.r_431, kernelRun0_B.sl.r_432, kernelRun0_B.sl.r_433, kernelRun0_B.sl.r_434,
    kernelRun0_B.sl.r_435, kernelRun0_B.sl.r_436, kernelRun0_B.sl.r_437, kernelRun0_B.sl.r_438, kernelRun0_B.sl.r_439,
    kernelRun0_B.sl.r_440, kernelRun0_B.sl.r_441, kernelRun0_B.sl.r_442, kernelRun0_B.sl.r_443, kernelRun0_B.sl.r_444,
    kernelRun0_B.sl.r_445, kernelRun0_B.sl.r_446, kernelRun0_B.sl.r_447, kernelRun0_B.sl.r_448, kernelRun0_B.sl.r_449,
    kernelRun0_B.sl.r_450, kernelRun0_B.sl.r_451, kernelRun0_B.sl.r_452, kernelRun0_B.sl.r_453, kernelRun0_B.sl.r_454,
    kernelRun0_B.sl.r_455, kernelRun0_B.sl.r_456, kernelRun0_B.sl.r_457, kernelRun0_B.sl.r_458, kernelRun0_B.sl.r_459,
    kernelRun0_B.sl.r_460, kernelRun0_B.sl.r_461, kernelRun0_B.sl.r_462, kernelRun0_B.sl.r_463, kernelRun0_B.sl.r_464,
    kernelRun0_B.sl.r_465, kernelRun0_B.sl.r_466, kernelRun0_B.sl.r_467, kernelRun0_B.sl.r_468, kernelRun0_B.sl.r_469,
    kernelRun0_B.sl.r_470, kernelRun0_B.sl.r_471, kernelRun0_B.sl.r_472, kernelRun0_B.sl.r_473, kernelRun0_B.sl.r_474,
    kernelRun0_B.sl.r_475, kernelRun0_B.sl.r_476, kernelRun0_B.sl.r_477, kernelRun0_B.sl.r_478, kernelRun0_B.sl.r_479,
    kernelRun0_B.sl.r_480, kernelRun0_B.sl.r_481, kernelRun0_B.sl.r_482, kernelRun0_B.sl.r_483, kernelRun0_B.sl.r_484,
    kernelRun0_B.sl.r_485, kernelRun0_B.sl.r_486, kernelRun0_B.sl.r_487, kernelRun0_B.sl.r_488, kernelRun0_B.sl.r_489,
    kernelRun0_B.sl.r_490, kernelRun0_B.sl.r_491, kernelRun0_B.sl.r_492, kernelRun0_B.sl.r_493, kernelRun0_B.sl.r_494,
    kernelRun0_B.sl.r_495, kernelRun0_B.sl.r_496, kernelRun0_B.sl.r_497, kernelRun0_B.sl.r_498, kernelRun0_B.sl.r_499,
    kernelRun0_B.sl.r_500, kernelRun0_B.sl.r_503, kernelRun0_B.sl.r_504, kernelRun0_B.sl.r_505, kernelRun0_B.sl.r_507,
    kernelRun0_B.sl.r_508, kernelRun0_B.sl.r_509, kernelRun0_B.sl.r_511, kernelRun0_B.sl.r_512, kernelRun0_B.sl.r_513,
    kernelRun0_B.sl.r_515, kernelRun0_B.sl.r_516, kernelRun0_B.sl.r_517, kernelRun0_B.sl.r_519, kernelRun0_B.sl.r_520,
    kernelRun0_B.sl.r_521, kernelRun0_B.sl.r_523, kernelRun0_B.sl.r_524, kernelRun0_B.sl.r_525, kernelRun0_B.sl.r_527,
    kernelRun0_B.sl.r_528, kernelRun0_B.sl.r_529, kernelRun0_B.sl.r_531, kernelRun0_B.sl.r_532, kernelRun0_B.sl.r_533,
    kernelRun0_B.sl.r_535, kernelRun0_B.sl.r_536, kernelRun0_B.sl.r_537, kernelRun0_B.sl.r_539, kernelRun0_B.sl.r_540,
    kernelRun0_B.sl.r_541, kernelRun0_B.sl.r_543, kernelRun0_B.sl.r_544, kernelRun0_B.sl.r_545, kernelRun0_B.sl.r_547,
    kernelRun0_B.sl.r_548, kernelRun0_B.sl.r_549, kernelRun0_B.sl.r_551, kernelRun0_B.sl.r_552, kernelRun0_B.sl.r_553,
    kernelRun0_B.sl.r_555, kernelRun0_B.sl.r_556, kernelRun0_B.sl.r_557, kernelRun0_B.sl.r_559, kernelRun0_B.sl.r_560,
    kernelRun0_B.sl.r_561, kernelRun0_B.sl.r_563, kernelRun0_B.sl.r_564, kernelRun0_B.sl.r_565, kernelRun0_B.sl.r_567,
    kernelRun0_B.sl.r_568, kernelRun0_B.sl.r_569, kernelRun0_B.sl.r_571, kernelRun0_B.sl.r_572, kernelRun0_B.sl.r_573,
    kernelRun0_B.sl.r_575, kernelRun0_B.sl.r_576, kernelRun0_B.sl.r_577, kernelRun0_B.sl.r_579, kernelRun0_B.sl.r_580,
    kernelRun0_B.sl.r_581, kernelRun0_B.sl.r_583, kernelRun0_B.sl.r_584, kernelRun0_B.sl.r_585, kernelRun0_B.sl.r_587,
    kernelRun0_B.sl.r_588, kernelRun0_B.sl.r_589, kernelRun0_B.sl.r_591, kernelRun0_B.sl.r_592, kernelRun0_B.sl.r_593,
    kernelRun0_B.sl.r_595, kernelRun0_B.sl.r_596, kernelRun0_B.sl.r_597, kernelRun0_B.sl.r_599, kernelRun0_B.sl.r_600,
    kernelRun0_B.sl.r_601, kernelRun0_B.sl.r_603, kernelRun0_B.sl.r_604, kernelRun0_B.sl.r_605, kernelRun0_B.sl.r_607,
    kernelRun0_B.sl.r_608, kernelRun0_B.sl.r_609, kernelRun0_B.sl.r_611, kernelRun0_B.sl.r_612, kernelRun0_B.sl.r_613,
    kernelRun0_B.sl.r_615, kernelRun0_B.sl.r_616, kernelRun0_B.sl.r_617, kernelRun0_B.sl.r_619, kernelRun0_B.sl.r_620,
    kernelRun0_B.sl.r_621, kernelRun0_B.sl.r_623, kernelRun0_B.sl.r_624, kernelRun0_B.sl.r_625, kernelRun0_B.sl.r_627,
    kernelRun0_B.sl.r_628, kernelRun0_B.sl.r_629, B_st_0_0, B_st_0_1, B_st_0_2, B_st_0_3, B_st_0_4, B_st_0_5, B_st_0_6,
    B_st_0_7, B_st_0_8, B_st_0_9, B_st_0_10, B_st_0_11, B_st_0_12, B_st_0_13, B_st_0_14, B_st_0_15, B_st_0_16, B_st_1_0,
    B_st_1_1, B_st_1_2, B_st_1_3, B_st_1_4, B_st_1_5, B_st_1_6, B_st_1_7, B_st_1_8, B_st_1_9, B_st_1_10, B_st_1_11, B_st_1_12,
    B_st_1_13, B_st_1_14, B_st_1_15, B_st_1_16, rd2, rd5, rdg, rds]; rfl)

theorem B_7 (hc0 : ¬cond0_0 i) : out0_B_7 c i arg2 harg2 arg3 harg3 arg4 harg4 arg5 harg5 arg6 harg6 arg7 harg7 arg8 harg8 arg9 harg9 arg10 harg10 arg11 harg11 hc0 x0 x1 x2 x3 x4 x5 x6 xs0 = rowsV x0 x1 x2 x3 x4 x5 xs0 := by
  rw [out0_B_7, View.read_writes_junk_eq_canon]
  funext y
  refine View.canon_apply_of_pieces _ _ ?_ y ?_
  · apply B_pieces
  · apply cover0_B_7

theorem B_8 (hc0 : ¬cond0_0 i) : out0_B_8 c i arg2 harg2 arg3 harg3 arg4 harg4 arg5 harg5 arg6 harg6 arg7 harg7 arg8 harg8 arg9 harg9 arg10 harg10 arg11 harg11 hc0 x0 x1 x2 x3 x4 x5 x6 xs0 = endO x1 x2 x3 xs0 := by
  rw [out0_B_8, View.read_writes_junk_eq_canon]
  dsimp only [kernelRun0_B]
  rw [B_st_0_16, B_st_1_16]
  funext y
  refine canon_two _ _ _ (endO x1 x2 x3 xs0) ?_ ?_ y ?_
  · exact endO_1 x1 x2 x3 xs0 inb_S1x2x128x128_S1x1x128x128_0_1_0_0
  · exact endO_0 x1 x2 x3 xs0 inb_S1x2x128x128_S1x1x128x128_0_0_0_0
  · exact cover_O y inb_S1x2x128x128_S1x1x128x128_0_1_0_0 inb_S1x2x128x128_S1x1x128x128_0_0_0_0

theorem B_s (hc0 : ¬cond0_0 i) : sout0_B_0 c i arg2 harg2 arg3 harg3 arg4 harg4 arg5 harg5 arg6 harg6 arg7 harg7 arg8 harg8 arg9 harg9 arg10 harg10 arg11 harg11 hc0 x0 x1 x2 x3 x4 x5 x6 xs0 = endS x1 x2 x3 xs0 := by
  rw [sout0_B_0, View.read_writes_junk_eq_canon]
  dsimp only [kernelRun0_B]
  rw [B_st_0_16, B_st_1_16]
  funext y
  refine canon_two _ _ _ (endS x1 x2 x3 xs0) ?_ ?_ y ?_
  · exact endS_1 x1 x2 x3 xs0 inb_S2x128x128_S1x128x128_1_0_0
  · exact endS_0 x1 x2 x3 xs0 inb_S2x128x128_S1x128x128_0_0_0
  · exact cover_S y inb_S2x128x128_S1x128x128_1_0_0 inb_S2x128x128_S1x128x128_0_0_0

end Cert.GlaVec

end
-- ==== Proof.GlaTop.lean ====
/-
The kernel's two results as functions of its arguments: at every grid point the fold over the points holds the
recurrence's state and rows.
-/
module

public import proofs.«01_k».proof.Proof.GlaVal
public import proofs.«01_k».proof.Proof.GlaBlk
public import proofs.«01_k».proof.Proof.GlaLinkA
public import proofs.«01_k».proof.Proof.GlaLinkB

@[expose] public section

set_option maxRecDepth 16384

noncomputable section

namespace Cert.GlaTop

open Idealize.ShloMosaic Idealize.ShloMosaic.TcCoe
open Cert.KernelIdeal Cert.KernelIdeal.Gen Cert.KernelIdeal.Value Cert.GlaVec Cert.GlaUnit Cert.GlaSpec Cert.GlaRead Cert.GlaVal

variable (m : (l : Loc nD τ sig) → Buf (Elt Ideal) l) (c : Dev nD)

abbrev qA : Lanes := m ((c : Thread nD τ).loc main_arg0)
abbrev kA : Lanes := m ((c : Thread nD τ).loc main_arg1)
abbrev vA : Wide := m ((c : Thread nD τ).loc main_arg2)
abbrev aA : Lanes := m ((c : Thread nD τ).loc main_arg3)
abbrev zA : Gates := m ((c : Thread nD τ).loc main_arg4)
abbrev gA : Gain := m ((c : Thread nD τ).loc main_arg5)

theorem start_at (xs : Vec Ideal S2x128x128 .f32) (pr : Fin 2) (e l : Fin 128) : startV xs pr.val (ix2 e l) = xs (ix3 pr e l) := by
  pointwise [startV, slab]
  congr 1
  have : (⟨pr.val % 2, Nat.mod_lt _ (by decide)⟩ : Fin 2) = pr := Fin.ext (Nat.mod_eq_of_lt pr.isLt)
  rw [this]

/-- A carried state is the recurrence's state before the first chunk of point `n`. -/
def Good (n : ℕ) (xs : Vec Ideal S2x128x128 .f32) : Prop :=
  ∀ (b h : Fin 4) (pr hh : Fin 2), b.val = n / 4 → h.val = 2 * pr.val + hh.val →
    headS (startV xs pr.val) hh = stateAt (kA m c) (vA m c) (aA m c) b h (16 * (n % 4))

variable (t : Fin cfg0.N)

theorem cut_q : Cut t.val (iblk m c 0 t) (qA m c) := fun r l b p h d hb hp hl => GlaBlk.q_blk m c t r l b p h d hb hp hl
theorem cut_k : Cut t.val (iblk m c 1 t) (kA m c) := fun r l b p h d hb hp hl => GlaBlk.k_blk m c t r l b p h d hb hp hl
theorem cut_v : CutW t.val (iblk m c 2 t) (vA m c) := fun r l b p h d hb hp hl => GlaBlk.v_blk m c t r l b p h d hb hp hl
theorem cut_la : Cut t.val (iblk m c 3 t) (aA m c) := fun r l b p h d hb hp hl => GlaBlk.la_blk m c t r l b p h d hb hp hl
theorem cut_z : CutZ t.val (iblk m c 4 t) (zA m c) := fun r l b p hb hp => GlaBlk.z_blk m c t r l b p hb hp

theorem good_zero (h0 : t.val % 4 = 0) : Good m c t.val (k0_pay3 (iblk m c 6 t)) := by
  intro b h pr hh hb hhd
  funext d e
  show startV _ pr.val (ix2 e (lane hh d)) = _
  rw [start_at, GlaBlk.s_blk, h0]
  rfl

theorem good_end (hA : ∀ i, ∃ r : ℝ, aA m c i = (r : EReal)) (xs : Vec Ideal S2x128x128 .f32) (hx : Good m c t.val xs)
    (b h : Fin 4) (pr hh : Fin 2) (hb : b.val = t.val / 4) (hhd : h.val = 2 * pr.val + hh.val) :
    headS (endV (iblk m c 1 t) (iblk m c 2 t) (iblk m c 3 t) xs pr.val) hh
      = stateAt (kA m c) (vA m c) (aA m c) b h (16 * (t.val % 4) + 16) :=
  seq_eq hb pr.isLt hhd (cut_k m c t) (cut_la m c t) (cut_v m c t) hA (hx b h pr hh hb hhd) 16 le_rfl

theorem point (hA : ∀ i, ∃ r : ℝ, aA m c i = (r : EReal)) : ∀ (n : ℕ) (hn : n < cfg0.N), ∃ xs : Vec Ideal S2x128x128 .f32, Good m c n xs ∧
    outsAt0 m c n hn = (rowsV (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) xs,
      endO (iblk m c 1 ⟨n, hn⟩) (iblk m c 2 ⟨n, hn⟩) (iblk m c 3 ⟨n, hn⟩) xs,
      endS (iblk m c 1 ⟨n, hn⟩) (iblk m c 2 ⟨n, hn⟩) (iblk m c 3 ⟨n, hn⟩) xs)
  | 0, hn => by
    refine ⟨k0_pay3 (iblk m c 6 ⟨0, hn⟩), good_zero m c ⟨0, hn⟩ rfl, ?_⟩
    rw [outsAt0_zero, stAt0_A m c ⟨0, hn⟩ _ rfl, A_7, A_8, A_s]
  | n + 1, hn => by
    rw [outsAt0_succ]
    by_cases h0 : (n + 1) % 4 = 0
    · refine ⟨k0_pay3 (iblk m c 6 ⟨n + 1, hn⟩), good_zero m c ⟨n + 1, hn⟩ h0, ?_⟩
      rw [stAt0_A m c ⟨n + 1, hn⟩ _ h0, A_7, A_8, A_s]
    · obtain ⟨xs, hx, e⟩ := point hA n (Nat.lt_of_succ_lt hn)
      refine ⟨(outsAt0 m c n (Nat.lt_of_succ_lt hn)).2.2, ?_, ?_⟩
      · rw [e]
        intro b h pr hh hb hhd
        have g := good_end m c ⟨n, Nat.lt_of_succ_lt hn⟩ hA xs hx b h pr hh (by show b.val = n / 4; omega) hhd
        rw [show 16 * ((n + 1) % 4) = 16 * (n % 4) + 16 by omega, ← g]
        funext d e'
        show startV _ pr.val (ix2 e' (lane hh d)) = _
        rw [start_at]
        rfl
      · rw [stAt0_B m c ⟨n + 1, hn⟩ _ h0, B_7, B_8, B_s]

/-- The rows the kernel ends with. -/
theorem G7_at (hA : ∀ i, ∃ r : ℝ, aA m c i = (r : EReal)) (r : Fin 16384) (l : Fin 512) :
    G7 m c (ix2 r l) = yAt (qA m c) (kA m c) (vA m c) (aA m c) (zA m c) (gA m c) ⟨r.val / 4096, by omega⟩ ⟨l.val / 128, by omega⟩
      (r.val % 4096 / 64) ⟨r.val % 4096 % 64, by omega⟩ ⟨l.val % 128, by omega⟩ := by
  have hr := r.isLt
  have hl := l.isLt
  have hp : pt7Of (ix2 r l) = r.val / 1024 := by
    show 1 * (r.val / 1024 - 0) + 1 * (l.val / 512 - 0) = _
    omega
  have hN : r.val / 1024 < cfg0.N := by show _ < 16; omega
  unfold G7
  rw [dif_pos (by rw [hp]; exact hN)]
  rw [← outsAt0_sweep m c (pt7Of (ix2 r l)) (by rw [hp]; exact hN)]
  have key : ∀ (n : ℕ) (hn : n < cfg0.N), n = r.val / 1024 → (outsAt0 m c n hn).1 (loc7Of (ix2 r l)) = yAt (qA m c) (kA m c) (vA m c) (aA m c) (zA m c) (gA m c) ⟨r.val / 4096, by omega⟩ ⟨l.val / 128, by omega⟩
      (r.val % 4096 / 64) ⟨r.val % 4096 % 64, by omega⟩ ⟨l.val % 128, by omega⟩ := by
    intro n hn e
    obtain ⟨xs, hx, eq⟩ := point m c hA n hn
    rw [eq]
    have hb : (⟨r.val / 4096, by omega⟩ : Fin 4).val = n / 4 := by show r.val / 4096 = n / 4; omega
    have hhd : (⟨l.val / 128, by omega⟩ : Fin 4).val = 2 * (⟨l.val / 256, by omega⟩ : Fin 2).val + (⟨l.val % 256 / 128, by omega⟩ : Fin 2).val := by
      show l.val / 128 = 2 * (l.val / 256) + l.val % 256 / 128
      omega
    have P := piece_eq (n := r.val % 1024 / 64) hb (by omega) (⟨l.val / 256, by omega⟩ : Fin 2).isLt hhd (cut_q m c ⟨n, hn⟩) (cut_k m c ⟨n, hn⟩) (cut_la m c ⟨n, hn⟩)
      (cut_v m c ⟨n, hn⟩) (cut_z m c ⟨n, hn⟩) (GlaBlk.g_blk m c ⟨n, hn⟩) hA (hx _ _ _ _ hb hhd) ⟨r.val % 4096 % 64, by omega⟩ ⟨l.val % 128, by omega⟩
    rw [show 16 * (n % 4) + r.val % 1024 / 64 = r.val % 4096 / 64 by omega] at P
    rw [← P]
    have ey : loc7Of (ix2 r l) = ix2 (⟨r.val % 1024, by omega⟩ : Fin 1024) l := by
      funext a
      match a with
      | ⟨0, _⟩ => rfl
      | ⟨1, _⟩ => exact Fin.ext (Nat.mod_eq_of_lt hl)
    rw [ey]
    show pieceV _ _ _ _ _ _ (startV xs (l.val / 256)) (r.val % 1024 / 64) (l.val / 256) (l.val % 256 / 128)
      (ix2 ⟨r.val % 1024 % 64, Nat.mod_lt _ (by decide)⟩ ⟨l.val % 128, Nat.mod_lt _ (by decide)⟩) = _
    congr 2
    apply Fin.ext
    show r.val % 1024 % 64 = r.val % 4096 % 64
    omega
  exact key _ _ hp

/-- The states the kernel ends with. -/
theorem G8_at (hA : ∀ i, ∃ r : ℝ, aA m c i = (r : EReal)) (b : Fin 4) (p : Fin 2) (e l : Fin 128) :
    G8 m c (ix4 b p e l) = stateAt (kA m c) (vA m c) (aA m c) b ⟨2 * p.val + l.val / 64, by omega⟩ 64 ⟨l.val % 64, by omega⟩ e := by
  have hb' := b.isLt
  have hp' := p.isLt
  have he := e.isLt
  have hl := l.isLt
  have hp : pt8Of (ix4 b p e l) = 4 * b.val + 3 := by
    show 4 * (1 * (b.val / 1 - 0) + 1 * (p.val / 2 - 0) + 1 * (e.val / 128 - 0) + 1 * (l.val / 128 - 0)) + 3 = _
    omega
  have hN : 4 * b.val + 3 < cfg0.N := by show _ < 16; omega
  unfold G8
  rw [dif_pos (by rw [hp]; exact hN)]
  rw [← outsAt0_sweep m c (pt8Of (ix4 b p e l)) (by rw [hp]; exact hN)]
  have key : ∀ (n : ℕ) (hn : n < cfg0.N), n = 4 * b.val + 3 → (outsAt0 m c n hn).2.1 (loc8Of (ix4 b p e l))
      = stateAt (kA m c) (vA m c) (aA m c) b ⟨2 * p.val + l.val / 64, by omega⟩ 64 ⟨l.val % 64, by omega⟩ e := by
    intro n hn e1
    obtain ⟨xs, hx, eq⟩ := point m c hA n hn
    rw [eq]
    have P := congrFun (congrFun (good_end m c ⟨n, hn⟩ hA xs hx b ⟨2 * p.val + l.val / 64, by omega⟩ p ⟨l.val / 64, by omega⟩ (by show b.val = n / 4; omega) rfl)
      ⟨l.val % 64, by omega⟩) e
    rw [show 16 * ((⟨n, hn⟩ : Fin cfg0.N).val % 4) + 16 = 64 by show 16 * (n % 4) + 16 = 64; omega] at P
    rw [← P]
    show endV _ _ _ xs (p.val % 2) (ix2 ⟨e.val % 128, Nat.mod_lt _ (by decide)⟩ ⟨l.val % 128, Nat.mod_lt _ (by decide)⟩) = endV _ _ _ xs p.val (ix2 e (lane _ _))
    have q1 : (⟨e.val % 128, Nat.mod_lt _ (by decide)⟩ : Fin 128) = e := Fin.ext (Nat.mod_eq_of_lt he)
    have q2 : (⟨l.val % 128, Nat.mod_lt _ (by decide)⟩ : Fin 128) = lane ⟨l.val / 64, by omega⟩ ⟨l.val % 64, by omega⟩ := by
      apply Fin.ext
      show l.val % 128 = 64 * (l.val / 64) + l.val % 64
      omega
    rw [q1, q2, Nat.mod_eq_of_lt hp']
  exact key _ _ hp

end Cert.GlaTop

end
-- ==== Proof.OutPVal.lean ====
/-
The out-projection of the prompt: the kernel's rows and the reference's, at an index.
-/
module

public import proofs.«01_k».proof.Proof.Gen.OutPromptIdeal.Value
public import proofs.«01_k».proof.Proof.Gen.OutPromptReferenceIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutPVal

open Idealize.ShloMosaic Idealize.ShloMosaic.TcCoe
open Cert.OutPromptIdeal Cert.OutPromptIdeal.Gen

variable (m : (l : Loc nD τ sig) → Buf (Elt Ideal) l) (c : Dev nD) (t : Fin cfg0.N)

theorem idx_val : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) := by
  decide +kernel

theorem x_blk (r : Fin 1024) (l : Fin 1024) (b : Fin 4) (p : Fin 4096)
    (hb : b.val = t.val / 4) (hp : p.val = 1024 * (t.val % 4) + r.val) :
    iblk m c 0 t (ix2 r l) = m ((c : Thread nD τ).loc main_arg0) (ix3 b p l) := by
  have ht : t.val < 16 := t.isLt
  have hI := idx_val t
  unfold iblk
  blk_simp
  entry_read
  pointwise
  blk_ext [hI]

theorem n_blk (r : Fin 1024) (l : Fin 512) (b : Fin 4) (p : Fin 4096)
    (hb : b.val = t.val / 4) (hp : p.val = 1024 * (t.val % 4) + r.val) :
    iblk m c 1 t (ix2 r l) = m ((c : Thread nD τ).loc main_arg1) (ix3 b p l) := by
  have ht : t.val < 16 := t.isLt
  have hI := idx_val t
  unfold iblk
  blk_simp
  entry_read
  pointwise
  blk_ext [hI]

theorem g_blk (r : Fin 1024) (l : Fin 512) (p : Fin 16384) (hp : p.val = 1024 * t.val + r.val) :
    iblk m c 2 t (ix2 r l) = m ((c : Thread nD τ).loc main_arg2) (ix2 p l) := by
  have ht : t.val < 16 := t.isLt
  have hI := idx_val t
  unfold iblk
  blk_simp
  entry_read
  pointwise
  blk_ext [hI]

theorem w_blk (k l : Fin 1024) : iblk m c 3 t (ix2 k l) = m ((c : Thread nD τ).loc main_arg3) (ix2 k l) := by
  have ht : t.val < 16 := t.isLt
  have hI := idx_val t
  unfold iblk
  blk_simp
  entry_read
  pointwise
  blk_ext [hI]

theorem gain_blk (l : Fin 1024) : iblk m c 4 t (ix2 (0 : Fin 1) l) = m ((c : Thread nD τ).loc main_arg4) (ix1 l) := by
  have ht : t.val < 16 := t.isLt
  have hI := idx_val t
  unfold iblk
  blk_simp
  entry_read
  pointwise
  blk_ext [hI]

/-- One row of the result from the row `f` before the norm. -/
def norm (f : Fin 1024 → EReal) (g : Fin 1024 → EReal) (l : Fin 1024) : EReal :=
  f l * Ideal.rsqrt (Ideal.div (∑ x, f x * f x) (Ideal.ofBits FTy.f32 1149239296#32) + Ideal.ofBits FTy.f32 897988541#32) * g l

/-- The row before the norm: the residual and the two products. -/
def mix (x : Fin 1024 → EReal) (a b : Fin 512 → EReal) (w : Fin 1024 → Fin 1024 → EReal) (l : Fin 1024) : EReal :=
  x l + (∑ k : Fin 512, a k * w ⟨k.val, by omega⟩ l + ∑ k : Fin 512, b k * w ⟨512 + k.val, by omega⟩ l)

theorem pay_at (v0 : Vec Ideal S1024x512 .bf16) (v2 : Vec Ideal S512x1024 .bf16) (v5 : Vec Ideal S1024x512 .bf16) (v6 : Vec Ideal S512x1024 .bf16)
    (v10 : Vec Ideal S1024x1024 .f32) (v13 : Vec Ideal S1x1024 .f32) (r l : Fin 1024) :
    k0_pay1 v0 v2 v5 v6 v10 v13 (ix2 r l) = norm (fun l => v10 (ix2 r l) + (∑ k, v0 (ix2 r k) * v2 (ix2 k l) + ∑ k, v5 (ix2 r k) * v6 (ix2 k l)))
      (fun l => v13 (ix2 (0 : Fin 1) l)) l := by
  pointwise [k0_pay1]
  rfl

/-- The result as one function of the arguments. -/
abbrev yAt (x0 : Vec Ideal S4x4096x1024 .f32) (x1 : Vec Ideal S4x4096x512 .bf16) (x2 : Vec Ideal S16384x512 .bf16) (x3 : Vec Ideal S1024x1024 .f32)
    (x4 : Vec Ideal S1024 .f32) (p : Fin 16384) (l : Fin 1024) : EReal :=
  norm (mix (fun l => x0 (ix3 (⟨p.val / 4096, by omega⟩ : Fin 4) (⟨p.val % 4096, by omega⟩ : Fin 4096) l))
    (fun k => x1 (ix3 (⟨p.val / 4096, by omega⟩ : Fin 4) (⟨p.val % 4096, by omega⟩ : Fin 4096) k)) (fun k => x2 (ix2 p k)) (fun k l => x3 (ix2 k l)))
    (fun l => x4 (ix1 l)) l

theorem ref_at (x0 : Vec Ideal S4x4096x1024 .f32) (x1 : Vec Ideal S4x4096x512 .bf16) (x2 : Vec Ideal S16384x512 .bf16) (x3 : Vec Ideal S1024x1024 .f32)
    (x4 : Vec Ideal S1024 .f32) (p : Fin 16384) (l : Fin 1024) :
    Cert.OutPromptReferenceIdeal.Read.val_main_v19 (F := Ideal) x0 x1 x2 x3 x4 (ix2 p l) = yAt x0 x1 x2 x3 x4 p l := by
  pointwise [Cert.OutPromptReferenceIdeal.Read.val_main_v19, Cert.OutPromptReferenceIdeal.Read.val_main_v16, Cert.OutPromptReferenceIdeal.Read.val_main_v18,
    Cert.OutPromptReferenceIdeal.Read.val_main_v17, Cert.OutPromptReferenceIdeal.Read.val_main_v15, Cert.OutPromptReferenceIdeal.Read.val_main_v14,
    Cert.OutPromptReferenceIdeal.Read.val_main_v13, Cert.OutPromptReferenceIdeal.Read.val_main_v12, Cert.OutPromptReferenceIdeal.Read.val_main_v11,
    Cert.OutPromptReferenceIdeal.Read.val_main_v10, Cert.OutPromptReferenceIdeal.Read.val_main_v9, Cert.OutPromptReferenceIdeal.Read.val_main_v8,
    Cert.OutPromptReferenceIdeal.Read.val_main_v7, Cert.OutPromptReferenceIdeal.Read.val_main_v6, Cert.OutPromptReferenceIdeal.Read.val_main_v5,
    Cert.OutPromptReferenceIdeal.Read.val_main_v4, Cert.OutPromptReferenceIdeal.Read.val_main_v3, Cert.OutPromptReferenceIdeal.Read.val_main_v2,
    Cert.OutPromptReferenceIdeal.Read.val_main_v1, Cert.OutPromptReferenceIdeal.Read.val_main_v0, Cert.OutPromptReferenceIdeal.Read.val_main_cst,
    Cert.OutPromptReferenceIdeal.Read.val_main_cst_0, Cert.OutPromptReferenceIdeal.Read.val_main_cst_1]
  rfl

theorem final : (dats m 0 c).arrAt 5 cfg0.N = Cert.OutPromptReferenceIdeal.Read.val_main_v19 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  have ht : t.val < 16 := t.isLt
  have hI := idx_val t
  change Shape.Idx S1024x1024 at y
  idx_vars y
  revert y0 y1
  intro r l
  have e : (((View.whole main_v4).slice (win0_5.rect t)).emb (ix2 r l) : S16384x1024.Idx) = ix2 (⟨1024 * t.val + r.val, by omega⟩ : Fin 16384) l := by
    blk_ext [hI]
  refine Eq.trans ?_ (congrArg _ e).symm
  rw [ref_at]
  refine (pay_at _ _ _ _ _ _ r l).trans ?_
  unfold yAt
  congr 1
  · funext l
    unfold mix
    dsimp only
    refine congrArg₂ (· + ·) (x_blk m c t r l _ _ ?_ ?_) (congrArg₂ (· + ·) (Finset.sum_congr rfl fun k _ => congrArg₂ (· * ·) (n_blk m c t r k _ _ ?_ ?_) ?_)
      (Finset.sum_congr rfl fun k _ => congrArg₂ (· * ·) (g_blk m c t r k _ rfl) ?_))
    · show (1024 * t.val + r.val) / 4096 = t.val / 4
      omega
    · show (1024 * t.val + r.val) % 4096 = 1024 * (t.val % 4) + r.val
      omega
    · show (1024 * t.val + r.val) / 4096 = t.val / 4
      omega
    · show (1024 * t.val + r.val) % 4096 = 1024 * (t.val % 4) + r.val
      omega
    · rw [← w_blk m c t]
      pointwise
    · rw [← w_blk m c t]
      pointwise
  · funext l
    exact gain_blk m c t l

end Cert.OutPVal

end
-- ==== Proof.OutSVal.lean ====
/-
The out-projection of the sample: the kernel's rows and the reference's, at an index.
-/
module

public import proofs.«01_k».proof.Proof.Gen.OutSampleIdeal.Value
public import proofs.«01_k».proof.Proof.Gen.OutSampleReferenceIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutSVal

open Idealize.ShloMosaic Idealize.ShloMosaic.TcCoe
open Cert.OutSampleIdeal Cert.OutSampleIdeal.Gen

variable (m : (l : Loc nD τ sig) → Buf (Elt Ideal) l) (c : Dev nD) (t : Fin cfg0.N)

theorem idx_val : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) := by
  decide +kernel

theorem x_blk (r : Fin 128) (l : Fin 1024) :
    iblk m c 0 t (ix2 r l) = m ((c : Thread nD τ).loc main_arg0) (ix3 (⟨r.val / 4, by omega⟩ : Fin 32) (⟨r.val % 4, by omega⟩ : Fin 4) l) := by
  have ht : t.val < 1 := t.isLt
  have hI := idx_val t
  unfold iblk
  blk_simp
  entry_read
  pointwise
  blk_ext [hI]

theorem n_blk (r : Fin 128) (l : Fin 512) : iblk m c 1 t (ix2 r l) = m ((c : Thread nD τ).loc main_arg1) (ix2 r l) := by
  have ht : t.val < 1 := t.isLt
  have hI := idx_val t
  unfold iblk
  blk_simp
  entry_read
  pointwise
  blk_ext [hI]

theorem g_blk (r : Fin 128) (l : Fin 512) : iblk m c 2 t (ix2 r l) = m ((c : Thread nD τ).loc main_arg2) (ix2 r l) := by
  have ht : t.val < 1 := t.isLt
  have hI := idx_val t
  unfold iblk
  blk_simp
  entry_read
  pointwise
  blk_ext [hI]

theorem w_blk (k l : Fin 1024) : iblk m c 3 t (ix2 k l) = m ((c : Thread nD τ).loc main_arg3) (ix2 k l) := by
  have ht : t.val < 1 := t.isLt
  have hI := idx_val t
  unfold iblk
  blk_simp
  entry_read
  pointwise
  blk_ext [hI]

theorem gain_blk (l : Fin 1024) : iblk m c 4 t (ix2 (0 : Fin 1) l) = m ((c : Thread nD τ).loc main_arg4) (ix1 l) := by
  have ht : t.val < 1 := t.isLt
  have hI := idx_val t
  unfold iblk
  blk_simp
  entry_read
  pointwise
  blk_ext [hI]

/-- One row of the result from the row `f` before the norm. -/
def norm (f : Fin 1024 → EReal) (g : Fin 1024 → EReal) (l : Fin 1024) : EReal :=
  f l * Ideal.rsqrt (Ideal.div (∑ x, f x * f x) (Ideal.ofBits FTy.f32 1149239296#32) + Ideal.ofBits FTy.f32 897988541#32) * g l

/-- The row before the norm: the residual and the two products. -/
def mix (x : Fin 1024 → EReal) (a b : Fin 512 → EReal) (w : Fin 1024 → Fin 1024 → EReal) (l : Fin 1024) : EReal :=
  x l + (∑ k : Fin 512, a k * w ⟨k.val, by omega⟩ l + ∑ k : Fin 512, b k * w ⟨512 + k.val, by omega⟩ l)

theorem pay_at (v0 : Vec Ideal S128x512 .bf16) (v1 : Vec Ideal S512x1024 .bf16) (v4 : Vec Ideal S128x512 .bf16) (v5 : Vec Ideal S512x1024 .bf16)
    (v9 : Vec Ideal S128x1024 .f32) (v12 : Vec Ideal S1x1024 .f32) (r : Fin 128) (l : Fin 1024) :
    k0_pay1 v0 v1 v4 v5 v9 v12 (ix2 r l) = norm (fun l => v9 (ix2 r l) + (∑ k, v0 (ix2 r k) * v1 (ix2 k l) + ∑ k, v4 (ix2 r k) * v5 (ix2 k l)))
      (fun l => v12 (ix2 (0 : Fin 1) l)) l := by
  pointwise [k0_pay1]
  rfl

/-- The result as one function of the arguments. -/
abbrev yAt (x0 : Vec Ideal S32x4x1024 .f32) (x1 : Vec Ideal S128x512 .bf16) (x2 : Vec Ideal S128x512 .bf16) (x3 : Vec Ideal S1024x1024 .f32)
    (x4 : Vec Ideal S1024 .f32) (p : Fin 128) (l : Fin 1024) : EReal :=
  norm (mix (fun l => x0 (ix3 (⟨p.val / 4, by omega⟩ : Fin 32) (⟨p.val % 4, by omega⟩ : Fin 4) l))
    (fun k => x1 (ix2 p k)) (fun k => x2 (ix2 p k)) (fun k l => x3 (ix2 k l)))
    (fun l => x4 (ix1 l)) l

theorem ref_at (x0 : Vec Ideal S32x4x1024 .f32) (x1 : Vec Ideal S128x512 .bf16) (x2 : Vec Ideal S128x512 .bf16) (x3 : Vec Ideal S1024x1024 .f32)
    (x4 : Vec Ideal S1024 .f32) (p : Fin 128) (l : Fin 1024) :
    Cert.OutSampleReferenceIdeal.Read.val_main_v18 (F := Ideal) x0 x1 x2 x3 x4 (ix2 p l) = yAt x0 x1 x2 x3 x4 p l := by
  pointwise [Cert.OutSampleReferenceIdeal.Read.val_main_v18, Cert.OutSampleReferenceIdeal.Read.val_main_v17, Cert.OutSampleReferenceIdeal.Read.val_main_v16,
    Cert.OutSampleReferenceIdeal.Read.val_main_v15, Cert.OutSampleReferenceIdeal.Read.val_main_v14, Cert.OutSampleReferenceIdeal.Read.val_main_v13,
    Cert.OutSampleReferenceIdeal.Read.val_main_v12, Cert.OutSampleReferenceIdeal.Read.val_main_v11, Cert.OutSampleReferenceIdeal.Read.val_main_v10,
    Cert.OutSampleReferenceIdeal.Read.val_main_v9, Cert.OutSampleReferenceIdeal.Read.val_main_v8, Cert.OutSampleReferenceIdeal.Read.val_main_v7,
    Cert.OutSampleReferenceIdeal.Read.val_main_v6, Cert.OutSampleReferenceIdeal.Read.val_main_v5, Cert.OutSampleReferenceIdeal.Read.val_main_v4,
    Cert.OutSampleReferenceIdeal.Read.val_main_v3, Cert.OutSampleReferenceIdeal.Read.val_main_v2, Cert.OutSampleReferenceIdeal.Read.val_main_v1,
    Cert.OutSampleReferenceIdeal.Read.val_main_v0, Cert.OutSampleReferenceIdeal.Read.val_main_cst, Cert.OutSampleReferenceIdeal.Read.val_main_cst_0,
    Cert.OutSampleReferenceIdeal.Read.val_main_cst_1]
  rfl

theorem final : (dats m 0 c).arrAt 5 cfg0.N = Cert.OutSampleReferenceIdeal.Read.val_main_v18 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  have ht : t.val < 1 := t.isLt
  have hI := idx_val t
  change Shape.Idx S128x1024 at y
  idx_vars y
  revert y0 y1
  intro r l
  have e : (((View.whole main_v3).slice (win0_5.rect t)).emb (ix2 r l) : S128x1024.Idx) = ix2 r l := by
    blk_ext [hI]
  refine Eq.trans ?_ (congrArg _ e).symm
  rw [ref_at]
  refine (pay_at _ _ _ _ _ _ r l).trans ?_
  unfold yAt
  congr 1
  · funext l
    unfold mix
    dsimp only
    refine congrArg₂ (· + ·) (x_blk m c t r l) (congrArg₂ (· + ·) (Finset.sum_congr rfl fun k _ => congrArg₂ (· * ·) (n_blk m c t r k) ?_)
      (Finset.sum_congr rfl fun k _ => congrArg₂ (· * ·) (g_blk m c t r k) ?_))
    · rw [← w_blk m c t]
      pointwise
    · rw [← w_blk m c t]
      pointwise
  · funext l
    exact gain_blk m c t l

end Cert.OutSVal

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.OutPrompt
public import proofs.«01_k».proof.Proof.Gen.OutPrompt.Frame
public import proofs.«01_k».proof.Proof.Gen.OutPromptIdeal
public import proofs.«01_k».proof.Proof.Gen.OutPromptIdeal.Frame
public import proofs.«01_k».proof.Proof.Gen.OutPromptIdeal.Value
public import proofs.«01_k».proof.Proof.Gen.OutPromptReferenceIdeal
public import proofs.«01_k».proof.Proof.Gen.OutPromptReferenceIdeal.Run
public import proofs.«01_k».proof.Proof.Gen.OutPromptReferenceIdeal.Read
public import proofs.«01_k».proof.Proof.Gen.OutSample
public import proofs.«01_k».proof.Proof.Gen.OutSample.Frame
public import proofs.«01_k».proof.Proof.Gen.OutSampleIdeal
public import proofs.«01_k».proof.Proof.Gen.OutSampleIdeal.Frame
public import proofs.«01_k».proof.Proof.Gen.OutSampleIdeal.Value
public import proofs.«01_k».proof.Proof.Gen.OutSampleReferenceIdeal
public import proofs.«01_k».proof.Proof.Gen.OutSampleReferenceIdeal.Run
public import proofs.«01_k».proof.Proof.Gen.OutSampleReferenceIdeal.Read
public import proofs.«01_k».proof.Proof.Gen.In
public import proofs.«01_k».proof.Proof.Gen.InIdeal
public import proofs.«01_k».proof.Proof.Gen.InReferenceIdeal
public import proofs.«01_k».proof.Proof.Gen.InReferenceIdeal.Run
public import proofs.«01_k».proof.Proof.Gen.InReferenceIdeal.Read
public import proofs.«01_k».proof.Proof.InFrame
public import proofs.«01_k».proof.Proof.InIdealFrame
public import proofs.«01_k».proof.Proof.InRun
public import proofs.«01_k».proof.Proof.InFinQ
public import proofs.«01_k».proof.Proof.InFinK
public import proofs.«01_k».proof.Proof.InFinS
public import proofs.«01_k».proof.Proof.InFinT
public import proofs.«01_k».proof.Proof.InFinG
public import proofs.«01_k».proof.Proof.InFinR
public import proofs.«01_k».proof.Proof.InFinL
public import proofs.«01_k».proof.Proof.RefRun
public import proofs.«01_k».proof.Proof.RefVal
public import proofs.«01_k».proof.Proof.GlaTop
public import proofs.«01_k».proof.Proof.OutPVal
public import proofs.«01_k».proof.Proof.OutSVal
public import Idealize.ShloMosaic.Lib.ReduceAll
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

instance preFacts : Cert.Pre_decays_finite.Facts :=
  ⟨by decide, by decide, by decide⟩

instance : Subsingleton Cert.Pre_decays_finite.S_.Idx := ⟨fun a b => funext fun i => i.elim0⟩

/-- The precondition says that every log decay is a real number. -/
theorem finite_of_pre (q k : FVec Ideal Cert.Pre_decays_finite.S4x4096x4x64 .f32) (v : FVec Ideal Cert.Pre_decays_finite.S4x4096x4x128 .f32)
    (a : FVec Ideal Cert.Pre_decays_finite.S4x4096x4x64 .f32) (z : FVec Ideal Cert.Pre_decays_finite.S4x4096x512 .f32) (g : FVec Ideal Cert.Pre_decays_finite.S128 .f32)
    (j : Cert.Pre_decays_finite.S_.Idx)
    (h : Cert.Pre_decays_finite.fn q k v a z g j = 1#1) : ∀ i, ∃ r : ℝ, a i = (r : EReal) := by
  dsimp only [Cert.Pre_decays_finite.fn] at h
  intro i
  have e := Host.reduce_andi_all _ _ _ _ j h i
  have hlt : max (a i) (-(a i)) < (⊤ : EReal) := by
    have htop : Idealize.ShloMosaic.Ideal.ofBits .f32 0x7F800000#32 = ⊤ := by
      simp [Idealize.ShloMosaic.Ideal.ofBits, Idealize.ShloMosaic.Ideal.ieee]
    have e' : Idealize.ShloMosaic.Ideal.cmp .olt (max (a i) (-(a i))) (Idealize.ShloMosaic.Ideal.ofBits .f32 0x7F800000#32) = 1#1 := e
    rw [htop] at e'
    by_contra hn
    have e2 : BitVec.ofBool (decide (max (a i) (-(a i)) < (⊤ : EReal))) = 1#1 := e'
    rw [decide_eq_false hn] at e2
    exact absurd e2 (by decide)
  have h1 : a i ≠ ⊤ := fun h => absurd ((le_max_left _ _).trans_lt hlt) (by rw [h]; exact lt_irrefl _)
  have h2 : a i ≠ ⊥ := fun h => absurd ((le_max_right _ _).trans_lt hlt) (by rw [h, EReal.neg_bot]; exact lt_irrefl _)
  exact ⟨(a i).toReal, (EReal.coe_toReal h1 h2).symm⟩

open Cert.ReferenceIdeal in
theorem ref_frame (m : (l : Loc nD τ sig) → Buf (Elt Ideal) l) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run _ _ _).mono (fun r h => ⟨fun c => (h c).2.2, sem_eq_zero_of_no_sems rfl r.2⟩) (RefRun.run m g)

/-- The reference's states are those `Proof/RefVal.lean` reads. -/
theorem states_eq (m : (l : Loc ReferenceIdeal.nD ReferenceIdeal.τ ReferenceIdeal.sig) → Buf (Elt Ideal) l) (c : Dev ReferenceIdeal.nD) (n : ℕ) :
    RefRun.states m c n = RefVal.st (m ((c.tc : Thread ReferenceIdeal.nD ReferenceIdeal.τ).loc ReferenceIdeal.main_arg0))
      (m ((c.tc : Thread ReferenceIdeal.nD ReferenceIdeal.τ).loc ReferenceIdeal.main_arg1))
      (m ((c.tc : Thread ReferenceIdeal.nD ReferenceIdeal.τ).loc ReferenceIdeal.main_arg2))
      (m ((c.tc : Thread ReferenceIdeal.nD ReferenceIdeal.τ).loc ReferenceIdeal.main_arg3)) n := by
  induction n with
  | zero => rw [RefRun.states, RefVal.st]
  | succ n ih => rw [RefRun.states, RefVal.st, ih]

theorem algebraic : Cert.algebraic_KernelIdeal_ReferenceIdeal_pre_decays_finite := by
  intro m g m' g' hpre hargs
  refine ⟨fun c => KernelIdeal.Value.G7 m c, fun c => KernelIdeal.Value.G8 m c, KernelIdeal.Value.run m g, ?_⟩
  refine (θ_run _ _ _).mono (fun r h c => ?_) (RefRun.run m' g')
  have hA := finite_of_pre _ _ _ _ _ _ default (congrFun (hpre c) default)
  obtain ⟨hy, hs, hk⟩ := h c
  obtain ⟨a0, a1, a2, a3, a4, a5⟩ := hargs c
  refine ⟨hy.trans ?_, hs.trans ?_, hk⟩
  · rw [states_eq, a0, a1, a2, a3, a4, a5]
    funext i
    idx_vars i
    exact (RefVal.R35_at _ _ _ _ _ _ _ _).trans (GlaTop.G7_at m c hA _ _).symm
  · rw [states_eq, a0, a1, a2, a3]
    funext i
    idx_vars i
    exact (RefVal.R34_at _ _ _ _ _ _ _ _).trans (GlaTop.G8_at m c hA _ _ _ _).symm

/-! ## The out-projection of the prompt and of the sample -/

open Cert.OutPromptReferenceIdeal in
theorem outp_ref_frame (m : (l : Loc nD τ sig) → Buf (Elt Ideal) l) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run _ _ _).mono (fun r h => ⟨fun c => (h c).2, sem_eq_zero_of_no_sems rfl r.2⟩) (Value.run m g)

open Cert.OutSampleReferenceIdeal in
theorem outs_ref_frame (m : (l : Loc nD τ sig) → Buf (Elt Ideal) l) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run _ _ _).mono (fun r h => ⟨fun c => (h c).2, sem_eq_zero_of_no_sems rfl r.2⟩) (Value.run m g)

theorem outp_algebraic : Cert.algebraic_OutPromptIdeal_OutPromptReferenceIdeal := by
  intro m g m' g' _ hargs
  refine ⟨fun c => (OutPromptIdeal.Gen.dats m 0 c).arrAt 5 OutPromptIdeal.cfg0.N, OutPromptIdeal.Value.run_blocks m g, ?_⟩
  refine (θ_run _ _ _).mono (fun r h c => ?_) (OutPromptReferenceIdeal.Value.run m' g')
  obtain ⟨a0, a1, a2, a3, a4⟩ := hargs c
  obtain ⟨hy, hk⟩ := h c
  refine ⟨(hy.trans (OutPromptReferenceIdeal.Read.val_main_v19_eq (F := Ideal) _ _ _ _ _)).trans ?_, hk⟩
  rw [a0, a1, a2, a3, a4]
  exact (OutPVal.final m c).symm

theorem outs_algebraic : Cert.algebraic_OutSampleIdeal_OutSampleReferenceIdeal := by
  intro m g m' g' _ hargs
  refine ⟨fun c => (OutSampleIdeal.Gen.dats m 0 c).arrAt 5 OutSampleIdeal.cfg0.N, OutSampleIdeal.Value.run_blocks m g, ?_⟩
  refine (θ_run _ _ _).mono (fun r h c => ?_) (OutSampleReferenceIdeal.Value.run m' g')
  obtain ⟨a0, a1, a2, a3, a4⟩ := hargs c
  obtain ⟨hy, hk⟩ := h c
  refine ⟨(hy.trans (OutSampleReferenceIdeal.Read.val_main_v18_eq (F := Ideal) _ _ _ _ _)).trans ?_, hk⟩
  rw [a0, a1, a2, a3, a4]
  exact (OutSVal.final m c).symm

/-! ## The in-projection of the prompt -/

open Cert.InReferenceIdeal in
theorem in_ref_frame (m : (l : Loc nD τ sig) → Buf (Elt Ideal) l) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run _ _ _).mono (fun r h => ⟨fun c => (h c).2.2.2.2.2.2.2.2.2.2.2.2.2.2.2, sem_eq_zero_of_no_sems rfl r.2⟩) (Value.run m g)

set_option maxHeartbeats 4000000 in
/-- The reference's fifteen results as functions of its arguments. -/
theorem in_ref_vals (m : (l : Loc InReferenceIdeal.nD InReferenceIdeal.τ InReferenceIdeal.sig) → Buf (Elt Ideal) l) (g : Dev InReferenceIdeal.nD → PrngReg) :
    θ_run (InReferenceIdeal.defs (F := Ideal)) (onTc (τ := InReferenceIdeal.τ) (InReferenceIdeal.main (F := Ideal))) ⟨m, fun _ => 0, g⟩ fun r => ∀ c : Dev InReferenceIdeal.nD,
      r.2.mem ((c.tc : Thread InReferenceIdeal.nD InReferenceIdeal.τ).loc InReferenceIdeal.main_v148) = InReferenceIdeal.Read.val_main_v148 (F := Ideal) (m ((c.tc : Thread InReferenceIdeal.nD InReferenceIdeal.τ).loc InReferenceIdeal.main_arg0)) (m ((c.tc : Thread InReferenceIdeal.nD InReferenceIdeal.τ).loc InReferenceIdeal.main_arg1)) (m ((c.tc : Thread InReferenceIdeal.nD InReferenceIdeal.τ).loc InReferenceIdeal.main_arg2))
      ∧ r.2.mem ((c.tc : Thread InReferenceIdeal.nD InReferenceIdeal.τ).loc InReferenceIdeal.main_v149) = InReferenceIdeal.Read.val_main_v149 (F := Ideal) (m ((c.tc : Thread InReferenceIdeal.nD InReferenceIdeal.τ).loc InReferenceIdeal.main_arg0)) (m ((c.tc : Thread InReferenceIdeal.nD InReferenceIdeal.τ).loc InReferenceIdeal.main_arg1)) (m ((c.tc : Thread InReferenceIdeal.nD InReferenceIdeal.τ).loc InReferenceIdeal.main_arg2))
      ∧ r.2.mem ((c.tc : Thread InReferenceIdeal.nD InReferenceIdeal.τ).loc InReferenceIdeal.main_v150) = InReferenceIdeal.Read.val_main_v150 (F := Ideal) (m ((c.tc : Thread InReferenceIdeal.nD InReferenceIdeal.τ).loc InReferenceIdeal.main_arg0)) (m ((c.tc : Thread InReferenceIdeal.nD InReferenceIdeal.τ).loc InReferenceIdeal.main_arg1)) (m ((c.tc : Thread InReferenceIdeal.nD InReferenceIdeal.τ).loc InReferenceIdeal.main_arg2))
      ∧ r.2.mem ((c.tc : Thread InReferenceIdeal.nD InReferenceIdeal.τ).loc InReferenceIdeal.main_v151) = InReferenceIdeal.Read.val_main_v151 (F := Ideal) (m ((c.tc : Thread InReferenceIdeal.nD InReferenceIdeal.τ).loc InReferenceIdeal.main_arg0)) (m ((c.tc : Thread InReferenceIdeal.nD InReferenceIdeal.τ).loc InReferenceIdeal.main_arg1)) (m ((c.tc : Thread InReferenceIdeal.nD InReferenceIdeal.τ).loc InReferenceIdeal.main_arg2))
      ∧ r.2.mem ((c.tc : Thread InReferenceIdeal.nD InReferenceIdeal.τ).loc InReferenceIdeal.main_v153) = InReferenceIdeal.Read.val_main_v153 (F := Ideal) (m ((c.tc : Thread InReferenceIdeal.nD InReferenceIdeal.τ).loc InReferenceIdeal.main_arg0)) (m ((c.tc : Thread InReferenceIdeal.nD InReferenceIdeal.τ).loc InReferenceIdeal.main_arg1)) (m ((c.tc : Thread InReferenceIdeal.nD InReferenceIdeal.τ).loc InReferenceIdeal.main_arg2))
      ∧ r.2.mem ((c.tc : Thread InReferenceIdeal.nD InReferenceIdeal.τ).loc InReferenceIdeal.main_v155) = InReferenceIdeal.Read.val_main_v155 (F := Ideal) (m ((c.tc : Thread InReferenceIdeal.nD InReferenceIdeal.τ).loc InReferenceIdeal.main_arg0)) (m ((c.tc : Thread InReferenceIdeal.nD InReferenceIdeal.τ).loc InReferenceIdeal.main_arg1)) (m ((c.tc : Thread InReferenceIdeal.nD InReferenceIdeal.τ).loc InReferenceIdeal.main_arg2))
      ∧ r.2.mem ((c.tc : Thread InReferenceIdeal.nD InReferenceIdeal.τ).loc InReferenceIdeal.main_v157) = InReferenceIdeal.Read.val_main_v157 (F := Ideal) (m ((c.tc : Thread InReferenceIdeal.nD InReferenceIdeal.τ).loc InReferenceIdeal.main_arg0)) (m ((c.tc : Thread InReferenceIdeal.nD InReferenceIdeal.τ).loc InReferenceIdeal.main_arg1)) (m ((c.tc : Thread InReferenceIdeal.nD InReferenceIdeal.τ).loc InReferenceIdeal.main_arg2))
      ∧ r.2.mem ((c.tc : Thread InReferenceIdeal.nD InReferenceIdeal.τ).loc InReferenceIdeal.main_v159) = InReferenceIdeal.Read.val_main_v159 (F := Ideal) (m ((c.tc : Thread InReferenceIdeal.nD InReferenceIdeal.τ).loc InReferenceIdeal.main_arg0)) (m ((c.tc : Thread InReferenceIdeal.nD InReferenceIdeal.τ).loc InReferenceIdeal.main_arg1)) (m ((c.tc : Thread InReferenceIdeal.nD InReferenceIdeal.τ).loc InReferenceIdeal.main_arg2))
      ∧ r.2.mem ((c.tc : Thread InReferenceIdeal.nD InReferenceIdeal.τ).loc InReferenceIdeal.main_v160) = InReferenceIdeal.Read.val_main_v160 (F := Ideal) (m ((c.tc : Thread InReferenceIdeal.nD InReferenceIdeal.τ).loc InReferenceIdeal.main_arg0)) (m ((c.tc : Thread InReferenceIdeal.nD InReferenceIdeal.τ).loc InReferenceIdeal.main_arg1)) (m ((c.tc : Thread InReferenceIdeal.nD InReferenceIdeal.τ).loc InReferenceIdeal.main_arg2))
      ∧ r.2.mem ((c.tc : Thread InReferenceIdeal.nD InReferenceIdeal.τ).loc InReferenceIdeal.main_v162) = InReferenceIdeal.Read.val_main_v162 (F := Ideal) (m ((c.tc : Thread InReferenceIdeal.nD InReferenceIdeal.τ).loc InReferenceIdeal.main_arg0)) (m ((c.tc : Thread InReferenceIdeal.nD InReferenceIdeal.τ).loc InReferenceIdeal.main_arg1)) (m ((c.tc : Thread InReferenceIdeal.nD InReferenceIdeal.τ).loc InReferenceIdeal.main_arg2))
      ∧ r.2.mem ((c.tc : Thread InReferenceIdeal.nD InReferenceIdeal.τ).loc InReferenceIdeal.main_v165) = InReferenceIdeal.Read.val_main_v165 (F := Ideal) (m ((c.tc : Thread InReferenceIdeal.nD InReferenceIdeal.τ).loc InReferenceIdeal.main_arg0)) (m ((c.tc : Thread InReferenceIdeal.nD InReferenceIdeal.τ).loc InReferenceIdeal.main_arg1)) (m ((c.tc : Thread InReferenceIdeal.nD InReferenceIdeal.τ).loc InReferenceIdeal.main_arg2))
      ∧ r.2.mem ((c.tc : Thread InReferenceIdeal.nD InReferenceIdeal.τ).loc InReferenceIdeal.main_v166) = InReferenceIdeal.Read.val_main_v166 (F := Ideal) (m ((c.tc : Thread InReferenceIdeal.nD InReferenceIdeal.τ).loc InReferenceIdeal.main_arg0)) (m ((c.tc : Thread InReferenceIdeal.nD InReferenceIdeal.τ).loc InReferenceIdeal.main_arg1)) (m ((c.tc : Thread InReferenceIdeal.nD InReferenceIdeal.τ).loc InReferenceIdeal.main_arg2))
      ∧ r.2.mem ((c.tc : Thread InReferenceIdeal.nD InReferenceIdeal.τ).loc InReferenceIdeal.main_v167) = InReferenceIdeal.Read.val_main_v167 (F := Ideal) (m ((c.tc : Thread InReferenceIdeal.nD InReferenceIdeal.τ).loc InReferenceIdeal.main_arg0)) (m ((c.tc : Thread InReferenceIdeal.nD InReferenceIdeal.τ).loc InReferenceIdeal.main_arg1)) (m ((c.tc : Thread InReferenceIdeal.nD InReferenceIdeal.τ).loc InReferenceIdeal.main_arg2))
      ∧ r.2.mem ((c.tc : Thread InReferenceIdeal.nD InReferenceIdeal.τ).loc InReferenceIdeal.main_v168) = InReferenceIdeal.Read.val_main_v168 (F := Ideal) (m ((c.tc : Thread InReferenceIdeal.nD InReferenceIdeal.τ).loc InReferenceIdeal.main_arg0)) (m ((c.tc : Thread InReferenceIdeal.nD InReferenceIdeal.τ).loc InReferenceIdeal.main_arg1)) (m ((c.tc : Thread InReferenceIdeal.nD InReferenceIdeal.τ).loc InReferenceIdeal.main_arg2)) (m ((c.tc : Thread InReferenceIdeal.nD InReferenceIdeal.τ).loc InReferenceIdeal.main_arg3)) (m ((c.tc : Thread InReferenceIdeal.nD InReferenceIdeal.τ).loc InReferenceIdeal.main_arg4))
      ∧ r.2.mem ((c.tc : Thread InReferenceIdeal.nD InReferenceIdeal.τ).loc InReferenceIdeal.main_v170) = InReferenceIdeal.Read.val_main_v170 (F := Ideal) (m ((c.tc : Thread InReferenceIdeal.nD InReferenceIdeal.τ).loc InReferenceIdeal.main_arg0)) (m ((c.tc : Thread InReferenceIdeal.nD InReferenceIdeal.τ).loc InReferenceIdeal.main_arg1)) (m ((c.tc : Thread InReferenceIdeal.nD InReferenceIdeal.τ).loc InReferenceIdeal.main_arg2))
      ∧ r.2.mem ((c.tc : Thread InReferenceIdeal.nD InReferenceIdeal.τ).loc InReferenceIdeal.main_arg0) = m ((c.tc : Thread InReferenceIdeal.nD InReferenceIdeal.τ).loc InReferenceIdeal.main_arg0)
      ∧ r.2.mem ((c.tc : Thread InReferenceIdeal.nD InReferenceIdeal.τ).loc InReferenceIdeal.main_arg1) = m ((c.tc : Thread InReferenceIdeal.nD InReferenceIdeal.τ).loc InReferenceIdeal.main_arg1)
      ∧ r.2.mem ((c.tc : Thread InReferenceIdeal.nD InReferenceIdeal.τ).loc InReferenceIdeal.main_arg2) = m ((c.tc : Thread InReferenceIdeal.nD InReferenceIdeal.τ).loc InReferenceIdeal.main_arg2)
      ∧ r.2.mem ((c.tc : Thread InReferenceIdeal.nD InReferenceIdeal.τ).loc InReferenceIdeal.main_arg3) = m ((c.tc : Thread InReferenceIdeal.nD InReferenceIdeal.τ).loc InReferenceIdeal.main_arg3)
      ∧ r.2.mem ((c.tc : Thread InReferenceIdeal.nD InReferenceIdeal.τ).loc InReferenceIdeal.main_arg4) = m ((c.tc : Thread InReferenceIdeal.nD InReferenceIdeal.τ).loc InReferenceIdeal.main_arg4) := by
  refine (θ_run _ _ _).mono (fun r h c => ?_) (InReferenceIdeal.Value.run m g)
  obtain ⟨h0, h1, h2, h3, h4, h5, h6, h7, h8, h9, h10, h11, h12, h13, h14, hk⟩ := h c
  exact ⟨h0.trans (InReferenceIdeal.Read.val_main_v148_eq (F := Ideal) _),
    h1.trans (InReferenceIdeal.Read.val_main_v149_eq (F := Ideal) _),
    h2.trans (InReferenceIdeal.Read.val_main_v150_eq (F := Ideal) _),
    h3.trans (InReferenceIdeal.Read.val_main_v151_eq (F := Ideal) _),
    h4.trans (InReferenceIdeal.Read.val_main_v153_eq (F := Ideal) _),
    h5.trans (InReferenceIdeal.Read.val_main_v155_eq (F := Ideal) _),
    h6.trans (InReferenceIdeal.Read.val_main_v157_eq (F := Ideal) _),
    h7.trans (InReferenceIdeal.Read.val_main_v159_eq (F := Ideal) _),
    h8.trans (InReferenceIdeal.Read.val_main_v160_eq (F := Ideal) _),
    h9.trans (InReferenceIdeal.Read.val_main_v162_eq (F := Ideal) _),
    h10.trans (InReferenceIdeal.Read.val_main_v165_eq (F := Ideal) _),
    h11.trans (InReferenceIdeal.Read.val_main_v166_eq (F := Ideal) _),
    h12.trans (InReferenceIdeal.Read.val_main_v167_eq (F := Ideal) _),
    h13.trans (InReferenceIdeal.Read.val_main_v168_eq (F := Ideal) _),
    h14.trans (InReferenceIdeal.Read.val_main_v170_eq (F := Ideal) _), hk⟩

set_option maxHeartbeats 4000000 in
theorem in_algebraic : Cert.algebraic_InIdeal_InReferenceIdeal := by
  intro m g m' g' _ hargs
  refine ⟨fun c => (InIdeal.Gen.dats m 0 c).arrAt 8 InIdeal.cfg0.N,
    fun c => (InIdeal.Gen.dats m 0 c).arrAt 9 InIdeal.cfg0.N,
    fun c => (InIdeal.Gen.dats m 0 c).arrAt 10 InIdeal.cfg0.N,
    fun c => (InIdeal.Gen.dats m 0 c).arrAt 11 InIdeal.cfg0.N,
    fun c => (InIdeal.Gen.dats m 0 c).arrAt 12 InIdeal.cfg0.N,
    fun c => (InIdeal.Gen.dats m 0 c).arrAt 13 InIdeal.cfg0.N,
    fun c => (InIdeal.Gen.dats m 0 c).arrAt 14 InIdeal.cfg0.N,
    fun c => (InIdeal.Gen.dats m 0 c).arrAt 15 InIdeal.cfg0.N,
    fun c => (InIdeal.Gen.dats m 0 c).arrAt 16 InIdeal.cfg0.N,
    fun c => (InIdeal.Gen.dats m 0 c).arrAt 17 InIdeal.cfg0.N,
    fun c => (InIdeal.Gen.dats m 0 c).arrAt 18 InIdeal.cfg0.N,
    fun c => (InIdeal.Gen.dats m 0 c).arrAt 19 InIdeal.cfg0.N,
    fun c => (InIdeal.Gen.dats m 0 c).arrAt 20 InIdeal.cfg0.N,
    fun c => (InIdeal.Gen.dats m 0 c).arrAt 21 InIdeal.cfg0.N,
    fun c => (InIdeal.Gen.dats m 0 c).arrAt 22 InIdeal.cfg0.N,
    InIdeal.Value.run_blocks m g, ?_⟩
  refine (θ_run _ _ _).mono (fun r h c => ?_) (in_ref_vals m' g')
  obtain ⟨a0, a1, a2, a3, a4⟩ := hargs c
  obtain ⟨h0, h1, h2, h3, h4, h5, h6, h7, h8, h9, h10, h11, h12, h13, h14, hk⟩ := h c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, hk⟩
  · rw [a0, a1, a2]
    exact (InVal.final8 m c).symm
  · rw [a0, a1, a2]
    exact (InVal.final9 m c).symm
  · rw [a0, a1, a2]
    exact (InVal.final10 m c).symm
  · rw [a0, a1, a2]
    exact (InVal.final11 m c).symm
  · rw [a0, a1, a2]
    exact (InVal.final12 m c).symm
  · rw [a0, a1, a2]
    exact (InVal.final13 m c).symm
  · rw [a0, a1, a2]
    exact (InVal.final14 m c).symm
  · rw [a0, a1, a2]
    exact (InVal.final15 m c).symm
  · rw [a0, a1, a2]
    exact (InVal.final16 m c).symm
  · rw [a0, a1, a2]
    exact (InVal.final17 m c).symm
  · rw [a0, a1, a2]
    exact (InVal.final18 m c).symm
  · rw [a0, a1, a2]
    exact (InVal.final19 m c).symm
  · rw [a0, a1, a2]
    exact (InVal.final20 m c).symm
  · rw [a0, a1, a2, a3, a4]
    exact (InVal.final21 m c).symm
  · rw [a0, a1, a2]
    exact (InVal.final22 m c).symm

theorem claim : Cert.Claim := ⟨Cert.Kernel.Gen.facts, Cert.KernelIdeal.Gen.facts, Cert.ReferenceIdeal.Gen.facts,
  Cert.OutPrompt.Gen.facts, Cert.OutPromptIdeal.Gen.facts, Cert.OutPromptReferenceIdeal.Gen.facts,
  Cert.OutSample.Gen.facts, Cert.OutSampleIdeal.Gen.facts, Cert.OutSampleReferenceIdeal.Gen.facts,
  Cert.In.Gen.facts, Cert.InIdeal.Gen.facts, Cert.InReferenceIdeal.Gen.facts, preFacts,
  fun m g _ => Cert.Kernel.Gen.frame m g, fun m g _ => Cert.KernelIdeal.Gen.frame m g, fun m g _ => Cert.KernelIdeal.Gen.frame m g,
  fun m g _ => ref_frame m g, fun m g _ => ref_frame m g,
  fun m g _ => Cert.OutPrompt.Gen.frame m g, fun m g _ => Cert.OutPromptIdeal.Gen.frame m g, fun m g _ => outp_ref_frame m g,
  fun m g _ => Cert.OutSample.Gen.frame m g, fun m g _ => Cert.OutSampleIdeal.Gen.frame m g, fun m g _ => outs_ref_frame m g,
  fun m g _ => Cert.In.Gen.frame m g, fun m g _ => Cert.InIdeal.Gen.frame m g, fun m g _ => in_ref_frame m g,
  trivial, algebraic, trivial, outp_algebraic, trivial, outs_algebraic, trivial, in_algebraic⟩

end Cert.Proof

end
